-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_read_is_finite [hPre_read_is_finite : Cert.Pre_read_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_read_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_read_is_finite [hPre_read_is_finite : Cert.Pre_read_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_read_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_norm_read_is_finite [hPre_norm_read_is_finite : Cert.Pre_norm_read_is_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_norm_read_is_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_norm_read_is_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_norm_read_is_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_norm_read_is_finite [hPre_norm_read_is_finite : Cert.Pre_norm_read_is_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_norm_read_is_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_norm_read_is_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_norm_read_is_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_heads_read_is_finite [hPre_heads_read_is_finite : Cert.Pre_heads_read_is_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.2.2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.2.2.2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.2.2.2.2.1 = (fun _ => 1#1)
    ∧ (Cert.Pre_heads_read_is_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7))).2.2.2.2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_heads_read_is_finite [hPre_heads_read_is_finite : Cert.Pre_heads_read_is_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.2.2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.2.2.2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.2.2.2.2.1 = (fun _ => 1#1)
    ∧ (Cert.Pre_heads_read_is_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7))).2.2.2.2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_read_is_finite [hKernelIdeal : Cert.KernelIdeal.Facts] [hPre_read_is_finite : Cert.Pre_read_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_read_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_read_is_finite [hReferenceIdeal : Cert.ReferenceIdeal.Facts] [hPre_read_is_finite : Cert.Pre_read_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_read_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_norm_read_is_finite [hKernel14Ideal : Cert.Kernel14Ideal.Facts] [hPre_norm_read_is_finite : Cert.Pre_norm_read_is_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_norm_read_is_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_norm_read_is_finite [hReference14Ideal : Cert.Reference14Ideal.Facts] [hPre_norm_read_is_finite : Cert.Pre_norm_read_is_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_norm_read_is_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Kernel18Ideal_pre_heads_read_is_finite [hKernel18Ideal : Cert.Kernel18Ideal.Facts] [hPre_heads_read_is_finite : Cert.Pre_heads_read_is_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_heads_read_is_finite m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Reference18Ideal_pre_heads_read_is_finite [hReference18Ideal : Cert.Reference18Ideal.Facts] [hPre_heads_read_is_finite : Cert.Pre_heads_read_is_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_heads_read_is_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_read_is_finite [hKernelIdeal : Cert.KernelIdeal.Facts] [hReferenceIdeal : Cert.ReferenceIdeal.Facts] [hPre_read_is_finite : Cert.Pre_read_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_read_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_v206) = v3 c
          ∧ r.2.mem ((c.tc : Thread Cert.ReferenceIdeal.nD Cert.ReferenceIdeal.τ).loc Cert.ReferenceIdeal.main_v207) = v4 c
          ∧ r.2.mem ((c.tc : Thread Cert.ReferenceIdeal.nD Cert.ReferenceIdeal.τ).loc Cert.ReferenceIdeal.main_v208) = v5 c
          ∧ r.2.mem ((c.tc : Thread Cert.ReferenceIdeal.nD Cert.ReferenceIdeal.τ).loc Cert.ReferenceIdeal.main_v209) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_norm_read_is_finite [hKernel14Ideal : Cert.Kernel14Ideal.Facts] [hReference14Ideal : Cert.Reference14Ideal.Facts] [hPre_norm_read_is_finite : Cert.Pre_norm_read_is_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_norm_read_is_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v39) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v21) = v0 c
          ∧ r.2.mem ((c.tc : Thread Cert.Reference15Ideal.nD Cert.Reference15Ideal.τ).loc Cert.Reference15Ideal.main_v20) = v1 c
          ∧ r.2.mem ((c.tc : Thread Cert.Reference15Ideal.nD Cert.Reference15Ideal.τ).loc Cert.Reference15Ideal.main_v22) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_heads_read_is_finite [hKernel18Ideal : Cert.Kernel18Ideal.Facts] [hReference18Ideal : Cert.Reference18Ideal.Facts] [hPre_heads_read_is_finite : Cert.Pre_heads_read_is_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_heads_read_is_finite m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)) (v3 : (c : Dev Cert.Kernel18Ideal.nD) → Buf (Elt Ideal) ((c.tc : Thread Cert.Kernel18Ideal.nD Cert.Kernel18Ideal.τ).loc Cert.Kernel18Ideal.main_v5_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_v5_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v147) = v0 c
          ∧ r.2.mem ((c.tc : Thread Cert.Reference18Ideal.nD Cert.Reference18Ideal.τ).loc Cert.Reference18Ideal.main_v149) = v1 c
          ∧ r.2.mem ((c.tc : Thread Cert.Reference18Ideal.nD Cert.Reference18Ideal.τ).loc Cert.Reference18Ideal.main_v150) = v2 c
          ∧ r.2.mem ((c.tc : Thread Cert.Reference18Ideal.nD Cert.Reference18Ideal.τ).loc Cert.Reference18Ideal.main_v151) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v65) = v0 c
          ∧ r.2.mem ((c.tc : Thread Cert.Reference19Ideal.nD Cert.Reference19Ideal.τ).loc Cert.Reference19Ideal.main_v67) = v1 c
          ∧ r.2.mem ((c.tc : Thread Cert.Reference19Ideal.nD Cert.Reference19Ideal.τ).loc Cert.Reference19Ideal.main_v69) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v85) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_read_is_finite : Cert.Pre_read_is_finite.Facts) (hPre_norm_read_is_finite : Cert.Pre_norm_read_is_finite.Facts) (hPre_heads_read_is_finite : Cert.Pre_heads_read_is_finite.Facts),
    quiescent_Kernel (hKernel := hKernel)
    ∧ quiescent_KernelIdeal (hKernelIdeal := hKernelIdeal)
    ∧ quiescent_KernelIdeal_pre_read_is_finite (hKernelIdeal := hKernelIdeal) (hPre_read_is_finite := hPre_read_is_finite)
    ∧ quiescent_ReferenceIdeal (hReferenceIdeal := hReferenceIdeal)
    ∧ quiescent_ReferenceIdeal_pre_read_is_finite (hReferenceIdeal := hReferenceIdeal) (hPre_read_is_finite := hPre_read_is_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_norm_read_is_finite (hKernel14Ideal := hKernel14Ideal) (hPre_norm_read_is_finite := hPre_norm_read_is_finite)
    ∧ quiescent_Reference14Ideal (hReference14Ideal := hReference14Ideal)
    ∧ quiescent_Reference14Ideal_pre_norm_read_is_finite (hReference14Ideal := hReference14Ideal) (hPre_norm_read_is_finite := hPre_norm_read_is_finite)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_heads_read_is_finite (hKernel18Ideal := hKernel18Ideal) (hPre_heads_read_is_finite := hPre_heads_read_is_finite)
    ∧ quiescent_Reference18Ideal (hReference18Ideal := hReference18Ideal)
    ∧ quiescent_Reference18Ideal_pre_heads_read_is_finite (hReference18Ideal := hReference18Ideal) (hPre_heads_read_is_finite := hPre_heads_read_is_finite)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_read_is_finite (hKernelIdeal := hKernelIdeal) (hReferenceIdeal := hReferenceIdeal) (hPre_read_is_finite := hPre_read_is_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_norm_read_is_finite (hKernel14Ideal := hKernel14Ideal) (hReference14Ideal := hReference14Ideal) (hPre_norm_read_is_finite := hPre_norm_read_is_finite)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_heads_read_is_finite (hKernel18Ideal := hKernel18Ideal) (hReference18Ideal := hReference18Ideal) (hPre_heads_read_is_finite := hPre_heads_read_is_finite)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_heads_read_is_finite.lean ====
abbrev S2048x3584 : Shape := ⟨2, ![2048, 3584]⟩
abbrev S2048x1024 : Shape := ⟨2, ![2048, 1024]⟩
abbrev S2304x256 : Shape := ⟨2, ![2304, 256]⟩
abbrev S2x128 : Shape := ⟨2, ![2, 128]⟩
abbrev S2048x64 : Shape := ⟨2, ![2048, 64]⟩
abbrev S2048x256 : Shape := ⟨2, ![2048, 256]⟩
abbrev S1x128 : Shape := ⟨2, ![1, 128]⟩
abbrev S128 : Shape := ⟨1, ![128]⟩
abbrev S_ : Shape := ⟨0, ![]⟩

class Facts : Prop where
  slices_S2048x3584_S2048x1024_0_0 : S2048x3584.Slices ![0, 0] S2048x1024
  slices_S2048x3584_S2048x256_0_3072 : S2048x3584.Slices ![0, 3072] S2048x256
  slices_S2304x256_S2048x256_128_0 : S2304x256.Slices ![128, 0] S2048x256
  slices_S2x128_S1x128_0_0 : S2x128.Slices ![0, 0] S1x128
  shapeCasts_S1x128_S128 : S1x128.ShapeCasts S128
  bcast_S_S2048x1024 : S_.BroadcastsInDim S2048x1024 (![] : Fin 0 → Fin S2048x1024.rank)
  bcast_S_S2048x256 : S_.BroadcastsInDim S2048x256 (![] : Fin 0 → Fin S2048x256.rank)
  bcast_S_S128 : S_.BroadcastsInDim S128 (![] : Fin 0 → Fin S128.rank)
  bcast_S_S2048x64 : S_.BroadcastsInDim S2048x64 (![] : Fin 0 → Fin S2048x64.rank)

variable [Facts]

def fn_part1 {F : FTy → Type} [FloatOps F] (main_arg6 : FVec F S2048x64 .f32) (main_arg7 : FVec F S2048x64 .f32) (main_v6 : FVec F S128 .f32) (main_v9 : IVec S2048x1024 1) (main_v12 : IVec S2048x256 1) (main_v15 : IVec S2048x1024 1) (main_v18 : IVec S2048x256 1) (main_v19 : FVec F S128 .f32) : IVec S2048x1024 1 × IVec S2048x256 1 × IVec S2048x1024 1 × IVec S2048x256 1 × IVec S128 1 × IVec S128 1 × IVec S2048x64 1 × IVec S2048x64 1 :=
  let main_cst_3 : FVec F S_ .f32 := constant S_ .f32 0x7F800000#32
  let main_v20 : FVec F S128 .f32 := broadcastInDim S128 ![] bcast_S_S128 main_cst_3
  let main_v21 : IVec S128 1 := cmpf .olt main_v19 main_v20
  let main_v22 : FVec F S128 .f32 := Host.absf main_v6
  let main_cst_4 : FVec F S_ .f32 := constant S_ .f32 0x7F800000#32
  let main_v23 : FVec F S128 .f32 := broadcastInDim S128 ![] bcast_S_S128 main_cst_4
  let main_v24 : IVec S128 1 := cmpf .olt main_v22 main_v23
  let main_v25 : FVec F S2048x64 .f32 := Host.absf main_arg6
  let main_cst_5 : FVec F S_ .f32 := constant S_ .f32 0x7F800000#32
  let main_v26 : FVec F S2048x64 .f32 := broadcastInDim S2048x64 ![] bcast_S_S2048x64 main_cst_5
  let main_v27 : IVec S2048x64 1 := cmpf .olt main_v25 main_v26
  let main_v28 : FVec F S2048x64 .f32 := Host.absf main_arg7
  let main_cst_6 : FVec F S_ .f32 := constant S_ .f32 0x7F800000#32
  let main_v29 : FVec F S2048x64 .f32 := broadcastInDim S2048x64 ![] bcast_S_S2048x64 main_cst_6
  let main_v30 : IVec S2048x64 1 := cmpf .olt main_v28 main_v29
  (main_v9, main_v12, main_v15, main_v18, main_v21, main_v24, main_v27, main_v30)

def fn {F : FTy → Type} [FloatOps F] (main_arg0 : FVec F S2048x3584 .f32) (main_arg1 : FVec F S2048x1024 .f32) (main_arg2 : FVec F S2304x256 .f32) (main_arg3 : FVec F S2304x256 .f32) (main_arg4 : FVec F S2x128 .f32) (main_arg5 : FVec F S2x128 .f32) (main_arg6 : FVec F S2048x64 .f32) (main_arg7 : FVec F S2048x64 .f32) : IVec S2048x1024 1 × IVec S2048x256 1 × IVec S2048x1024 1 × IVec S2048x256 1 × IVec S128 1 × IVec S128 1 × IVec S2048x64 1 × IVec S2048x64 1 :=
  let main_v0 : FVec F S2048x1024 .f32 := (extractStridedSlice S2048x1024 ![0, 0] · slices_S2048x3584_S2048x1024_0_0) main_arg0
  let main_v1 : FVec F S2048x256 .f32 := (extractStridedSlice S2048x256 ![0, 3072] · slices_S2048x3584_S2048x256_0_3072) main_arg0
  let main_v2 : FVec F S2048x256 .f32 := (extractStridedSlice S2048x256 ![128, 0] · slices_S2304x256_S2048x256_128_0) main_arg2
  let main_v3 : FVec F S1x128 .f32 := (extractStridedSlice S1x128 ![0, 0] · slices_S2x128_S1x128_0_0) main_arg4
  let main_v4 : FVec F S128 .f32 := shapeCast S128 main_v3 shapeCasts_S1x128_S128
  let main_v5 : FVec F S1x128 .f32 := (extractStridedSlice S1x128 ![0, 0] · slices_S2x128_S1x128_0_0) main_arg5
  let main_v6 : FVec F S128 .f32 := shapeCast S128 main_v5 shapeCasts_S1x128_S128
  let main_v7 : FVec F S2048x1024 .f32 := Host.absf main_v0
  let main_cst : FVec F S_ .f32 := constant S_ .f32 0x7F800000#32
  let main_v8 : FVec F S2048x1024 .f32 := broadcastInDim S2048x1024 ![] bcast_S_S2048x1024 main_cst
  let main_v9 : IVec S2048x1024 1 := cmpf .olt main_v7 main_v8
  let main_v10 : FVec F S2048x256 .f32 := Host.absf main_v1
  let main_cst_0 : FVec F S_ .f32 := constant S_ .f32 0x7F800000#32
  let main_v11 : FVec F S2048x256 .f32 := broadcastInDim S2048x256 ![] bcast_S_S2048x256 main_cst_0
  let main_v12 : IVec S2048x256 1 := cmpf .olt main_v10 main_v11
  let main_v13 : FVec F S2048x1024 .f32 := Host.absf main_arg1
  let main_cst_1 : FVec F S_ .f32 := constant S_ .f32 0x7F800000#32
  let main_v14 : FVec F S2048x1024 .f32 := broadcastInDim S2048x1024 ![] bcast_S_S2048x1024 main_cst_1
  let main_v15 : IVec S2048x1024 1 := cmpf .olt main_v13 main_v14
  let main_v16 : FVec F S2048x256 .f32 := Host.absf main_v2
  let main_cst_2 : FVec F S_ .f32 := constant S_ .f32 0x7F800000#32
  let main_v17 : FVec F S2048x256 .f32 := broadcastInDim S2048x256 ![] bcast_S_S2048x256 main_cst_2
  let main_v18 : IVec S2048x256 1 := cmpf .olt main_v16 main_v17
  let main_v19 : FVec F S128 .f32 := Host.absf main_v4
  fn_part1 (F := F) main_arg6 main_arg7 main_v6 main_v9 main_v12 main_v15 main_v18 main_v19
-- ==== Pre_norm_read_is_finite.lean ====
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩

class Facts : Prop where
  slices_S2x2048_S1x2048_0_0 : S2x2048.Slices ![0, 0] S1x2048
  shapeCasts_S1x2048_S2048 : S1x2048.ShapeCasts S2048
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048x2048 .f32) (main_arg3 : FVec F S2x2048 .f32) : IVec S2048x2048 1 × IVec S2048x2048 1 × IVec S2048 1 :=
  let main_v0 : FVec F S1x2048 .f32 := (extractStridedSlice S1x2048 ![0, 0] · slices_S2x2048_S1x2048_0_0) main_arg3
  let main_v1 : FVec F S2048 .f32 := shapeCast S2048 main_v0 shapeCasts_S1x2048_S2048
  let main_v2 : FVec F S2048x2048 .f32 := Host.absf main_arg0
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048 .f32 := Host.absf main_v1
  let main_cst_1 : FVec F S_ .f32 := constant S_ .f32 0x7F800000#32
  let main_v9 : FVec F S2048 .f32 := broadcastInDim S2048 ![] bcast_S_S2048 main_cst_1
  let main_v10 : IVec S2048 1 := cmpf .olt main_v8 main_v9
  (main_v4, main_v7, main_v10)
-- ==== Pre_read_is_finite.lean ====
abbrev S2048x3584 : Shape := ⟨2, ![2048, 3584]⟩
abbrev S2048x2048 : Shape := ⟨2, ![2048, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2048x1024 : Shape := ⟨2, ![2048, 1024]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩

class Facts : Prop where
  slices_S2048x3584_S2048x2048_0_1024 : S2048x3584.Slices ![0, 1024] S2048x2048
  slices_S2048x2048_S2048x1024_0_1024 : S2048x2048.Slices ![0, 1024] S2048x1024
  slices_S2x1024_S1x1024_0_0 : S2x1024.Slices ![0, 0] S1x1024
  shapeCasts_S1x1024_S1024 : S1x1024.ShapeCasts S1024
  slices_S2x8x128x128_S1x8x128x128_0_0_0_0 : S2x8x128x128.Slices ![0, 0, 0, 0] S1x8x128x128
  shapeCasts_S1x8x128x128_S8x128x128 : S1x8x128x128.ShapeCasts S8x128x128
  slices_S2x8x128_S1x8x128_0_0_0 : S2x8x128.Slices ![0, 0, 0] S1x8x128
  shapeCasts_S1x8x128_S8x128 : S1x8x128.ShapeCasts S8x128
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v5 : FVec F S1024 .f32) (main_v7 : FVec F S8x128x128 .f32) (main_v9 : FVec F S8x128 .f32) (main_v11 : FVec F S1024 .f32) (main_v14 : IVec S2048x2048 1) (main_v17 : IVec S2048x1024 1) (main_v20 : IVec S1024 1) : IVec S2048x2048 1 × IVec S2048x1024 1 × IVec S1024 1 × IVec S1024 1 × IVec S8x128x128 1 × IVec S8x128 1 × IVec S1024 1 :=
  let main_v21 : FVec F S1024 .f32 := Host.absf main_v5
  let main_cst_2 : FVec F S_ .f32 := constant S_ .f32 0x7F800000#32
  let main_v22 : FVec F S1024 .f32 := broadcastInDim S1024 ![] bcast_S_S1024 main_cst_2
  let main_v23 : IVec S1024 1 := cmpf .olt main_v21 main_v22
  let main_v24 : FVec F S8x128x128 .f32 := Host.absf main_v7
  let main_cst_3 : FVec F S_ .f32 := constant S_ .f32 0x7F800000#32
  let main_v25 : FVec F S8x128x128 .f32 := broadcastInDim S8x128x128 ![] bcast_S_S8x128x128 main_cst_3
  let main_v26 : IVec S8x128x128 1 := cmpf .olt main_v24 main_v25
  let main_v27 : FVec F S8x128 .f32 := Host.absf main_v9
  let main_cst_4 : FVec F S_ .f32 := constant S_ .f32 0x7F800000#32
  let main_v28 : FVec F S8x128 .f32 := broadcastInDim S8x128 ![] bcast_S_S8x128 main_cst_4
  let main_v29 : IVec S8x128 1 := cmpf .olt main_v27 main_v28
  let main_v30 : FVec F S1024 .f32 := Host.absf main_v11
  let main_cst_5 : FVec F S_ .f32 := constant S_ .f32 0x7F800000#32
  let main_v31 : FVec F S1024 .f32 := broadcastInDim S1024 ![] bcast_S_S1024 main_cst_5
  let main_v32 : IVec S1024 1 := cmpf .olt main_v30 main_v31
  (main_v14, main_v17, main_v20, main_v23, main_v26, main_v29, main_v32)

def fn {F : FTy → Type} [FloatOps F] (main_arg0 : FVec F S2048x3584 .f32) (main_arg1 : FVec F S2048x2048 .f32) (main_arg2 : FVec F S2x1024 .f32) (main_arg3 : FVec F S2x1024 .f32) (main_arg4 : FVec F S2x8x128x128 .f32) (main_arg5 : FVec F S2x8x128 .f32) (main_arg6 : FVec F S2x1024 .f32) : IVec S2048x2048 1 × IVec S2048x1024 1 × IVec S1024 1 × IVec S1024 1 × IVec S8x128x128 1 × IVec S8x128 1 × IVec S1024 1 :=
  let main_v0 : FVec F S2048x2048 .f32 := (extractStridedSlice S2048x2048 ![0, 1024] · slices_S2048x3584_S2048x2048_0_1024) main_arg0
  let main_v1 : FVec F S2048x1024 .f32 := (extractStridedSlice S2048x1024 ![0, 1024] · slices_S2048x2048_S2048x1024_0_1024) main_arg1
  let main_v2 : FVec F S1x1024 .f32 := (extractStridedSlice S1x1024 ![0, 0] · slices_S2x1024_S1x1024_0_0) main_arg2
  let main_v3 : FVec F S1024 .f32 := shapeCast S1024 main_v2 shapeCasts_S1x1024_S1024
  let main_v4 : FVec F S1x1024 .f32 := (extractStridedSlice S1x1024 ![0, 0] · slices_S2x1024_S1x1024_0_0) main_arg3
  let main_v5 : FVec F S1024 .f32 := shapeCast S1024 main_v4 shapeCasts_S1x1024_S1024
  let main_v6 : FVec F S1x8x128x128 .f32 := (extractStridedSlice S1x8x128x128 ![0, 0, 0, 0] · slices_S2x8x128x128_S1x8x128x128_0_0_0_0) main_arg4
  let main_v7 : FVec F S8x128x128 .f32 := shapeCast S8x128x128 main_v6 shapeCasts_S1x8x128x128_S8x128x128
  let main_v8 : FVec F S1x8x128 .f32 := (extractStridedSlice S1x8x128 ![0, 0, 0] · slices_S2x8x128_S1x8x128_0_0_0) main_arg5
  let main_v9 : FVec F S8x128 .f32 := shapeCast S8x128 main_v8 shapeCasts_S1x8x128_S8x128
  let main_v10 : FVec F S1x1024 .f32 := (extractStridedSlice S1x1024 ![0, 0] · slices_S2x1024_S1x1024_0_0) main_arg6
  let main_v11 : FVec F S1024 .f32 := shapeCast S1024 main_v10 shapeCasts_S1x1024_S1024
  let main_v12 : FVec F S2048x2048 .f32 := Host.absf main_v0
  let main_cst : FVec F S_ .f32 := constant S_ .f32 0x7F800000#32
  let main_v13 : FVec F S2048x2048 .f32 := broadcastInDim S2048x2048 ![] bcast_S_S2048x2048 main_cst
  let main_v14 : IVec S2048x2048 1 := cmpf .olt main_v12 main_v13
  let main_v15 : FVec F S2048x1024 .f32 := Host.absf main_v1
  let main_cst_0 : FVec F S_ .f32 := constant S_ .f32 0x7F800000#32
  let main_v16 : FVec F S2048x1024 .f32 := broadcastInDim S2048x1024 ![] bcast_S_S2048x1024 main_cst_0
  let main_v17 : IVec S2048x1024 1 := cmpf .olt main_v15 main_v16
  let main_v18 : FVec F S1024 .f32 := Host.absf main_v3
  let main_cst_1 : FVec F S_ .f32 := constant S_ .f32 0x7F800000#32
  let main_v19 : FVec F S1024 .f32 := broadcastInDim S1024 ![] bcast_S_S1024 main_cst_1
  let main_v20 : IVec S1024 1 := cmpf .olt main_v18 main_v19
  fn_part1 (F := F) main_v5 main_v7 main_v9 main_v11 main_v14 main_v17 main_v20
-- ==== Kernel.lean ====
abbrev S2048x3584 : Shape := ⟨2, ![2048, 3584]⟩
abbrev S2048x2048 : Shape := ⟨2, ![2048, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x1x1024 : Shape := ⟨3, ![2, 1, 1024]⟩
abbrev S2x8x128x1 : Shape := ⟨4, ![2, 8, 128, 1]⟩
abbrev S2048x1024 : Shape := ⟨2, ![2048, 1024]⟩
abbrev S8x128x128 : Shape := ⟨3, ![8, 128, 128]⟩
abbrev S1x1024 : Shape := ⟨2, ![1, 1024]⟩
abbrev S128x1024 : Shape := ⟨2, ![128, 1024]⟩
abbrev S1x1x1024 : Shape := ⟨3, ![1, 1, 1024]⟩
abbrev S1x8x128x128 : Shape := ⟨4, ![1, 8, 128, 128]⟩
abbrev S128 : Shape := ⟨1, ![128]⟩
abbrev S128x1 : Shape := ⟨2, ![128, 1]⟩
abbrev S1x1x128x128 : Shape := ⟨4, ![1, 1, 128, 128]⟩
abbrev S128x128 : Shape := ⟨2, ![128, 128]⟩
abbrev S1024 : Shape := ⟨1, ![1024]⟩
abbrev S1x128x128 : Shape := ⟨3, ![1, 128, 128]⟩

abbrev nBuf : Space → Nat
  | .hbm => 22
  | .vmem => 24
  | .smem => 0
  | _ => 0

abbrev bufTy : (tb : Table) → Fin (tcTables nBuf tb) → BufTy
  | .hbm, ⟨0, _⟩ => ⟨S2048x3584, .f32⟩
  | .hbm, ⟨1, _⟩ => ⟨S2048x2048, .f32⟩
  | .hbm, ⟨2, _⟩ => ⟨S2x1024, .f32⟩
  | .hbm, ⟨3, _⟩ => ⟨S2x1024, .f32⟩
  | .hbm, ⟨4, _⟩ => ⟨S2x8x128x128, .f32⟩
  | .hbm, ⟨5, _⟩ => ⟨S2x8x128, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x8x128x128, .bf16⟩
  | .hbm, ⟨11, _⟩ => ⟨S2x8x128x128, .f32⟩
  | .hbm, ⟨12, _⟩ => ⟨S2x8x128x128, .bf16⟩
  | .hbm, ⟨13, _⟩ => ⟨S2x8x128x1, .f32⟩
  | .hbm, ⟨14, _⟩ => ⟨S2x8x128x128, .f32⟩
  | .hbm, ⟨15, _⟩ => ⟨S2048x1024, .bf16⟩
  | .hbm, ⟨16, _⟩ => ⟨S2048x1024, .bf16⟩
  | .hbm, ⟨17, _⟩ => ⟨S8x128x128, .f32⟩
  | .hbm, ⟨18, _⟩ => ⟨S8x128x128, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128x128, .bf16⟩
  | .local _ .vmem, ⟨9, _⟩ => ⟨S1x8x128x128, .bf16⟩
  | .local _ .vmem, ⟨10, _⟩ => ⟨S1x8x128x128, .f32⟩
  | .local _ .vmem, ⟨11, _⟩ => ⟨S1x1x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S8x128x128, .f32⟩
  | .local _ .vmem, ⟨17, _⟩ => ⟨S8x128x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S2048x3584 : Shape := ⟨2, ![2048, 3584]⟩
abbrev S2048x2048 : Shape := ⟨2, ![2048, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2048x1024 : Shape := ⟨2, ![2048, 1024]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S2048 : Shape := ⟨1, ![2048]⟩
abbrev S1x128x8 : Shape := ⟨3, ![1, 128, 8]⟩
abbrev S8x128x1 : Shape := ⟨3, ![8, 128, 1]⟩

abbrev nBuf : Space → Nat
  | .hbm => 266
  | .vmem => 0
  | .smem => 0
  | _ => 0

abbrev hbmTy0_0 (i : Nat) : BufTy := match i % 128 with
  | 0 => ⟨S2048x3584, .f32⟩
  | 1 => ⟨S2048x2048, .f32⟩
  | 2 => ⟨S2x1024, .f32⟩
  | 3 => ⟨S2x1024, .f32⟩
  | 4 => ⟨S2x8x128x128, .f32⟩
  | 5 => ⟨S2x8x128, .f32⟩
  | 6 => ⟨S2x1024, .f32⟩
  | 7 => ⟨S2048x1024, .f32⟩
  | 8 => ⟨S2048x1024, .f32⟩
  | 9 => ⟨S1x1024, .f32⟩
  | 10 => ⟨S1024, .f32⟩
  | 11 => ⟨S1x1024, .f32⟩
  | 12 => ⟨S1024, .f32⟩
  | 13 => ⟨S1x8x128x128, .f32⟩
  | 14 => ⟨S8x128x128, .f32⟩
  | 15 => ⟨S1x8x128, .f32⟩
  | 16 => ⟨S8x128, .f32⟩
  | 17 => ⟨S1x1024, .f32⟩
  | 18 => ⟨S1024, .f32⟩
  | 19 => ⟨S1x2048x1024, .f32⟩
  | 20 => ⟨S_, .f32⟩
  | 21 => ⟨S_, .f32⟩
  | 22 => ⟨S_, .f32⟩
  | 23 => ⟨S1x2048x1024, .f32⟩
  | 24 => ⟨S1x2048x1024, .f32⟩
  | 25 => ⟨S1x2048x1024, .f32⟩
  | 26 => ⟨S_, .f32⟩
  | 27 => ⟨S1x2048x1024, .f32⟩
  | 28 => ⟨S1x2048x1024, .f32⟩
  | 29 => ⟨S1x2048x1024, .f32⟩
  | 30 => ⟨S1x2048x1024, .f32⟩
  | 31 => ⟨S1x2048x1024, .f32⟩
  | 32 => ⟨S_, .f32⟩
  | 33 => ⟨S1x2048x1024, .f32⟩
  | 34 => ⟨S1x2048x1024, .f32⟩
  | 35 => ⟨S1x2048x1024, .f32⟩
  | 36 => ⟨S_, .f32⟩
  | 37 => ⟨S1x2048x1024, .f32⟩
  | 38 => ⟨S1x2048x1024, .f32⟩
  | 39 => ⟨S_, .f32⟩
  | 40 => ⟨S1x2048x1024, .f32⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S1x2048x1024, .f32⟩
  | 50 => ⟨S1x2048x1024, .f32⟩
  | 51 => ⟨S_, .f32⟩
  | 52 => ⟨S_, .f32⟩
  | 53 => ⟨S_, .f32⟩
  | 54 => ⟨S1x2048x1024, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S1x2048x1024, .f32⟩
  | 61 => ⟨S1x2048x1024, .f32⟩
  | 62 => ⟨S1x2048x1024, .f32⟩
  | 63 => ⟨S_, .f32⟩
  | 64 => ⟨S1x2048x1024, .f32⟩
  | 65 => ⟨S1x2048x1024, .f32⟩
  | 66 => ⟨S1x2048x1024, .f32⟩
  | 67 => ⟨S_, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S1x2048x1024, .f32⟩
  | 74 => ⟨S_, .f32⟩
  | 75 => ⟨S1x2048x1024, .f32⟩
  | 76 => ⟨S1x2048x1024, .f32⟩
  | 77 => ⟨S_, .f32⟩
  | 78 => ⟨S1x2048x1024, .f32⟩
  | 79 => ⟨S1x2048x1024, .f32⟩
  | 80 => ⟨S1x2048x1024, .f32⟩
  | 81 => ⟨S_, .f32⟩
  | 82 => ⟨S1x2048, .f32⟩
  | 83 => ⟨S1x2048x1, .f32⟩
  | 84 => ⟨S_, .f32⟩
  | 85 => ⟨S1x2048x1, .f32⟩
  | 86 => ⟨S1x2048x1, .f32⟩
  | 87 => ⟨S1x2048x1024, .f32⟩
  | 88 => ⟨S1x2048x1024, .f32⟩
  | 89 => ⟨S1x2048x1024, .f32⟩
  | 90 => ⟨S_, .f32⟩
  | 91 => ⟨S1x2048, .f32⟩
  | 92 => ⟨S1x2048x1, .f32⟩
  | 93 => ⟨S_, .f32⟩
  | 94 => ⟨S1x2048x1, .f32⟩
  | 95 => ⟨S1x2048x1, .f32⟩
  | 96 => ⟨S_, .f32⟩
  | 97 => ⟨S1x2048x1, .f32⟩
  | 98 => ⟨S1x2048x1, .f32⟩
  | 99 => ⟨S1x2048x1, .f32⟩
  | 100 => ⟨S1x2048x1, .f32⟩
  | 101 => ⟨S_, .f32⟩
  | 102 => ⟨S1x2048x1, .f32⟩
  | 103 => ⟨S1x2048x1, .f32⟩
  | 104 => ⟨S1x2048x1024, .f32⟩
  | 105 => ⟨S1x2048x1024, .f32⟩
  | 106 => ⟨S1x1x1024, .f32⟩
  | 107 => ⟨S1x2048x1024, .f32⟩
  | 108 => ⟨S1x2048x1024, .f32⟩
  | 109 => ⟨S1x1x1024, .f32⟩
  | 110 => ⟨S1x2048x1024, .f32⟩
  | 111 => ⟨S1x2048x1024, .f32⟩
  | 112 => ⟨S1x16x128x8x128, .f32⟩
  | 113 => ⟨S8x1x16x128x128, .f32⟩
  | 114 => ⟨S1x16x128x8x128, .f32⟩
  | 115 => ⟨S128x8, .f32⟩
  | 116 => ⟨S1x1x128x8x1, .f32⟩
  | 117 => ⟨S1x16x128x8x128, .f32⟩
  | 118 => ⟨S1x16x128x8x128, .f32⟩
  | 119 => ⟨S1x2048x1024, .f32⟩
  | 120 => ⟨S1x2048x1024, .f32⟩
  | 121 => ⟨S1x2048x1024, .f32⟩
  | 122 => ⟨S_, .f32⟩
  | 123 => ⟨S1x2048, .f32⟩
  | 124 => ⟨S1x2048x1, .f32⟩
  | 125 => ⟨S_, .f32⟩
  | 126 => ⟨S1x2048x1, .f32⟩
  | 127 => ⟨S1x2048x1, .f32⟩
  | _ => ⟨S2048x3584, .f32⟩

abbrev hbmTy0_1 (i : Nat) : BufTy := match i % 128 with
  | 0 => ⟨S_, .f32⟩
  | 1 => ⟨S1x2048x1, .f32⟩
  | 2 => ⟨S1x2048x1, .f32⟩
  | 3 => ⟨S1x2048x1, .f32⟩
  | 4 => ⟨S1x2048x1, .f32⟩
  | 5 => ⟨S_, .f32⟩
  | 6 => ⟨S1x2048x1, .f32⟩
  | 7 => ⟨S1x2048x1, .f32⟩
  | 8 => ⟨S1x2048x1024, .f32⟩
  | 9 => ⟨S1x2048x1024, .f32⟩
  | 10 => ⟨S1x1x1024, .f32⟩
  | 11 => ⟨S1x2048x1024, .f32⟩
  | 12 => ⟨S1x2048x1024, .f32⟩
  | 13 => ⟨S2048x1024, .f32⟩
  | 14 => ⟨S2048x1024, .f32⟩
  | 15 => ⟨S1x2048x1024, .f32⟩
  | 16 => ⟨S1x2048x1024, .f32⟩
  | 17 => ⟨S_, .f32⟩
  | 18 => ⟨S1x1024, .f32⟩
  | 19 => ⟨S1x1x1024, .f32⟩
  | 20 => ⟨S1x2048x1024, .f32⟩
  | 21 => ⟨S1x2048x1024, .f32⟩
  | 22 => ⟨S_, .f32⟩
  | 23 => ⟨S1024, .f32⟩
  | 24 => ⟨S1x2048x1024, .f32⟩
  | 25 => ⟨S_, .f32⟩
  | 26 => ⟨S1x2048, .f32⟩
  | 27 => ⟨S1x2048x1, .f32⟩
  | 28 => ⟨S1x2048x1024, .f32⟩
  | 29 => ⟨S1x2048x1024, .f32⟩
  | 30 => ⟨S1x2048x1, .f32⟩
  | 31 => ⟨S_, .f32⟩
  | 32 => ⟨S1x2048x1, .f32⟩
  | 33 => ⟨S1x2048x1, .f32⟩
  | 34 => ⟨S_, .f32⟩
  | 35 => ⟨S2048, .f32⟩
  | 36 => ⟨S1x2048, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S1x2048x1024, .f32⟩
  | 44 => ⟨S1x16x128x8x128, .f32⟩
  | 45 => ⟨S_, .f32⟩
  | 46 => ⟨S1x128x8, .f32⟩
  | 47 => ⟨S1x1x128x8x1, .f32⟩
  | 48 => ⟨S_, .f32⟩
  | 49 => ⟨S128x8, .f32⟩
  | 50 => ⟨S8x128, .f32⟩
  | 51 => ⟨S8x1x16x128x128, .f32⟩
  | 52 => ⟨S8x128x128, .f32⟩
  | 53 => ⟨S8x1x16x128x128, .f32⟩
  | 54 => ⟨S1x16x128x8x128, .f32⟩
  | 55 => ⟨S1x2048x1024, .f32⟩
  | 56 => ⟨S_, .f32⟩
  | 57 => ⟨S1x1024, .f32⟩
  | 58 => ⟨S1x1x1024, .f32⟩
  | 59 => ⟨S_, .f32⟩
  | 60 => ⟨S1024, .f32⟩
  | 61 => ⟨S1x2048x1024, .f32⟩
  | 62 => ⟨S_, .f32⟩
  | 63 => ⟨S1x1024, .f32⟩
  | 64 => ⟨S1x1x1024, .f32⟩
  | 65 => ⟨S1x2048x1024, .f32⟩
  | 66 => ⟨S1x2048x1024, .f32⟩
  | 67 => ⟨S_, .f32⟩
  | 68 => ⟨S1024, .f32⟩
  | 69 => ⟨S1x2048x1024, .f32⟩
  | 70 => ⟨S_, .f32⟩
  | 71 => ⟨S1x2048, .f32⟩
  | 72 => ⟨S1x2048x1, .f32⟩
  | 73 => ⟨S1x2048x1024, .f32⟩
  | 74 => ⟨S1x2048x1024, .f32⟩
  | 75 => ⟨S1x2048x1, .f32⟩
  | 76 => ⟨S_, .f32⟩
  | 77 => ⟨S1x2048x1, .f32⟩
  | 78 => ⟨S1x2048x1, .f32⟩
  | 79 => ⟨S_, .f32⟩
  | 80 => ⟨S2048, .f32⟩
  | 81 => ⟨S1x2048, .f32⟩
  | 82 => ⟨S1x2048x1024, .f32⟩
  | 83 => ⟨S1x2048x1024, .f32⟩
  | 84 => ⟨S1x2048x1024, .f32⟩
  | 85 => ⟨S1x2048x1024, .f32⟩
  | 86 => ⟨S1x2048x1024, .f32⟩
  | 87 => ⟨S1x2048x1024, .f32⟩
  | 88 => ⟨S_, .f32⟩
  | 89 => ⟨S1x2048, .f32⟩
  | 90 => ⟨S1x2048x1, .f32⟩
  | 91 => ⟨S_, .f32⟩
  | 92 => ⟨S1x2048x1, .f32⟩
  | 93 => ⟨S1x2048x1, .f32⟩
  | 94 => ⟨S_, .f32⟩
  | 95 => ⟨S2048, .f32⟩
  | 96 => ⟨S1x2048, .f32⟩
  | 97 => ⟨S1x2048x1024, .f32⟩
  | 98 => ⟨S1x2048x1024, .f32⟩
  | 99 => ⟨S1x2048x1024, .f32⟩
  | 100 => ⟨S1x2048x1024, .f32⟩
  | 101 => ⟨S_, .f32⟩
  | 102 => ⟨S1x2048x1024, .f32⟩
  | 103 => ⟨S1x2048x1024, .f32⟩
  | 104 => ⟨S1x2048x1024, .f32⟩
  | 105 => ⟨S_, .f32⟩
  | 106 => ⟨S1x2048x1024, .f32⟩
  | 107 => ⟨S1x2048x1024, .f32⟩
  | 108 => ⟨S1x2048x1024, .f32⟩
  | 109 => ⟨S1x2048x1024, .f32⟩
  | 110 => ⟨S1x2048x1024, .f32⟩
  | 111 => ⟨S1x2048x1024, .f32⟩
  | 112 => ⟨S1x2048x1024, .f32⟩
  | 113 => ⟨S_, .f32⟩
  | 114 => ⟨S2048x1024, .f32⟩
  | 115 => ⟨S1x2048x1024, .f32⟩
  | 116 => ⟨S1x2048x1024, .f32⟩
  | 117 => ⟨S_, .f32⟩
  | 118 => ⟨S1x2048x1024, .f32⟩
  | 119 => ⟨S1x2048x1024, .f32⟩
  | 120 => ⟨S1x2048x1024, .f32⟩
  | 121 => ⟨S_, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S1x2048x1024, .f32⟩
  | _ => ⟨S2048x3584, .f32⟩

abbrev hbmTy0_2 (i : Nat) : BufTy := match i % 128 with
  | 0 => ⟨S1x2048x1024, .f32⟩
  | 1 => ⟨S_, .f32⟩
  | 2 => ⟨S2048x1024, .f32⟩
  | 3 => ⟨S2048x1024, .bf16⟩
  | 4 => ⟨S2048x1024, .bf16⟩
  | 5 => ⟨S8x128x1, .f32⟩
  | 6 => ⟨S8x128x128, .f32⟩
  | 7 => ⟨S1x1024, .f32⟩
  | 8 => ⟨S1x1024, .f32⟩
  | 9 => ⟨S1x1024, .f32⟩
  | _ => ⟨S2048x3584, .f32⟩

abbrev hbmTy (i : Nat) : BufTy := match i / 128 with
  | 0 => hbmTy0_0 i
  | 1 => hbmTy0_1 i
  | 2 => hbmTy0_2 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_cst_19 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_24 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_25 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_26 : Ref sig .tc := ⟨.hbm, 150, rfl⟩
abbrev main_v116 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_28 : Ref sig .tc := ⟨.hbm, 159, rfl⟩
abbrev main_v123 : Ref sig .tc := ⟨.hbm, 160, rfl⟩
abbrev main_v124 : Ref sig .tc := ⟨.hbm, 161, rfl⟩
abbrev main_cst_29 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_30 : Ref sig .tc := ⟨.hbm, 173, rfl⟩
abbrev main_v135 : Ref sig .tc := ⟨.hbm, 174, rfl⟩
abbrev main_v136 : Ref sig .tc := ⟨.hbm, 175, rfl⟩
abbrev main_cst_31 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_32 : Ref sig .tc := ⟨.hbm, 184, rfl⟩
abbrev main_v144 : Ref sig .tc := ⟨.hbm, 185, rfl⟩
abbrev main_v145 : Ref sig .tc := ⟨.hbm, 186, rfl⟩
abbrev main_cst_33 : Ref sig .tc := ⟨.hbm, 187, rfl⟩
abbrev main_v146 : Ref sig .tc := ⟨.hbm, 188, rfl⟩
abbrev main_v147 : Ref sig .tc := ⟨.hbm, 189, rfl⟩
abbrev main_cst_34 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_35 : Ref sig .tc := ⟨.hbm, 195, rfl⟩
abbrev main_v152 : Ref sig .tc := ⟨.hbm, 196, rfl⟩
abbrev main_v153 : Ref sig .tc := ⟨.hbm, 197, rfl⟩
abbrev main_cst_36 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_37 : Ref sig .tc := ⟨.hbm, 204, rfl⟩
abbrev main_v159 : Ref sig .tc := ⟨.hbm, 205, rfl⟩
abbrev main_v160 : Ref sig .tc := ⟨.hbm, 206, rfl⟩
abbrev main_cst_38 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_39 : Ref sig .tc := ⟨.hbm, 216, rfl⟩
abbrev main_v169 : Ref sig .tc := ⟨.hbm, 217, rfl⟩
abbrev main_v170 : Ref sig .tc := ⟨.hbm, 218, rfl⟩
abbrev main_cst_40 : Ref sig .tc := ⟨.hbm, 219, rfl⟩
abbrev main_v171 : Ref sig .tc := ⟨.hbm, 220, rfl⟩
abbrev main_v172 : Ref sig .tc := ⟨.hbm, 221, rfl⟩
abbrev main_cst_41 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_cst_42 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_43 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_44 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_45 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_46 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_47 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩

abbrev nD : Nat := 1
abbrev τ : Topo := Topo.v7x

variable {F : FTy → Type} [FloatOps F]
-- ==== Kernel2.lean ====
abbrev S2048x2048 : Shape := ⟨2, ![2048, 2048]⟩
abbrev S2x2048x5632 : Shape := ⟨3, ![2, 2048, 5632]⟩
abbrev S8x2048x1408 : Shape := ⟨3, ![8, 2048, 1408]⟩
abbrev S2048x512 : Shape := ⟨2, ![2048, 512]⟩
abbrev S1x2048x2816 : Shape := ⟨3, ![1, 2048, 2816]⟩
abbrev S2x512x1408 : Shape := ⟨3, ![2, 512, 1408]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S1x2048x5632 : Shape := ⟨3, ![1, 2048, 5632]⟩
abbrev S2048x5632 : Shape := ⟨2, ![2048, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2048x11264, .f32⟩
  | .hbm, ⟨4, _⟩ => ⟨S1x2048x5632, .bf16⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S2048x11264, .bf16⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | .hbm, ⟨15, _⟩ => ⟨S2048x8x1408, .f32⟩
  | .hbm, ⟨16, _⟩ => ⟨S8x2048x1408, .f32⟩
  | .hbm, ⟨17, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel3.lean ====
abbrev S2x2048x5632 : Shape := ⟨3, ![2, 2048, 5632]⟩
abbrev S1x2048x11264 : Shape := ⟨3, ![1, 2048, 11264]⟩
abbrev S2048x2048 : Shape := ⟨2, ![2048, 2048]⟩
abbrev S1x1024x5632 : Shape := ⟨3, ![1, 1024, 5632]⟩
abbrev S1x512x5632 : Shape := ⟨3, ![1, 512, 5632]⟩
abbrev S1024x512 : Shape := ⟨2, ![1024, 512]⟩
abbrev S1024x5632 : Shape := ⟨2, ![1024, 5632]⟩
abbrev S512x5632 : Shape := ⟨2, ![512, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S1x2048x11264, .bf16⟩
  | .hbm, ⟨2, _⟩ => ⟨S2048x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S1x512x5632, .bf16⟩
  | .local _ .vmem, ⟨3, _⟩ => ⟨S1x512x5632, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x5632 : Shape := ⟨3, ![2, 2048, 5632]⟩
abbrev S1x2048x11264 : Shape := ⟨3, ![1, 2048, 11264]⟩
abbrev S_ : Shape := ⟨0, ![]⟩
abbrev S2048x2048 : Shape := ⟨2, ![2048, 2048]⟩
abbrev S2048x11264 : Shape := ⟨2, ![2048, 11264]⟩
abbrev S1x2048x5632 : Shape := ⟨3, ![1, 2048, 5632]⟩
abbrev S2048x5632 : Shape := ⟨2, ![2048, 5632]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S1x2048x11264, .bf16⟩
  | .hbm, ⟨2, _⟩ => ⟨S_, .f32⟩
  | .hbm, ⟨3, _⟩ => ⟨S2048x2048, .f32⟩
  | .hbm, ⟨4, _⟩ => ⟨S2048x11264, .bf16⟩
  | .hbm, ⟨5, _⟩ => ⟨S1x2048x5632, .bf16⟩
  | .hbm, ⟨6, _⟩ => ⟨S2048x5632, .bf16⟩
  | .hbm, ⟨7, _⟩ => ⟨S1x2048x5632, .bf16⟩
  | .hbm, ⟨8, _⟩ => ⟨S2048x5632, .bf16⟩
  | .hbm, ⟨9, _⟩ => ⟨S2048x11264, .bf16⟩
  | .hbm, ⟨10, _⟩ => ⟨S2048x11264, .f32⟩
  | .hbm, ⟨11, _⟩ => ⟨S2048x11264, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S2048x2048 : Shape := ⟨2, ![2048, 2048]⟩
abbrev S1x5632x2048 : Shape := ⟨3, ![1, 5632, 2048]⟩
abbrev S2048x5632 : Shape := ⟨2, ![2048, 5632]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .f32⟩
  | .local _ .vmem, ⟨0, _⟩ => ⟨S2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S1x5632x2048 : Shape := ⟨3, ![1, 5632, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S_, .f32⟩
  | .hbm, ⟨3, _⟩ => ⟨S2048x5632, .f32⟩
  | .hbm, ⟨4, _⟩ => ⟨S5632x2048, .bf16⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x3584 : Shape := ⟨2, ![2048, 3584]⟩
abbrev S1x3584x2048 : Shape := ⟨3, ![1, 3584, 2048]⟩
abbrev S2048x2048 : Shape := ⟨2, ![2048, 2048]⟩
abbrev S1024x3584 : Shape := ⟨2, ![1024, 3584]⟩
abbrev S1x3584x512 : Shape := ⟨3, ![1, 3584, 512]⟩
abbrev S1024x512 : Shape := ⟨2, ![1024, 512]⟩
abbrev S3584x512 : Shape := ⟨2, ![3584, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3584, .bf16⟩
  | .hbm, ⟨1, _⟩ => ⟨S1x3584x2048, .bf16⟩
  | .hbm, ⟨2, _⟩ => ⟨S2048x2048, .f32⟩
  | .local _ .vmem, ⟨0, _⟩ => ⟨S1024x3584, .bf16⟩
  | .local _ .vmem, ⟨1, _⟩ => ⟨S1024x3584, .bf16⟩
  | .local _ .vmem, ⟨2, _⟩ => ⟨S1x3584x512, .bf16⟩
  | .local _ .vmem, ⟨3, _⟩ => ⟨S1x3584x512, .bf16⟩
  | .local _ .vmem, ⟨4, _⟩ => ⟨S1024x512, .f32⟩
  | .local _ .vmem, ⟨5, _⟩ => ⟨S1024x512, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x3584 : Shape := ⟨2, ![2048, 3584]⟩
abbrev S1x3584x2048 : Shape := ⟨3, ![1, 3584, 2048]⟩
abbrev S_ : Shape := ⟨0, ![]⟩
abbrev S2048x2048 : Shape := ⟨2, ![2048, 2048]⟩
abbrev S3584x2048 : Shape := ⟨2, ![3584, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S1x3584x2048, .bf16⟩
  | .hbm, ⟨2, _⟩ => ⟨S_, .f32⟩
  | .hbm, ⟨3, _⟩ => ⟨S2048x2048, .f32⟩
  | .hbm, ⟨4, _⟩ => ⟨S3584x2048, .bf16⟩
  | .hbm, ⟨5, _⟩ => ⟨S2048x3584, .bf16⟩
  | .hbm, ⟨6, _⟩ => ⟨S2048x3584, .f32⟩
  | .hbm, ⟨7, _⟩ => ⟨S2048x3584, .f32⟩
  | .hbm, ⟨8, _⟩ => ⟨S2048x3584, .f32⟩
  | .hbm, ⟨9, _⟩ => ⟨S3584x2048, .f32⟩
  | .hbm, ⟨10, _⟩ => ⟨S2048x3584, .f32⟩
  | .hbm, ⟨11, _⟩ => ⟨S2048x2048, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x3584 : Shape := ⟨2, ![2048, 3584]⟩
abbrev S2048x2048 : Shape := ⟨2, ![2048, 2048]⟩
abbrev S3584x2048 : Shape := ⟨2, ![3584, 2048]⟩
abbrev S2048x512 : Shape := ⟨2, ![2048, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x3584, .bf16⟩
  | .hbm, ⟨1, _⟩ => ⟨S2048x2048, .bf16⟩
  | .hbm, ⟨2, _⟩ => ⟨S3584x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x3584 : Shape := ⟨2, ![2048, 3584]⟩
abbrev S2048x2048 : Shape := ⟨2, ![2048, 2048]⟩
abbrev S_ : Shape := ⟨0, ![]⟩
abbrev S3584x2048 : Shape := ⟨2, ![3584, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x2048, .bf16⟩
  | .hbm, ⟨2, _⟩ => ⟨S_, .f32⟩
  | .hbm, ⟨3, _⟩ => ⟨S2048x3584, .f32⟩
  | .hbm, ⟨4, _⟩ => ⟨S2048x2048, .f32⟩
  | .hbm, ⟨5, _⟩ => ⟨S2048x3584, .f32⟩
  | .hbm, ⟨6, _⟩ => ⟨S2048x3584, .f32⟩
  | .hbm, ⟨7, _⟩ => ⟨S3584x2048, .f32⟩
  | .hbm, ⟨8, _⟩ => ⟨S2048x3584, .f32⟩
  | .hbm, ⟨9, _⟩ => ⟨S2048x2048, .f32⟩
  | .hbm, ⟨10, _⟩ => ⟨S3584x2048, .f32⟩
  | .hbm, ⟨11, _⟩ => ⟨S3584x2048, .bf16⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x2048 : Shape := ⟨2, ![2048, 2048]⟩
abbrev S1x2048x2048 : Shape := ⟨3, ![1, 2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S_, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S1x2048x11264 : Shape := ⟨3, ![1, 2048, 11264]⟩
abbrev S2048x11264 : Shape := ⟨2, ![2048, 11264]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x11264, .bf16⟩
  | .hbm, ⟨2, _⟩ => ⟨S2048x11264, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S1x2048x11264 : Shape := ⟨3, ![1, 2048, 11264]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x11264, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x5632 : Shape := ⟨2, ![2048, 5632]⟩
abbrev S1x5632x2048 : Shape := ⟨3, ![1, 5632, 2048]⟩
abbrev S2048x2048 : Shape := ⟨2, ![2048, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S5632x2048, .bf16⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S1x3584x2048 : Shape := ⟨3, ![1, 3584, 2048]⟩
abbrev S2048x3584 : Shape := ⟨2, ![2048, 3584]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x3584x2048, .bf16⟩
  | .hbm, ⟨2, _⟩ => ⟨S2048x3584, .f32⟩
  | .local _ .vmem, ⟨0, _⟩ => ⟨S2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c6_i32 : BitVec 32 := 6#32
  let v1 : BitVec 1 := Scalar.cmpi .slt arg1 c6_i32
  let c1_i32 : BitVec 32 := 1#32
  let v2 : BitVec 32 := Scalar.addi arg1 c1_i32
  let c4_i32 : BitVec 32 := 4#32
  let v3 : BitVec 32 := Scalar.subi arg1 c4_i32
  let v4 : BitVec 32 := Scalar.select v1 v2 v3
  let v5 : BitVec 32 := Scalar.select v0 arg1 v4
  let c0_i32 : BitVec 32 := 0#32
  let c0_i32_0 : BitVec 32 := 0#32
  let c0_i32_1 : BitVec 32 := 0#32
  ![c0_i32.toNat, v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S1x3584x2048 : Shape := ⟨3, ![1, 3584, 2048]⟩
abbrev S3584x2048 : Shape := ⟨2, ![3584, 2048]⟩
abbrev S2048x3584 : Shape := ⟨2, ![2048, 3584]⟩
abbrev S2048x1024 : Shape := ⟨2, ![2048, 1024]⟩
abbrev S2048x256 : Shape := ⟨2, ![2048, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x3584x2048, .bf16⟩
  | .hbm, ⟨2, _⟩ => ⟨S3584x2048, .bf16⟩
  | .hbm, ⟨3, _⟩ => ⟨S2048x3584, .bf16⟩
  | .hbm, ⟨4, _⟩ => ⟨S2048x2048, .f32⟩
  | .hbm, ⟨5, _⟩ => ⟨S2048x3584, .f32⟩
  | .hbm, ⟨6, _⟩ => ⟨S2048x3584, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x1024, .f32⟩
  | .hbm, ⟨12, _⟩ => ⟨S2048x3584, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel13.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x2048 : Shape := ⟨2, ![2048, 2048]⟩
abbrev S2x2048 : Shape := ⟨2, ![2, 2048]⟩
abbrev S2x1x2048 : Shape := ⟨3, ![2, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048, .f32⟩
  | .hbm, ⟨4, _⟩ => ⟨S2x1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .bf16⟩
  | .hbm, ⟨53, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel15.lean ====
abbrev S2048x5632 : Shape := ⟨2, ![2048, 5632]⟩
abbrev S1x5632x2048 : Shape := ⟨3, ![1, 5632, 2048]⟩
abbrev S2048x2048 : Shape := ⟨2, ![2048, 2048]⟩
abbrev S1x2048x2048 : Shape := ⟨3, ![1, 2048, 2048]⟩
abbrev S8x128 : Shape := ⟨2, ![8, 128]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S1x2048x2048, .f32⟩
  | .hbm, ⟨4, _⟩ => ⟨S2048x2048, .f32⟩
  | .hbm, ⟨5, _⟩ => ⟨S8x128, .f32⟩
  | .hbm, ⟨6, _⟩ => ⟨S2048x2048, .f32⟩
  | .hbm, ⟨7, _⟩ => ⟨S2048x2048, .bf16⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S1x2048x2048 : Shape := ⟨3, ![1, 2048, 2048]⟩
abbrev S5632x2048 : Shape := ⟨2, ![5632, 2048]⟩
abbrev S_ : Shape := ⟨0, ![]⟩
abbrev S2048 : Shape := ⟨1, ![2048]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S1x2048x2048, .f32⟩
  | .hbm, ⟨4, _⟩ => ⟨S5632x2048, .bf16⟩
  | .hbm, ⟨5, _⟩ => ⟨S2048x5632, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x2048, .f32⟩
  | .hbm, ⟨32, _⟩ => ⟨S2048x2048, .f32⟩
  | .hbm, ⟨33, _⟩ => ⟨S8x128, .f32⟩
  | .hbm, ⟨34, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel16.lean ====
abbrev S2048x2048 : Shape := ⟨2, ![2048, 2048]⟩
abbrev S2x2048 : Shape := ⟨2, ![2, 2048]⟩
abbrev S2x1x2048 : Shape := ⟨3, ![2, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2x2048, .f32⟩
  | .hbm, ⟨2, _⟩ => ⟨S2x1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel17.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference17Ideal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2048x3584 : Shape := ⟨2, ![2048, 3584]⟩
abbrev S2048x1024 : Shape := ⟨2, ![2048, 1024]⟩
abbrev S2304x256 : Shape := ⟨2, ![2304, 256]⟩
abbrev S2x128 : Shape := ⟨2, ![2, 128]⟩
abbrev S2048x64 : Shape := ⟨2, ![2048, 64]⟩
abbrev S2048x128 : Shape := ⟨2, ![2048, 128]⟩
abbrev S2x1x128 : Shape := ⟨3, ![2, 1, 128]⟩
abbrev S2048x512 : Shape := ⟨2, ![2048, 512]⟩
abbrev S1x128 : Shape := ⟨2, ![1, 128]⟩
abbrev S128x1024 : Shape := ⟨2, ![128, 1024]⟩
abbrev S128x512 : Shape := ⟨2, ![128, 512]⟩
abbrev S128x256 : Shape := ⟨2, ![128, 256]⟩
abbrev S1x1x128 : Shape := ⟨3, ![1, 1, 128]⟩
abbrev S128x128 : Shape := ⟨2, ![128, 128]⟩
abbrev S128 : Shape := ⟨1, ![128]⟩
abbrev S128x1 : Shape := ⟨2, ![128, 1]⟩

abbrev nBuf : Space → Nat
  | .hbm => 17
  | .vmem => 22
  | .smem => 0
  | _ => 0

abbrev bufTy : (tb : Table) → Fin (tcTables nBuf tb) → BufTy
  | .hbm, ⟨0, _⟩ => ⟨S2048x3584, .f32⟩
  | .hbm, ⟨1, _⟩ => ⟨S2048x1024, .f32⟩
  | .hbm, ⟨2, _⟩ => ⟨S2304x256, .f32⟩
  | .hbm, ⟨3, _⟩ => ⟨S2304x256, .f32⟩
  | .hbm, ⟨4, _⟩ => ⟨S2x128, .f32⟩
  | .hbm, ⟨5, _⟩ => ⟨S2x128, .f32⟩
  | .hbm, ⟨6, _⟩ => ⟨S2048x64, .f32⟩
  | .hbm, ⟨7, _⟩ => ⟨S2048x64, .f32⟩
  | .hbm, ⟨8, _⟩ => ⟨S2048x128, .f32⟩
  | .hbm, ⟨9, _⟩ => ⟨S2048x64, .f32⟩
  | .hbm, ⟨10, _⟩ => ⟨S2048x128, .f32⟩
  | .hbm, ⟨11, _⟩ => ⟨S2x1x128, .f32⟩
  | .hbm, ⟨12, _⟩ => ⟨S2x1x128, .f32⟩
  | .hbm, ⟨13, _⟩ => ⟨S2048x1024, .bf16⟩
  | .hbm, ⟨14, _⟩ => ⟨S2048x512, .bf16⟩
  | .hbm, ⟨15, _⟩ => ⟨S1x128, .f32⟩
  | .hbm, ⟨16, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x1x128, .f32⟩
  | .local _ .vmem, ⟨11, _⟩ => ⟨S1x1x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | .local _ .vmem, ⟨18, _⟩ => ⟨S128x512, .bf16⟩
  | .local _ .vmem, ⟨19, _⟩ => ⟨S128x512, .bf16⟩
  | .local _ .vmem, ⟨20, _⟩ => ⟨S1x128, .f32⟩
  | .local _ .vmem, ⟨21, _⟩ => ⟨S1x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference18Ideal.lean ====
abbrev S2048x3584 : Shape := ⟨2, ![2048, 3584]⟩
abbrev S2048x1024 : Shape := ⟨2, ![2048, 1024]⟩
abbrev S2304x256 : Shape := ⟨2, ![2304, 256]⟩
abbrev S2x128 : Shape := ⟨2, ![2, 128]⟩
abbrev S2048x64 : Shape := ⟨2, ![2048, 64]⟩
abbrev S2048x256 : Shape := ⟨2, ![2048, 256]⟩
abbrev S1x128 : Shape := ⟨2, ![1, 128]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2048x8x64 : Shape := ⟨3, ![2048, 8, 64]⟩
abbrev S2048x1x64 : Shape := ⟨3, ![2048, 1, 64]⟩
abbrev S2048x2x128 : Shape := ⟨3, ![2048, 2, 128]⟩
abbrev S2048x2 : Shape := ⟨2, ![2048, 2]⟩
abbrev S2048x2x1 : Shape := ⟨3, ![2048, 2, 1]⟩
abbrev S2048x2x64 : Shape := ⟨3, ![2048, 2, 64]⟩
abbrev S2048x512 : Shape := ⟨2, ![2048, 512]⟩

abbrev nBuf : Space → Nat
  | .hbm => 178
  | .vmem => 0
  | .smem => 0
  | _ => 0

abbrev hbmTy0_0 (i : Nat) : BufTy := match i % 128 with
  | 0 => ⟨S2048x3584, .f32⟩
  | 1 => ⟨S2048x1024, .f32⟩
  | 2 => ⟨S2304x256, .f32⟩
  | 3 => ⟨S2304x256, .f32⟩
  | 4 => ⟨S2x128, .f32⟩
  | 5 => ⟨S2x128, .f32⟩
  | 6 => ⟨S2048x64, .f32⟩
  | 7 => ⟨S2048x64, .f32⟩
  | 8 => ⟨S2048x1024, .f32⟩
  | 9 => ⟨S2048x256, .f32⟩
  | 10 => ⟨S2048x256, .f32⟩
  | 11 => ⟨S1x128, .f32⟩
  | 12 => ⟨S128, .f32⟩
  | 13 => ⟨S1x128, .f32⟩
  | 14 => ⟨S128, .f32⟩
  | 15 => ⟨S2048x8x128, .f32⟩
  | 16 => ⟨S2048x8x128, .f32⟩
  | 17 => ⟨S_, .f32⟩
  | 18 => ⟨S2048x8, .f32⟩
  | 19 => ⟨S2048x8x1, .f32⟩
  | 20 => ⟨S_, .f32⟩
  | 21 => ⟨S2048x8x1, .f32⟩
  | 22 => ⟨S2048x8x1, .f32⟩
  | 23 => ⟨S_, .f32⟩
  | 24 => ⟨S2048x8x1, .f32⟩
  | 25 => ⟨S2048x8x1, .f32⟩
  | 26 => ⟨S2048x8x1, .f32⟩
  | 27 => ⟨S2048x8x1, .f32⟩
  | 28 => ⟨S_, .f32⟩
  | 29 => ⟨S2048x8x1, .f32⟩
  | 30 => ⟨S2048x8x1, .f32⟩
  | 31 => ⟨S2048x8x128, .f32⟩
  | 32 => ⟨S2048x8x128, .f32⟩
  | 33 => ⟨S1x1x128, .f32⟩
  | 34 => ⟨S2048x8x128, .f32⟩
  | 35 => ⟨S2048x8x128, .f32⟩
  | 36 => ⟨S2048x8x64, .f32⟩
  | 37 => ⟨S2048x8x64, .f32⟩
  | 38 => ⟨S2048x1x64, .f32⟩
  | 39 => ⟨S2048x1x64, .f32⟩
  | 40 => ⟨S2048x8x64, .f32⟩
  | 41 => ⟨S2048x8x64, .f32⟩
  | 42 => ⟨S2048x8x64, .f32⟩
  | 43 => ⟨S2048x8x64, .f32⟩
  | 44 => ⟨S2048x8x64, .f32⟩
  | 45 => ⟨S2048x8x64, .f32⟩
  | 46 => ⟨S2048x8x64, .f32⟩
  | 47 => ⟨S2048x8x64, .f32⟩
  | 48 => ⟨S2048x8x64, .f32⟩
  | 49 => ⟨S2048x8x64, .f32⟩
  | 50 => ⟨S2048x8x128, .f32⟩
  | 51 => ⟨S2048x2x128, .f32⟩
  | 52 => ⟨S2048x2x128, .f32⟩
  | 53 => ⟨S_, .f32⟩
  | 54 => ⟨S2048x2, .f32⟩
  | 55 => ⟨S2048x2x1, .f32⟩
  | 56 => ⟨S_, .f32⟩
  | 57 => ⟨S2048x2x1, .f32⟩
  | 58 => ⟨S2048x2x1, .f32⟩
  | 59 => ⟨S_, .f32⟩
  | 60 => ⟨S2048x2x1, .f32⟩
  | 61 => ⟨S2048x2x1, .f32⟩
  | 62 => ⟨S2048x2x1, .f32⟩
  | 63 => ⟨S2048x2x1, .f32⟩
  | 64 => ⟨S_, .f32⟩
  | 65 => ⟨S2048x2x1, .f32⟩
  | 66 => ⟨S2048x2x1, .f32⟩
  | 67 => ⟨S2048x2x128, .f32⟩
  | 68 => ⟨S2048x2x128, .f32⟩
  | 69 => ⟨S1x1x128, .f32⟩
  | 70 => ⟨S2048x2x128, .f32⟩
  | 71 => ⟨S2048x2x128, .f32⟩
  | 72 => ⟨S2048x2x64, .f32⟩
  | 73 => ⟨S2048x2x64, .f32⟩
  | 74 => ⟨S2048x1x64, .f32⟩
  | 75 => ⟨S2048x1x64, .f32⟩
  | 76 => ⟨S2048x2x64, .f32⟩
  | 77 => ⟨S2048x2x64, .f32⟩
  | 78 => ⟨S2048x2x64, .f32⟩
  | 79 => ⟨S2048x2x64, .f32⟩
  | 80 => ⟨S2048x2x64, .f32⟩
  | 81 => ⟨S2048x2x64, .f32⟩
  | 82 => ⟨S2048x2x64, .f32⟩
  | 83 => ⟨S2048x2x64, .f32⟩
  | 84 => ⟨S2048x2x64, .f32⟩
  | 85 => ⟨S2048x2x64, .f32⟩
  | 86 => ⟨S2048x2x128, .f32⟩
  | 87 => ⟨S2048x1024, .f32⟩
  | 88 => ⟨S2048x256, .f32⟩
  | 89 => ⟨S2048x256, .f32⟩
  | 90 => ⟨S2048x256, .f32⟩
  | 91 => ⟨S2048x2x128, .f32⟩
  | 92 => ⟨S2048x8x128, .f32⟩
  | 93 => ⟨S2048x2x64, .f32⟩
  | 94 => ⟨S2048x2x64, .f32⟩
  | 95 => ⟨S2048x2x64, .f32⟩
  | 96 => ⟨S2048x2x64, .f32⟩
  | 97 => ⟨S2048x2x64, .f32⟩
  | 98 => ⟨S2048x2x64, .f32⟩
  | 99 => ⟨S2048x2x64, .f32⟩
  | 100 => ⟨S2048x2x64, .f32⟩
  | 101 => ⟨S2048x2x64, .f32⟩
  | 102 => ⟨S2048x2x64, .f32⟩
  | 103 => ⟨S2048x2x64, .f32⟩
  | 104 => ⟨S2048x2x64, .f32⟩
  | 105 => ⟨S2048x2x64, .f32⟩
  | 106 => ⟨S2048x2x128, .f32⟩
  | 107 => ⟨S2048x2x128, .f32⟩
  | 108 => ⟨S_, .f32⟩
  | 109 => ⟨S128, .f32⟩
  | 110 => ⟨S1x1x128, .f32⟩
  | 111 => ⟨S2048x2x128, .f32⟩
  | 112 => ⟨S2048x2x128, .f32⟩
  | 113 => ⟨S_, .f32⟩
  | 114 => ⟨S128, .f32⟩
  | 115 => ⟨S2048x2x128, .f32⟩
  | 116 => ⟨S_, .f32⟩
  | 117 => ⟨S2048x2, .f32⟩
  | 118 => ⟨S2048x2x1, .f32⟩
  | 119 => ⟨S2048x2x128, .f32⟩
  | 120 => ⟨S2048x2x128, .f32⟩
  | 121 => ⟨S2048x2x1, .f32⟩
  | 122 => ⟨S_, .f32⟩
  | 123 => ⟨S2048x2x1, .f32⟩
  | 124 => ⟨S2048x2x1, .f32⟩
  | 125 => ⟨S_, .f32⟩
  | 126 => ⟨S2048x2, .f32⟩
  | 127 => ⟨S2048x2x128, .f32⟩
  | _ => ⟨S2048x3584, .f32⟩

abbrev hbmTy0_1 (i : Nat) : BufTy := match i % 128 with
  | 0 => ⟨S2048x2x128, .f32⟩
  | 1 => ⟨S2048x2x128, .f32⟩
  | 2 => ⟨S2048x2x128, .f32⟩
  | 3 => ⟨S2048x2x128, .f32⟩
  | 4 => ⟨S2048x256, .f32⟩
  | 5 => ⟨S2048x8x64, .f32⟩
  | 6 => ⟨S2048x8x64, .f32⟩
  | 7 => ⟨S2048x8x64, .f32⟩
  | 8 => ⟨S2048x8x64, .f32⟩
  | 9 => ⟨S2048x8x64, .f32⟩
  | 10 => ⟨S2048x8x64, .f32⟩
  | 11 => ⟨S2048x8x64, .f32⟩
  | 12 => ⟨S2048x8x64, .f32⟩
  | 13 => ⟨S2048x8x64, .f32⟩
  | 14 => ⟨S2048x8x64, .f32⟩
  | 15 => ⟨S2048x8x64, .f32⟩
  | 16 => ⟨S2048x8x64, .f32⟩
  | 17 => ⟨S2048x8x64, .f32⟩
  | 18 => ⟨S2048x8x128, .f32⟩
  | 19 => ⟨S2048x8x128, .f32⟩
  | 20 => ⟨S_, .f32⟩
  | 21 => ⟨S128, .f32⟩
  | 22 => ⟨S1x1x128, .f32⟩
  | 23 => ⟨S2048x8x128, .f32⟩
  | 24 => ⟨S2048x8x128, .f32⟩
  | 25 => ⟨S_, .f32⟩
  | 26 => ⟨S128, .f32⟩
  | 27 => ⟨S2048x8x128, .f32⟩
  | 28 => ⟨S_, .f32⟩
  | 29 => ⟨S2048x8, .f32⟩
  | 30 => ⟨S2048x8x1, .f32⟩
  | 31 => ⟨S2048x8x128, .f32⟩
  | 32 => ⟨S2048x8x128, .f32⟩
  | 33 => ⟨S2048x8x1, .f32⟩
  | 34 => ⟨S_, .f32⟩
  | 35 => ⟨S2048x8x1, .f32⟩
  | 36 => ⟨S2048x8x1, .f32⟩
  | 37 => ⟨S_, .f32⟩
  | 38 => ⟨S2048x8, .f32⟩
  | 39 => ⟨S2048x8x128, .f32⟩
  | 40 => ⟨S2048x8x128, .f32⟩
  | 41 => ⟨S2048x8x128, .f32⟩
  | 42 => ⟨S2048x8x128, .f32⟩
  | 43 => ⟨S2048x8x128, .f32⟩
  | 44 => ⟨S2048x1024, .f32⟩
  | 45 => ⟨S2048x1024, .bf16⟩
  | 46 => ⟨S2048x512, .f32⟩
  | 47 => ⟨S2048x512, .bf16⟩
  | 48 => ⟨S1x128, .f32⟩
  | 49 => ⟨S1x128, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_8 : Ref sig .tc := ⟨.hbm, 113, rfl⟩
abbrev main_v96 : Ref sig .tc := ⟨.hbm, 114, rfl⟩
abbrev main_v97 : Ref sig .tc := ⟨.hbm, 115, rfl⟩
abbrev main_cst_9 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_12 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_13 : Ref sig .tc := ⟨.hbm, 153, rfl⟩
abbrev main_v131 : Ref sig .tc := ⟨.hbm, 154, rfl⟩
abbrev main_v132 : Ref sig .tc := ⟨.hbm, 155, rfl⟩
abbrev main_cst_14 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_15 : Ref sig .tc := ⟨.hbm, 162, rfl⟩
abbrev main_v138 : Ref sig .tc := ⟨.hbm, 163, rfl⟩
abbrev main_v139 : Ref sig .tc := ⟨.hbm, 164, rfl⟩
abbrev main_cst_16 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩

abbrev nD : Nat := 1
abbrev τ : Topo := Topo.v7x

variable {F : FTy → Type} [FloatOps F]
-- ==== Kernel19.lean ====
abbrev S2048x3584 : Shape := ⟨2, ![2048, 3584]⟩
abbrev S2x128 : Shape := ⟨2, ![2, 128]⟩
abbrev S2048x64 : Shape := ⟨2, ![2048, 64]⟩
abbrev S2048x128 : Shape := ⟨2, ![2048, 128]⟩
abbrev S2x1x128 : Shape := ⟨3, ![2, 1, 128]⟩
abbrev S2048x1024 : Shape := ⟨2, ![2048, 1024]⟩
abbrev S2048x256 : Shape := ⟨2, ![2048, 256]⟩
abbrev S512x1024 : Shape := ⟨2, ![512, 1024]⟩
abbrev S512x512 : Shape := ⟨2, ![512, 512]⟩
abbrev S1x1x128 : Shape := ⟨3, ![1, 1, 128]⟩
abbrev S512x128 : Shape := ⟨2, ![512, 128]⟩
abbrev S512x256 : Shape := ⟨2, ![512, 256]⟩
abbrev S1x128 : Shape := ⟨2, ![1, 128]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S2048x3584, .f32⟩
  | .hbm, ⟨1, _⟩ => ⟨S2x128, .f32⟩
  | .hbm, ⟨2, _⟩ => ⟨S2x128, .f32⟩
  | .hbm, ⟨3, _⟩ => ⟨S2048x64, .f32⟩
  | .hbm, ⟨4, _⟩ => ⟨S2048x64, .f32⟩
  | .hbm, ⟨5, _⟩ => ⟨S2048x128, .f32⟩
  | .hbm, ⟨6, _⟩ => ⟨S2048x64, .f32⟩
  | .hbm, ⟨7, _⟩ => ⟨S2048x128, .f32⟩
  | .hbm, ⟨8, _⟩ => ⟨S2x1x128, .f32⟩
  | .hbm, ⟨9, _⟩ => ⟨S2x1x128, .f32⟩
  | .hbm, ⟨10, _⟩ => ⟨S2048x1024, .bf16⟩
  | .hbm, ⟨11, _⟩ => ⟨S2048x256, .bf16⟩
  | .hbm, ⟨12, _⟩ => ⟨S2048x256, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x1x128, .f32⟩
  | .local _ .vmem, ⟨5, _⟩ => ⟨S1x1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x3584 : Shape := ⟨2, ![2048, 3584]⟩
abbrev S2x128 : Shape := ⟨2, ![2, 128]⟩
abbrev S2048x64 : Shape := ⟨2, ![2048, 64]⟩
abbrev S2048x1024 : Shape := ⟨2, ![2048, 1024]⟩
abbrev S2048x8x128 : Shape := ⟨3, ![2048, 8, 128]⟩
abbrev S1x128 : Shape := ⟨2, ![1, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2048x8x64 : Shape := ⟨3, ![2048, 8, 64]⟩
abbrev S2048x1x64 : Shape := ⟨3, ![2048, 1, 64]⟩
abbrev S2048x256 : Shape := ⟨2, ![2048, 256]⟩
abbrev S2048x2x128 : Shape := ⟨3, ![2048, 2, 128]⟩
abbrev S2048x2 : Shape := ⟨2, ![2048, 2]⟩
abbrev S2048x2x1 : Shape := ⟨3, ![2048, 2, 1]⟩
abbrev S2048x2x64 : Shape := ⟨3, ![2048, 2, 64]⟩

abbrev nBuf : Space → Nat
  | .hbm => 81
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2x128, .f32⟩
  | .hbm, ⟨2, _⟩ => ⟨S2x128, .f32⟩
  | .hbm, ⟨3, _⟩ => ⟨S2048x64, .f32⟩
  | .hbm, ⟨4, _⟩ => ⟨S2048x64, .f32⟩
  | .hbm, ⟨5, _⟩ => ⟨S2048x1024, .f32⟩
  | .hbm, ⟨6, _⟩ => ⟨S2048x8x128, .f32⟩
  | .hbm, ⟨7, _⟩ => ⟨S1x128, .f32⟩
  | .hbm, ⟨8, _⟩ => ⟨S128, .f32⟩
  | .hbm, ⟨9, _⟩ => ⟨S2048x8x128, .f32⟩
  | .hbm, ⟨10, _⟩ => ⟨S_, .f32⟩
  | .hbm, ⟨11, _⟩ => ⟨S2048x8, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x1, .f32⟩
  | .hbm, ⟨20, _⟩ => ⟨S2048x8x128, .f32⟩
  | .hbm, ⟨21, _⟩ => ⟨S2048x8x128, .f32⟩
  | .hbm, ⟨22, _⟩ => ⟨S1x1x128, .f32⟩
  | .hbm, ⟨23, _⟩ => ⟨S2048x8x128, .f32⟩
  | .hbm, ⟨24, _⟩ => ⟨S2048x8x128, .f32⟩
  | .hbm, ⟨25, _⟩ => ⟨S2048x8x64, .f32⟩
  | .hbm, ⟨26, _⟩ => ⟨S2048x8x64, .f32⟩
  | .hbm, ⟨27, _⟩ => ⟨S2048x1x64, .f32⟩
  | .hbm, ⟨28, _⟩ => ⟨S2048x1x64, .f32⟩
  | .hbm, ⟨29, _⟩ => ⟨S2048x8x64, .f32⟩
  | .hbm, ⟨30, _⟩ => ⟨S2048x8x64, .f32⟩
  | .hbm, ⟨31, _⟩ => ⟨S2048x8x64, .f32⟩
  | .hbm, ⟨32, _⟩ => ⟨S2048x8x64, .f32⟩
  | .hbm, ⟨33, _⟩ => ⟨S2048x8x64, .f32⟩
  | .hbm, ⟨34, _⟩ => ⟨S2048x8x64, .f32⟩
  | .hbm, ⟨35, _⟩ => ⟨S2048x8x64, .f32⟩
  | .hbm, ⟨36, _⟩ => ⟨S2048x8x64, .f32⟩
  | .hbm, ⟨37, _⟩ => ⟨S2048x8x64, .f32⟩
  | .hbm, ⟨38, _⟩ => ⟨S2048x8x64, .f32⟩
  | .hbm, ⟨39, _⟩ => ⟨S2048x8x128, .f32⟩
  | .hbm, ⟨40, _⟩ => ⟨S2048x256, .f32⟩
  | .hbm, ⟨41, _⟩ => ⟨S2048x2x128, .f32⟩
  | .hbm, ⟨42, _⟩ => ⟨S1x128, .f32⟩
  | .hbm, ⟨43, _⟩ => ⟨S128, .f32⟩
  | .hbm, ⟨44, _⟩ => ⟨S2048x2x128, .f32⟩
  | .hbm, ⟨45, _⟩ => ⟨S_, .f32⟩
  | .hbm, ⟨46, _⟩ => ⟨S2048x2, .f32⟩
  | .hbm, ⟨47, _⟩ => ⟨S2048x2x1, .f32⟩
  | .hbm, ⟨48, _⟩ => ⟨S_, .f32⟩
  | .hbm, ⟨49, _⟩ => ⟨S2048x2x1, .f32⟩
  | .hbm, ⟨50, _⟩ => ⟨S2048x2x1, .f32⟩
  | .hbm, ⟨51, _⟩ => ⟨S_, .f32⟩
  | .hbm, ⟨52, _⟩ => ⟨S2048x2x1, .f32⟩
  | .hbm, ⟨53, _⟩ => ⟨S2048x2x1, .f32⟩
  | .hbm, ⟨54, _⟩ => ⟨S2048x2x1, .f32⟩
  | .hbm, ⟨55, _⟩ => ⟨S2048x2x128, .f32⟩
  | .hbm, ⟨56, _⟩ => ⟨S2048x2x128, .f32⟩
  | .hbm, ⟨57, _⟩ => ⟨S1x1x128, .f32⟩
  | .hbm, ⟨58, _⟩ => ⟨S2048x2x128, .f32⟩
  | .hbm, ⟨59, _⟩ => ⟨S2048x2x128, .f32⟩
  | .hbm, ⟨60, _⟩ => ⟨S2048x2x64, .f32⟩
  | .hbm, ⟨61, _⟩ => ⟨S2048x2x64, .f32⟩
  | .hbm, ⟨62, _⟩ => ⟨S2048x1x64, .f32⟩
  | .hbm, ⟨63, _⟩ => ⟨S2048x1x64, .f32⟩
  | .hbm, ⟨64, _⟩ => ⟨S2048x2x64, .f32⟩
  | .hbm, ⟨65, _⟩ => ⟨S2048x2x64, .f32⟩
  | .hbm, ⟨66, _⟩ => ⟨S2048x2x64, .f32⟩
  | .hbm, ⟨67, _⟩ => ⟨S2048x2x64, .f32⟩
  | .hbm, ⟨68, _⟩ => ⟨S2048x2x64, .f32⟩
  | .hbm, ⟨69, _⟩ => ⟨S2048x2x64, .f32⟩
  | .hbm, ⟨70, _⟩ => ⟨S2048x2x64, .f32⟩
  | .hbm, ⟨71, _⟩ => ⟨S2048x2x64, .f32⟩
  | .hbm, ⟨72, _⟩ => ⟨S2048x2x64, .f32⟩
  | .hbm, ⟨73, _⟩ => ⟨S2048x2x64, .f32⟩
  | .hbm, ⟨74, _⟩ => ⟨S2048x2x128, .f32⟩
  | .hbm, ⟨75, _⟩ => ⟨S2048x1024, .f32⟩
  | .hbm, ⟨76, _⟩ => ⟨S2048x1024, .bf16⟩
  | .hbm, ⟨77, _⟩ => ⟨S2048x256, .f32⟩
  | .hbm, ⟨78, _⟩ => ⟨S2048x256, .bf16⟩
  | .hbm, ⟨79, _⟩ => ⟨S2048x256, .f32⟩
  | .hbm, ⟨80, _⟩ => ⟨S2048x256, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩

abbrev nD : Nat := 1
abbrev τ : Topo := Topo.v7x

variable {F : FTy → Type} [FloatOps F]
-- ==== Kernel20.lean ====
abbrev S2048x3584 : Shape := ⟨2, ![2048, 3584]⟩
abbrev S2x1024 : Shape := ⟨2, ![2, 1024]⟩
abbrev S2x8x128x128 : Shape := ⟨4, ![2, 8, 128, 128]⟩
abbrev S2x8x128 : Shape := ⟨3, ![2, 8, 128]⟩
abbrev S2x1x1024 : Shape := ⟨3, ![2, 1, 1024]⟩
abbrev S2x8x128x1 : Shape := ⟨4, ![2, 8, 128, 1]⟩
abbrev S2048x1024 : Shape := ⟨2, ![2048, 1024]⟩
abbrev S128x1024 : Shape := ⟨2, ![128, 1024]⟩
abbrev S1x1x1024 : Shape := ⟨3, ![1, 1, 1024]⟩
abbrev S1x8x128x128 : Shape := ⟨4, ![1, 8, 128, 128]⟩
abbrev S1x1024 : Shape := ⟨2, ![1, 1024]⟩
abbrev S128 : Shape := ⟨1, ![128]⟩
abbrev S128x1 : Shape := ⟨2, ![128, 1]⟩
abbrev S1x1x128x128 : Shape := ⟨4, ![1, 1, 128, 128]⟩
abbrev S128x128 : Shape := ⟨2, ![128, 128]⟩

abbrev nBuf : Space → Nat
  | .hbm => 13
  | .vmem => 12
  | .smem => 0
  | _ => 0

abbrev bufTy : (tb : Table) → Fin (tcTables nBuf tb) → BufTy
  | .hbm, ⟨0, _⟩ => ⟨S2048x3584, .f32⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x8x128x128, .bf16⟩
  | .hbm, ⟨10, _⟩ => ⟨S2x8x128x1, .f32⟩
  | .hbm, ⟨11, _⟩ => ⟨S2x8x128x128, .f32⟩
  | .hbm, ⟨12, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x8x128x128, .bf16⟩
  | .local _ .vmem, ⟨7, _⟩ => ⟨S1x8x128x128, .f32⟩
  | .local _ .vmem, ⟨8, _⟩ => ⟨S1x1x1024, .f32⟩
  | .local _ .vmem, ⟨9, _⟩ => ⟨S128x1024, .bf16⟩
  | .local _ .vmem, ⟨10, _⟩ => ⟨S128x1024, .bf16⟩
  | .local _ .vmem, ⟨11, _⟩ => ⟨S128x1024, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x3584 : Shape := ⟨2, ![2048, 3584]⟩
abbrev S2x1024 : Shape := ⟨2, ![2, 1024]⟩
abbrev S2x8x128x128 : Shape := ⟨4, ![2, 8, 128, 128]⟩
abbrev S2x8x128 : Shape := ⟨3, ![2, 8, 128]⟩
abbrev S2048x1024 : Shape := ⟨2, ![2048, 1024]⟩
abbrev S1x2048x1024 : Shape := ⟨3, ![1, 2048, 1024]⟩
abbrev S_ : Shape := ⟨0, ![]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S2x1024, .f32⟩
  | .hbm, ⟨6, _⟩ => ⟨S2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S_, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x8x128x128, .f32⟩
  | .hbm, ⟨49, _⟩ => ⟨S8x128x128, .f32⟩
  | .hbm, ⟨50, _⟩ => ⟨S1x8x128, .f32⟩
  | .hbm, ⟨51, _⟩ => ⟨S8x128, .f32⟩
  | .hbm, ⟨52, _⟩ => ⟨S_, .f32⟩
  | .hbm, ⟨53, _⟩ => ⟨S1x2048, .f32⟩
  | .hbm, ⟨54, _⟩ => ⟨S1x2048x1, .f32⟩
  | .hbm, ⟨55, _⟩ => ⟨S_, .f32⟩
  | .hbm, ⟨56, _⟩ => ⟨S1x2048x1, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S_, .f32⟩
  | .hbm, ⟨65, _⟩ => ⟨S1x2048x1, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S1x2048x1, .f32⟩
  | .hbm, ⟨71, _⟩ => ⟨S1x2048x1024, .f32⟩
  | .hbm, ⟨72, _⟩ => ⟨S1x2048x1024, .f32⟩
  | .hbm, ⟨73, _⟩ => ⟨S1x1x1024, .f32⟩
  | .hbm, ⟨74, _⟩ => ⟨S1x2048x1024, .f32⟩
  | .hbm, ⟨75, _⟩ => ⟨S1x2048x1024, .f32⟩
  | .hbm, ⟨76, _⟩ => ⟨S1x1x1024, .f32⟩
  | .hbm, ⟨77, _⟩ => ⟨S1x2048x1024, .f32⟩
  | .hbm, ⟨78, _⟩ => ⟨S1x2048x1024, .f32⟩
  | .hbm, ⟨79, _⟩ => ⟨S1x16x128x8x128, .f32⟩
  | .hbm, ⟨80, _⟩ => ⟨S8x1x16x128x128, .f32⟩
  | .hbm, ⟨81, _⟩ => ⟨S1x16x128x8x128, .f32⟩
  | .hbm, ⟨82, _⟩ => ⟨S128x8, .f32⟩
  | .hbm, ⟨83, _⟩ => ⟨S1x1x128x8x1, .f32⟩
  | .hbm, ⟨84, _⟩ => ⟨S1x16x128x8x128, .f32⟩
  | .hbm, ⟨85, _⟩ => ⟨S1x16x128x8x128, .f32⟩
  | .hbm, ⟨86, _⟩ => ⟨S1x2048x1024, .f32⟩
  | .hbm, ⟨87, _⟩ => ⟨S1x2048x1024, .f32⟩
  | .hbm, ⟨88, _⟩ => ⟨S1x1024, .f32⟩
  | .hbm, ⟨89, _⟩ => ⟨S1024, .f32⟩
  | .hbm, ⟨90, _⟩ => ⟨S1x2048x1024, .f32⟩
  | .hbm, ⟨91, _⟩ => ⟨S_, .f32⟩
  | .hbm, ⟨92, _⟩ => ⟨S1x2048, .f32⟩
  | .hbm, ⟨93, _⟩ => ⟨S1x2048x1, .f32⟩
  | .hbm, ⟨94, _⟩ => ⟨S_, .f32⟩
  | .hbm, ⟨95, _⟩ => ⟨S1x2048x1, .f32⟩
  | .hbm, ⟨96, _⟩ => ⟨S1x2048x1, .f32⟩
  | .hbm, ⟨97, _⟩ => ⟨S_, .f32⟩
  | .hbm, ⟨98, _⟩ => ⟨S1x2048x1, .f32⟩
  | .hbm, ⟨99, _⟩ => ⟨S1x2048x1, .f32⟩
  | .hbm, ⟨100, _⟩ => ⟨S1x2048x1, .f32⟩
  | .hbm, ⟨101, _⟩ => ⟨S1x2048x1024, .f32⟩
  | .hbm, ⟨102, _⟩ => ⟨S1x2048x1024, .f32⟩
  | .hbm, ⟨103, _⟩ => ⟨S1x1x1024, .f32⟩
  | .hbm, ⟨104, _⟩ => ⟨S1x2048x1024, .f32⟩
  | .hbm, ⟨105, _⟩ => ⟨S1x2048x1024, .f32⟩
  | .hbm, ⟨106, _⟩ => ⟨S2048x1024, .f32⟩
  | .hbm, ⟨107, _⟩ => ⟨S2048x1024, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Kernel21.lean ====
abbrev S2048x11264 : Shape := ⟨2, ![2048, 11264]⟩
abbrev S2x3x11264 : Shape := ⟨3, ![2, 3, 11264]⟩
abbrev S2x11264 : Shape := ⟨2, ![2, 11264]⟩
abbrev S2x1x11264 : Shape := ⟨3, ![2, 1, 11264]⟩
abbrev S2048x5632 : Shape := ⟨2, ![2048, 5632]⟩
abbrev S2048x512 : Shape := ⟨2, ![2048, 512]⟩
abbrev S1x3x512 : Shape := ⟨3, ![1, 3, 512]⟩
abbrev S1x1x512 : Shape := ⟨3, ![1, 1, 512]⟩
abbrev S144x128 : Shape := ⟨2, ![144, 128]⟩
abbrev S1x3x128 : Shape := ⟨3, ![1, 3, 128]⟩
abbrev S3x128 : Shape := ⟨2, ![3, 128]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 5
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S2x3x11264, .f32⟩
  | .hbm, ⟨2, _⟩ => ⟨S2x11264, .f32⟩
  | .hbm, ⟨3, _⟩ => ⟨S2x1x11264, .f32⟩
  | .hbm, ⟨4, _⟩ => ⟨S2048x5632, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x3x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S2048x512, .bf16⟩
  | .local _ .vmem, ⟨13, _⟩ => ⟨S2048x512, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

@[reducible] def k0_t1_loop : Scf.Loop 32 :=
  let c1_i32_108 : BitVec 32 := 1#32
  let c14_i32 : BitVec 32 := 14#32
  let v248 : BitVec 32 := Scalar.addi c1_i32_108 c14_i32
  let c1_i32_109 : BitVec 32 := 1#32
  ⟨c1_i32_108, v248, c1_i32_109⟩
def k0_mult1 (k0_t1 : Fin k0_t1_loop.trips) : BitVec 32 :=
  let c1_i32_108 : BitVec 32 := 1#32
  let c1_i32_109 : BitVec 32 := 1#32
  let arg8 : BitVec 32 := Scf.iv c1_i32_108 c1_i32_109 k0_t1
  let c128_i32 : BitVec 32 := 128#32
  let v497 : BitVec 32 := Scalar.muli arg8 c128_i32
  let c8_i32 : BitVec 32 := 8#32
  let v498 : BitVec 32 := Scalar.subi v497 c8_i32
  v498
def k0_mult2 (k0_t1 : Fin k0_t1_loop.trips) : BitVec 32 :=
  let c1_i32_108 : BitVec 32 := 1#32
  let c1_i32_109 : BitVec 32 := 1#32
  let arg8 : BitVec 32 := Scf.iv c1_i32_108 c1_i32_109 k0_t1
  let c128_i32_225 : BitVec 32 := 128#32
  let v500 : BitVec 32 := Scalar.muli arg8 c128_i32_225
  v500
def k0_off1 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32 : BitVec 32 := 128#32
  let v497 : BitVec 32 := Scalar.muli arg8 c128_i32
  let c8_i32 : BitVec 32 := 8#32
  let v498 : BitVec 32 := Scalar.subi v497 c8_i32
  let v499 : BitVec 32 := v498
  let v502 : Index := Scalar.indexCast v499
  let c0_226 : Index := 0#32
  ![v502.toNat, 0]
def k0_off2 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32_225 : BitVec 32 := 128#32
  let v500 : BitVec 32 := Scalar.muli arg8 c128_i32_225
  let v501 : BitVec 32 := v500
  let v555 : Index := Scalar.indexCast v501
  let c0_247 : Index := 0#32
  ![v555.toNat, 0]
def k0_off3 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32 : BitVec 32 := 128#32
  let v497 : BitVec 32 := Scalar.muli arg8 c128_i32
  let c8_i32 : BitVec 32 := 8#32
  let v498 : BitVec 32 := Scalar.subi v497 c8_i32
  let v499 : BitVec 32 := v498
  let v557 : Index := Scalar.indexCast v499
  let c128_248 : Index := 128#32
  ![v557.toNat, 128]
def k0_off4 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32_225 : BitVec 32 := 128#32
  let v500 : BitVec 32 := Scalar.muli arg8 c128_i32_225
  let v501 : BitVec 32 := v500
  let v610 : Index := Scalar.indexCast v501
  let c128_269 : Index := 128#32
  ![v610.toNat, 128]
def k0_off5 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32 : BitVec 32 := 128#32
  let v497 : BitVec 32 := Scalar.muli arg8 c128_i32
  let c8_i32 : BitVec 32 := 8#32
  let v498 : BitVec 32 := Scalar.subi v497 c8_i32
  let v499 : BitVec 32 := v498
  let v612 : Index := Scalar.indexCast v499
  let c256_270 : Index := 256#32
  ![v612.toNat, 256]
def k0_off6 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32_225 : BitVec 32 := 128#32
  let v500 : BitVec 32 := Scalar.muli arg8 c128_i32_225
  let v501 : BitVec 32 := v500
  let v665 : Index := Scalar.indexCast v501
  let c256_291 : Index := 256#32
  ![v665.toNat, 256]
def k0_off7 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32 : BitVec 32 := 128#32
  let v497 : BitVec 32 := Scalar.muli arg8 c128_i32
  let c8_i32 : BitVec 32 := 8#32
  let v498 : BitVec 32 := Scalar.subi v497 c8_i32
  let v499 : BitVec 32 := v498
  let v667 : Index := Scalar.indexCast v499
  let c384_292 : Index := 384#32
  ![v667.toNat, 384]
def k0_off8 (k0_t1 : Fin k0_t1_loop.trips) : Fin 2 → Nat :=
  let c1_i32_108 : BitVec 32 := 1#32
  let c1_i32_109 : BitVec 32 := 1#32
  let arg8 : BitVec 32 := Scf.iv c1_i32_108 c1_i32_109 k0_t1
  let c128_i32_225 : BitVec 32 := 128#32
  let v500 : BitVec 32 := Scalar.muli arg8 c128_i32_225
  let v501 : BitVec 32 := v500
  let v720 : Index := Scalar.indexCast v501
  let c384_313 : Index := 384#32
  ![v720.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2048x11264 : Shape := ⟨2, ![2048, 11264]⟩
abbrev S2x3x11264 : Shape := ⟨3, ![2, 3, 11264]⟩
abbrev S2x11264 : Shape := ⟨2, ![2, 11264]⟩
abbrev S1x2048x11264 : Shape := ⟨3, ![1, 2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S1x2050x11264 : Shape := ⟨3, ![1, 2050, 11264]⟩
abbrev S1x1x11264 : Shape := ⟨3, ![1, 1, 11264]⟩
abbrev S1x2048x5632 : Shape := ⟨3, ![1, 2048, 5632]⟩
abbrev S2048x5632 : Shape := ⟨2, ![2048, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2x3x11264, .f32⟩
  | .hbm, ⟨2, _⟩ => ⟨S2x11264, .f32⟩
  | .hbm, ⟨3, _⟩ => ⟨S1x2048x11264, .f32⟩
  | .hbm, ⟨4, _⟩ => ⟨S1x3x11264, .f32⟩
  | .hbm, ⟨5, _⟩ => ⟨S3x11264, .f32⟩
  | .hbm, ⟨6, _⟩ => ⟨S1x11264, .f32⟩
  | .hbm, ⟨7, _⟩ => ⟨S11264, .f32⟩
  | .hbm, ⟨8, _⟩ => ⟨S_, .i32⟩
  | .hbm, ⟨9, _⟩ => ⟨S_, .f32⟩
  | .hbm, ⟨10, _⟩ => ⟨S1x2050x11264, .f32⟩
  | .hbm, ⟨11, _⟩ => ⟨S1x2048x11264, .f32⟩
  | .hbm, ⟨12, _⟩ => ⟨S1x11264, .f32⟩
  | .hbm, ⟨13, _⟩ => ⟨S11264, .f32⟩
  | .hbm, ⟨14, _⟩ => ⟨S1x1x11264, .f32⟩
  | .hbm, ⟨15, _⟩ => ⟨S1x2048x11264, .f32⟩
  | .hbm, ⟨16, _⟩ => ⟨S1x2048x11264, .f32⟩
  | .hbm, ⟨17, _⟩ => ⟨S1x1x11264, .f32⟩
  | .hbm, ⟨18, _⟩ => ⟨S1x2048x11264, .f32⟩
  | .hbm, ⟨19, _⟩ => ⟨S1x2048x11264, .f32⟩
  | .hbm, ⟨20, _⟩ => ⟨S1x2048x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S1x2048x11264, .f32⟩
  | .hbm, ⟨25, _⟩ => ⟨S1x2048x11264, .f32⟩
  | .hbm, ⟨26, _⟩ => ⟨S1x2048x11264, .f32⟩
  | .hbm, ⟨27, _⟩ => ⟨S1x2048x11264, .f32⟩
  | .hbm, ⟨28, _⟩ => ⟨S1x11264, .f32⟩
  | .hbm, ⟨29, _⟩ => ⟨S11264, .f32⟩
  | .hbm, ⟨30, _⟩ => ⟨S1x1x11264, .f32⟩
  | .hbm, ⟨31, _⟩ => ⟨S1x2048x11264, .f32⟩
  | .hbm, ⟨32, _⟩ => ⟨S1x2048x11264, .f32⟩
  | .hbm, ⟨33, _⟩ => ⟨S1x2048x11264, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S_, .f32⟩
  | .hbm, ⟨39, _⟩ => ⟨S1x2048x5632, .f32⟩
  | .hbm, ⟨40, _⟩ => ⟨S1x2048x5632, .f32⟩
  | .hbm, ⟨41, _⟩ => ⟨S_, .f32⟩
  | .hbm, ⟨42, _⟩ => ⟨S1x2048x5632, .f32⟩
  | .hbm, ⟨43, _⟩ => ⟨S1x2048x5632, .f32⟩
  | .hbm, ⟨44, _⟩ => ⟨S1x2048x5632, .f32⟩
  | .hbm, ⟨45, _⟩ => ⟨S1x2048x5632, .f32⟩
  | .hbm, ⟨46, _⟩ => ⟨S2048x5632, .f32⟩
  | .hbm, ⟨47, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Gate.lean ====
/-
  The gradient of the chunked spatial gating unit over the REAL NUMBERS: its inputs (`Gate`), the forward quantities, and
  each gradient in the closed form that the kernel computes. Rows are counted by chunk `c` and place `p` in the chunk,
  columns by `j`, head `j / 128`. The lemmas at the end are the identities between these closed forms and the terms of
  jax's reverse pass: the two norms' backward formulas and gelu's derivative.
-/
module

public import Mathlib.Analysis.SpecialFunctions.Trigonometric.DerivHyp
public import Mathlib.Analysis.SpecialFunctions.Artanh

@[expose] public section

noncomputable section

open scoped BigOperators

namespace SpatialGate

/-- The f32 number nearest √(2/π), gelu's inner scale. -/
def scl : ℝ := 13386282 / 16777216

/-- The f32 number nearest 10⁻⁶, the norms' epsilon. -/
def eps : ℝ := 8796093 / 8796093022208

/-- The tanh of gelu at `x`. -/
def th (x : ℝ) : ℝ := Real.tanh (scl * (x + 8943 / 200000 * (x * x * x)))

/-- gelu, by its tanh form. -/
def gelu (x : ℝ) : ℝ := x * (1 / 2 * (1 + th x))

/-- gelu's derivative as the kernel writes it. -/
def gelu' (x : ℝ) : ℝ :=
  1 / 2 * (1 + th x) + 1 / 2 * x * (1 - th x * th x) * (scl * (1 + 26829 / 200000 * (x * x)))

/-- The head of column `j`. -/
def head (j : Fin 1024) : Fin 8 := ⟨j.val / 128, by have := j.isLt; omega⟩

/-- Column `d` of head `h`. -/
def col (h : Fin 8) (d : Fin 128) : Fin 1024 := ⟨h.val * 128 + d.val, by have := h.isLt; have := d.isLt; omega⟩

/-- Row `p` of chunk `c`. -/
def row (c : Fin 16) (p : Fin 128) : Fin 2048 := ⟨c.val * 128 + p.val, by have := c.isLt; have := p.isLt; omega⟩

/-- The chunk of a row. -/
def chunk (s : Fin 2048) : Fin 16 := ⟨s.val / 128, by have := s.isLt; omega⟩

/-- A row's place in its chunk. -/
def place (s : Fin 2048) : Fin 128 := ⟨s.val % 128, by omega⟩

theorem head_col (h : Fin 8) (d : Fin 128) : head (col h d) = h :=
  Fin.ext (by have := d.isLt; show (h.val * 128 + d.val) / 128 = h.val; omega)

theorem chunk_row (c : Fin 16) (p : Fin 128) : chunk (row c p) = c :=
  Fin.ext (by have := p.isLt; show (c.val * 128 + p.val) / 128 = c.val; omega)

theorem place_row (c : Fin 16) (p : Fin 128) : place (row c p) = p :=
  Fin.ext (by have := p.isLt; show (c.val * 128 + p.val) % 128 = p.val; omega)

theorem row_chunk_place (s : Fin 2048) : row (chunk s) (place s) = s :=
  Fin.ext (by show s.val / 128 * 128 + s.val % 128 = s.val; omega)

/-- The real inputs of the gradient: the two halves before gelu, the cotangent, the layer norm's scale and shift, the
    spatial weights and biases of each head, the output norm's scale. -/
structure Gate where
  gu : Fin 16 → Fin 128 → Fin 1024 → ℝ
  gv : Fin 16 → Fin 128 → Fin 1024 → ℝ
  dm : Fin 16 → Fin 128 → Fin 1024 → ℝ
  lg : Fin 1024 → ℝ
  lb : Fin 1024 → ℝ
  w : Fin 8 → Fin 128 → Fin 128 → ℝ
  bs : Fin 8 → Fin 128 → ℝ
  og : Fin 1024 → ℝ

namespace Gate

variable (D : Gate) (c : Fin 16) (p : Fin 128) (j : Fin 1024)

def u : ℝ := gelu (D.gu c p j)
def v : ℝ := gelu (D.gv c p j)
/-- The layer norm's mean, centred row, variance plus epsilon, inverse deviation, normalized row and result. -/
def mu : ℝ := (∑ k, D.v c p k) / 1024
def xc : ℝ := D.v c p j - D.mu c p
def var : ℝ := (∑ k, D.xc c p k * D.xc c p k) / 1024 + eps
def rs : ℝ := (√(D.var c p))⁻¹
def xh : ℝ := D.xc c p j * D.rs c p
def vn : ℝ := D.xh c p j * D.lg j + D.lb j
/-- The spatial projection of a chunk, and the gated value. -/
def f : ℝ := (∑ q, D.w (head j) p q * D.vn c q j) + D.bs (head j) p
def sg : ℝ := D.u c p j * D.f c p j
/-- The output norm's mean square plus epsilon, inverse root and normalized value. -/
def ms : ℝ := (∑ k, D.sg c p k * D.sg c p k) / 1024 + eps
def r : ℝ := (√(D.ms c p))⁻¹
def sh : ℝ := D.sg c p j * D.r c p
/-- The gradients, from the output norm inwards. -/
def dmg : ℝ := D.dm c p j * D.og j
def dsg : ℝ := D.r c p * (D.dmg c p j - D.sh c p j * ((∑ k, D.dmg c p k * D.sh c p k) / 1024))
def du : ℝ := D.dsg c p j * D.f c p j
def df : ℝ := D.dsg c p j * D.u c p j
def dvn : ℝ := ∑ q, D.w (head j) q p * D.df c q j
def dxh : ℝ := D.dvn c p j * D.lg j
def dv : ℝ := D.rs c p * ((D.dxh c p j - (∑ k, D.dxh c p k) / 1024)
  - D.xh c p j * ((∑ k, D.dxh c p k * D.xh c p k) / 1024))
def dgu : ℝ := D.du c p j * gelu' (D.gu c p j)
def dgv : ℝ := D.dv c p j * gelu' (D.gv c p j)
/-- The parameters' gradients: what one chunk adds, and the sums over the chunks. -/
def dwC (h : Fin 8) (p q : Fin 128) : ℝ := ∑ d, D.df c p (col h d) * D.vn c q (col h d)
def dbC (h : Fin 8) (p : Fin 128) : ℝ := ∑ d, D.df c p (col h d)
def dlgC : ℝ := ∑ p, D.dvn c p j * D.xh c p j
def dlbC : ℝ := ∑ p, D.dvn c p j
def dogC : ℝ := ∑ p, D.dm c p j * D.sh c p j
def dw (h : Fin 8) (p q : Fin 128) : ℝ := ∑ c, D.dwC c h p q
def db (h : Fin 8) (p : Fin 128) : ℝ := ∑ c, D.dbC c h p
def dlg : ℝ := ∑ c, D.dlgC c j
def dlb : ℝ := ∑ c, D.dlbC c j
def dog : ℝ := ∑ c, D.dogC c j

theorem eps_pos : 0 < eps := by unfold eps; norm_num

theorem var_pos : 0 < D.var c p := by
  unfold var
  have : 0 ≤ ∑ k, D.xc c p k * D.xc c p k := Finset.sum_nonneg fun k _ => mul_self_nonneg _
  have := eps_pos
  positivity

theorem ms_pos : 0 < D.ms c p := by
  unfold ms
  have : 0 ≤ ∑ k, D.sg c p k * D.sg c p k := Finset.sum_nonneg fun k _ => mul_self_nonneg _
  have := eps_pos
  positivity

/-- An inverse root divided by what it is the root of is its cube. -/
theorem inv_sqrt_div {x : ℝ} (hx : 0 < x) : (√x)⁻¹ / x = (√x)⁻¹ * (√x)⁻¹ * (√x)⁻¹ := by
  have h : √x * √x = x := Real.mul_self_sqrt hx.le
  have h0 : √x ≠ 0 := (Real.sqrt_pos.mpr hx).ne'
  have : x⁻¹ = (√x)⁻¹ * (√x)⁻¹ := by rw [← mul_inv, h]
  rw [div_eq_mul_inv, this, mul_assoc]

/-- The centred row sums to zero. -/
theorem sum_xc : ∑ k, D.xc c p k = 0 := by
  unfold xc mu
  rw [Finset.sum_sub_distrib, Finset.sum_const, Finset.card_univ, Fintype.card_fin]
  simp only [nsmul_eq_mul]
  push_cast
  ring

/-- The reverse pass of the output norm: the scaled cotangent, and twice the gated value times the mean's cotangent. -/
theorem dsg_vjp : D.dmg c p j * D.r c p
      + D.sg c p j * ((∑ k, D.sg c p k * D.dmg c p k) * (-(1 / 2) * (D.r c p / D.ms c p)) / 1024)
      + (∑ k, D.sg c p k * D.dmg c p k) * (-(1 / 2) * (D.r c p / D.ms c p)) / 1024 * D.sg c p j
    = D.dsg c p j := by
  have hr : D.r c p / D.ms c p = D.r c p * D.r c p * D.r c p := inv_sqrt_div (D.ms_pos c p)
  have hs : ∑ k, D.dmg c p k * D.sh c p k = D.r c p * ∑ k, D.sg c p k * D.dmg c p k := by
    rw [Finset.mul_sum]
    exact Finset.sum_congr rfl fun k _ => by unfold sh; ring
  unfold dsg
  rw [hr, hs]
  unfold sh
  ring

/-- The layer norm's cotangent before the mean is taken off: the scaled cotangent and the variance's. -/
def dxc : ℝ := D.dxh c p j * D.rs c p
  + D.xc c p j * ((∑ k, D.xc c p k * D.dxh c p k) * (-(1 / 2) * (D.rs c p / D.var c p)) / 1024)
  + (∑ k, D.xc c p k * D.dxh c p k) * (-(1 / 2) * (D.rs c p / D.var c p)) / 1024 * D.xc c p j

/-- The reverse pass of the layer norm. -/
theorem dv_vjp : D.dxc c p j + (∑ k, -D.dxc c p k) / 1024 = D.dv c p j := by
  have hr : D.rs c p / D.var c p = D.rs c p * D.rs c p * D.rs c p := inv_sqrt_div (D.var_pos c p)
  have hs : ∑ k, D.dxh c p k * D.xh c p k = D.rs c p * ∑ k, D.xc c p k * D.dxh c p k := by
    rw [Finset.mul_sum]
    exact Finset.sum_congr rfl fun k _ => by unfold xh; ring
  have hsum : ∑ k, -D.dxc c p k = -(D.rs c p * ∑ k, D.dxh c p k) := by
    rw [Finset.sum_neg_distrib]
    unfold dxc
    rw [Finset.sum_add_distrib, Finset.sum_add_distrib, ← Finset.sum_mul, ← Finset.sum_mul, ← Finset.mul_sum,
      D.sum_xc c p]
    ring
  rw [hsum]
  unfold dxc dv
  rw [hr, hs]
  unfold xh
  ring

end Gate

/-- gelu's reverse pass at cotangent `d`: through the product's two factors and the cubic. -/
theorem gelu_vjp (d x : ℝ) :
    d * (1 / 2 * (1 + th x)) + scl * (1 / 2 * (x * d) * ((1 + th x) * (1 - th x)))
      + 8943 / 200000 * (scl * (1 / 2 * (x * d) * ((1 + th x) * (1 - th x)))) * (3 * (x * x))
    = d * gelu' x := by
  unfold gelu'
  ring

end SpatialGate

end

end
-- ==== Proof.Lift.lean ====
/-
  Arrays of REAL numbers read as arrays of extended reals (`up1` … `up5`), the scalar operations of the exact arithmetic
  on real numbers, and the constants that the programs print. A payload whose inputs are such arrays is such an array
  again: the modules that follow prove it operation tower by operation tower.
-/
module

public import proofs.«01_k».proof.Proof.Gate
public import Idealize.ShloMosaic.Lib.Pointwise
public import Idealize.ShloMosaic.PureOps.Ideal

@[expose] public section

noncomputable section

open scoped BigOperators
open Idealize.ShloMosaic

namespace Lift

variable {n0 n1 n2 n3 n4 : Nat}

def up1 (f : Fin n0 → ℝ) : (⟨1, ![n0]⟩ : Shape).Idx → EReal := fun i => ((f (i 0) : ℝ) : EReal)
def up2 (f : Fin n0 → Fin n1 → ℝ) : (⟨2, ![n0, n1]⟩ : Shape).Idx → EReal := fun i => ((f (i 0) (i 1) : ℝ) : EReal)
def up3 (f : Fin n0 → Fin n1 → Fin n2 → ℝ) : (⟨3, ![n0, n1, n2]⟩ : Shape).Idx → EReal :=
  fun i => ((f (i 0) (i 1) (i 2) : ℝ) : EReal)
def up4 (f : Fin n0 → Fin n1 → Fin n2 → Fin n3 → ℝ) : (⟨4, ![n0, n1, n2, n3]⟩ : Shape).Idx → EReal :=
  fun i => ((f (i 0) (i 1) (i 2) (i 3) : ℝ) : EReal)
def up5 (f : Fin n0 → Fin n1 → Fin n2 → Fin n3 → Fin n4 → ℝ) : (⟨5, ![n0, n1, n2, n3, n4]⟩ : Shape).Idx → EReal :=
  fun i => ((f (i 0) (i 1) (i 2) (i 3) (i 4) : ℝ) : EReal)

theorem up1_apply (f : Fin n0 → ℝ) (a : Fin n0) : up1 f (ix1 a) = ((f a : ℝ) : EReal) := rfl
theorem up2_apply (f : Fin n0 → Fin n1 → ℝ) (a : Fin n0) (b : Fin n1) : up2 f (ix2 a b) = ((f a b : ℝ) : EReal) := rfl
theorem up3_apply (f : Fin n0 → Fin n1 → Fin n2 → ℝ) (a : Fin n0) (b : Fin n1) (c : Fin n2) :
    up3 f (ix3 a b c) = ((f a b c : ℝ) : EReal) := rfl
theorem up4_apply (f : Fin n0 → Fin n1 → Fin n2 → Fin n3 → ℝ) (a : Fin n0) (b : Fin n1) (c : Fin n2) (d : Fin n3) :
    up4 f (ix4 a b c d) = ((f a b c d : ℝ) : EReal) := rfl
theorem up5_apply (f : Fin n0 → Fin n1 → Fin n2 → Fin n3 → Fin n4 → ℝ) (a : Fin n0) (b : Fin n1) (c : Fin n2)
    (d : Fin n3) (e : Fin n4) : up5 f (ix5 a b c d e) = ((f a b c d e : ℝ) : EReal) := rfl

/-- Two arrays of a rank with the same entries are the same array. -/
theorem ext1 {X : Type} {f g : (⟨1, ![n0]⟩ : Shape).Idx → X} (h : ∀ a, f (ix1 a) = g (ix1 a)) : f = g :=
  funext fun i => by rw [eq_ix1 i]; exact h _
theorem ext2 {X : Type} {f g : (⟨2, ![n0, n1]⟩ : Shape).Idx → X} (h : ∀ a b, f (ix2 a b) = g (ix2 a b)) : f = g :=
  funext fun i => by rw [eq_ix2 i]; exact h _ _
theorem ext3 {X : Type} {f g : (⟨3, ![n0, n1, n2]⟩ : Shape).Idx → X} (h : ∀ a b c, f (ix3 a b c) = g (ix3 a b c)) :
    f = g :=
  funext fun i => by rw [eq_ix3 i]; exact h _ _ _

theorem ext4 {X : Type} {f g : (⟨4, ![n0, n1, n2, n3]⟩ : Shape).Idx → X} (h : ∀ a b c d, f (ix4 a b c d) = g (ix4 a b c d)) :
    f = g :=
  funext fun i => by rw [eq_ix4 i]; exact h _ _ _ _
theorem ext5 {X : Type} {f g : (⟨5, ![n0, n1, n2, n3, n4]⟩ : Shape).Idx → X}
    (h : ∀ a b c d e, f (ix5 a b c d e) = g (ix5 a b c d e)) : f = g :=
  funext fun i => by rw [eq_ix5 i]; exact h _ _ _ _ _

/-- A sum of real numbers taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem rsqrt_pos {x : ℝ} (h : 0 < x) : Ideal.rsqrt ((x : ℝ) : EReal) = (((√x)⁻¹ : ℝ) : EReal) := by
  rw [Ideal.rsqrt_coe, if_neg (not_lt.mpr h.le), if_neg h.ne']

theorem div_pos_coe (x y : ℝ) (h : y ≠ 0) : Ideal.div ((x : ℝ) : EReal) ((y : ℝ) : EReal) = ((x / y : ℝ) : EReal) := by
  rw [Ideal.div_coe h, ← EReal.coe_mul]
  congr 1
  ring

theorem bits_scl : Ideal.ofBits .f32 0x3F4C422A#32 = ((SpatialGate.scl : ℝ) : EReal) := by
  simp [Ideal.ofBits, Ideal.ieee, SpatialGate.scl, -EReal.coe_mul]; norm_num
theorem bits_eps : Ideal.ofBits .f32 0x358637BD#32 = ((SpatialGate.eps : ℝ) : EReal) := by
  simp [Ideal.ofBits, Ideal.ieee, SpatialGate.eps, -EReal.coe_mul]; norm_num
theorem bits_1024 : Ideal.ofBits .f32 0x44800000#32 = ((1024 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_0 : Ideal.ofBits .f32 0x00000000#32 = ((0 : ℝ) : EReal) := by
  simp [Ideal.ofBits, Ideal.ieee, -EReal.coe_mul]

theorem div_1024 (x : ℝ) : Ideal.div ((x : ℝ) : EReal) ((1024 : ℝ) : EReal) = ((x / 1024 : ℝ) : EReal) :=
  div_pos_coe x 1024 (by norm_num)

end Lift

end

end
-- ==== Proof.Inputs.lean ====
/-
  The seven argument arrays hold the real inputs of the gradient: what the kernel's windows and the reference's slices
  read of them.
-/
module

public import proofs.«01_k».proof.Proof.Lift
public import Idealize.ShloMosaic.Lib.Pointwise

@[expose] public section

noncomputable section

open Idealize.ShloMosaic SpatialGate

namespace SpatialGate

/-- Column `j` of the third of the projection that starts at column `o`. -/
def zcol (o : Nat) (h : o + 1024 ≤ 3584) (j : Fin 1024) : Fin 3584 := ⟨o + j.val, by omega⟩
/-- Column `j` of the right half of the mixed width. -/
def mcol (j : Fin 1024) : Fin 2048 := ⟨1024 + j.val, by omega⟩

/-- The argument arrays, where the gradient reads them, are the real inputs `D`. -/
structure Inputs (D : Gate) (z : (⟨2, ![2048, 3584]⟩ : Shape).Idx → EReal) (dmix : (⟨2, ![2048, 2048]⟩ : Shape).Idx → EReal)
    (lg lb : (⟨2, ![2, 1024]⟩ : Shape).Idx → EReal) (w : (⟨4, ![2, 8, 128, 128]⟩ : Shape).Idx → EReal)
    (bs : (⟨3, ![2, 8, 128]⟩ : Shape).Idx → EReal) (og : (⟨2, ![2, 1024]⟩ : Shape).Idx → EReal) : Prop where
  gu : ∀ c p j, z (ix2 (row c p) (zcol 1024 (by omega) j)) = ((D.gu c p j : ℝ) : EReal)
  gv : ∀ c p j, z (ix2 (row c p) (zcol 2048 (by omega) j)) = ((D.gv c p j : ℝ) : EReal)
  dm : ∀ c p j, dmix (ix2 (row c p) (mcol j)) = ((D.dm c p j : ℝ) : EReal)
  lg : ∀ j, lg (ix2 0 j) = ((D.lg j : ℝ) : EReal)
  lb : ∀ j, lb (ix2 0 j) = ((D.lb j : ℝ) : EReal)
  w : ∀ h p q, w (ix4 0 h p q) = ((D.w h p q : ℝ) : EReal)
  bs : ∀ h p, bs (ix3 0 h p) = ((D.bs h p : ℝ) : EReal)
  og : ∀ j, og (ix2 0 j) = ((D.og j : ℝ) : EReal)

end SpatialGate

end

end
-- ==== Proof.Pay.lean ====
/-
  The kernel's payloads at the exact arithmetic, on real inputs: each one, applied to arrays of real numbers, is an array
  of real numbers, namely the quantity of `SpatialGate.Gate` that it computes in chunk `c`.
-/
module

public import proofs.«01_k».proof.Proof.Lift
public import proofs.«01_k».proof.Proof.Gen.KernelIdeal.Skeleton

@[expose] public section

noncomputable section

open scoped BigOperators
open Idealize.ShloMosaic Idealize.ShloMosaic.TcCoe Lift SpatialGate

namespace Cert.KernelIdeal.GatePay

open Cert.KernelIdeal Cert.KernelIdeal.Gen

theorem gelu_a : Named.named (F := Ideal) κ "gelu_a" (φ := .f32) 0x3D372713#32 = ((8943 / 200000 : ℝ) : EReal) :=
  IdealRules.named_const.ideal_named_scalar _ _ _ _ rfl

theorem gelu_3a : Named.named (F := Ideal) κ "gelu_3a" (φ := .f32) 0x3E095D4F#32 = ((26829 / 200000 : ℝ) : EReal) :=
  IdealRules.named_const.ideal_named_scalar _ _ _ _ rfl

theorem col0 (d : Fin 128) : (⟨d.val, by have := d.isLt; omega⟩ : Fin 1024) = col 0 d :=
  Fin.ext (by show d.val = 0 * 128 + d.val; omega)
theorem col1 (d : Fin 128) : (⟨128 + d.val, by have := d.isLt; omega⟩ : Fin 1024) = col 1 d :=
  Fin.ext (by show 128 + d.val = 1 * 128 + d.val; omega)
theorem col2 (d : Fin 128) : (⟨256 + d.val, by have := d.isLt; omega⟩ : Fin 1024) = col 2 d :=
  Fin.ext (by show 256 + d.val = 2 * 128 + d.val; omega)
theorem col3 (d : Fin 128) : (⟨384 + d.val, by have := d.isLt; omega⟩ : Fin 1024) = col 3 d :=
  Fin.ext (by show 384 + d.val = 3 * 128 + d.val; omega)
theorem col4 (d : Fin 128) : (⟨512 + d.val, by have := d.isLt; omega⟩ : Fin 1024) = col 4 d :=
  Fin.ext (by show 512 + d.val = 4 * 128 + d.val; omega)
theorem col5 (d : Fin 128) : (⟨640 + d.val, by have := d.isLt; omega⟩ : Fin 1024) = col 5 d :=
  Fin.ext (by show 640 + d.val = 5 * 128 + d.val; omega)
theorem col6 (d : Fin 128) : (⟨768 + d.val, by have := d.isLt; omega⟩ : Fin 1024) = col 6 d :=
  Fin.ext (by show 768 + d.val = 6 * 128 + d.val; omega)
theorem col7 (d : Fin 128) : (⟨896 + d.val, by have := d.isLt; omega⟩ : Fin 1024) = col 7 d :=
  Fin.ext (by show 896 + d.val = 7 * 128 + d.val; omega)

variable (D : SpatialGate.Gate) (c : Fin 16)

theorem pay7 (a : Fin 1024 → ℝ) :
    k0_pay7 (F := Ideal) (up3 fun _ _ k => a k) = up2 fun _ k => a k := by
  refine ext2 fun p j => ?_
  pointwise [k0_pay7]
  simp only [up2_apply, up3_apply, up4_apply, EReal.coe_one.symm, Ideal.tanh_coe, ← EReal.coe_mul, ← EReal.coe_add, ← EReal.coe_sub, coe_sum]

theorem pay8 (a : Fin 1024 → ℝ) :
    k0_pay8 (F := Ideal) (up3 fun _ _ k => a k) = up2 fun _ k => a k := by
  refine ext2 fun p j => ?_
  pointwise [k0_pay8]
  simp only [up2_apply, up3_apply, up4_apply, EReal.coe_one.symm, Ideal.tanh_coe, ← EReal.coe_mul, ← EReal.coe_add, ← EReal.coe_sub, coe_sum]

theorem pay9 :
    k0_pay9 (F := Ideal) (up2 (D.gu c)) = up2 (D.u c) := by
  refine ext2 fun p j => ?_
  pointwise [k0_pay9]
  simp only [up2_apply, up3_apply, up4_apply, gelu_a, gelu_3a, bits_scl, bits_half, EReal.coe_one.symm, Ideal.tanh_coe, ← EReal.coe_mul, ← EReal.coe_add, ← EReal.coe_sub, coe_sum]
  rfl

theorem pay10 :
    k0_pay10 (F := Ideal) (up2 (D.gv c)) = up2 (D.v c) := by
  refine ext2 fun p j => ?_
  pointwise [k0_pay10]
  simp only [up2_apply, up3_apply, up4_apply, gelu_a, gelu_3a, bits_scl, bits_half, EReal.coe_one.symm, Ideal.tanh_coe, ← EReal.coe_mul, ← EReal.coe_add, ← EReal.coe_sub, coe_sum]
  rfl

theorem pay11 :
    k0_pay11 (F := Ideal) (up2 (D.gv c)) = up2 fun p _ => ∑ k, D.v c p k := by
  refine ext2 fun p j => ?_
  pointwise [k0_pay11]
  simp only [up2_apply, up3_apply, up4_apply, pay10, EReal.coe_one.symm, Ideal.tanh_coe, ← EReal.coe_mul, ← EReal.coe_add, ← EReal.coe_sub, coe_sum]

theorem pay12 :
    k0_pay12 (F := Ideal) (up2 (D.v c)) (up2 fun p _ => ∑ k, D.v c p k) = up2 (D.xc c) := by
  refine ext2 fun p j => ?_
  pointwise [k0_pay12]
  simp only [up2_apply, up3_apply, up4_apply, bits_1024, div_1024, EReal.coe_one.symm, Ideal.tanh_coe, ← EReal.coe_mul, ← EReal.coe_add, ← EReal.coe_sub, coe_sum]
  rfl

theorem pay13 :
    k0_pay13 (F := Ideal) (up2 (D.v c)) (up2 fun p _ => ∑ k, D.v c p k) = up2 fun p _ => D.rs c p := by
  refine ext2 fun p j => ?_
  pointwise [k0_pay13]
  simp only [up2_apply, up3_apply, up4_apply, pay12, bits_1024, div_1024, bits_eps, EReal.coe_one.symm, Ideal.tanh_coe, ← EReal.coe_mul, ← EReal.coe_add, ← EReal.coe_sub, coe_sum]
  exact rsqrt_pos (D.var_pos c p)

theorem pay14 :
    k0_pay14 (F := Ideal) (up2 (D.v c)) (up2 fun p _ => ∑ k, D.v c p k) = up2 (D.xh c) := by
  refine ext2 fun p j => ?_
  pointwise [k0_pay14]
  simp only [up2_apply, up3_apply, up4_apply, pay12, pay13, EReal.coe_one.symm, Ideal.tanh_coe, ← EReal.coe_mul, ← EReal.coe_add, ← EReal.coe_sub, coe_sum]
  rfl

theorem pay15 :
    k0_pay15 (F := Ideal) (up2 fun _ k => D.lg k) (up2 fun _ k => D.lb k) (up2 (D.v c)) (up2 fun p _ => ∑ k, D.v c p k) = up2 (D.vn c) := by
  refine ext2 fun p j => ?_
  pointwise [k0_pay15]
  simp only [up2_apply, up3_apply, up4_apply, pay14, EReal.coe_one.symm, Ideal.tanh_coe, ← EReal.coe_mul, ← EReal.coe_add, ← EReal.coe_sub, coe_sum]
  rfl

theorem pay19 (a : Fin 1 → Fin 1 → Fin 128 → Fin 128 → ℝ) :
    k0_pay19 (F := Ideal) (up4 a) = up2 (a 0 0) := by
  refine ext2 fun p j => ?_
  pointwise [k0_pay19]
  simp only [up2_apply, up3_apply, up4_apply, EReal.coe_one.symm, Ideal.tanh_coe, ← EReal.coe_mul, ← EReal.coe_add, ← EReal.coe_sub, coe_sum]

theorem pay27 (a : Fin 1 → Fin 1 → Fin 128 → Fin 128 → ℝ) :
    k0_pay27 (F := Ideal) (up4 a) = up2 (a 0 0) := by
  refine ext2 fun p j => ?_
  pointwise [k0_pay27]
  simp only [up2_apply, up3_apply, up4_apply, EReal.coe_one.symm, Ideal.tanh_coe, ← EReal.coe_mul, ← EReal.coe_add, ← EReal.coe_sub, coe_sum]

theorem pay35 (a : Fin 1 → Fin 1 → Fin 128 → Fin 128 → ℝ) :
    k0_pay35 (F := Ideal) (up4 a) = up2 (a 0 0) := by
  refine ext2 fun p j => ?_
  pointwise [k0_pay35]
  simp only [up2_apply, up3_apply, up4_apply, EReal.coe_one.symm, Ideal.tanh_coe, ← EReal.coe_mul, ← EReal.coe_add, ← EReal.coe_sub, coe_sum]

theorem pay43 (a : Fin 1 → Fin 1 → Fin 128 → Fin 128 → ℝ) :
    k0_pay43 (F := Ideal) (up4 a) = up2 (a 0 0) := by
  refine ext2 fun p j => ?_
  pointwise [k0_pay43]
  simp only [up2_apply, up3_apply, up4_apply, EReal.coe_one.symm, Ideal.tanh_coe, ← EReal.coe_mul, ← EReal.coe_add, ← EReal.coe_sub, coe_sum]

theorem pay69 (a : Fin 1 → Fin 1 → Fin 128 → Fin 128 → ℝ) :
    k0_pay69 (F := Ideal) (up4 a) = up2 (a 0 0) := by
  refine ext2 fun p j => ?_
  pointwise [k0_pay69]
  simp only [up2_apply, up3_apply, up4_apply, EReal.coe_one.symm, Ideal.tanh_coe, ← EReal.coe_mul, ← EReal.coe_add, ← EReal.coe_sub, coe_sum]

theorem pay20 :
    k0_pay20 (F := Ideal) (up2 fun _ k => D.lg k) (up2 fun _ k => D.lb k) (up2 (D.v c)) (up2 fun p _ => ∑ k, D.v c p k) = up2 fun p d => D.vn c p (col 1 d) := by
  refine ext2 fun p j => ?_
  pointwise [k0_pay20]
  simp only [up2_apply, up3_apply, up4_apply, pay15, col1, EReal.coe_one.symm, Ideal.tanh_coe, ← EReal.coe_mul, ← EReal.coe_add, ← EReal.coe_sub, coe_sum]

theorem pay28 :
    k0_pay28 (F := Ideal) (up2 (D.vn c)) = up2 fun p d => D.vn c p (col 3 d) := by
  refine ext2 fun p j => ?_
  pointwise [k0_pay28]
  simp only [up2_apply, up3_apply, up4_apply, col3, EReal.coe_one.symm, Ideal.tanh_coe, ← EReal.coe_mul, ← EReal.coe_add, ← EReal.coe_sub, coe_sum]

theorem pay36 :
    k0_pay36 (F := Ideal) (up2 (D.vn c)) = up2 fun p d => D.vn c p (col 5 d) := by
  refine ext2 fun p j => ?_
  pointwise [k0_pay36]
  simp only [up2_apply, up3_apply, up4_apply, col5, EReal.coe_one.symm, Ideal.tanh_coe, ← EReal.coe_mul, ← EReal.coe_add, ← EReal.coe_sub, coe_sum]

theorem pay44 :
    k0_pay44 (F := Ideal) (up2 (D.vn c)) = up2 fun p d => D.vn c p (col 7 d) := by
  refine ext2 fun p j => ?_
  pointwise [k0_pay44]
  simp only [up2_apply, up3_apply, up4_apply, col7, EReal.coe_one.symm, Ideal.tanh_coe, ← EReal.coe_mul, ← EReal.coe_add, ← EReal.coe_sub, coe_sum]

theorem pay17 :
    k0_pay17 (F := Ideal) (up2 fun _ k => D.lg k) (up2 fun _ k => D.lb k) (up2 (D.v c)) (up2 fun p _ => ∑ k, D.v c p k) (up4 fun _ _ => D.w 0) (up4 fun _ _ p _ => D.bs 0 p) = up2 fun p d => D.f c p (col 0 d) := by
  refine ext2 fun p j => ?_
  pointwise [k0_pay17, k0_pay16]
  simp only [up2_apply, up3_apply, up4_apply, pay15, col0, EReal.coe_one.symm, Ideal.tanh_coe, ← EReal.coe_mul, ← EReal.coe_add, ← EReal.coe_sub, coe_sum]
  simp only [Gate.f, head_col]

theorem pay18 :
    k0_pay18 (F := Ideal) (up2 fun _ k => D.lg k) (up2 fun _ k => D.lb k) (up2 (D.u c)) (up2 (D.v c)) (up2 fun p _ => ∑ k, D.v c p k) (up4 fun _ _ => D.w 0) (up4 fun _ _ p _ => D.bs 0 p) = up2 fun p d => D.sg c p (col 0 d) := by
  refine ext2 fun p j => ?_
  pointwise [k0_pay18, k0_pay16]
  simp only [up2_apply, up3_apply, up4_apply, pay15, col0, EReal.coe_one.symm, Ideal.tanh_coe, ← EReal.coe_mul, ← EReal.coe_add, ← EReal.coe_sub, coe_sum]
  simp only [Gate.sg, Gate.f, head_col]

theorem pay22 :
    k0_pay22 (F := Ideal) (up2 (D.w 1)) (up2 fun p d => D.vn c p (col 1 d)) (up4 fun _ _ p _ => D.bs 1 p) = up2 fun p d => D.f c p (col 1 d) := by
  refine ext2 fun p j => ?_
  pointwise [k0_pay22, k0_pay21]
  simp only [up2_apply, up3_apply, up4_apply, EReal.coe_one.symm, Ideal.tanh_coe, ← EReal.coe_mul, ← EReal.coe_add, ← EReal.coe_sub, coe_sum]
  simp only [Gate.f, head_col]

theorem pay23 :
    k0_pay23 (F := Ideal) (up2 (D.u c)) (up2 (D.w 1)) (up2 fun p d => D.vn c p (col 1 d)) (up4 fun _ _ p _ => D.bs 1 p) = up2 fun p d => D.sg c p (col 1 d) := by
  refine ext2 fun p j => ?_
  pointwise [k0_pay23, k0_pay21]
  simp only [up2_apply, up3_apply, up4_apply, col1, EReal.coe_one.symm, Ideal.tanh_coe, ← EReal.coe_mul, ← EReal.coe_add, ← EReal.coe_sub, coe_sum]
  simp only [Gate.sg, Gate.f, head_col]

theorem pay30 :
    k0_pay30 (F := Ideal) (up2 (D.w 3)) (up2 fun p d => D.vn c p (col 3 d)) (up4 fun _ _ p _ => D.bs 3 p) = up2 fun p d => D.f c p (col 3 d) := by
  refine ext2 fun p j => ?_
  pointwise [k0_pay30, k0_pay29]
  simp only [up2_apply, up3_apply, up4_apply, EReal.coe_one.symm, Ideal.tanh_coe, ← EReal.coe_mul, ← EReal.coe_add, ← EReal.coe_sub, coe_sum]
  simp only [Gate.f, head_col]

theorem pay31 :
    k0_pay31 (F := Ideal) (up2 (D.u c)) (up2 (D.w 3)) (up2 fun p d => D.vn c p (col 3 d)) (up4 fun _ _ p _ => D.bs 3 p) = up2 fun p d => D.sg c p (col 3 d) := by
  refine ext2 fun p j => ?_
  pointwise [k0_pay31, k0_pay29]
  simp only [up2_apply, up3_apply, up4_apply, col3, EReal.coe_one.symm, Ideal.tanh_coe, ← EReal.coe_mul, ← EReal.coe_add, ← EReal.coe_sub, coe_sum]
  simp only [Gate.sg, Gate.f, head_col]

theorem pay38 :
    k0_pay38 (F := Ideal) (up2 (D.w 5)) (up2 fun p d => D.vn c p (col 5 d)) (up4 fun _ _ p _ => D.bs 5 p) = up2 fun p d => D.f c p (col 5 d) := by
  refine ext2 fun p j => ?_
  pointwise [k0_pay38, k0_pay37]
  simp only [up2_apply, up3_apply, up4_apply, EReal.coe_one.symm, Ideal.tanh_coe, ← EReal.coe_mul, ← EReal.coe_add, ← EReal.coe_sub, coe_sum]
  simp only [Gate.f, head_col]

theorem pay39 :
    k0_pay39 (F := Ideal) (up2 (D.u c)) (up2 (D.w 5)) (up2 fun p d => D.vn c p (col 5 d)) (up4 fun _ _ p _ => D.bs 5 p) = up2 fun p d => D.sg c p (col 5 d) := by
  refine ext2 fun p j => ?_
  pointwise [k0_pay39, k0_pay37]
  simp only [up2_apply, up3_apply, up4_apply, col5, EReal.coe_one.symm, Ideal.tanh_coe, ← EReal.coe_mul, ← EReal.coe_add, ← EReal.coe_sub, coe_sum]
  simp only [Gate.sg, Gate.f, head_col]

theorem pay46 :
    k0_pay46 (F := Ideal) (up2 (D.w 7)) (up2 fun p d => D.vn c p (col 7 d)) (up4 fun _ _ p _ => D.bs 7 p) = up2 fun p d => D.f c p (col 7 d) := by
  refine ext2 fun p j => ?_
  pointwise [k0_pay46, k0_pay45]
  simp only [up2_apply, up3_apply, up4_apply, EReal.coe_one.symm, Ideal.tanh_coe, ← EReal.coe_mul, ← EReal.coe_add, ← EReal.coe_sub, coe_sum]
  simp only [Gate.f, head_col]

theorem pay47 :
    k0_pay47 (F := Ideal) (up2 (D.u c)) (up2 (D.w 7)) (up2 fun p d => D.vn c p (col 7 d)) (up4 fun _ _ p _ => D.bs 7 p) = up2 fun p d => D.sg c p (col 7 d) := by
  refine ext2 fun p j => ?_
  pointwise [k0_pay47, k0_pay45]
  simp only [up2_apply, up3_apply, up4_apply, col7, EReal.coe_one.symm, Ideal.tanh_coe, ← EReal.coe_mul, ← EReal.coe_add, ← EReal.coe_sub, coe_sum]
  simp only [Gate.sg, Gate.f, head_col]

theorem pay25 :
    k0_pay25 (F := Ideal) (up2 (D.vn c)) (up4 fun _ _ => D.w 2) (up4 fun _ _ p _ => D.bs 2 p) = up2 fun p d => D.f c p (col 2 d) := by
  refine ext2 fun p j => ?_
  pointwise [k0_pay25, k0_pay24]
  simp only [up2_apply, up3_apply, up4_apply, col2, EReal.coe_one.symm, Ideal.tanh_coe, ← EReal.coe_mul, ← EReal.coe_add, ← EReal.coe_sub, coe_sum]
  simp only [Gate.f, head_col]

theorem pay26 :
    k0_pay26 (F := Ideal) (up2 (D.u c)) (up2 (D.vn c)) (up4 fun _ _ => D.w 2) (up4 fun _ _ p _ => D.bs 2 p) = up2 fun p d => D.sg c p (col 2 d) := by
  refine ext2 fun p j => ?_
  pointwise [k0_pay26, k0_pay24]
  simp only [up2_apply, up3_apply, up4_apply, col2, EReal.coe_one.symm, Ideal.tanh_coe, ← EReal.coe_mul, ← EReal.coe_add, ← EReal.coe_sub, coe_sum]
  simp only [Gate.sg, Gate.f, head_col]

theorem pay33 :
    k0_pay33 (F := Ideal) (up2 (D.vn c)) (up4 fun _ _ => D.w 4) (up4 fun _ _ p _ => D.bs 4 p) = up2 fun p d => D.f c p (col 4 d) := by
  refine ext2 fun p j => ?_
  pointwise [k0_pay33, k0_pay32]
  simp only [up2_apply, up3_apply, up4_apply, col4, EReal.coe_one.symm, Ideal.tanh_coe, ← EReal.coe_mul, ← EReal.coe_add, ← EReal.coe_sub, coe_sum]
  simp only [Gate.f, head_col]

theorem pay34 :
    k0_pay34 (F := Ideal) (up2 (D.u c)) (up2 (D.vn c)) (up4 fun _ _ => D.w 4) (up4 fun _ _ p _ => D.bs 4 p) = up2 fun p d => D.sg c p (col 4 d) := by
  refine ext2 fun p j => ?_
  pointwise [k0_pay34, k0_pay32]
  simp only [up2_apply, up3_apply, up4_apply, col4, EReal.coe_one.symm, Ideal.tanh_coe, ← EReal.coe_mul, ← EReal.coe_add, ← EReal.coe_sub, coe_sum]
  simp only [Gate.sg, Gate.f, head_col]

theorem pay41 :
    k0_pay41 (F := Ideal) (up2 (D.vn c)) (up4 fun _ _ => D.w 6) (up4 fun _ _ p _ => D.bs 6 p) = up2 fun p d => D.f c p (col 6 d) := by
  refine ext2 fun p j => ?_
  pointwise [k0_pay41, k0_pay40]
  simp only [up2_apply, up3_apply, up4_apply, col6, EReal.coe_one.symm, Ideal.tanh_coe, ← EReal.coe_mul, ← EReal.coe_add, ← EReal.coe_sub, coe_sum]
  simp only [Gate.f, head_col]

theorem pay42 :
    k0_pay42 (F := Ideal) (up2 (D.u c)) (up2 (D.vn c)) (up4 fun _ _ => D.w 6) (up4 fun _ _ p _ => D.bs 6 p) = up2 fun p d => D.sg c p (col 6 d) := by
  refine ext2 fun p j => ?_
  pointwise [k0_pay42, k0_pay40]
  simp only [up2_apply, up3_apply, up4_apply, col6, EReal.coe_one.symm, Ideal.tanh_coe, ← EReal.coe_mul, ← EReal.coe_add, ← EReal.coe_sub, coe_sum]
  simp only [Gate.sg, Gate.f, head_col]

theorem pay48 :
    k0_pay48 (F := Ideal) (up2 (D.sg c)) = up2 fun p _ => D.r c p := by
  refine ext2 fun p j => ?_
  pointwise [k0_pay48]
  simp only [up2_apply, up3_apply, up4_apply, bits_1024, div_1024, bits_eps, EReal.coe_one.symm, Ideal.tanh_coe, ← EReal.coe_mul, ← EReal.coe_add, ← EReal.coe_sub, coe_sum]
  exact rsqrt_pos (D.ms_pos c p)

theorem pay49 :
    k0_pay49 (F := Ideal) (up2 (D.sg c)) = up2 (D.sh c) := by
  refine ext2 fun p j => ?_
  pointwise [k0_pay49]
  simp only [up2_apply, up3_apply, up4_apply, pay48, EReal.coe_one.symm, Ideal.tanh_coe, ← EReal.coe_mul, ← EReal.coe_add, ← EReal.coe_sub, coe_sum]
  rfl

theorem pay50 :
    k0_pay50 (F := Ideal) (up2 (D.sg c)) (up2 (D.dm c)) (up3 fun _ _ k => D.og k) = up2 fun p j => D.dmg c p j - D.sh c p j * ((∑ k, D.dmg c p k * D.sh c p k) / 1024) := by
  refine ext2 fun p j => ?_
  pointwise [k0_pay50]
  simp only [up2_apply, up3_apply, up4_apply, pay49, bits_1024, div_1024, EReal.coe_one.symm, Ideal.tanh_coe, ← EReal.coe_mul, ← EReal.coe_add, ← EReal.coe_sub, coe_sum]
  rfl

theorem pay51 :
    k0_pay51 (F := Ideal) (up2 (D.sg c)) = up2 fun p _ => D.r c p := by
  refine ext2 fun p j => ?_
  pointwise [k0_pay51]
  simp only [up2_apply, up3_apply, up4_apply, pay48, EReal.coe_one.symm, Ideal.tanh_coe, ← EReal.coe_mul, ← EReal.coe_add, ← EReal.coe_sub, coe_sum]

theorem pay53 (a : Fin 1 → Fin 1024 → ℝ) :
    k0_pay53 (F := Ideal) (up2 (D.dm c)) (up2 (D.sh c)) (up2 a) = up2 fun z j => a z j + D.dogC c j := by
  refine ext2 fun p j => ?_
  pointwise [k0_pay53]
  simp only [up2_apply, up3_apply, up4_apply, EReal.coe_one.symm, Ideal.tanh_coe, ← EReal.coe_mul, ← EReal.coe_add, ← EReal.coe_sub, coe_sum]
  rfl

theorem pay54 :
    k0_pay54 (F := Ideal) (up2 fun p j => D.dmg c p j - D.sh c p j * ((∑ k, D.dmg c p k * D.sh c p k) / 1024)) (up2 fun p _ => D.r c p) (up2 (D.f c)) = up2 (D.du c) := by
  refine ext2 fun p j => ?_
  pointwise [k0_pay54, k0_pay52]
  simp only [up2_apply, up3_apply, up4_apply, EReal.coe_one.symm, Ideal.tanh_coe, ← EReal.coe_mul, ← EReal.coe_add, ← EReal.coe_sub, coe_sum]
  rfl

theorem pay55 :
    k0_pay55 (F := Ideal) (up2 (D.u c)) (up2 fun p j => D.dmg c p j - D.sh c p j * ((∑ k, D.dmg c p k * D.sh c p k) / 1024)) (up2 fun p _ => D.r c p) = up2 (D.df c) := by
  refine ext2 fun p j => ?_
  pointwise [k0_pay55, k0_pay52]
  simp only [up2_apply, up3_apply, up4_apply, EReal.coe_one.symm, Ideal.tanh_coe, ← EReal.coe_mul, ← EReal.coe_add, ← EReal.coe_sub, coe_sum]
  rfl

theorem pay56 :
    k0_pay56 (F := Ideal) (up2 (D.u c)) (up2 fun p j => D.dmg c p j - D.sh c p j * ((∑ k, D.dmg c p k * D.sh c p k) / 1024)) (up2 fun p _ => D.r c p) = up2 (D.df c) := by
  refine ext2 fun p j => ?_
  pointwise [k0_pay56]
  simp only [up2_apply, up3_apply, up4_apply, pay55, EReal.coe_one.symm, Ideal.tanh_coe, ← EReal.coe_mul, ← EReal.coe_add, ← EReal.coe_sub, coe_sum]

theorem pay57 :
    k0_pay57 (F := Ideal) (up2 (D.u c)) (up2 fun p j => D.dmg c p j - D.sh c p j * ((∑ k, D.dmg c p k * D.sh c p k) / 1024)) (up2 fun p _ => D.r c p) (up4 fun _ _ q p => D.w 0 p q) = up2 fun p d => D.dvn c p (col 0 d) := by
  refine ext2 fun p j => ?_
  pointwise [k0_pay57]
  simp only [up2_apply, up3_apply, up4_apply, pay56, col0, EReal.coe_one.symm, Ideal.tanh_coe, ← EReal.coe_mul, ← EReal.coe_add, ← EReal.coe_sub, coe_sum]
  simp only [Gate.dvn, head_col]

theorem pay62 :
    k0_pay62 (F := Ideal) (up2 (D.df c)) (up4 fun _ _ q p => D.w 1 p q) = up2 fun p d => D.dvn c p (col 1 d) := by
  refine ext2 fun p j => ?_
  pointwise [k0_pay62]
  simp only [up2_apply, up3_apply, up4_apply, col1, EReal.coe_one.symm, Ideal.tanh_coe, ← EReal.coe_mul, ← EReal.coe_add, ← EReal.coe_sub, coe_sum]
  simp only [Gate.dvn, head_col]

theorem pay66 :
    k0_pay66 (F := Ideal) (up2 (D.df c)) (up4 fun _ _ q p => D.w 2 p q) = up2 fun p d => D.dvn c p (col 2 d) := by
  refine ext2 fun p j => ?_
  pointwise [k0_pay66]
  simp only [up2_apply, up3_apply, up4_apply, col2, EReal.coe_one.symm, Ideal.tanh_coe, ← EReal.coe_mul, ← EReal.coe_add, ← EReal.coe_sub, coe_sum]
  simp only [Gate.dvn, head_col]

theorem pay74 :
    k0_pay74 (F := Ideal) (up2 (D.df c)) (up4 fun _ _ q p => D.w 4 p q) = up2 fun p d => D.dvn c p (col 4 d) := by
  refine ext2 fun p j => ?_
  pointwise [k0_pay74]
  simp only [up2_apply, up3_apply, up4_apply, col4, EReal.coe_one.symm, Ideal.tanh_coe, ← EReal.coe_mul, ← EReal.coe_add, ← EReal.coe_sub, coe_sum]
  simp only [Gate.dvn, head_col]

theorem pay77 :
    k0_pay77 (F := Ideal) (up2 (D.df c)) (up4 fun _ _ q p => D.w 5 p q) = up2 fun p d => D.dvn c p (col 5 d) := by
  refine ext2 fun p j => ?_
  pointwise [k0_pay77]
  simp only [up2_apply, up3_apply, up4_apply, col5, EReal.coe_one.symm, Ideal.tanh_coe, ← EReal.coe_mul, ← EReal.coe_add, ← EReal.coe_sub, coe_sum]
  simp only [Gate.dvn, head_col]

theorem pay81 :
    k0_pay81 (F := Ideal) (up2 (D.df c)) (up4 fun _ _ q p => D.w 6 p q) = up2 fun p d => D.dvn c p (col 6 d) := by
  refine ext2 fun p j => ?_
  pointwise [k0_pay81]
  simp only [up2_apply, up3_apply, up4_apply, col6, EReal.coe_one.symm, Ideal.tanh_coe, ← EReal.coe_mul, ← EReal.coe_add, ← EReal.coe_sub, coe_sum]
  simp only [Gate.dvn, head_col]

theorem pay84 :
    k0_pay84 (F := Ideal) (up2 (D.df c)) (up4 fun _ _ q p => D.w 7 p q) = up2 fun p d => D.dvn c p (col 7 d) := by
  refine ext2 fun p j => ?_
  pointwise [k0_pay84]
  simp only [up2_apply, up3_apply, up4_apply, col7, EReal.coe_one.symm, Ideal.tanh_coe, ← EReal.coe_mul, ← EReal.coe_add, ← EReal.coe_sub, coe_sum]
  simp only [Gate.dvn, head_col]

theorem pay70 :
    k0_pay70 (F := Ideal) (up2 (D.df c)) = up2 fun p d => D.df c p (col 3 d) := by
  refine ext2 fun p j => ?_
  pointwise [k0_pay70]
  simp only [up2_apply, up3_apply, up4_apply, col3, EReal.coe_one.symm, Ideal.tanh_coe, ← EReal.coe_mul, ← EReal.coe_add, ← EReal.coe_sub, coe_sum]

theorem pay71 :
    k0_pay71 (F := Ideal) (up2 fun q p => D.w 3 p q) (up2 fun p d => D.df c p (col 3 d)) = up2 fun p d => D.dvn c p (col 3 d) := by
  refine ext2 fun p j => ?_
  pointwise [k0_pay71]
  simp only [up2_apply, up3_apply, up4_apply, EReal.coe_one.symm, Ideal.tanh_coe, ← EReal.coe_mul, ← EReal.coe_add, ← EReal.coe_sub, coe_sum]
  simp only [Gate.dvn, head_col]

theorem pay58 (a : Fin 1 → Fin 128 → Fin 128 → ℝ) :
    k0_pay58 (F := Ideal) (up2 (D.u c)) (up2 (D.vn c)) (up2 fun p j => D.dmg c p j - D.sh c p j * ((∑ k, D.dmg c p k * D.sh c p k) / 1024)) (up2 fun p _ => D.r c p) (up3 a) = up3 fun _ p q => a 0 p q + D.dwC c 0 p q := by
  refine ext3 fun z p j => ?_
  pointwise [k0_pay58]
  simp only [up2_apply, up3_apply, up4_apply, pay56, col0, EReal.coe_one.symm, Ideal.tanh_coe, ← EReal.coe_mul, ← EReal.coe_add, ← EReal.coe_sub, coe_sum]
  rfl

theorem pay63 (a : Fin 1 → Fin 128 → Fin 128 → ℝ) :
    k0_pay63 (F := Ideal) (up2 (D.vn c)) (up2 (D.df c)) (up3 a) = up3 fun _ p q => a 0 p q + D.dwC c 1 p q := by
  refine ext3 fun z p j => ?_
  pointwise [k0_pay63]
  simp only [up2_apply, up3_apply, up4_apply, col1, EReal.coe_one.symm, Ideal.tanh_coe, ← EReal.coe_mul, ← EReal.coe_add, ← EReal.coe_sub, coe_sum]
  rfl

theorem pay67 (a : Fin 1 → Fin 128 → Fin 128 → ℝ) :
    k0_pay67 (F := Ideal) (up2 (D.vn c)) (up2 (D.df c)) (up3 a) = up3 fun _ p q => a 0 p q + D.dwC c 2 p q := by
  refine ext3 fun z p j => ?_
  pointwise [k0_pay67]
  simp only [up2_apply, up3_apply, up4_apply, col2, EReal.coe_one.symm, Ideal.tanh_coe, ← EReal.coe_mul, ← EReal.coe_add, ← EReal.coe_sub, coe_sum]
  rfl

theorem pay72 (a : Fin 1 → Fin 128 → Fin 128 → ℝ) :
    k0_pay72 (F := Ideal) (up2 (D.vn c)) (up2 (D.df c)) (up3 a) = up3 fun _ p q => a 0 p q + D.dwC c 3 p q := by
  refine ext3 fun z p j => ?_
  pointwise [k0_pay72]
  simp only [up2_apply, up3_apply, up4_apply, col3, EReal.coe_one.symm, Ideal.tanh_coe, ← EReal.coe_mul, ← EReal.coe_add, ← EReal.coe_sub, coe_sum]
  rfl

theorem pay75 (a : Fin 1 → Fin 128 → Fin 128 → ℝ) :
    k0_pay75 (F := Ideal) (up2 (D.vn c)) (up2 (D.df c)) (up3 a) = up3 fun _ p q => a 0 p q + D.dwC c 4 p q := by
  refine ext3 fun z p j => ?_
  pointwise [k0_pay75]
  simp only [up2_apply, up3_apply, up4_apply, col4, EReal.coe_one.symm, Ideal.tanh_coe, ← EReal.coe_mul, ← EReal.coe_add, ← EReal.coe_sub, coe_sum]
  rfl

theorem pay82 (a : Fin 1 → Fin 128 → Fin 128 → ℝ) :
    k0_pay82 (F := Ideal) (up2 (D.vn c)) (up2 (D.df c)) (up3 a) = up3 fun _ p q => a 0 p q + D.dwC c 6 p q := by
  refine ext3 fun z p j => ?_
  pointwise [k0_pay82]
  simp only [up2_apply, up3_apply, up4_apply, col6, EReal.coe_one.symm, Ideal.tanh_coe, ← EReal.coe_mul, ← EReal.coe_add, ← EReal.coe_sub, coe_sum]
  rfl

theorem pay85 (a : Fin 1 → Fin 128 → Fin 128 → ℝ) :
    k0_pay85 (F := Ideal) (up2 (D.vn c)) (up2 (D.df c)) (up3 a) = up3 fun _ p q => a 0 p q + D.dwC c 7 p q := by
  refine ext3 fun z p j => ?_
  pointwise [k0_pay85]
  simp only [up2_apply, up3_apply, up4_apply, col7, EReal.coe_one.symm, Ideal.tanh_coe, ← EReal.coe_mul, ← EReal.coe_add, ← EReal.coe_sub, coe_sum]
  rfl

theorem pay78 (a : Fin 1 → Fin 128 → Fin 128 → ℝ) :
    k0_pay78 (F := Ideal) (up2 (D.vn c)) (up2 (D.df c)) (up3 a) = up2 fun p q => a 0 p q + D.dwC c 5 p q := by
  refine ext2 fun p j => ?_
  pointwise [k0_pay78]
  simp only [up2_apply, up3_apply, up4_apply, col5, EReal.coe_one.symm, Ideal.tanh_coe, ← EReal.coe_mul, ← EReal.coe_add, ← EReal.coe_sub, coe_sum]
  rfl

theorem pay79 (a : Fin 128 → Fin 128 → ℝ) :
    k0_pay79 (F := Ideal) (up2 a) = up3 fun _ => a := by
  refine ext3 fun z p j => ?_
  pointwise [k0_pay79]
  simp only [up2_apply, up3_apply, up4_apply, EReal.coe_one.symm, Ideal.tanh_coe, ← EReal.coe_mul, ← EReal.coe_add, ← EReal.coe_sub, coe_sum]

theorem pay65 (a : Fin 128 → Fin 128 → ℝ) :
    k0_pay65 (F := Ideal) (up2 a) = up3 fun _ => a := by
  refine ext3 fun z p j => ?_
  pointwise [k0_pay65]
  simp only [up2_apply, up3_apply, up4_apply, EReal.coe_one.symm, Ideal.tanh_coe, ← EReal.coe_mul, ← EReal.coe_add, ← EReal.coe_sub, coe_sum]

theorem pay59 (a : Fin 1 → Fin 128 → Fin 128 → ℝ) :
    k0_pay59 (F := Ideal) (up3 a) = up2 (a 0) := by
  refine ext2 fun p j => ?_
  pointwise [k0_pay59]
  simp only [up2_apply, up3_apply, up4_apply, EReal.coe_one.symm, Ideal.tanh_coe, ← EReal.coe_mul, ← EReal.coe_add, ← EReal.coe_sub, coe_sum]

theorem pay86 (a : Fin 1 → Fin 128 → Fin 128 → ℝ) :
    k0_pay86 (F := Ideal) (up3 a) = up2 (a 0) := by
  refine ext2 fun p j => ?_
  pointwise [k0_pay86]
  simp only [up2_apply, up3_apply, up4_apply, EReal.coe_one.symm, Ideal.tanh_coe, ← EReal.coe_mul, ← EReal.coe_add, ← EReal.coe_sub, coe_sum]

theorem pay60 :
    k0_pay60 (F := Ideal) (up2 (D.u c)) (up2 fun p j => D.dmg c p j - D.sh c p j * ((∑ k, D.dmg c p k * D.sh c p k) / 1024)) (up2 fun p _ => D.r c p) = up1 (D.dbC c 0) := by
  refine ext1 fun p => ?_
  pointwise [k0_pay60]
  simp only [up2_apply, up3_apply, up4_apply, pay55, col0, EReal.coe_one.symm, Ideal.tanh_coe, ← EReal.coe_mul, ← EReal.coe_add, ← EReal.coe_sub, coe_sum]
  rfl

theorem pay61 (a : Fin 128 → Fin 128 → ℝ) (b : Fin 128 → ℝ) :
    k0_pay61 (F := Ideal) (up2 a) (up1 b) = up3 fun _ p q => a p q + b p := by
  refine ext3 fun z p j => ?_
  pointwise [k0_pay61]
  simp only [up2_apply, up3_apply, up4_apply, up1_apply, EReal.coe_one.symm, Ideal.tanh_coe, ← EReal.coe_mul, ← EReal.coe_add, ← EReal.coe_sub, coe_sum]

theorem pay64 (a : Fin 1 → Fin 128 → Fin 128 → ℝ) :
    k0_pay64 (F := Ideal) (up2 (D.df c)) (up3 a) = up2 fun p q => a 0 p q + D.dbC c 1 p := by
  refine ext2 fun p j => ?_
  pointwise [k0_pay64]
  simp only [up2_apply, up3_apply, up4_apply, col1, EReal.coe_one.symm, Ideal.tanh_coe, ← EReal.coe_mul, ← EReal.coe_add, ← EReal.coe_sub, coe_sum]
  rfl

theorem pay68 (a : Fin 1 → Fin 128 → Fin 128 → ℝ) :
    k0_pay68 (F := Ideal) (up2 (D.df c)) (up3 a) = up3 fun _ p q => a 0 p q + D.dbC c 2 p := by
  refine ext3 fun z p j => ?_
  pointwise [k0_pay68]
  simp only [up2_apply, up3_apply, up4_apply, col2, EReal.coe_one.symm, Ideal.tanh_coe, ← EReal.coe_mul, ← EReal.coe_add, ← EReal.coe_sub, coe_sum]
  rfl

theorem pay73 (a : Fin 1 → Fin 128 → Fin 128 → ℝ) :
    k0_pay73 (F := Ideal) (up2 (D.df c)) (up3 a) = up3 fun _ p q => a 0 p q + D.dbC c 3 p := by
  refine ext3 fun z p j => ?_
  pointwise [k0_pay73]
  simp only [up2_apply, up3_apply, up4_apply, col3, EReal.coe_one.symm, Ideal.tanh_coe, ← EReal.coe_mul, ← EReal.coe_add, ← EReal.coe_sub, coe_sum]
  rfl

theorem pay76 (a : Fin 1 → Fin 128 → Fin 128 → ℝ) :
    k0_pay76 (F := Ideal) (up2 (D.df c)) (up3 a) = up3 fun _ p q => a 0 p q + D.dbC c 4 p := by
  refine ext3 fun z p j => ?_
  pointwise [k0_pay76]
  simp only [up2_apply, up3_apply, up4_apply, col4, EReal.coe_one.symm, Ideal.tanh_coe, ← EReal.coe_mul, ← EReal.coe_add, ← EReal.coe_sub, coe_sum]
  rfl

theorem pay80 (a : Fin 1 → Fin 128 → Fin 128 → ℝ) :
    k0_pay80 (F := Ideal) (up2 (D.df c)) (up3 a) = up3 fun _ p q => a 0 p q + D.dbC c 5 p := by
  refine ext3 fun z p j => ?_
  pointwise [k0_pay80]
  simp only [up2_apply, up3_apply, up4_apply, col5, EReal.coe_one.symm, Ideal.tanh_coe, ← EReal.coe_mul, ← EReal.coe_add, ← EReal.coe_sub, coe_sum]
  rfl

theorem pay83 (a : Fin 1 → Fin 128 → Fin 128 → ℝ) :
    k0_pay83 (F := Ideal) (up2 (D.df c)) (up3 a) = up3 fun _ p q => a 0 p q + D.dbC c 6 p := by
  refine ext3 fun z p j => ?_
  pointwise [k0_pay83]
  simp only [up2_apply, up3_apply, up4_apply, col6, EReal.coe_one.symm, Ideal.tanh_coe, ← EReal.coe_mul, ← EReal.coe_add, ← EReal.coe_sub, coe_sum]
  rfl

theorem pay87 :
    k0_pay87 (F := Ideal) (up2 (D.df c)) = up2 fun p _ => D.dbC c 7 p := by
  refine ext2 fun p j => ?_
  pointwise [k0_pay87]
  simp only [up2_apply, up3_apply, up4_apply, col7, EReal.coe_one.symm, Ideal.tanh_coe, ← EReal.coe_mul, ← EReal.coe_add, ← EReal.coe_sub, coe_sum]
  rfl

theorem pay88 (a b : Fin 128 → Fin 128 → ℝ) :
    k0_pay88 (F := Ideal) (up2 a) (up2 b) = up3 fun _ p q => a p q + b p q := by
  refine ext3 fun z p j => ?_
  pointwise [k0_pay88]
  simp only [up2_apply, up3_apply, up4_apply, EReal.coe_one.symm, Ideal.tanh_coe, ← EReal.coe_mul, ← EReal.coe_add, ← EReal.coe_sub, coe_sum]

theorem pay89 (a : Fin 1 → Fin 1024 → ℝ) :
    k0_pay89 (F := Ideal) (up2 (D.xh c)) (up2 (D.dvn c)) (up2 a) = up2 fun z j => a z j + D.dlgC c j := by
  refine ext2 fun p j => ?_
  pointwise [k0_pay89]
  simp only [up2_apply, up3_apply, up4_apply, EReal.coe_one.symm, Ideal.tanh_coe, ← EReal.coe_mul, ← EReal.coe_add, ← EReal.coe_sub, coe_sum]
  rfl

theorem pay90 (a : Fin 1 → Fin 1024 → ℝ) :
    k0_pay90 (F := Ideal) (up2 (D.dvn c)) (up2 a) = up2 fun z j => a z j + D.dlbC c j := by
  refine ext2 fun p j => ?_
  pointwise [k0_pay90]
  simp only [up2_apply, up3_apply, up4_apply, EReal.coe_one.symm, Ideal.tanh_coe, ← EReal.coe_mul, ← EReal.coe_add, ← EReal.coe_sub, coe_sum]
  rfl

theorem pay91 :
    k0_pay91 (F := Ideal) (up2 fun _ k => D.lg k) (up2 fun p _ => D.rs c p) (up2 (D.xh c)) (up2 (D.dvn c)) = up2 (D.dv c) := by
  refine ext2 fun p j => ?_
  pointwise [k0_pay91]
  simp only [up2_apply, up3_apply, up4_apply, bits_1024, div_1024, EReal.coe_one.symm, Ideal.tanh_coe, ← EReal.coe_mul, ← EReal.coe_add, ← EReal.coe_sub, coe_sum]
  rfl

theorem pay92 :
    k0_pay92 (F := Ideal) (up2 (D.gu c)) = up2 fun p j => D.gu c p j * D.gu c p j * D.gu c p j := by
  refine ext2 fun p j => ?_
  pointwise [k0_pay92]
  simp only [up2_apply, up3_apply, up4_apply, EReal.coe_one.symm, Ideal.tanh_coe, ← EReal.coe_mul, ← EReal.coe_add, ← EReal.coe_sub, coe_sum]

theorem pay93 :
    k0_pay93 (F := Ideal) (up2 (D.gu c)) (up2 (D.du c)) (up2 fun p j => D.gu c p j * D.gu c p j * D.gu c p j) = up2 (D.dgu c) := by
  refine ext2 fun p j => ?_
  pointwise [k0_pay93]
  simp only [up2_apply, up3_apply, up4_apply, gelu_a, gelu_3a, bits_scl, bits_half, EReal.coe_one.symm, Ideal.tanh_coe, ← EReal.coe_mul, ← EReal.coe_add, ← EReal.coe_sub, coe_sum]
  rfl

theorem pay94 :
    k0_pay94 (F := Ideal) (up2 (D.gv c)) = up2 fun p j => th (D.gv c p j) := by
  refine ext2 fun p j => ?_
  pointwise [k0_pay94]
  simp only [up2_apply, up3_apply, up4_apply, gelu_a, gelu_3a, bits_scl, bits_half, EReal.coe_one.symm, Ideal.tanh_coe, ← EReal.coe_mul, ← EReal.coe_add, ← EReal.coe_sub, coe_sum]
  rfl

theorem pay95 :
    k0_pay95 (F := Ideal) (up2 (D.gv c)) = up2 fun p j => 1 / 2 * (1 + th (D.gv c p j)) := by
  refine ext2 fun p j => ?_
  pointwise [k0_pay95]
  simp only [up2_apply, up3_apply, up4_apply, pay94, gelu_a, gelu_3a, bits_scl, bits_half, EReal.coe_one.symm, Ideal.tanh_coe, ← EReal.coe_mul, ← EReal.coe_add, ← EReal.coe_sub, coe_sum]

theorem pay96 :
    k0_pay96 (F := Ideal) (up2 (D.gv c)) = up2 fun p j => 1 / 2 * D.gv c p j := by
  refine ext2 fun p j => ?_
  pointwise [k0_pay96]
  simp only [up2_apply, up3_apply, up4_apply, gelu_a, gelu_3a, bits_scl, bits_half, EReal.coe_one.symm, Ideal.tanh_coe, ← EReal.coe_mul, ← EReal.coe_add, ← EReal.coe_sub, coe_sum]

theorem pay97 :
    k0_pay97 (F := Ideal) (up2 (D.gv c)) = up2 fun p j => th (D.gv c p j) * th (D.gv c p j) := by
  refine ext2 fun p j => ?_
  pointwise [k0_pay97]
  simp only [up2_apply, up3_apply, up4_apply, pay94, EReal.coe_one.symm, Ideal.tanh_coe, ← EReal.coe_mul, ← EReal.coe_add, ← EReal.coe_sub, coe_sum]

theorem pay1 :
    k0_pay1 (F := Ideal) (up2 (D.gv c)) (up2 (D.dv c)) (up2 fun p j => 1 / 2 * (1 + th (D.gv c p j))) (up2 fun p j => 1 / 2 * D.gv c p j) (up2 fun p j => th (D.gv c p j) * th (D.gv c p j)) = up2 (D.dgv c) := by
  refine ext2 fun p j => ?_
  pointwise [k0_pay1]
  simp only [up2_apply, up3_apply, up4_apply, gelu_a, gelu_3a, bits_scl, bits_half, EReal.coe_one.symm, Ideal.tanh_coe, ← EReal.coe_mul, ← EReal.coe_add, ← EReal.coe_sub, coe_sum]
  rfl

theorem pay2 :
    k0_pay2 (F := Ideal) = up3 fun _ _ _ => 0 := by
  refine ext3 fun z p j => ?_
  pointwise [k0_pay2]
  simp only [up2_apply, up3_apply, up4_apply, EReal.coe_zero, EReal.coe_one.symm, Ideal.tanh_coe, ← EReal.coe_mul, ← EReal.coe_add, ← EReal.coe_sub, coe_sum]

theorem pay3 :
    k0_pay3 (F := Ideal) = up3 fun _ _ _ => 0 := by
  refine ext3 fun z p j => ?_
  pointwise [k0_pay3]
  simp only [up2_apply, up3_apply, up4_apply, EReal.coe_zero, EReal.coe_one.symm, Ideal.tanh_coe, ← EReal.coe_mul, ← EReal.coe_add, ← EReal.coe_sub, coe_sum]

theorem pay4 :
    k0_pay4 (F := Ideal) = up2 fun _ _ => 0 := by
  refine ext2 fun p j => ?_
  pointwise [k0_pay4]
  simp only [up2_apply, up3_apply, up4_apply, EReal.coe_zero, EReal.coe_one.symm, Ideal.tanh_coe, ← EReal.coe_mul, ← EReal.coe_add, ← EReal.coe_sub, coe_sum]

theorem pay5 :
    k0_pay5 (F := Ideal) = up2 fun _ _ => 0 := by
  refine ext2 fun p j => ?_
  pointwise [k0_pay5]
  simp only [up2_apply, up3_apply, up4_apply, EReal.coe_zero, EReal.coe_one.symm, Ideal.tanh_coe, ← EReal.coe_mul, ← EReal.coe_add, ← EReal.coe_sub, coe_sum]

theorem pay6 :
    k0_pay6 (F := Ideal) = up2 fun _ _ => 0 := by
  refine ext2 fun p j => ?_
  pointwise [k0_pay6]
  simp only [up2_apply, up3_apply, up4_apply, EReal.coe_zero, EReal.coe_one.symm, Ideal.tanh_coe, ← EReal.coe_mul, ← EReal.coe_add, ← EReal.coe_sub, coe_sum]

end Cert.KernelIdeal.GatePay

end

end
-- ==== Proof.Loads.lean ====
/-
  The loads of one head, and stores of eight heads read back, on arrays of real numbers.
-/
module

public import proofs.«01_k».proof.Proof.Lift
public import proofs.«01_k».proof.Proof.Gen.KernelIdeal.Value
public import Idealize.ShloMosaic.Lib.Pipeline.ValueKit
public import Idealize.ShloMosaic.Lib.Pipeline.ReadBack

@[expose] public section

noncomputable section

open scoped BigOperators
open Idealize.ShloMosaic Idealize.ShloMosaic.TcCoe Idealize.SL.Sem Lift SpatialGate

namespace Cert.KernelIdeal.GateLoads

open Cert.KernelIdeal Cert.KernelIdeal.Gen

/-- One head of a stack of square arrays (bf16), loaded. -/
theorem ld4b (h : Fin 8) (f : Fin 1 → Fin 8 → Fin 128 → Fin 128 → ℝ) (inb) :
    View.ld (Val := Elt Ideal) (e' := .bf16) (S := S1x8x128x128) (up4 f) (Rect.unit ![0, h.val, 0, 0] ![1, 1, 128, 128] inb)
      = up4 fun _ _ => f 0 h :=
  funext fun i => View.ld_unit_apply_of (e := .bf16) _ _ _ _ _ (ix4 0 h (i 2) (i 3)) fun a => by
    have h0 : (i 0).val < 1 := (i 0).isLt
    have h1 : (i 1).val < 1 := (i 1).isLt
    match a with
    | ⟨0, _⟩ => show 0 = 0 + (i 0).val; omega
    | ⟨1, _⟩ => show h.val = h.val + (i 1).val; omega
    | ⟨2, _⟩ => exact (Nat.zero_add _).symm
    | ⟨3, _⟩ => exact (Nat.zero_add _).symm

/-- One head of a stack of square arrays (f32), loaded. -/
theorem ld4f (h : Fin 8) (f : Fin 1 → Fin 8 → Fin 128 → Fin 128 → ℝ) (inb) :
    View.ld (Val := Elt Ideal) (e' := .f32) (S := S1x8x128x128) (up4 f) (Rect.unit ![0, h.val, 0, 0] ![1, 1, 128, 128] inb)
      = up4 fun _ _ => f 0 h :=
  funext fun i => View.ld_unit_apply_of (e := .f32) _ _ _ _ _ (ix4 0 h (i 2) (i 3)) fun a => by
    have h0 : (i 0).val < 1 := (i 0).isLt
    have h1 : (i 1).val < 1 := (i 1).isLt
    match a with
    | ⟨0, _⟩ => show 0 = 0 + (i 0).val; omega
    | ⟨1, _⟩ => show h.val = h.val + (i 1).val; omega
    | ⟨2, _⟩ => exact (Nat.zero_add _).symm
    | ⟨3, _⟩ => exact (Nat.zero_add _).symm

/-- One head of a stack of sums, loaded. -/
theorem ld3 (h : Fin 8) (f : Fin 8 → Fin 128 → Fin 128 → ℝ) (inb) :
    View.ld (Val := Elt Ideal) (e' := .f32) (S := S8x128x128) (up3 f) (Rect.unit ![h.val, 0, 0] ![1, 128, 128] inb)
      = up3 fun _ => f h :=
  funext fun i => View.ld_unit_apply_of (e := .f32) _ _ _ _ _ (ix3 h (i 1) (i 2)) fun a => by
    have h0 : (i 0).val < 1 := (i 0).isLt
    match a with
    | ⟨0, _⟩ => show h.val = h.val + (i 0).val; omega
    | ⟨1, _⟩ => exact (Nat.zero_add _).symm
    | ⟨2, _⟩ => exact (Nat.zero_add _).symm

/-- The columns of head `h` of an array. -/
theorem emb2 (h : Fin 8) (g : Fin 128 → Fin 1024 → ℝ) (o : Nat) (ho : o = h.val * 128) (inb)
    (x : (Rect.unit (s := S128x1024) ![0, o] ![128, 128] inb).shape.Idx) :
    up2 (fun p d => g p (col h d)) x = up2 g ((Rect.unit (s := S128x1024) ![0, o] ![128, 128] inb).emb x) := by
  subst ho
  have e0 : ((Rect.unit (s := S128x1024) ![0, h.val * 128] ![128, 128] inb).emb x) 0 = x 0 :=
    Fin.ext ((Rect.idx_unit_val _ _ _ x 0).trans (Nat.zero_add _))
  have e1 : ((Rect.unit (s := S128x1024) ![0, h.val * 128] ![128, 128] inb).emb x) 1 = col h (x 1) :=
    Fin.ext (Rect.idx_unit_val _ _ _ x 1)
  show ((g (x 0) (col h (x 1)) : ℝ) : EReal) = ((g _ _ : ℝ) : EReal)
  rw [e0, e1]

/-- Head `h` of a stack. -/
theorem emb3 (h : Fin 8) (g : Fin 8 → Fin 128 → Fin 128 → ℝ) (o : Nat) (ho : o = h.val) (inb)
    (x : (Rect.unit (s := S8x128x128) ![o, 0, 0] ![1, 128, 128] inb).shape.Idx) :
    up3 (fun _ p q => g h p q) x = up3 g ((Rect.unit (s := S8x128x128) ![o, 0, 0] ![1, 128, 128] inb).emb x) := by
  subst ho
  have h0 : (x 0).val < 1 := (x 0).isLt
  have e0 : ((Rect.unit (s := S8x128x128) ![h.val, 0, 0] ![1, 128, 128] inb).emb x) 0 = h :=
    Fin.ext ((Rect.idx_unit_val _ _ _ x 0).trans (by show h.val + (x 0).val = h.val; omega))
  have e1 : ((Rect.unit (s := S8x128x128) ![h.val, 0, 0] ![1, 128, 128] inb).emb x) 1 = x 1 :=
    Fin.ext ((Rect.idx_unit_val _ _ _ x 1).trans (Nat.zero_add _))
  have e2 : ((Rect.unit (s := S8x128x128) ![h.val, 0, 0] ![1, 128, 128] inb).emb x) 2 = x 2 :=
    Fin.ext ((Rect.idx_unit_val _ _ _ x 2).trans (Nat.zero_add _))
  show ((g h (x 1) (x 2) : ℝ) : EReal) = ((g _ _ _ : ℝ) : EReal)
  rw [e0, e1, e2]

theorem ld4b_0 (f : Fin 1 → Fin 8 → Fin 128 → Fin 128 → ℝ) (inb) :
    View.ld (Val := Elt Ideal) (e' := .bf16) (S := S1x8x128x128) (up4 f) (Rect.unit ![0, 0, 0, 0] ![1, 1, 128, 128] inb)
      = up4 fun _ _ => f 0 0 := ld4b 0 f inb
theorem ld4f_0 (f : Fin 1 → Fin 8 → Fin 128 → Fin 128 → ℝ) (inb) :
    View.ld (Val := Elt Ideal) (e' := .f32) (S := S1x8x128x128) (up4 f) (Rect.unit ![0, 0, 0, 0] ![1, 1, 128, 128] inb)
      = up4 fun _ _ => f 0 0 := ld4f 0 f inb
theorem ld3_0 (f : Fin 8 → Fin 128 → Fin 128 → ℝ) (inb) :
    View.ld (Val := Elt Ideal) (e' := .f32) (S := S8x128x128) (up3 f) (Rect.unit ![0, 0, 0] ![1, 128, 128] inb)
      = up3 fun _ => f 0 := ld3 0 f inb

theorem ld4b_1 (f : Fin 1 → Fin 8 → Fin 128 → Fin 128 → ℝ) (inb) :
    View.ld (Val := Elt Ideal) (e' := .bf16) (S := S1x8x128x128) (up4 f) (Rect.unit ![0, 1, 0, 0] ![1, 1, 128, 128] inb)
      = up4 fun _ _ => f 0 1 := ld4b 1 f inb
theorem ld4f_1 (f : Fin 1 → Fin 8 → Fin 128 → Fin 128 → ℝ) (inb) :
    View.ld (Val := Elt Ideal) (e' := .f32) (S := S1x8x128x128) (up4 f) (Rect.unit ![0, 1, 0, 0] ![1, 1, 128, 128] inb)
      = up4 fun _ _ => f 0 1 := ld4f 1 f inb
theorem ld3_1 (f : Fin 8 → Fin 128 → Fin 128 → ℝ) (inb) :
    View.ld (Val := Elt Ideal) (e' := .f32) (S := S8x128x128) (up3 f) (Rect.unit ![1, 0, 0] ![1, 128, 128] inb)
      = up3 fun _ => f 1 := ld3 1 f inb

theorem ld4b_2 (f : Fin 1 → Fin 8 → Fin 128 → Fin 128 → ℝ) (inb) :
    View.ld (Val := Elt Ideal) (e' := .bf16) (S := S1x8x128x128) (up4 f) (Rect.unit ![0, 2, 0, 0] ![1, 1, 128, 128] inb)
      = up4 fun _ _ => f 0 2 := ld4b 2 f inb
theorem ld4f_2 (f : Fin 1 → Fin 8 → Fin 128 → Fin 128 → ℝ) (inb) :
    View.ld (Val := Elt Ideal) (e' := .f32) (S := S1x8x128x128) (up4 f) (Rect.unit ![0, 2, 0, 0] ![1, 1, 128, 128] inb)
      = up4 fun _ _ => f 0 2 := ld4f 2 f inb
theorem ld3_2 (f : Fin 8 → Fin 128 → Fin 128 → ℝ) (inb) :
    View.ld (Val := Elt Ideal) (e' := .f32) (S := S8x128x128) (up3 f) (Rect.unit ![2, 0, 0] ![1, 128, 128] inb)
      = up3 fun _ => f 2 := ld3 2 f inb

theorem ld4b_3 (f : Fin 1 → Fin 8 → Fin 128 → Fin 128 → ℝ) (inb) :
    View.ld (Val := Elt Ideal) (e' := .bf16) (S := S1x8x128x128) (up4 f) (Rect.unit ![0, 3, 0, 0] ![1, 1, 128, 128] inb)
      = up4 fun _ _ => f 0 3 := ld4b 3 f inb
theorem ld4f_3 (f : Fin 1 → Fin 8 → Fin 128 → Fin 128 → ℝ) (inb) :
    View.ld (Val := Elt Ideal) (e' := .f32) (S := S1x8x128x128) (up4 f) (Rect.unit ![0, 3, 0, 0] ![1, 1, 128, 128] inb)
      = up4 fun _ _ => f 0 3 := ld4f 3 f inb
theorem ld3_3 (f : Fin 8 → Fin 128 → Fin 128 → ℝ) (inb) :
    View.ld (Val := Elt Ideal) (e' := .f32) (S := S8x128x128) (up3 f) (Rect.unit ![3, 0, 0] ![1, 128, 128] inb)
      = up3 fun _ => f 3 := ld3 3 f inb

theorem ld4b_4 (f : Fin 1 → Fin 8 → Fin 128 → Fin 128 → ℝ) (inb) :
    View.ld (Val := Elt Ideal) (e' := .bf16) (S := S1x8x128x128) (up4 f) (Rect.unit ![0, 4, 0, 0] ![1, 1, 128, 128] inb)
      = up4 fun _ _ => f 0 4 := ld4b 4 f inb
theorem ld4f_4 (f : Fin 1 → Fin 8 → Fin 128 → Fin 128 → ℝ) (inb) :
    View.ld (Val := Elt Ideal) (e' := .f32) (S := S1x8x128x128) (up4 f) (Rect.unit ![0, 4, 0, 0] ![1, 1, 128, 128] inb)
      = up4 fun _ _ => f 0 4 := ld4f 4 f inb
theorem ld3_4 (f : Fin 8 → Fin 128 → Fin 128 → ℝ) (inb) :
    View.ld (Val := Elt Ideal) (e' := .f32) (S := S8x128x128) (up3 f) (Rect.unit ![4, 0, 0] ![1, 128, 128] inb)
      = up3 fun _ => f 4 := ld3 4 f inb

theorem ld4b_5 (f : Fin 1 → Fin 8 → Fin 128 → Fin 128 → ℝ) (inb) :
    View.ld (Val := Elt Ideal) (e' := .bf16) (S := S1x8x128x128) (up4 f) (Rect.unit ![0, 5, 0, 0] ![1, 1, 128, 128] inb)
      = up4 fun _ _ => f 0 5 := ld4b 5 f inb
theorem ld4f_5 (f : Fin 1 → Fin 8 → Fin 128 → Fin 128 → ℝ) (inb) :
    View.ld (Val := Elt Ideal) (e' := .f32) (S := S1x8x128x128) (up4 f) (Rect.unit ![0, 5, 0, 0] ![1, 1, 128, 128] inb)
      = up4 fun _ _ => f 0 5 := ld4f 5 f inb
theorem ld3_5 (f : Fin 8 → Fin 128 → Fin 128 → ℝ) (inb) :
    View.ld (Val := Elt Ideal) (e' := .f32) (S := S8x128x128) (up3 f) (Rect.unit ![5, 0, 0] ![1, 128, 128] inb)
      = up3 fun _ => f 5 := ld3 5 f inb

theorem ld4b_6 (f : Fin 1 → Fin 8 → Fin 128 → Fin 128 → ℝ) (inb) :
    View.ld (Val := Elt Ideal) (e' := .bf16) (S := S1x8x128x128) (up4 f) (Rect.unit ![0, 6, 0, 0] ![1, 1, 128, 128] inb)
      = up4 fun _ _ => f 0 6 := ld4b 6 f inb
theorem ld4f_6 (f : Fin 1 → Fin 8 → Fin 128 → Fin 128 → ℝ) (inb) :
    View.ld (Val := Elt Ideal) (e' := .f32) (S := S1x8x128x128) (up4 f) (Rect.unit ![0, 6, 0, 0] ![1, 1, 128, 128] inb)
      = up4 fun _ _ => f 0 6 := ld4f 6 f inb
theorem ld3_6 (f : Fin 8 → Fin 128 → Fin 128 → ℝ) (inb) :
    View.ld (Val := Elt Ideal) (e' := .f32) (S := S8x128x128) (up3 f) (Rect.unit ![6, 0, 0] ![1, 128, 128] inb)
      = up3 fun _ => f 6 := ld3 6 f inb

theorem ld4b_7 (f : Fin 1 → Fin 8 → Fin 128 → Fin 128 → ℝ) (inb) :
    View.ld (Val := Elt Ideal) (e' := .bf16) (S := S1x8x128x128) (up4 f) (Rect.unit ![0, 7, 0, 0] ![1, 1, 128, 128] inb)
      = up4 fun _ _ => f 0 7 := ld4b 7 f inb
theorem ld4f_7 (f : Fin 1 → Fin 8 → Fin 128 → Fin 128 → ℝ) (inb) :
    View.ld (Val := Elt Ideal) (e' := .f32) (S := S1x8x128x128) (up4 f) (Rect.unit ![0, 7, 0, 0] ![1, 1, 128, 128] inb)
      = up4 fun _ _ => f 0 7 := ld4f 7 f inb
theorem ld3_7 (f : Fin 8 → Fin 128 → Fin 128 → ℝ) (inb) :
    View.ld (Val := Elt Ideal) (e' := .f32) (S := S8x128x128) (up3 f) (Rect.unit ![7, 0, 0] ![1, 128, 128] inb)
      = up3 fun _ => f 7 := ld3 7 f inb

/-- Eight heads' columns stored into a scratch and the whole scratch loaded: the array whose columns they are. -/
theorem scratch {κ : Kind} {sp : Space} (v : View sig κ sp S128x1024 .f32) (g : Fin 128 → Fin 1024 → ℝ)
    (i0 i1 i2 i3 i4 i5 i6 i7 : _) (i : _) :
    v.readCov (Val := Elt Ideal) [
        ⟨Rect.unit ![0, 896] ![128, 128] i7, up2 fun p d => g p (col 7 d)⟩,
        ⟨Rect.unit ![0, 768] ![128, 128] i6, up2 fun p d => g p (col 6 d)⟩,
        ⟨Rect.unit ![0, 640] ![128, 128] i5, up2 fun p d => g p (col 5 d)⟩,
        ⟨Rect.unit ![0, 512] ![128, 128] i4, up2 fun p d => g p (col 4 d)⟩,
        ⟨Rect.unit ![0, 384] ![128, 128] i3, up2 fun p d => g p (col 3 d)⟩,
        ⟨Rect.unit ![0, 256] ![128, 128] i2, up2 fun p d => g p (col 2 d)⟩,
        ⟨Rect.unit ![0, 128] ![128, 128] i1, up2 fun p d => g p (col 1 d)⟩,
        ⟨Rect.unit ![0, 0] ![128, 128] i0, up2 fun p d => g p (col 0 d)⟩]
      (Rect.unit ![0, 0] ![128, 1024] i).toLoadRect = up2 g := by
  rw [View.readCov_eq_canon']
  funext y
  have hy : (Rect.unit (s := S128x1024) ![0, 0] ![128, 1024] i).toLoadRect.idx y = y :=
    funext fun a => Fin.ext ((Rect.idx_unit_val _ _ _ y a).trans
      (by match a with | ⟨0, _⟩ => exact Nat.zero_add _ | ⟨1, _⟩ => exact Nat.zero_add _))
  show View.canon _ _ = _
  rw [hy]
  exact View.canon_append_of_piecesOf (Val := Elt Ideal) (s := S128x1024) (e := .f32) (up2 g) [] [
        ⟨Rect.unit ![0, 896] ![128, 128] i7, up2 fun p d => g p (col 7 d)⟩,
        ⟨Rect.unit ![0, 768] ![128, 128] i6, up2 fun p d => g p (col 6 d)⟩,
        ⟨Rect.unit ![0, 640] ![128, 128] i5, up2 fun p d => g p (col 5 d)⟩,
        ⟨Rect.unit ![0, 512] ![128, 128] i4, up2 fun p d => g p (col 4 d)⟩,
        ⟨Rect.unit ![0, 384] ![128, 128] i3, up2 fun p d => g p (col 3 d)⟩,
        ⟨Rect.unit ![0, 256] ![128, 128] i2, up2 fun p d => g p (col 2 d)⟩,
        ⟨Rect.unit ![0, 128] ![128, 128] i1, up2 fun p d => g p (col 1 d)⟩,
        ⟨Rect.unit ![0, 0] ![128, 128] i0, up2 fun p d => g p (col 0 d)⟩]
    ⟨emb2 7 g 896 rfl i7, emb2 6 g 768 rfl i6, emb2 5 g 640 rfl i5, emb2 4 g 512 rfl i4, emb2 3 g 384 rfl i3, emb2 2 g 256 rfl i2, emb2 1 g 128 rfl i1, emb2 0 g 0 rfl i0, trivial⟩ y
    (View.cover_of_tiledL (s := S128x1024) _ S128x128.size (by sl_kernel_rfl) y)

/-- Eight heads stored into a buffer, over anything: the array whose heads they are. -/
theorem heads (g : Fin 8 → Fin 128 → Fin 128 → ℝ) (L : List (View.Piece (Elt Ideal) S8x128x128 .f32))
    (i0 i1 i2 i3 i4 i5 i6 i7 : _) :
    View.canon (Val := Elt Ideal) (s := S8x128x128) (e := .f32) (
        ⟨Rect.unit ![7, 0, 0] ![1, 128, 128] i7, up3 fun _ p q => g 7 p q⟩ ::
        ⟨Rect.unit ![6, 0, 0] ![1, 128, 128] i6, up3 fun _ p q => g 6 p q⟩ ::
        ⟨Rect.unit ![5, 0, 0] ![1, 128, 128] i5, up3 fun _ p q => g 5 p q⟩ ::
        ⟨Rect.unit ![4, 0, 0] ![1, 128, 128] i4, up3 fun _ p q => g 4 p q⟩ ::
        ⟨Rect.unit ![3, 0, 0] ![1, 128, 128] i3, up3 fun _ p q => g 3 p q⟩ ::
        ⟨Rect.unit ![2, 0, 0] ![1, 128, 128] i2, up3 fun _ p q => g 2 p q⟩ ::
        ⟨Rect.unit ![1, 0, 0] ![1, 128, 128] i1, up3 fun _ p q => g 1 p q⟩ ::
        ⟨Rect.unit ![0, 0, 0] ![1, 128, 128] i0, up3 fun _ p q => g 0 p q⟩ :: L)
      = up3 g :=
  funext fun y => View.canon_append_of_piecesOf (Val := Elt Ideal) (s := S8x128x128) (e := .f32) (up3 g) L [
        ⟨Rect.unit ![7, 0, 0] ![1, 128, 128] i7, up3 fun _ p q => g 7 p q⟩,
        ⟨Rect.unit ![6, 0, 0] ![1, 128, 128] i6, up3 fun _ p q => g 6 p q⟩,
        ⟨Rect.unit ![5, 0, 0] ![1, 128, 128] i5, up3 fun _ p q => g 5 p q⟩,
        ⟨Rect.unit ![4, 0, 0] ![1, 128, 128] i4, up3 fun _ p q => g 4 p q⟩,
        ⟨Rect.unit ![3, 0, 0] ![1, 128, 128] i3, up3 fun _ p q => g 3 p q⟩,
        ⟨Rect.unit ![2, 0, 0] ![1, 128, 128] i2, up3 fun _ p q => g 2 p q⟩,
        ⟨Rect.unit ![1, 0, 0] ![1, 128, 128] i1, up3 fun _ p q => g 1 p q⟩,
        ⟨Rect.unit ![0, 0, 0] ![1, 128, 128] i0, up3 fun _ p q => g 0 p q⟩]
    ⟨emb3 7 g 7 rfl i7, emb3 6 g 6 rfl i6, emb3 5 g 5 rfl i5, emb3 4 g 4 rfl i4, emb3 3 g 3 rfl i3, emb3 2 g 2 rfl i2, emb3 1 g 1 rfl i1, emb3 0 g 0 rfl i0, trivial⟩ y
    (View.cover_of_tiledL (s := S8x128x128) _ S1x128x128.size (by sl_kernel_rfl) y)

end Cert.KernelIdeal.GateLoads

end

end
-- ==== Proof.Point.lean ====
/-
  One grid point of the kernel on real blocks: what it leaves in each output's buffer. A point of case A (the first)
  starts the five sums at zero; a point of case B adds to what the point before left.
-/
module

public import proofs.«01_k».proof.Proof.Pay
public import proofs.«01_k».proof.Proof.Loads
public import proofs.«01_k».proof.Proof.Gen.KernelIdeal.Value
public import Idealize.ShloMosaic.Lib.Pipeline.ValueKit
public import Idealize.ShloMosaic.Lib.Pipeline.ReadBack

@[expose] public section

noncomputable section

open scoped BigOperators
open Idealize.ShloMosaic Idealize.ShloMosaic.TcCoe Idealize.SL.Sem Lift SpatialGate

namespace Cert.KernelIdeal.GatePoint

open Cert.KernelIdeal Cert.KernelIdeal.Gen Cert.KernelIdeal.GatePay Cert.KernelIdeal.GateLoads

/-- Grid point `t`'s input blocks are the real inputs of chunk `k`. -/
structure Blocks (m : (ℓ : Loc nD τ sig) → Buf (Elt Ideal) ℓ) (D : SpatialGate.Gate) (c : Dev nD) (t : Fin cfg0.N)
    (k : Fin 16) : Prop where
  gu : X0_0 m c t = up2 (D.gu k)
  gv : X0_1 m c t = up2 (D.gv k)
  dm : iblk m c 2 t = up2 (D.dm k)
  lg : iblk m c 3 t = up3 fun _ _ j => D.lg j
  lb : iblk m c 4 t = up3 fun _ _ j => D.lb j
  w : iblk m c 5 t = up4 fun _ h p q => D.w h p q
  wt : iblk m c 6 t = up4 fun _ h q p => D.w h p q
  bs : iblk m c 7 t = up4 fun _ h p _ => D.bs h p
  og : iblk m c 8 t = up3 fun _ _ j => D.og j

variable {m : (ℓ : Loc nD τ sig) → Buf (Elt Ideal) ℓ} {D : SpatialGate.Gate} {c : Dev nD} {t : Fin cfg0.N} {k : Fin 16}

theorem dgu_A (H : Blocks m D c t k) (h0 : t.val % 16 = 0) :
    (outsAt0 m c t.val t.isLt).1 = up2 (D.dgu k) := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dgu_B (H : Blocks m D c t k) (h0 : ¬t.val % 16 = 0) :
    (outsAt0 m c t.val t.isLt).1 = up2 (D.dgu k) := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dgv_A (H : Blocks m D c t k) (h0 : t.val % 16 = 0) :
    (outsAt0 m c t.val t.isLt).2.1 = up2 (D.dgv k) := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dgv_B (H : Blocks m D c t k) (h0 : ¬t.val % 16 = 0) :
    (outsAt0 m c t.val t.isLt).2.1 = up2 (D.dgv k) := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dwC_A (H : Blocks m D c t k) (h0 : t.val % 16 = 0) :
    (outsAt0 m c t.val t.isLt).2.2.1 = up3 fun h p q => D.dwC k h p q := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, zero_add]
  exact heads (fun h p q => D.dwC k h p q) _ _ _ _ _ _ _ _ _

theorem dwC_B (H : Blocks m D c t k) (h0 : ¬t.val % 16 = 0)
    (a : Fin 8 → Fin 128 → Fin 128 → ℝ) (ha : (outsAt0 m c (t.val - 1) (by have := t.isLt; omega)).2.2.1 = up3 a) :
    (outsAt0 m c t.val t.isLt).2.2.1 = up3 fun h p q => a h p q + D.dwC k h p q := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, ha, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]
  exact heads (fun h p q => a h p q + D.dwC k h p q) _ _ _ _ _ _ _ _ _

theorem dbC_A (H : Blocks m D c t k) (h0 : t.val % 16 = 0) :
    (outsAt0 m c t.val t.isLt).2.2.2.1 = up3 fun h p q => D.dbC k h p := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, zero_add]
  exact heads (fun h p q => D.dbC k h p) _ _ _ _ _ _ _ _ _

theorem dbC_B (H : Blocks m D c t k) (h0 : ¬t.val % 16 = 0)
    (a : Fin 8 → Fin 128 → Fin 128 → ℝ) (ha : (outsAt0 m c (t.val - 1) (by have := t.isLt; omega)).2.2.2.1 = up3 a) :
    (outsAt0 m c t.val t.isLt).2.2.2.1 = up3 fun h p q => a h p q + D.dbC k h p := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, ha, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]
  exact heads (fun h p q => a h p q + D.dbC k h p) _ _ _ _ _ _ _ _ _

theorem dlgC_A (H : Blocks m D c t k) (h0 : t.val % 16 = 0) :
    (outsAt0 m c t.val t.isLt).2.2.2.2.1 = up2 fun z j => D.dlgC k j := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, zero_add]

theorem dlgC_B (H : Blocks m D c t k) (h0 : ¬t.val % 16 = 0)
    (a : Fin 1 → Fin 1024 → ℝ) (ha : (outsAt0 m c (t.val - 1) (by have := t.isLt; omega)).2.2.2.2.1 = up2 a) :
    (outsAt0 m c t.val t.isLt).2.2.2.2.1 = up2 fun z j => a z j + D.dlgC k j := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, ha, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dlbC_A (H : Blocks m D c t k) (h0 : t.val % 16 = 0) :
    (outsAt0 m c t.val t.isLt).2.2.2.2.2.1 = up2 fun z j => D.dlbC k j := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, zero_add]

theorem dlbC_B (H : Blocks m D c t k) (h0 : ¬t.val % 16 = 0)
    (a : Fin 1 → Fin 1024 → ℝ) (ha : (outsAt0 m c (t.val - 1) (by have := t.isLt; omega)).2.2.2.2.2.1 = up2 a) :
    (outsAt0 m c t.val t.isLt).2.2.2.2.2.1 = up2 fun z j => a z j + D.dlbC k j := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, ha, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

theorem dogC_A (H : Blocks m D c t k) (h0 : t.val % 16 = 0) :
    (outsAt0 m c t.val t.isLt).2.2.2.2.2.2 = up2 fun z j => D.dogC k j := by
  rw [outsAt0_A m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, zero_add]

theorem dogC_B (H : Blocks m D c t k) (h0 : ¬t.val % 16 = 0)
    (a : Fin 1 → Fin 1024 → ℝ) (ha : (outsAt0 m c (t.val - 1) (by have := t.isLt; omega)).2.2.2.2.2.2 = up2 a) :
    (outsAt0 m c t.val t.isLt).2.2.2.2.2.2 = up2 fun z j => a z j + D.dogC k j := by
  rw [outsAt0_B m c t h0]
  dsimp only
  frame_open
  simp (disch := decide) only [↓ View.readCov_skip, ↓ View.readCov_cons_toLoadRect, ↓ View.readCov_fill]
  frame_out
  simp only [H.gu, H.gv, H.dm, H.lg, H.lb, H.w, H.wt, H.bs, H.og, ha, scratch, ld4b_0, ld4f_0, ld3_0, ld4b_1, ld4f_1, ld3_1, ld4b_2, ld4f_2, ld3_2, ld4b_3, ld4f_3, ld3_3, ld4b_4, ld4f_4, ld3_4, ld4b_5, ld4f_5, ld3_5, ld4b_6, ld4f_6, ld3_6, ld4b_7, ld4f_7, ld3_7,
    pay1, pay2, pay3, pay4, pay5, pay6, pay7, pay8, pay9, pay10, pay11, pay12, pay13, pay14, pay15, pay17, pay18, pay19, pay20, pay22, pay23, pay25, pay26, pay27, pay28, pay30, pay31, pay33, pay34, pay35, pay36, pay38, pay39, pay41, pay42, pay43, pay44, pay46, pay47, pay48, pay49, pay50, pay51, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97]

end Cert.KernelIdeal.GatePoint

end

end
-- ==== Proof.Arrays.lean ====
/-
  The kernel's seven result arrays after the run, as the gradients of the real inputs.
-/
module

public import proofs.«01_k».proof.Proof.Inputs
public import proofs.«01_k».proof.Proof.Point

@[expose] public section

noncomputable section

open scoped BigOperators
open Idealize.ShloMosaic Idealize.ShloMosaic.TcCoe Idealize.SL.Sem Lift SpatialGate

namespace Cert.KernelIdeal.GateArrays

open Cert.KernelIdeal Cert.KernelIdeal.Gen Cert.KernelIdeal.GatePoint

variable {m : (ℓ : Loc nD τ sig) → Buf (Elt Ideal) ℓ} {D : SpatialGate.Gate} {c : Dev nD}

/-- The arguments as launched hold the real inputs. -/
abbrev Holds (m : (ℓ : Loc nD τ sig) → Buf (Elt Ideal) ℓ) (D : SpatialGate.Gate) (c : Dev nD) : Prop :=
  Inputs D (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem idx : ∀ t : Fin cfg0.N, win0_0.index t = ![t.val, 1] ∧ win0_1.index t = ![t.val, 2] ∧ win0_2.index t = ![t.val, 1]
    ∧ win0_3.index t = ![0, 0, 0] ∧ win0_4.index t = ![0, 0, 0] ∧ win0_5.index t = ![0, 0, 0, 0]
    ∧ win0_6.index t = ![0, 0, 0, 0] ∧ win0_7.index t = ![0, 0, 0, 0] ∧ win0_8.index t = ![0, 0, 0]
    ∧ win0_9.index t = ![t.val, 0] ∧ win0_10.index t = ![t.val, 0] ∧ win0_11.index t = ![0, 0, 0]
    ∧ win0_12.index t = ![0, 0, 0] ∧ win0_13.index t = ![0, 0] ∧ win0_14.index t = ![0, 0] ∧ win0_15.index t = ![0, 0] :=
  (by decide +kernel : ∀ t : Fin grid0.N, _)

/-- The chunk of a grid point. -/
def chunkOf (t : Fin cfg0.N) : Fin 16 := ⟨t.val, t.isLt⟩

theorem blk_gu (H : Holds m D c) (t : Fin cfg0.N) : X0_0 m c t = up2 (D.gu (chunkOf t)) := by
  refine ext2 fun p j => ?_
  rw [up2_apply, ← H.gu]
  unfold X0_0 Pipeline.Window.fill
  rw [dif_pos (moved0_0 t _)]
  blk_ext! [iblk, V, idx t, chunkOf, row, zcol]

theorem blk_gv (H : Holds m D c) (t : Fin cfg0.N) : X0_1 m c t = up2 (D.gv (chunkOf t)) := by
  refine ext2 fun p j => ?_
  rw [up2_apply, ← H.gv]
  unfold X0_1 Pipeline.Window.fill
  rw [dif_pos (moved0_1 t _)]
  blk_ext! [iblk, V, idx t, chunkOf, row, zcol]

theorem blk_dm (H : Holds m D c) (t : Fin cfg0.N) : iblk m c 2 t = up2 (D.dm (chunkOf t)) := by
  refine ext2 fun p j => ?_
  rw [up2_apply, ← H.dm]
  blk_ext [iblk, V, idx t, chunkOf, row, mcol]

theorem blk_lg (H : Holds m D c) (t : Fin cfg0.N) : iblk m c 3 t = up3 fun _ _ j => D.lg j := by
  refine ext3 fun a b j => ?_
  rw [up3_apply, ← H.lg]
  blk_ext! [iblk, V, idx t]

theorem blk_lb (H : Holds m D c) (t : Fin cfg0.N) : iblk m c 4 t = up3 fun _ _ j => D.lb j := by
  refine ext3 fun a b j => ?_
  rw [up3_apply, ← H.lb]
  blk_ext! [iblk, V, idx t]

theorem blk_og (H : Holds m D c) (t : Fin cfg0.N) : iblk m c 8 t = up3 fun _ _ j => D.og j := by
  refine ext3 fun a b j => ?_
  rw [up3_apply, ← H.og]
  blk_ext! [iblk, V, idx t]

theorem blk_w (H : Holds m D c) (t : Fin cfg0.N) : iblk m c 5 t = up4 fun _ h p q => D.w h p q := by
  refine ext4 fun a b p q => ?_
  rw [up4_apply, ← H.w]
  blk_ext! [iblk, V, idx t]

theorem blk_wt (H : Holds m D c) (t : Fin cfg0.N) : iblk m c 6 t = up4 fun _ h q p => D.w h p q := by
  refine ext4 fun a b p q => ?_
  rw [up4_apply, ← H.w]
  blk_ext! [iblk, V, idx t]

theorem blk_bs (H : Holds m D c) (t : Fin cfg0.N) : iblk m c 7 t = up4 fun _ h p _ => D.bs h p := by
  refine ext4 fun a b p q => ?_
  rw [up4_apply, ← H.bs]
  blk_ext! [iblk, V, idx t]

theorem blocks (H : Holds m D c) (t : Fin cfg0.N) : Blocks m D c t (chunkOf t) :=
  ⟨blk_gu H t, blk_gv H t, blk_dm H t, blk_lg H t, blk_lb H t, blk_w H t, blk_wt H t, blk_bs H t, blk_og H t⟩

/-! ## The two gradients written chunk by chunk -/

theorem at_dgu (H : Holds m D c) (t : Fin cfg0.N) : (outsAt0 m c t.val t.isLt).1 = up2 (D.dgu (chunkOf t)) := by
  by_cases h0 : t.val % 16 = 0
  · exact dgu_A (blocks H t) h0
  · exact dgu_B (blocks H t) h0

theorem arr_dgu (H : Holds m D c) :
    (dats m 0 c).arrAt 9 cfg0.N = up2 fun s j => D.dgu (chunk s) (place s) j := by
  refine (dats m 0 c).arrAt_eq_of_covers 9 _ (by decide +kernel) fun t hf y => ?_
  blk_simp
  rw [after0_9, at_dgu H t]
  have h0 : (y 0).val < 128 := (y 0).isLt
  have hc : chunk (((cfg0.win 9).blk t).view.emb y 0) = chunkOf t :=
    Fin.ext (by
      show (((cfg0.win 9).blk t).view.emb y 0).val / 128 = t.val
      blk_simp [idx t]
      omega)
  have hp : place (((cfg0.win 9).blk t).view.emb y 0) = y 0 :=
    Fin.ext (by
      show (((cfg0.win 9).blk t).view.emb y 0).val % 128 = (y 0).val
      blk_simp [idx t]
      omega)
  have hj : ((cfg0.win 9).blk t).view.emb y 1 = y 1 := Fin.ext (by blk_simp [idx t])
  show _ = ((D.dgu _ _ _ : ℝ) : EReal)
  rw [hc, hp, hj]
  rfl

theorem at_dgv (H : Holds m D c) (t : Fin cfg0.N) : (outsAt0 m c t.val t.isLt).2.1 = up2 (D.dgv (chunkOf t)) := by
  by_cases h0 : t.val % 16 = 0
  · exact dgv_A (blocks H t) h0
  · exact dgv_B (blocks H t) h0

theorem arr_dgv (H : Holds m D c) :
    (dats m 0 c).arrAt 10 cfg0.N = up2 fun s j => D.dgv (chunk s) (place s) j := by
  refine (dats m 0 c).arrAt_eq_of_covers 10 _ (by decide +kernel) fun t hf y => ?_
  blk_simp
  rw [after0_10, at_dgv H t]
  have h0 : (y 0).val < 128 := (y 0).isLt
  have hc : chunk (((cfg0.win 10).blk t).view.emb y 0) = chunkOf t :=
    Fin.ext (by
      show (((cfg0.win 10).blk t).view.emb y 0).val / 128 = t.val
      blk_simp [idx t]
      omega)
  have hp : place (((cfg0.win 10).blk t).view.emb y 0) = y 0 :=
    Fin.ext (by
      show (((cfg0.win 10).blk t).view.emb y 0).val % 128 = (y 0).val
      blk_simp [idx t]
      omega)
  have hj : ((cfg0.win 10).blk t).view.emb y 1 = y 1 := Fin.ext (by blk_simp [idx t])
  show _ = ((D.dgv _ _ _ : ℝ) : EReal)
  rw [hc, hp, hj]
  rfl

/-! ## The five sums over the chunks -/

theorem chunkOf_eq (n : Nat) (hn : n < cfg0.N) : chunkOf ⟨n, hn⟩ = Fin.ofNat 16 n :=
  Fin.ext (Nat.mod_eq_of_lt hn).symm

theorem sum_dw (H : Holds m D c) : ∀ (n : Nat) (hn : n < cfg0.N), (outsAt0 m c n hn).2.2.1
    = up3 fun h p q => ∑ i ∈ Finset.range (n + 1), D.dwC (Fin.ofNat 16 i) h p q
  | 0, hn => by
    refine (dwC_A (blocks H ⟨0, hn⟩) rfl).trans ?_
    simp only [zero_add, Finset.range_one, Finset.sum_singleton, chunkOf_eq]
  | n + 1, hn => by
    have h0 : ¬(n + 1) % 16 = 0 := by
      have hN : n + 1 < 16 := hn
      omega
    refine (dwC_B (t := ⟨n + 1, hn⟩) (blocks H ⟨n + 1, hn⟩) h0 _ (sum_dw H n (by omega))).trans ?_
    simp only [Finset.sum_range_succ _ (n + 1), chunkOf_eq]

theorem last_dw (H : Holds m D c) (hn : 15 < cfg0.N) :
    (outsAt0 m c 15 hn).2.2.1 = up3 fun h p q => D.dw h p q := by
  rw [sum_dw H 15 hn]
  refine congrArg up3 ?_
  funext h p q
  rw [Finset.sum_range]
  exact Finset.sum_congr rfl fun i _ => by rw [Fin.ofNat_val_eq_self]

theorem arr_dw (H : Holds m D c) : (dats m 0 c).arrAt 11 cfg0.N = up3 fun h p q => D.dw h p q := by
  refine (dats m 0 c).arrAt_eq_of_after_last 11 t0_15 (by decide +kernel) _ fun j => ?_
  blk_simp
  rw [after0_11]
  exact congrFun (last_dw H t0_15.isLt) j

theorem sum_db (H : Holds m D c) : ∀ (n : Nat) (hn : n < cfg0.N), (outsAt0 m c n hn).2.2.2.1
    = up3 fun h p q => ∑ i ∈ Finset.range (n + 1), D.dbC (Fin.ofNat 16 i) h p
  | 0, hn => by
    refine (dbC_A (blocks H ⟨0, hn⟩) rfl).trans ?_
    simp only [zero_add, Finset.range_one, Finset.sum_singleton, chunkOf_eq]
  | n + 1, hn => by
    have h0 : ¬(n + 1) % 16 = 0 := by
      have hN : n + 1 < 16 := hn
      omega
    refine (dbC_B (t := ⟨n + 1, hn⟩) (blocks H ⟨n + 1, hn⟩) h0 _ (sum_db H n (by omega))).trans ?_
    simp only [Finset.sum_range_succ _ (n + 1), chunkOf_eq]

theorem last_db (H : Holds m D c) (hn : 15 < cfg0.N) :
    (outsAt0 m c 15 hn).2.2.2.1 = up3 fun h p q => D.db h p := by
  rw [sum_db H 15 hn]
  refine congrArg up3 ?_
  funext h p q
  rw [Finset.sum_range]
  exact Finset.sum_congr rfl fun i _ => by rw [Fin.ofNat_val_eq_self]

theorem arr_db (H : Holds m D c) : (dats m 0 c).arrAt 12 cfg0.N = up3 fun h p q => D.db h p := by
  refine (dats m 0 c).arrAt_eq_of_after_last 12 t0_15 (by decide +kernel) _ fun j => ?_
  blk_simp
  rw [after0_12]
  exact congrFun (last_db H t0_15.isLt) j

theorem sum_dlg (H : Holds m D c) : ∀ (n : Nat) (hn : n < cfg0.N), (outsAt0 m c n hn).2.2.2.2.1
    = up2 fun z j => ∑ i ∈ Finset.range (n + 1), D.dlgC (Fin.ofNat 16 i) j
  | 0, hn => by
    refine (dlgC_A (blocks H ⟨0, hn⟩) rfl).trans ?_
    simp only [zero_add, Finset.range_one, Finset.sum_singleton, chunkOf_eq]
  | n + 1, hn => by
    have h0 : ¬(n + 1) % 16 = 0 := by
      have hN : n + 1 < 16 := hn
      omega
    refine (dlgC_B (t := ⟨n + 1, hn⟩) (blocks H ⟨n + 1, hn⟩) h0 _ (sum_dlg H n (by omega))).trans ?_
    simp only [Finset.sum_range_succ _ (n + 1), chunkOf_eq]

theorem last_dlg (H : Holds m D c) (hn : 15 < cfg0.N) :
    (outsAt0 m c 15 hn).2.2.2.2.1 = up2 fun z j => D.dlg j := by
  rw [sum_dlg H 15 hn]
  refine congrArg up2 ?_
  funext z j
  rw [Finset.sum_range]
  exact Finset.sum_congr rfl fun i _ => by rw [Fin.ofNat_val_eq_self]

theorem arr_dlg (H : Holds m D c) : (dats m 0 c).arrAt 13 cfg0.N = up2 fun z j => D.dlg j := by
  refine (dats m 0 c).arrAt_eq_of_after_last 13 t0_15 (by decide +kernel) _ fun j => ?_
  blk_simp
  rw [after0_13]
  exact congrFun (last_dlg H t0_15.isLt) j

theorem sum_dlb (H : Holds m D c) : ∀ (n : Nat) (hn : n < cfg0.N), (outsAt0 m c n hn).2.2.2.2.2.1
    = up2 fun z j => ∑ i ∈ Finset.range (n + 1), D.dlbC (Fin.ofNat 16 i) j
  | 0, hn => by
    refine (dlbC_A (blocks H ⟨0, hn⟩) rfl).trans ?_
    simp only [zero_add, Finset.range_one, Finset.sum_singleton, chunkOf_eq]
  | n + 1, hn => by
    have h0 : ¬(n + 1) % 16 = 0 := by
      have hN : n + 1 < 16 := hn
      omega
    refine (dlbC_B (t := ⟨n + 1, hn⟩) (blocks H ⟨n + 1, hn⟩) h0 _ (sum_dlb H n (by omega))).trans ?_
    simp only [Finset.sum_range_succ _ (n + 1), chunkOf_eq]

theorem last_dlb (H : Holds m D c) (hn : 15 < cfg0.N) :
    (outsAt0 m c 15 hn).2.2.2.2.2.1 = up2 fun z j => D.dlb j := by
  rw [sum_dlb H 15 hn]
  refine congrArg up2 ?_
  funext z j
  rw [Finset.sum_range]
  exact Finset.sum_congr rfl fun i _ => by rw [Fin.ofNat_val_eq_self]

theorem arr_dlb (H : Holds m D c) : (dats m 0 c).arrAt 14 cfg0.N = up2 fun z j => D.dlb j := by
  refine (dats m 0 c).arrAt_eq_of_after_last 14 t0_15 (by decide +kernel) _ fun j => ?_
  blk_simp
  rw [after0_14]
  exact congrFun (last_dlb H t0_15.isLt) j

theorem sum_dog (H : Holds m D c) : ∀ (n : Nat) (hn : n < cfg0.N), (outsAt0 m c n hn).2.2.2.2.2.2
    = up2 fun z j => ∑ i ∈ Finset.range (n + 1), D.dogC (Fin.ofNat 16 i) j
  | 0, hn => by
    refine (dogC_A (blocks H ⟨0, hn⟩) rfl).trans ?_
    simp only [zero_add, Finset.range_one, Finset.sum_singleton, chunkOf_eq]
  | n + 1, hn => by
    have h0 : ¬(n + 1) % 16 = 0 := by
      have hN : n + 1 < 16 := hn
      omega
    refine (dogC_B (t := ⟨n + 1, hn⟩) (blocks H ⟨n + 1, hn⟩) h0 _ (sum_dog H n (by omega))).trans ?_
    simp only [Finset.sum_range_succ _ (n + 1), chunkOf_eq]

theorem last_dog (H : Holds m D c) (hn : 15 < cfg0.N) :
    (outsAt0 m c 15 hn).2.2.2.2.2.2 = up2 fun z j => D.dog j := by
  rw [sum_dog H 15 hn]
  refine congrArg up2 ?_
  funext z j
  rw [Finset.sum_range]
  exact Finset.sum_congr rfl fun i _ => by rw [Fin.ofNat_val_eq_self]

theorem arr_dog (H : Holds m D c) : (dats m 0 c).arrAt 15 cfg0.N = up2 fun z j => D.dog j := by
  refine (dats m 0 c).arrAt_eq_of_after_last 15 t0_15 (by decide +kernel) _ fun j => ?_
  blk_simp
  rw [after0_15]
  exact congrFun (last_dog H t0_15.isLt) j

end Cert.KernelIdeal.GateArrays

end

end
-- ==== Proof.Sums.lean ====
/-
  Sums over several axes at once: a host's reduction as the sum over the entries that fall on a result index, a sum over
  the sequence as the sum over the chunks and their rows, and a quantity read at a row and a column given by their parts.
-/
module

public import proofs.«01_k».proof.Proof.Lift
public import Idealize.ShloMosaic.Lib.Pointwise

@[expose] public section

noncomputable section

open scoped BigOperators
open Idealize.ShloMosaic SpatialGate

namespace Lift

/-- The host's sum at a result index, over any listing of the entries that fall on it. -/
theorem reduce_eq {s t : Shape} {axes : List (Fin s.rank)} (h : s.ReducesTo axes t) (x : s.Idx → EReal) (init : EReal)
    (j : t.Idx) {ι : Type} [Fintype ι] (e : ι → s.Idx) (hinj : Function.Injective e) (hj : ∀ k, h.drop (e k) = j)
    (hs : ∀ i, h.drop i = j → ∃ k, e k = i) : Ideal.hostReduceAdd h x init j = init + ∑ k, x (e k) := by
  unfold Ideal.hostReduceAdd
  congr 1
  refine (Finset.sum_nbij e (fun k _ => ?_) (fun a _ b _ hab => hinj hab) (fun i hi => ?_) (fun _ _ => rfl)).symm
  · exact Finset.mem_filter.mpr ⟨Finset.mem_univ _, hj k⟩
  · obtain ⟨k, hk⟩ := hs i (Finset.mem_filter.mp hi).2
    exact ⟨k, Finset.mem_coe.mpr (Finset.mem_univ _), hk⟩

/-- The host's sum at a result index that one entry alone falls on. -/
theorem reduce_one {s t : Shape} {axes : List (Fin s.rank)} (h : s.ReducesTo axes t) (x : s.Idx → EReal) (init : EReal)
    (j : t.Idx) (i0 : s.Idx) (hj : h.drop i0 = j) (hs : ∀ i, h.drop i = j → i0 = i) :
    Ideal.hostReduceAdd h x init j = init + x i0 := by
  rw [reduce_eq h x init j (fun _ : Unit => i0) (fun _ _ _ => rfl) (fun _ => hj) (fun i hi => ⟨(), hs i hi⟩)]
  simp

/-- The first and the last axis of a column of one batch. -/
theorem reduce_col (h : (⟨3, ![1, 2048, 1]⟩ : Shape).ReducesTo [0, 2] ⟨1, ![2048]⟩)
    (x : (⟨3, ![1, 2048, 1]⟩ : Shape).Idx → EReal) (init : EReal) (s : Fin 2048) :
    Ideal.hostReduceAdd h x init (ix1 s) = init + x (ix3 0 s 0) := by
  refine reduce_one h x init _ _ ?_ fun i hi => ?_
  · funext b
    match b with
    | ⟨0, _⟩ => exact Fin.ext (h.drop_apply_val_of_eq _ 0 1)
  · have h1 : (i 1).val = s.val := (h.drop_apply_val_of_eq i 0 1).symm.trans (congrArg Fin.val (congrFun hi 0))
    have h0 : (i 0).val < 1 := (i 0).isLt
    have h2 : (i 2).val < 1 := (i 2).isLt
    funext b
    match b with
    | ⟨0, _⟩ => exact Fin.ext (show 0 = (i 0).val by omega)
    | ⟨1, _⟩ => exact Fin.ext (show s.val = (i 1).val by omega)
    | ⟨2, _⟩ => exact Fin.ext (show 0 = (i 2).val by omega)

/-- The first two axes of one row. -/
theorem reduce_row (h : (⟨3, ![1, 1, 1024]⟩ : Shape).ReducesTo [0, 1] ⟨1, ![1024]⟩)
    (x : (⟨3, ![1, 1, 1024]⟩ : Shape).Idx → EReal) (init : EReal) (s : Fin 1024) :
    Ideal.hostReduceAdd h x init (ix1 s) = init + x (ix3 0 0 s) := by
  refine reduce_one h x init _ _ ?_ fun i hi => ?_
  · funext b
    match b with
    | ⟨0, _⟩ => exact Fin.ext (h.drop_apply_val_of_eq _ 0 2)
  · have h1 : (i 2).val = s.val := (h.drop_apply_val_of_eq i 0 2).symm.trans (congrArg Fin.val (congrFun hi 0))
    have h0 : (i 0).val < 1 := (i 0).isLt
    have h2 : (i 1).val < 1 := (i 1).isLt
    funext b
    match b with
    | ⟨0, _⟩ => exact Fin.ext (show 0 = (i 0).val by omega)
    | ⟨1, _⟩ => exact Fin.ext (show 0 = (i 1).val by omega)
    | ⟨2, _⟩ => exact Fin.ext (show s.val = (i 2).val by omega)

/-- The second and the last axis of five. -/
theorem reduce_15 (h : (⟨5, ![1, 16, 128, 8, 128]⟩ : Shape).ReducesTo [1, 4] ⟨3, ![1, 128, 8]⟩)
    (x : (⟨5, ![1, 16, 128, 8, 128]⟩ : Shape).Idx → EReal) (init : EReal) (z : Fin 1) (a : Fin 128) (b : Fin 8) :
    Ideal.hostReduceAdd h x init (ix3 z a b) = init + ∑ c : Fin 16, ∑ d : Fin 128, x (ix5 z c a b d) := by
  rw [reduce_eq h x init (ix3 z a b) (fun k : Fin 16 × Fin 128 => ix5 z k.1 a b k.2) ?_ ?_ ?_, Fintype.sum_prod_type]
  · intro k l hkl
    exact Prod.ext (congrFun hkl 1) (congrFun hkl 4)
  · intro k
    funext y
    match y with
    | ⟨0, _⟩ => exact Fin.ext (h.drop_apply_val_of_eq _ 0 0)
    | ⟨1, _⟩ => exact Fin.ext (h.drop_apply_val_of_eq _ 1 2)
    | ⟨2, _⟩ => exact Fin.ext (h.drop_apply_val_of_eq _ 2 3)
  · intro i hi
    have h0 : (i 0).val = z.val := (h.drop_apply_val_of_eq i 0 0).symm.trans (congrArg Fin.val (congrFun hi 0))
    have h1 : (i 2).val = a.val := (h.drop_apply_val_of_eq i 1 2).symm.trans (congrArg Fin.val (congrFun hi 1))
    have h2 : (i 3).val = b.val := (h.drop_apply_val_of_eq i 2 3).symm.trans (congrArg Fin.val (congrFun hi 2))
    refine ⟨(i 1, i 4), ?_⟩
    funext y
    match y with
    | ⟨0, _⟩ => exact Fin.ext h0.symm
    | ⟨1, _⟩ => rfl
    | ⟨2, _⟩ => exact Fin.ext h1.symm
    | ⟨3, _⟩ => exact Fin.ext h2.symm
    | ⟨4, _⟩ => rfl

/-- The three single axes of five. -/
theorem reduce_115 (h : (⟨5, ![1, 1, 128, 8, 1]⟩ : Shape).ReducesTo [0, 1, 4] ⟨2, ![128, 8]⟩)
    (x : (⟨5, ![1, 1, 128, 8, 1]⟩ : Shape).Idx → EReal) (init : EReal) (a : Fin 128) (b : Fin 8) :
    Ideal.hostReduceAdd h x init (ix2 a b) = init + x (ix5 0 0 a b 0) := by
  refine reduce_one h x init _ _ ?_ fun i hi => ?_
  · funext y
    match y with
    | ⟨0, _⟩ => exact Fin.ext (h.drop_apply_val_of_eq _ 0 2)
    | ⟨1, _⟩ => exact Fin.ext (h.drop_apply_val_of_eq _ 1 3)
  · have h1 : (i 2).val = a.val := (h.drop_apply_val_of_eq i 0 2).symm.trans (congrArg Fin.val (congrFun hi 0))
    have h2 : (i 3).val = b.val := (h.drop_apply_val_of_eq i 1 3).symm.trans (congrArg Fin.val (congrFun hi 1))
    have h3 : (i 0).val < 1 := (i 0).isLt
    have h4 : (i 1).val < 1 := (i 1).isLt
    have h5 : (i 4).val < 1 := (i 4).isLt
    funext y
    match y with
    | ⟨0, _⟩ => exact Fin.ext (show 0 = (i 0).val by omega)
    | ⟨1, _⟩ => exact Fin.ext (show 0 = (i 1).val by omega)
    | ⟨2, _⟩ => exact Fin.ext (show a.val = (i 2).val by omega)
    | ⟨3, _⟩ => exact Fin.ext (show b.val = (i 3).val by omega)
    | ⟨4, _⟩ => exact Fin.ext (show 0 = (i 4).val by omega)

/-- A sum over the sequence, by chunks. -/
theorem sum_rows (g : Fin 16 → Fin 128 → ℝ) : ∑ s : Fin 2048, g (chunk s) (place s) = ∑ c, ∑ p, g c p := by
  rw [Fin.sum_univ_tiles 16 128 rfl]
  refine Finset.sum_congr rfl fun c _ => Finset.sum_congr rfl fun p _ => ?_
  show g (chunk (row c p)) (place (row c p)) = g c p
  rw [chunk_row, place_row]

/-- A quantity at the row and the column given by their parts. -/
theorem at_split (g : Fin 16 → Fin 128 → Fin 1024 → ℝ) (c : Fin 16) (p : Fin 128) (h : Fin 8) (d : Fin 128)
    (s : Fin 2048) (j : Fin 1024) (hs : s.val = c.val * 128 + p.val) (hj : j.val = h.val * 128 + d.val) :
    g (chunk s) (place s) j = g c p (col h d) := by
  obtain rfl : s = row c p := Fin.ext hs
  obtain rfl : j = col h d := Fin.ext hj
  rw [chunk_row, place_row]

end Lift

end

end
-- ==== Proof.Ref.lean ====
/-
  The reference's values at the exact arithmetic, on real inputs: stage by stage, each array that the program computes is
  an array of real numbers, namely the quantity of `SpatialGate.Gate` at the row's chunk and place.
-/
module

public import proofs.«01_k».proof.Proof.Inputs
public import proofs.«01_k».proof.Proof.Sums
public import proofs.«01_k».proof.Proof.Gen.ReferenceIdeal.Read
public import Idealize.ShloMosaic.Lib.ValueIdx

@[expose] public section

set_option maxRecDepth 16384

noncomputable section

open scoped BigOperators
open Idealize.ShloMosaic Idealize.ShloMosaic.TcCoe Lift SpatialGate

namespace Cert.ReferenceIdeal.GateRef

open Cert.ReferenceIdeal Cert.ReferenceIdeal.Gen Cert.ReferenceIdeal.Read

/-- A quantity of every chunk's rows and columns, as the batch of one that the reference computes. -/
def R3 (g : Fin 16 → Fin 128 → Fin 1024 → ℝ) : (⟨3, ![1, 2048, 1024]⟩ : Shape).Idx → EReal :=
  up3 fun _ s j => g (chunk s) (place s) j
/-- A quantity of every chunk's rows, kept as a column. -/
def K3 (g : Fin 16 → Fin 128 → ℝ) : (⟨3, ![1, 2048, 1]⟩ : Shape).Idx → EReal :=
  up3 fun _ s _ => g (chunk s) (place s)
theorem R3_apply (g : Fin 16 → Fin 128 → Fin 1024 → ℝ) (a : Fin 1) (s : Fin 2048) (j : Fin 1024) :
    R3 g (ix3 a s j) = ((g (chunk s) (place s) j : ℝ) : EReal) := rfl
theorem K3_apply (g : Fin 16 → Fin 128 → ℝ) (a : Fin 1) (s : Fin 2048) (b : Fin 1) :
    K3 g (ix3 a s b) = ((g (chunk s) (place s) : ℝ) : EReal) := rfl

theorem bits_44715 : Ideal.ofBits .f32 0x472EAB00#32 = ((44715 : ℝ) : EReal) := by
  simp [Ideal.ofBits, Ideal.ieee, -EReal.coe_mul]; norm_num
theorem bits_1e6 : Ideal.ofBits .f32 0x49742400#32 = ((1000000 : ℝ) : EReal) := by
  simp [Ideal.ofBits, Ideal.ieee, -EReal.coe_mul]; norm_num
theorem div_coe6 : Ideal.div ((44715 : ℝ) : EReal) ((1000000 : ℝ) : EReal) = ((8943 / 200000 : ℝ) : EReal) :=
  (div_pos_coe 44715 1000000 (by norm_num)).trans (by norm_num)

variable {D : Gate} {x0 : (⟨S2048x3584, .f32⟩ : BufTy).Contents (Elt Ideal)}
  {x1 : (⟨S2048x2048, .f32⟩ : BufTy).Contents (Elt Ideal)} {x2 x3 : (⟨S2x1024, .f32⟩ : BufTy).Contents (Elt Ideal)}
  {x4 : (⟨S2x8x128x128, .f32⟩ : BufTy).Contents (Elt Ideal)} {x5 : (⟨S2x8x128, .f32⟩ : BufTy).Contents (Elt Ideal)}
  {x6 : (⟨S2x1024, .f32⟩ : BufTy).Contents (Elt Ideal)}

/-- The inputs read row by row of the whole sequence. -/
theorem in_gu (H : Inputs D x0 x1 x2 x3 x4 x5 x6) (s : Fin 2048) (j : Fin 1024) :
    x0 (ix2 s (zcol 1024 (by omega) j)) = ((D.gu (chunk s) (place s) j : ℝ) : EReal) := by
  rw [← H.gu, row_chunk_place]
theorem in_gv (H : Inputs D x0 x1 x2 x3 x4 x5 x6) (s : Fin 2048) (j : Fin 1024) :
    x0 (ix2 s (zcol 2048 (by omega) j)) = ((D.gv (chunk s) (place s) j : ℝ) : EReal) := by
  rw [← H.gv, row_chunk_place]
theorem in_dm (H : Inputs D x0 x1 x2 x3 x4 x5 x6) (s : Fin 2048) (j : Fin 1024) :
    x1 (ix2 s (mcol j)) = ((D.dm (chunk s) (place s) j : ℝ) : EReal) := by
  rw [← H.dm, row_chunk_place]

theorem r12 (H : Inputs D x0 x1 x2 x3 x4 x5 x6) : val_main_v12 (F := Ideal) x0 = R3 D.gu := by
  refine ext3 fun a s j => ?_
  pointwise [val_main_v12, val_main_v0]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact in_gu H s j

theorem r35 (H : Inputs D x0 x1 x2 x3 x4 x5 x6) : val_main_v35 (F := Ideal) x0 = R3 D.gv := by
  refine ext3 fun a s j => ?_
  pointwise [val_main_v35, val_main_v1]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact in_gv H s j

theorem r110 (H : Inputs D x0 x1 x2 x3 x4 x5 x6) : val_main_v110 (F := Ideal) x1 = R3 D.dm := by
  refine ext3 fun a s j => ?_
  pointwise [val_main_v110, val_main_v109]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact in_dm H s j

theorem r24 (H : Inputs D x0 x1 x2 x3 x4 x5 x6) : val_main_v24 (F := Ideal) x0 = R3 fun c p j => th (D.gu c p j) := by
  refine ext3 fun a s j => ?_
  pointwise [val_main_v24, val_main_v23, val_main_v22, val_main_cst_2, val_main_v21, val_main_v20, val_main_v19, val_main_v13, val_main_cst, val_main_cst_0, val_main_v15, val_main_v14]
  simp only [r12 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r47 (H : Inputs D x0 x1 x2 x3 x4 x5 x6) : val_main_v47 (F := Ideal) x0 = R3 fun c p j => th (D.gv c p j) := by
  refine ext3 fun a s j => ?_
  pointwise [val_main_v47, val_main_v46, val_main_v45, val_main_cst_10, val_main_v44, val_main_v43, val_main_v42, val_main_v36, val_main_cst_7, val_main_cst_8, val_main_v38, val_main_v37]
  simp only [r35 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r18 (H : Inputs D x0 x1 x2 x3 x4 x5 x6) : val_main_v18 (F := Ideal) x0 = R3 fun c p j => 3 * (D.gu c p j * D.gu c p j) := by
  refine ext3 fun a s j => ?_
  pointwise [val_main_v18, val_main_v17, val_main_cst_1, val_main_v16]
  simp only [r12 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r41 (H : Inputs D x0 x1 x2 x3 x4 x5 x6) : val_main_v41 (F := Ideal) x0 = R3 fun c p j => 3 * (D.gv c p j * D.gv c p j) := by
  refine ext3 fun a s j => ?_
  pointwise [val_main_v41, val_main_v40, val_main_cst_9, val_main_v39]
  simp only [r35 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r29 (H : Inputs D x0 x1 x2 x3 x4 x5 x6) : val_main_v29 (F := Ideal) x0 = R3 fun c p j => (1 + th (D.gu c p j)) * (1 - th (D.gu c p j)) := by
  refine ext3 fun a s j => ?_
  pointwise [val_main_v29, val_main_v26, val_main_v25, val_main_cst_3, val_main_v28, val_main_v27, val_main_cst_4]
  simp only [r24 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r52 (H : Inputs D x0 x1 x2 x3 x4 x5 x6) : val_main_v52 (F := Ideal) x0 = R3 fun c p j => (1 + th (D.gv c p j)) * (1 - th (D.gv c p j)) := by
  refine ext3 fun a s j => ?_
  pointwise [val_main_v52, val_main_v49, val_main_v48, val_main_cst_11, val_main_v51, val_main_v50, val_main_cst_12]
  simp only [r47 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r33 (H : Inputs D x0 x1 x2 x3 x4 x5 x6) : val_main_v33 (F := Ideal) x0 = R3 fun c p j => 1 / 2 * (1 + th (D.gu c p j)) := by
  refine ext3 fun a s j => ?_
  pointwise [val_main_v33, val_main_v32, val_main_cst_6, val_main_v31, val_main_v30, val_main_cst_5]
  simp only [r24 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r56 (H : Inputs D x0 x1 x2 x3 x4 x5 x6) : val_main_v56 (F := Ideal) x0 = R3 fun c p j => 1 / 2 * (1 + th (D.gv c p j)) := by
  refine ext3 fun a s j => ?_
  pointwise [val_main_v56, val_main_v55, val_main_cst_14, val_main_v54, val_main_v53, val_main_cst_13]
  simp only [r47 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r34 (H : Inputs D x0 x1 x2 x3 x4 x5 x6) : val_main_v34 (F := Ideal) x0 = R3 D.u := by
  refine ext3 fun a s j => ?_
  pointwise [val_main_v34]
  simp only [r12 H, r33 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r57 (H : Inputs D x0 x1 x2 x3 x4 x5 x6) : val_main_v57 (F := Ideal) x0 = R3 D.v := by
  refine ext3 fun a s j => ?_
  pointwise [val_main_v57]
  simp only [r35 H, r56 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r61 (H : Inputs D x0 x1 x2 x3 x4 x5 x6) : val_main_v61 (F := Ideal) x0 = K3 D.mu := by
  refine ext3 fun a s j => ?_
  pointwise [val_main_v61, val_main_v59, val_main_v58, val_main_cst_15, val_main_v60, val_main_cst_16]
  simp only [r57 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r63 (H : Inputs D x0 x1 x2 x3 x4 x5 x6) : val_main_v63 (F := Ideal) x0 = R3 D.xc := by
  refine ext3 fun a s j => ?_
  pointwise [val_main_v63, val_main_v62]
  simp only [r57 H, r61 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r70 (H : Inputs D x0 x1 x2 x3 x4 x5 x6) : val_main_v70 (F := Ideal) x0 = K3 D.var := by
  refine ext3 fun a s j => ?_
  pointwise [val_main_v70, val_main_v68, val_main_v66, val_main_v65, val_main_v64, val_main_cst_17, val_main_v67, val_main_cst_18, val_main_v69, val_main_cst_19]
  simp only [r63 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r3 (H : Inputs D x0 x1 x2 x3 x4 x5 x6) : val_main_v3 (F := Ideal) x2 = up1 D.lg := by
  refine ext1 fun a => ?_
  pointwise [val_main_v3, val_main_v2]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact H.lg _

theorem r5 (H : Inputs D x0 x1 x2 x3 x4 x5 x6) : val_main_v5 (F := Ideal) x3 = up1 D.lb := by
  refine ext1 fun a => ?_
  pointwise [val_main_v5, val_main_v4]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact H.lb _

theorem r11 (H : Inputs D x0 x1 x2 x3 x4 x5 x6) : val_main_v11 (F := Ideal) x6 = up1 D.og := by
  refine ext1 fun a => ?_
  pointwise [val_main_v11, val_main_v10]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact H.og _

theorem r7 (H : Inputs D x0 x1 x2 x3 x4 x5 x6) : val_main_v7 (F := Ideal) x4 = up3 D.w := by
  refine ext3 fun a s j => ?_
  pointwise [val_main_v7, val_main_v6]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact H.w _ _ _

theorem r9 (H : Inputs D x0 x1 x2 x3 x4 x5 x6) : val_main_v9 (F := Ideal) x5 = up2 D.bs := by
  refine ext2 fun a b => ?_
  pointwise [val_main_v9, val_main_v8]
  simp only [R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact H.bs _ _

theorem r71 (H : Inputs D x0 x1 x2 x3 x4 x5 x6) : val_main_v71 (F := Ideal) x0 = K3 D.rs := by
  refine ext3 fun a s j => ?_
  pointwise [val_main_v71]
  simp only [r70 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact rsqrt_pos (D.var_pos _ _)

theorem r74 (H : Inputs D x0 x1 x2 x3 x4 x5 x6) : val_main_v74 (F := Ideal) x0 = K3 fun c p => -(1 / 2) * (D.rs c p / D.var c p) := by
  refine ext3 fun a s j => ?_
  pointwise [val_main_v74, val_main_v73, val_main_cst_20, val_main_v72]
  simp only [r71 H, r70 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rw [div_pos_coe _ _ (D.var_pos _ _).ne', ← EReal.coe_mul]

theorem r76 (H : Inputs D x0 x1 x2 x3 x4 x5 x6) : val_main_v76 (F := Ideal) x0 = R3 D.xh := by
  refine ext3 fun a s j => ?_
  pointwise [val_main_v76, val_main_v75]
  simp only [r63 H, r71 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r82 (H : Inputs D x0 x1 x2 x3 x4 x5 x6) : val_main_v82 (F := Ideal) x0 x2 x3 = R3 D.vn := by
  refine ext3 fun a s j => ?_
  pointwise [val_main_v82, val_main_v79, val_main_v78, val_main_v77, val_main_v81, val_main_v80]
  simp only [r76 H, r3 H, r5 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem read83 (g : Fin 16 → Fin 128 → Fin 1024 → ℝ) (a : Fin 1) (c : Fin 16) (q : Fin 128) (h : Fin 8) (d : Fin 128) :
    R3 g (idx_main_v83 (ix5 a c q h d)) = ((g c q (col h d) : ℝ) : EReal) := by
  have := a.isLt; have := c.isLt; have := q.isLt; have := h.isLt; have := d.isLt
  exact congrArg _ (at_split g c q h d _ _
    (by show ((((a.val * 16 + c.val) * 128 + q.val) * 8 + h.val) * 128 + d.val) / 1024 % 2048 = _; omega)
    (by show ((((a.val * 16 + c.val) * 128 + q.val) * 8 + h.val) * 128 + d.val) % 1024 = _; omega))

theorem r83 (H : Inputs D x0 x1 x2 x3 x4 x5 x6) : val_main_v83 (F := Ideal) x0 x2 x3 = up5 fun _ c q h d => D.vn c q (col h d) := by
  refine ext5 fun a c q h d => ?_
  rw [val_main_v83_apply, r82 H, up5_apply, read83]

theorem r84 (H : Inputs D x0 x1 x2 x3 x4 x5 x6) : val_main_v84 (F := Ideal) x0 x2 x3 x4 = up5 fun h _ c d p => ∑ q, D.w h p q * D.vn c q (col h d) := by
  refine ext5 fun h a c d p => ?_
  rw [val_main_v84_apply, r83 H, r7 H]
  show ∑ k : Fin 128, ((D.vn c k (col h d) : ℝ) : EReal) * ((D.w h p k : ℝ) : EReal) = _
  simp only [← EReal.coe_mul, coe_sum, up5_apply]
  exact congrArg _ (Finset.sum_congr rfl fun k _ => mul_comm _ _)

theorem r89 (H : Inputs D x0 x1 x2 x3 x4 x5 x6) : val_main_v89 (F := Ideal) x0 x2 x3 x4 x5 = up5 fun _ c p h d => D.f c p (col h d) := by
  refine ext5 fun a c p h d => ?_
  pointwise [val_main_v89, val_main_v85, val_main_v88, val_main_v87, val_main_v86]
  simp only [r84 H, r9 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  simp only [Gate.f, head_col]

theorem r90 (H : Inputs D x0 x1 x2 x3 x4 x5 x6) : val_main_v90 (F := Ideal) x0 x2 x3 x4 x5 = R3 D.f := by
  refine ext3 fun a s j => ?_
  rw [val_main_v90_apply, r89 H, R3_apply]
  have := a.isLt; have := s.isLt; have := j.isLt
  exact congrArg _ (at_split D.f _ _ _ _ s j
    (by show _ = ((a.val * 2048 + s.val) * 1024 + j.val) / 131072 % 16 * 128
          + ((a.val * 2048 + s.val) * 1024 + j.val) / 1024 % 128; omega)
    (by show _ = ((a.val * 2048 + s.val) * 1024 + j.val) / 128 % 8 * 128
          + ((a.val * 2048 + s.val) * 1024 + j.val) % 128; omega)).symm

theorem r91 (H : Inputs D x0 x1 x2 x3 x4 x5 x6) : val_main_v91 (F := Ideal) x0 x2 x3 x4 x5 = R3 D.sg := by
  refine ext3 fun a s j => ?_
  pointwise [val_main_v91]
  simp only [r34 H, r90 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r98 (H : Inputs D x0 x1 x2 x3 x4 x5 x6) : val_main_v98 (F := Ideal) x0 x2 x3 x4 x5 = K3 D.ms := by
  refine ext3 fun a s j => ?_
  pointwise [val_main_v98, val_main_v96, val_main_v94, val_main_v93, val_main_v92, val_main_cst_21, val_main_v95, val_main_cst_22, val_main_v97, val_main_cst_23]
  simp only [r91 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r99 (H : Inputs D x0 x1 x2 x3 x4 x5 x6) : val_main_v99 (F := Ideal) x0 x2 x3 x4 x5 = K3 D.r := by
  refine ext3 fun a s j => ?_
  pointwise [val_main_v99]
  simp only [r98 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact rsqrt_pos (D.ms_pos _ _)

theorem r102 (H : Inputs D x0 x1 x2 x3 x4 x5 x6) : val_main_v102 (F := Ideal) x0 x2 x3 x4 x5 = K3 fun c p => -(1 / 2) * (D.r c p / D.ms c p) := by
  refine ext3 fun a s j => ?_
  pointwise [val_main_v102, val_main_v101, val_main_cst_24, val_main_v100]
  simp only [r99 H, r98 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rw [div_pos_coe _ _ (D.ms_pos _ _).ne', ← EReal.coe_mul]

theorem r104 (H : Inputs D x0 x1 x2 x3 x4 x5 x6) : val_main_v104 (F := Ideal) x0 x2 x3 x4 x5 = R3 D.sh := by
  refine ext3 fun a s j => ?_
  pointwise [val_main_v104, val_main_v103]
  simp only [r91 H, r99 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r113 (H : Inputs D x0 x1 x2 x3 x4 x5 x6) : val_main_v113 (F := Ideal) x0 x1 x2 x3 x4 x5 = up3 fun _ _ j => D.dog j := by
  refine ext3 fun a s j => ?_
  pointwise [val_main_v113, val_main_v112, val_main_v111, val_main_cst_25]
  simp only [r104 H, r110 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ ((sum_rows fun c p => D.sh c p j * D.dm c p j).trans (Finset.sum_congr rfl fun c _ => Finset.sum_congr rfl fun p _ => mul_comm _ _))

theorem r116 (H : Inputs D x0 x1 x2 x3 x4 x5 x6) : val_main_v116 (F := Ideal) x0 x1 x2 x3 x4 x5 = up1 D.dog := by
  refine ext1 fun s => ?_
  unfold val_main_v116
  rw [r113 H]
  simp only [Host.reduceAdd, Ideal.hostReduceAdd_def]
  refine (reduce_row _ _ _ s).trans ?_
  pointwise [val_main_cst_26]
  simp only [K3_apply, up1_apply, up2_apply, up3_apply, up5_apply, coe_sum, zero_add]

theorem r115 (H : Inputs D x0 x1 x2 x3 x4 x5 x6) : val_main_v115 (F := Ideal) x1 x6 = R3 D.dmg := by
  refine ext3 fun a s j => ?_
  pointwise [val_main_v115, val_main_v114, val_main_v105]
  simp only [r110 H, r11 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r124 (H : Inputs D x0 x1 x2 x3 x4 x5 x6) : val_main_v124 (F := Ideal) x0 x1 x2 x3 x4 x5 x6 = K3 fun c p => (∑ k, D.sg c p k * D.dmg c p k) * (-(1 / 2) * (D.r c p / D.ms c p)) / 1024 := by
  refine ext3 fun a s j => ?_
  pointwise [val_main_v124, val_main_v122, val_main_v119, val_main_v118, val_main_v117, val_main_cst_27, val_main_v123, val_main_cst_28]
  simp only [r91 H, r115 H, r102 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r125 (H : Inputs D x0 x1 x2 x3 x4 x5 x6) : val_main_v125 (F := Ideal) x0 x1 x2 x3 x4 x5 x6 = up1 fun s => (∑ k, D.sg (chunk s) (place s) k * D.dmg (chunk s) (place s) k) * (-(1 / 2) * (D.r (chunk s) (place s) / D.ms (chunk s) (place s))) / 1024 := by
  refine ext1 fun s => ?_
  unfold val_main_v125
  rw [r124 H]
  simp only [Host.reduceAdd, Ideal.hostReduceAdd_def]
  refine (reduce_col _ _ _ s).trans ?_
  pointwise [val_main_cst_29]
  simp only [K3_apply, up1_apply, up2_apply, up3_apply, up5_apply, coe_sum, zero_add]

theorem r131 (H : Inputs D x0 x1 x2 x3 x4 x5 x6) : val_main_v131 (F := Ideal) x0 x1 x2 x3 x4 x5 x6 = R3 D.dsg := by
  refine ext3 fun a s j => ?_
  pointwise [val_main_v131, val_main_v129, val_main_v121, val_main_v120, val_main_v128, val_main_v127, val_main_v126, val_main_v130]
  simp only [r115 H, r99 H, r91 H, r125 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (D.dsg_vjp _ _ _)

theorem r132 (H : Inputs D x0 x1 x2 x3 x4 x5 x6) : val_main_v132 (F := Ideal) x0 x1 x2 x3 x4 x5 x6 = R3 D.df := by
  refine ext3 fun a s j => ?_
  pointwise [val_main_v132]
  simp only [r34 H, r131 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (mul_comm _ _)

theorem r133 (H : Inputs D x0 x1 x2 x3 x4 x5 x6) : val_main_v133 (F := Ideal) x0 x1 x2 x3 x4 x5 x6 = R3 D.du := by
  refine ext3 fun a s j => ?_
  pointwise [val_main_v133]
  simp only [r131 H, r90 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem read134 (g : Fin 16 → Fin 128 → Fin 1024 → ℝ) (a : Fin 1) (c : Fin 16) (q : Fin 128) (h : Fin 8) (d : Fin 128) :
    R3 g (idx_main_v134 (ix5 a c q h d)) = ((g c q (col h d) : ℝ) : EReal) := by
  have := a.isLt; have := c.isLt; have := q.isLt; have := h.isLt; have := d.isLt
  exact congrArg _ (at_split g c q h d _ _
    (by show ((((a.val * 16 + c.val) * 128 + q.val) * 8 + h.val) * 128 + d.val) / 1024 % 2048 = _; omega)
    (by show ((((a.val * 16 + c.val) * 128 + q.val) * 8 + h.val) * 128 + d.val) % 1024 = _; omega))

theorem r134 (H : Inputs D x0 x1 x2 x3 x4 x5 x6) : val_main_v134 (F := Ideal) x0 x1 x2 x3 x4 x5 x6 = up5 fun _ c q h d => D.df c q (col h d) := by
  refine ext5 fun a c q h d => ?_
  rw [val_main_v134_apply, r132 H, up5_apply, read134]

theorem r135 (H : Inputs D x0 x1 x2 x3 x4 x5 x6) : val_main_v135 (F := Ideal) x0 x1 x2 x3 x4 x5 x6 = up3 fun _ p h => D.db h p := by
  refine ext3 fun z a b => ?_
  unfold val_main_v135
  rw [r134 H]
  simp only [Host.reduceAdd, Ideal.hostReduceAdd_def]
  refine (reduce_15 _ _ _ z a b).trans ?_
  pointwise [val_main_cst_30]
  simp only [K3_apply, up1_apply, up2_apply, up3_apply, up5_apply, coe_sum, zero_add]
  rfl

theorem read136 (g : Fin 128 → Fin 8 → ℝ) (a b : Fin 1) (p : Fin 128) (h : Fin 8) (e : Fin 1) :
    (up3 fun _ p h => g p h : (⟨3, ![1, 128, 8]⟩ : Shape).Idx → EReal) (idx_main_v136 (ix5 a b p h e)) = ((g p h : ℝ) : EReal) := by
  have := a.isLt; have := b.isLt; have := p.isLt; have := h.isLt; have := e.isLt
  exact congrArg _ (congrArg₂ g
    (Fin.ext (by show ((((a.val * 1 + b.val) * 128 + p.val) * 8 + h.val) * 1 + e.val) / 8 % 128 = _; omega))
    (Fin.ext (by show ((((a.val * 1 + b.val) * 128 + p.val) * 8 + h.val) * 1 + e.val) % 8 = _; omega)))

theorem r136 (H : Inputs D x0 x1 x2 x3 x4 x5 x6) : val_main_v136 (F := Ideal) x0 x1 x2 x3 x4 x5 x6 = up5 fun _ _ p h _ => D.db h p := by
  refine ext5 fun a b p h e => ?_
  rw [val_main_v136_apply, r135 H, up5_apply]
  exact read136 (fun p h => D.db h p) a b p h e

theorem r137 (H : Inputs D x0 x1 x2 x3 x4 x5 x6) : val_main_v137 (F := Ideal) x0 x1 x2 x3 x4 x5 x6 = up2 fun p h => D.db h p := by
  refine ext2 fun a b => ?_
  unfold val_main_v137
  rw [r136 H]
  simp only [Host.reduceAdd, Ideal.hostReduceAdd_def]
  refine (reduce_115 _ _ _ a b).trans ?_
  pointwise [val_main_cst_31]
  simp only [K3_apply, up1_apply, up2_apply, up3_apply, up5_apply, coe_sum, zero_add]

theorem r206 (H : Inputs D x0 x1 x2 x3 x4 x5 x6) : val_main_v206 (F := Ideal) x0 x1 x2 x3 x4 x5 x6 = up3 fun h p _ => D.db h p := by
  refine ext3 fun a s j => ?_
  pointwise [val_main_v206, val_main_v205, val_main_v138]
  simp only [r137 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r139 (H : Inputs D x0 x1 x2 x3 x4 x5 x6) : val_main_v139 (F := Ideal) x0 x1 x2 x3 x4 x5 x6 = up5 fun h _ c d p => D.df c p (col h d) := by
  refine ext5 fun a c p h d => ?_
  pointwise [val_main_v139]
  simp only [r134 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r141 (H : Inputs D x0 x1 x2 x3 x4 x5 x6) : val_main_v141 (F := Ideal) x0 x1 x2 x3 x4 x5 x6 = up5 fun h _ c d q => D.dvn c q (col h d) := by
  refine ext5 fun h a c d q => ?_
  rw [val_main_v141_apply, r139 H, r7 H]
  show ∑ k : Fin 128, ((D.df c k (col h d) : ℝ) : EReal) * ((D.w h k q : ℝ) : EReal) = _
  simp only [← EReal.coe_mul, coe_sum, up5_apply, Gate.dvn, head_col]
  exact congrArg _ (Finset.sum_congr rfl fun k _ => mul_comm _ _)

theorem r142 (H : Inputs D x0 x1 x2 x3 x4 x5 x6) : val_main_v142 (F := Ideal) x0 x1 x2 x3 x4 x5 x6 = up5 fun _ c q h d => D.dvn c q (col h d) := by
  refine ext5 fun a c p h d => ?_
  pointwise [val_main_v142]
  simp only [r141 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r143 (H : Inputs D x0 x1 x2 x3 x4 x5 x6) : val_main_v143 (F := Ideal) x0 x1 x2 x3 x4 x5 x6 = R3 D.dvn := by
  refine ext3 fun a s j => ?_
  rw [val_main_v143_apply, r142 H, R3_apply]
  have := a.isLt; have := s.isLt; have := j.isLt
  exact congrArg _ (at_split D.dvn _ _ _ _ s j
    (by show _ = ((a.val * 2048 + s.val) * 1024 + j.val) / 131072 % 16 * 128
          + ((a.val * 2048 + s.val) * 1024 + j.val) / 1024 % 128; omega)
    (by show _ = ((a.val * 2048 + s.val) * 1024 + j.val) / 128 % 8 * 128
          + ((a.val * 2048 + s.val) * 1024 + j.val) % 128; omega)).symm

theorem r145 (H : Inputs D x0 x1 x2 x3 x4 x5 x6) : val_main_v145 (F := Ideal) x0 x1 x2 x3 x4 x5 x6 = up3 fun _ _ j => D.dlb j := by
  refine ext3 fun a s j => ?_
  pointwise [val_main_v145, val_main_v144, val_main_cst_32]
  simp only [r143 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (sum_rows fun c p => D.dvn c p j)

theorem r146 (H : Inputs D x0 x1 x2 x3 x4 x5 x6) : val_main_v146 (F := Ideal) x0 x1 x2 x3 x4 x5 x6 = up1 D.dlb := by
  refine ext1 fun s => ?_
  unfold val_main_v146
  rw [r145 H]
  simp only [Host.reduceAdd, Ideal.hostReduceAdd_def]
  refine (reduce_row _ _ _ s).trans ?_
  pointwise [val_main_cst_33]
  simp only [K3_apply, up1_apply, up2_apply, up3_apply, up5_apply, coe_sum, zero_add]

theorem r149 (H : Inputs D x0 x1 x2 x3 x4 x5 x6) : val_main_v149 (F := Ideal) x0 x1 x2 x3 x4 x5 x6 = up3 fun _ _ j => D.dlg j := by
  refine ext3 fun a s j => ?_
  pointwise [val_main_v149, val_main_v148, val_main_v147, val_main_cst_34]
  simp only [r76 H, r143 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ ((sum_rows fun c p => D.xh c p j * D.dvn c p j).trans (Finset.sum_congr rfl fun c _ => Finset.sum_congr rfl fun p _ => mul_comm _ _))

theorem r152 (H : Inputs D x0 x1 x2 x3 x4 x5 x6) : val_main_v152 (F := Ideal) x0 x1 x2 x3 x4 x5 x6 = up1 D.dlg := by
  refine ext1 fun s => ?_
  unfold val_main_v152
  rw [r149 H]
  simp only [Host.reduceAdd, Ideal.hostReduceAdd_def]
  refine (reduce_row _ _ _ s).trans ?_
  pointwise [val_main_cst_35]
  simp only [K3_apply, up1_apply, up2_apply, up3_apply, up5_apply, coe_sum, zero_add]

theorem r151 (H : Inputs D x0 x1 x2 x3 x4 x5 x6) : val_main_v151 (F := Ideal) x0 x1 x2 x3 x4 x5 x6 = R3 D.dxh := by
  refine ext3 fun a s j => ?_
  pointwise [val_main_v151, val_main_v150, val_main_v77]
  simp only [r143 H, r3 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r160 (H : Inputs D x0 x1 x2 x3 x4 x5 x6) : val_main_v160 (F := Ideal) x0 x1 x2 x3 x4 x5 x6 = K3 fun c p => (∑ k, D.xc c p k * D.dxh c p k) * (-(1 / 2) * (D.rs c p / D.var c p)) / 1024 := by
  refine ext3 fun a s j => ?_
  pointwise [val_main_v160, val_main_v158, val_main_v155, val_main_v154, val_main_v153, val_main_cst_36, val_main_v159, val_main_cst_37]
  simp only [r63 H, r151 H, r74 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r161 (H : Inputs D x0 x1 x2 x3 x4 x5 x6) : val_main_v161 (F := Ideal) x0 x1 x2 x3 x4 x5 x6 = up1 fun s => (∑ k, D.xc (chunk s) (place s) k * D.dxh (chunk s) (place s) k) * (-(1 / 2) * (D.rs (chunk s) (place s) / D.var (chunk s) (place s))) / 1024 := by
  refine ext1 fun s => ?_
  unfold val_main_v161
  rw [r160 H]
  simp only [Host.reduceAdd, Ideal.hostReduceAdd_def]
  refine (reduce_col _ _ _ s).trans ?_
  pointwise [val_main_cst_38]
  simp only [K3_apply, up1_apply, up2_apply, up3_apply, up5_apply, coe_sum, zero_add]

theorem r167 (H : Inputs D x0 x1 x2 x3 x4 x5 x6) : val_main_v167 (F := Ideal) x0 x1 x2 x3 x4 x5 x6 = R3 D.dxc := by
  refine ext3 fun a s j => ?_
  pointwise [val_main_v167, val_main_v165, val_main_v157, val_main_v156, val_main_v164, val_main_v163, val_main_v162, val_main_v166]
  simp only [r151 H, r71 H, r63 H, r161 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  rfl

theorem r172 (H : Inputs D x0 x1 x2 x3 x4 x5 x6) : val_main_v172 (F := Ideal) x0 x1 x2 x3 x4 x5 x6 = K3 fun c p => (∑ k, -D.dxc c p k) / 1024 := by
  refine ext3 fun a s j => ?_
  pointwise [val_main_v172, val_main_v170, val_main_v169, val_main_v168, val_main_cst_39, val_main_v171, val_main_cst_40]
  simp only [r167 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r173 (H : Inputs D x0 x1 x2 x3 x4 x5 x6) : val_main_v173 (F := Ideal) x0 x1 x2 x3 x4 x5 x6 = up1 fun s => (∑ k, -D.dxc (chunk s) (place s) k) / 1024 := by
  refine ext1 fun s => ?_
  unfold val_main_v173
  rw [r172 H]
  simp only [Host.reduceAdd, Ideal.hostReduceAdd_def]
  refine (reduce_col _ _ _ s).trans ?_
  pointwise [val_main_cst_41]
  simp only [K3_apply, up1_apply, up2_apply, up3_apply, up5_apply, coe_sum, zero_add]

theorem r176 (H : Inputs D x0 x1 x2 x3 x4 x5 x6) : val_main_v176 (F := Ideal) x0 x1 x2 x3 x4 x5 x6 = R3 D.dv := by
  refine ext3 fun a s j => ?_
  pointwise [val_main_v176, val_main_v175, val_main_v174]
  simp only [r167 H, r173 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (D.dv_vjp _ _ _)

theorem r188 (H : Inputs D x0 x1 x2 x3 x4 x5 x6) : val_main_v188 (F := Ideal) x0 x1 x2 x3 x4 x5 x6 = R3 D.dgv := by
  refine ext3 fun a s j => ?_
  pointwise [val_main_v188, val_main_v184, val_main_v178, val_main_v183, val_main_v182, val_main_cst_43, val_main_v181, val_main_v180, val_main_v179, val_main_cst_42, val_main_v177, val_main_v187, val_main_v186, val_main_v185, val_main_v36, val_main_cst_7, val_main_cst_8]
  simp only [r176 H, r56 H, r35 H, r52 H, r41 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (gelu_vjp _ _)

theorem r204 (H : Inputs D x0 x1 x2 x3 x4 x5 x6) : val_main_v204 (F := Ideal) x0 x1 x2 x3 x4 x5 x6 = up2 fun s j => D.dgv (chunk s) (place s) j := by
  refine ext2 fun a b => ?_
  pointwise [val_main_v204, val_main_v189, val_main_cst_44]
  simp only [r188 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r201 (H : Inputs D x0 x1 x2 x3 x4 x5 x6) : val_main_v201 (F := Ideal) x0 x1 x2 x3 x4 x5 x6 = R3 D.dgu := by
  refine ext3 fun a s j => ?_
  pointwise [val_main_v201, val_main_v197, val_main_v191, val_main_v196, val_main_v195, val_main_cst_46, val_main_v194, val_main_v193, val_main_v192, val_main_cst_45, val_main_v190, val_main_v200, val_main_v199, val_main_v198, val_main_v13, val_main_cst, val_main_cst_0]
  simp only [r133 H, r33 H, r12 H, r29 H, r18 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]
  exact congrArg _ (gelu_vjp _ _)

theorem r203 (H : Inputs D x0 x1 x2 x3 x4 x5 x6) : val_main_v203 (F := Ideal) x0 x1 x2 x3 x4 x5 x6 = up2 fun s j => D.dgu (chunk s) (place s) j := by
  refine ext2 fun a b => ?_
  pointwise [val_main_v203, val_main_v202, val_main_cst_47]
  simp only [r201 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r207 (H : Inputs D x0 x1 x2 x3 x4 x5 x6) : val_main_v207 (F := Ideal) x0 x1 x2 x3 x4 x5 x6 = up2 fun _ j => D.dlg j := by
  refine ext2 fun a b => ?_
  pointwise [val_main_v207]
  simp only [r152 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r208 (H : Inputs D x0 x1 x2 x3 x4 x5 x6) : val_main_v208 (F := Ideal) x0 x1 x2 x3 x4 x5 x6 = up2 fun _ j => D.dlb j := by
  refine ext2 fun a b => ?_
  pointwise [val_main_v208]
  simp only [r146 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

theorem r209 (H : Inputs D x0 x1 x2 x3 x4 x5 x6) : val_main_v209 (F := Ideal) x0 x1 x2 x3 x4 x5 = up2 fun _ j => D.dog j := by
  refine ext2 fun a b => ?_
  pointwise [val_main_v209]
  simp only [r116 H, R3_apply, K3_apply, up1_apply, up2_apply, up3_apply, up4_apply, up5_apply, bits_scl, bits_eps, bits_1024, bits_half, bits_neg_half, bits_3, bits_44715, bits_1e6, EReal.coe_one.symm, EReal.coe_zero.symm, Ideal.tanh_coe, div_coe6, div_1024, ← EReal.coe_mul, ← EReal.coe_add, ← EReal.coe_sub, ← EReal.coe_neg, coe_sum, zero_add, add_zero, Fin.sum_univ_one]

/-- The place of a cotangent's and a value's common row and column among the contraction's indices. -/
def place3 (k : Fin 16 × Fin 128) : dot_S8x1x16x128x128_S1x16x128x8x128_S8x128x128_123_014_4_2_0_3.contr.Idx :=
  fun (a : Fin 3) => match a with
  | ⟨0, _⟩ => (⟨0, Nat.one_pos⟩ : Fin 1)
  | ⟨1, _⟩ => (k.1 : Fin 16)
  | ⟨2, _⟩ => (k.2 : Fin 128)

theorem place3_inj : Function.Injective place3 := fun _ _ h =>
  Prod.ext (congrFun h (⟨1, by decide⟩ : Fin 3)) (congrFun h (⟨2, by decide⟩ : Fin 3))

theorem place3_surj (i : dot_S8x1x16x128x128_S1x16x128x8x128_S8x128x128_123_014_4_2_0_3.contr.Idx) : ∃ k, place3 k = i := by
  refine ⟨(i (⟨1, by decide⟩ : Fin 3), i (⟨2, by decide⟩ : Fin 3)), ?_⟩
  funext (a : Fin 3)
  match a with
  | ⟨0, _⟩ => exact Fin.ext (by
      have h : (i (⟨0, by decide⟩ : Fin 3)).val < 1 := (i (⟨0, by decide⟩ : Fin 3)).isLt
      show 0 = (i (⟨0, by decide⟩ : Fin 3)).val
      omega)
  | ⟨1, _⟩ => rfl
  | ⟨2, _⟩ => rfl

/-- The weights' product: the sum over the chunks and over the head's columns. -/
theorem dot3 (x : FVec Ideal S8x1x16x128x128 .f32) (y : FVec Ideal S1x16x128x8x128 .f32) (h : Fin 8) (p q : Fin 128) :
    Host.dotGeneral dot_S8x1x16x128x128_S1x16x128x8x128_S8x128x128_123_014_4_2_0_3 none x y (ix3 h p q)
      = ∑ c : Fin 16, ∑ d : Fin 128, x (ix5 h 0 c d p) * y (ix5 0 c q h d) := by
  simp only [Host.dotGeneral]
  rw [Ideal.dotGeneral_apply, ← Fintype.sum_prod_type']
  refine (Function.Bijective.sum_comp ⟨place3_inj, fun i => place3_surj i⟩ _).symm.trans ?_
  refine Finset.sum_congr rfl fun k _ => ?_
  congr 1
  · refine congrArg x (funext fun a => Fin.ext ?_)
    match a with
    | ⟨0, _⟩ => rfl
    | ⟨1, _⟩ => rfl
    | ⟨2, _⟩ => rfl
    | ⟨3, _⟩ => rfl
    | ⟨4, _⟩ => rfl
  · refine congrArg y (funext fun a => Fin.ext ?_)
    match a with
    | ⟨0, _⟩ => rfl
    | ⟨1, _⟩ => rfl
    | ⟨2, _⟩ => rfl
    | ⟨3, _⟩ => rfl
    | ⟨4, _⟩ => rfl

theorem r140 (H : Inputs D x0 x1 x2 x3 x4 x5 x6) : val_main_v140 (F := Ideal) x0 x1 x2 x3 x4 x5 x6 = up3 fun h p q => D.dw h p q := by
  refine ext3 fun h p q => ?_
  unfold val_main_v140
  rw [r139 H, r83 H, dot3]
  simp only [up5_apply, up3_apply, ← EReal.coe_mul, coe_sum]
  rfl

end Cert.ReferenceIdeal.GateRef

end

end
-- ==== Proof.Finite.lean ====
/-
  The precondition says that every number the gradient reads is finite: the argument arrays then hold real inputs.
-/
module

public import proofs.«01_k».proof.Defs
public import proofs.«01_k».proof.Proof.Inputs
public import Idealize.ShloMosaic.Lib.Decide

@[expose] public section

noncomputable section

open Idealize.ShloMosaic SpatialGate

namespace Cert.Pre_read_is_finite

/-- The shape relations that the predicate states. -/
theorem facts : Facts where
  slices_S2048x3584_S2048x2048_0_1024 := by decide
  slices_S2048x2048_S2048x1024_0_1024 := by decide
  slices_S2x1024_S1x1024_0_0 := by decide
  shapeCasts_S1x1024_S1024 := by decide
  slices_S2x8x128x128_S1x8x128x128_0_0_0_0 := by decide
  shapeCasts_S1x8x128x128_S8x128x128 := by decide
  slices_S2x8x128_S1x8x128_0_0_0 := by decide
  shapeCasts_S1x8x128_S8x128 := by decide
  bcast_S_S2048x2048 := by decide
  bcast_S_S2048x1024 := by decide
  bcast_S_S1024 := by decide
  bcast_S_S8x128x128 := by decide
  bcast_S_S8x128 := by decide

theorem bits_inf : Ideal.ofBits .f32 0x7F800000#32 = ⊤ := by
  simp [Ideal.ofBits, Ideal.ieee]

/-- An entry whose absolute value compares less than infinity is a real number. -/
theorem fin_at {s : Shape} {x : FVec Ideal s .f32} {hb : S_.BroadcastsInDim s (![] : Fin 0 → Fin s.rank)}
    (h : cmpf .olt (Host.absf x) (broadcastInDim s ![] hb (constant (F := Ideal) S_ .f32 0x7F800000#32)) = fun _ => 1#1)
    (i : s.Idx) : x i = (((x i).toReal : ℝ) : EReal) := by
  have h1 : BitVec.ofBool (decide (max (x i) (-(x i)) < Ideal.ofBits .f32 0x7F800000#32)) = 1#1 := congrFun h i
  rw [bits_inf] at h1
  have h2 : max (x i) (-(x i)) < ⊤ := by
    by_contra hn
    rw [decide_eq_false hn] at h1
    exact absurd h1 (by decide)
  refine (EReal.coe_toReal (fun e => ?_) (fun e => ?_)).symm
  · rw [e] at h2; exact absurd (lt_of_le_of_lt (le_max_left _ _) h2) (lt_irrefl _)
  · rw [e, EReal.neg_bot] at h2; exact absurd (lt_of_le_of_lt (le_max_right _ _) h2) (lt_irrefl _)

/-- The real inputs that the arrays hold where the gradient reads them. -/
def reals (x0 : FVec Ideal S2048x3584 .f32) (x1 : FVec Ideal S2048x2048 .f32) (x2 x3 : FVec Ideal S2x1024 .f32)
    (x4 : FVec Ideal S2x8x128x128 .f32) (x5 : FVec Ideal S2x8x128 .f32) (x6 : FVec Ideal S2x1024 .f32) : Gate where
  gu c p j := (x0 (ix2 (row c p) (zcol 1024 (by omega) j))).toReal
  gv c p j := (x0 (ix2 (row c p) (zcol 2048 (by omega) j))).toReal
  dm c p j := (x1 (ix2 (row c p) (mcol j))).toReal
  lg j := (x2 (ix2 0 j)).toReal
  lb j := (x3 (ix2 0 j)).toReal
  w h p q := (x4 (ix4 0 h p q)).toReal
  bs h p := (x5 (ix3 0 h p)).toReal
  og j := (x6 (ix2 0 j)).toReal

theorem inputs [Facts] (x0 : FVec Ideal S2048x3584 .f32) (x1 : FVec Ideal S2048x2048 .f32) (x2 x3 : FVec Ideal S2x1024 .f32)
    (x4 : FVec Ideal S2x8x128x128 .f32) (x5 : FVec Ideal S2x8x128 .f32) (x6 : FVec Ideal S2x1024 .f32)
    (h : (fn (F := Ideal) x0 x1 x2 x3 x4 x5 x6).1 = (fun _ => 1#1)
      ∧ (fn (F := Ideal) x0 x1 x2 x3 x4 x5 x6).2.1 = (fun _ => 1#1)
      ∧ (fn (F := Ideal) x0 x1 x2 x3 x4 x5 x6).2.2.1 = (fun _ => 1#1)
      ∧ (fn (F := Ideal) x0 x1 x2 x3 x4 x5 x6).2.2.2.1 = (fun _ => 1#1)
      ∧ (fn (F := Ideal) x0 x1 x2 x3 x4 x5 x6).2.2.2.2.1 = (fun _ => 1#1)
      ∧ (fn (F := Ideal) x0 x1 x2 x3 x4 x5 x6).2.2.2.2.2.1 = (fun _ => 1#1)
      ∧ (fn (F := Ideal) x0 x1 x2 x3 x4 x5 x6).2.2.2.2.2.2 = (fun _ => 1#1)) :
    Inputs (reals x0 x1 x2 x3 x4 x5 x6) x0 x1 x2 x3 x4 x5 x6 := by
  dsimp only [fn, fn_part1] at h
  obtain ⟨h0, h1, h2, h3, h4, h5, h6⟩ := h
  refine ⟨fun c p j => ?_, fun c p j => ?_, fun c p j => ?_, fun j => ?_, fun j => ?_, fun a p q => ?_, fun a p => ?_, fun j => ?_⟩
  · have e := fin_at h0 (ix2 (row c p) ⟨j.val, by omega⟩)
    pointwise at e
    exact e
  · have e := fin_at h0 (ix2 (row c p) ⟨1024 + j.val, by omega⟩)
    pointwise at e
    rw [show (⟨1024 + (1024 + j.val), by omega⟩ : Fin 3584) = zcol 2048 (by omega) j from
      Fin.ext (by show 1024 + (1024 + j.val) = 2048 + j.val; omega)] at e
    exact e
  · have e := fin_at h1 (ix2 (row c p) j)
    pointwise at e
    exact e
  · have e := fin_at h2 (ix1 j)
    pointwise at e
    exact e
  · have e := fin_at h3 (ix1 j)
    pointwise at e
    exact e
  · have e := fin_at h4 (ix3 a p q)
    pointwise at e
    exact e
  · have e := fin_at h5 (ix2 a p)
    pointwise at e
    exact e
  · have e := fin_at h6 (ix1 j)
    pointwise at e
    exact e

end Cert.Pre_read_is_finite

end

end
-- ==== Proof.Prod2.lean ====
/-
  The gradient of the up projection's weight: the kernel's product, a tile at a time over a transposed block kept between the
  tiles, is one product over all rows, and so is the reference's.
-/
module

public import proofs.«01_k».proof.Proof.Lift
public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open scoped BigOperators
open Idealize.ShloMosaic Idealize.ShloMosaic.TcCoe Idealize.SL.Sem Lift

namespace Cert.Kernel2Ideal.Product

open Cert.Kernel2Ideal Cert.Kernel2Ideal.Gen

variable (m : (ℓ : Loc nD τ sig) → Buf (Elt Ideal) ℓ) (c : Dev nD)

/-- The product, as one sum at each place. -/
def prod (x0 : S2048x2048.Idx → EReal) (x1 : S2x2048x5632.Idx → EReal) : S8x2048x1408.Idx → EReal :=
  fun i => ∑ k : Fin 2048, x0 (ix2 k (i 1)) * x1 (ix3 ⟨(i 0).val / 4, by have := (i 0).isLt; simp at this; omega⟩ k ⟨(i 0).val % 4 * 1408 + (i 2).val, by have := (i 2).isLt; simp at this; omega⟩)

theorem idx : ∀ t : Fin cfg0.N, win0_0.index t = ![0, t.val / 4] ∧ win0_1.index t = ![t.val % 4 / 2, 0, t.val % 4 % 2] ∧ win0_2.index t = ![t.val % 4, t.val / 4, 0] :=
  (by decide +kernel : ∀ t : Fin grid0.N, _)

theorem pay1 (v : Vec Ideal S2048x512 .bf16) (y : S512x2048.Idx) : k0_pay1 (F := Ideal) v y = v (ix2 (y 1) (y 0)) := by
  pointwise [k0_pay1]
  blk_ext

/-- One product at the kept block and the point's block of columns. -/
def tile (a : S512x2048.Idx → EReal) (b : S1x2048x2816.Idx → EReal) : S2x512x1408.Idx → EReal :=
  fun y => ∑ k : Fin 2048, a (ix2 (y 1) k) * b (ix3 0 k ⟨(y 0).val * 1408 + (y 2).val, by
    have h0 := (y 0).isLt; have h2 := (y 2).isLt; simp at h0 h2; omega⟩)

theorem pay3 (a : Vec Ideal S512x2048 .bf16) (b : Vec Ideal S1x2048x2816 .bf16) (y : S1x512x1408.Idx) :
    k0_pay3 (F := Ideal) a b y = tile a b (ix3 0 (y 1) (y 2)) := by
  pointwise [k0_pay3, k0_pay2, tile]

theorem pay4 (a : Vec Ideal S512x2048 .bf16) (b : Vec Ideal S1x2048x2816 .bf16) (y : S1x512x1408.Idx) :
    k0_pay4 (F := Ideal) a b y = tile a b (ix3 1 (y 1) (y 2)) := by
  pointwise [k0_pay4, k0_pay2, tile]

/-- The two stores of a point are the two halves of the product's columns. -/
theorem stored (a : Vec Ideal S512x2048 .bf16) (b : Vec Ideal S1x2048x2816 .bf16) (y : S2x512x1408.Idx) :
    View.canon (Val := Elt Ideal) (s := S2x512x1408) (e := .bf16)
      [⟨Rect.unit ![1, 0, 0] ![1, 512, 1408] inb_S2x512x1408_S1x512x1408_1_0_0, k0_pay4 (F := Ideal) a b⟩,
        ⟨Rect.unit ![0, 0, 0] ![1, 512, 1408] inb_S2x512x1408_S1x512x1408_0_0_0, k0_pay3 (F := Ideal) a b⟩] y
      = tile a b y := by
  canon_tiles x h
  · refine (pay4 a b x).trans (congrArg (tile a b) ?_)
    blk_ext
  · refine (pay3 a b x).trans (congrArg (tile a b) ?_)
    blk_ext

theorem held_lt (t : Fin cfg0.N) : 4 * (t.val / 4) < cfg0.N := Pipeline.run_start_lt t

/-- The transposed block is stored at the first point of a run and kept through it. -/
theorem held (t : Fin cfg0.N) :
    (outsAt0 m c t.val t.isLt).2 = k0_pay1 (F := Ideal) (iblk m c 0 ⟨4 * (t.val / 4), held_lt t⟩) := by
  refine Pipeline.eq_of_write_hold (fun n h => (outsAt0 m c n h).2) 4 (fun t => k0_pay1 (F := Ideal) (iblk m c 0 t))
    (fun t h => ?_) (fun t h => ?_) t
  · rw [outsAt0_A m c t h]
    dsimp only
    frame_out
  · rw [outsAt0_B m c t h]
    rfl

/-- A block of the result: the kept block times the point's block of columns. -/
theorem outs (t : Fin cfg0.N) (y : S2x512x1408.Idx) :
    (outsAt0 m c t.val t.isLt).1 y = tile (outsAt0 m c t.val t.isLt).2 (iblk m c 1 t) y := by
  by_cases h : t.val % 4 = 0
  · rw [outsAt0_A m c t h]
    dsimp only
    frame_out
    exact stored _ _ y
  · rw [outsAt0_B m c t h]
    dsimp only
    frame_out
    simp only [read_unread_whole]
    exact stored _ _ y

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2, outs]
  refine Fin.sum_fin_congr fun k => ?_
  rw [held, pay1]
  exact congrArg₂ (fun a b : EReal => a * b) (by blk_ext [iblk, V, idx]) (by blk_ext [iblk, V, idx])

end Cert.Kernel2Ideal.Product

namespace Cert.Reference2Ideal.Product

open Cert.Reference2Ideal Cert.Reference2Ideal.Read

/-- The first half of the columns. -/
theorem left (x : (⟨S2x2048x5632, .bf16⟩ : BufTy).Contents (Elt Ideal)) (i : S2048x11264.Idx) (a : Fin 2048) (k : Fin 5632)
    (h0 : (i 0).val = a.val) (h1 : (i 1).val = k.val) : val_main_v5 (F := Ideal) x i = x (ix3 0 a k) := by
  unfold val_main_v5
  rw [concatenate_pair_apply_left (s₁ := S2048x5632) (s₂ := S2048x5632) 1 _ _ _ i rfl (ix2 a k) (fun b => match b with
    | ⟨0, _⟩ => h0.symm
    | ⟨1, _⟩ => h1.symm), val_main_v2_apply, val_main_v1_apply]
  blk_ext

/-- The second half of the columns. -/
theorem right (x : (⟨S2x2048x5632, .bf16⟩ : BufTy).Contents (Elt Ideal)) (i : S2048x11264.Idx) (a : Fin 2048) (k : Fin 5632)
    (h0 : (i 0).val = a.val) (h1 : (i 1).val = 5632 + k.val) : val_main_v5 (F := Ideal) x i = x (ix3 1 a k) := by
  unfold val_main_v5
  rw [concatenate_pair_apply_right (s₁ := S2048x5632) (s₂ := S2048x5632) 1 _ _ _ i rfl rfl (ix2 a k) (fun b => match b with
    | ⟨0, _⟩ => fun _ => h0.symm
    | ⟨1, _⟩ => fun h => absurd rfl h) (by rw [h1]; exact Nat.add_comm _ _), val_main_v4_apply, val_main_v3_apply]
  blk_ext

theorem res (x0 : (⟨S2048x2048, .bf16⟩ : BufTy).Contents (Elt Ideal)) (x1 : (⟨S2x2048x5632, .bf16⟩ : BufTy).Contents (Elt Ideal)) :
    val_main_v14 (F := Ideal) x0 x1 = Cert.Kernel2Ideal.Product.prod x0 x1 := by
  refine ext3 fun a b d => ?_
  rw [val_main_v14_apply, Ideal.truncf_def, val_main_v13_apply, val_main_v12_apply, val_main_v10_apply, val_main_v9_apply]
  refine Finset.sum_congr rfl fun k _ => ?_
  rw [val_main_v8_apply, val_main_v6_apply, Ideal.extf_def, Ideal.extf_def, mul_comm]
  refine congrArg₂ (fun u v : EReal => u * v) (congrArg x0 (by blk_ext)) ?_
  by_cases h : a.val < 4
  · refine (left x1 _ k ⟨a.val * 1408 + d.val, by omega⟩ (by rfl) ?_).trans (congrArg x1 ?_)
    · show ((b.val * 8 + a.val) * 1408 + d.val) % 11264 = a.val * 1408 + d.val
      omega
    · blk_ext
  · refine (right x1 _ k ⟨(a.val - 4) * 1408 + d.val, by omega⟩ (by rfl) ?_).trans (congrArg x1 ?_)
    · show ((b.val * 8 + a.val) * 1408 + d.val) % 11264 = 5632 + ((a.val - 4) * 1408 + d.val)
      omega
    · blk_ext

end Cert.Reference2Ideal.Product

end

end
-- ==== Proof.Prod3.lean ====
/-
  The gradient of the normed input of the feed-forward part: the kernel adds the products over the two halves of the columns,
  a tile of rows and columns at a time; the reference takes one product over all columns.
-/
module

public import proofs.«01_k».proof.Proof.Lift
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open scoped BigOperators
open Idealize.ShloMosaic Idealize.ShloMosaic.TcCoe Idealize.SL.Sem Lift

namespace Cert.Kernel3Ideal.Product

open Cert.Kernel3Ideal Cert.Kernel3Ideal.Gen

variable (m : (ℓ : Loc nD τ sig) → Buf (Elt Ideal) ℓ) (c : Dev nD)

/-- The product, as one sum at each place. -/
def prod (x0 : S2x2048x5632.Idx → EReal) (x1 : S1x2048x11264.Idx → EReal) : S2048x2048.Idx → EReal :=
  fun i => (∑ k : Fin 5632, x0 (ix3 0 (i 0) k) * x1 (ix3 0 (i 1) (k.castAdd 5632 : Fin (5632 + 5632))))
    + ∑ k : Fin 5632, x0 (ix3 1 (i 0) k) * x1 (ix3 0 (i 1) (k.natAdd 5632 : Fin (5632 + 5632)))

theorem idx : ∀ t : Fin cfg0.N, win0_0.index t = ![t.val % 2, t.val / 8, 0] ∧ win0_1.index t = ![0, t.val / 2 % 4, t.val % 2] ∧ win0_2.index t = ![t.val / 8, t.val / 2 % 4] :=
  (by decide +kernel : ∀ t : Fin grid0.N, _)

theorem pay1 (a : Vec Ideal S1x1024x5632 .bf16) (b : Vec Ideal S1x512x5632 .bf16) (y : S1024x512.Idx) :
    k0_pay1 (F := Ideal) a b y = ∑ k : Fin 5632, a (ix3 0 (y 0) k) * b (ix3 0 (y 1) k) := by
  pointwise [k0_pay1]

theorem pay2 (a : Vec Ideal S1x1024x5632 .bf16) (b : Vec Ideal S1x512x5632 .bf16) (y : S1024x512.Idx) :
    k0_pay2 (F := Ideal) a b y = k0_pay1 (F := Ideal) a b y := by
  pointwise [k0_pay2]

theorem pay3 (a : Vec Ideal S1x1024x5632 .bf16) (b : Vec Ideal S1x512x5632 .bf16) (v : Vec Ideal S1024x512 .f32)
    (y : S1024x512.Idx) : k0_pay3 (F := Ideal) a b v y = v y + k0_pay1 (F := Ideal) a b y := by
  pointwise [k0_pay3]

/-- After the first half the scratch holds its product. -/
theorem half (t : Fin cfg0.N) (h : t.val % 2 = 0) (y : S1024x512.Idx) :
    (outsAt0 m c t.val t.isLt).2 y = k0_pay1 (F := Ideal) (iblk m c 0 t) (iblk m c 1 t) y := by
  rw [outsAt0_A m c t h (by omega) (by omega)]
  dsimp only
  frame_out
  rw [pay2]

/-- After the second half the block holds the sum of both. -/
theorem outs (t : Fin cfg0.N) (h : t.val % 2 = 1) (y : S1024x512.Idx) : (outsAt0 m c t.val t.isLt).1 y
    = k0_pay1 (F := Ideal) (iblk m c 0 ⟨t.val - 1, Nat.lt_of_le_of_lt (Nat.sub_le _ _) t.isLt⟩)
        (iblk m c 1 ⟨t.val - 1, Nat.lt_of_le_of_lt (Nat.sub_le _ _) t.isLt⟩) y
      + k0_pay1 (F := Ideal) (iblk m c 0 t) (iblk m c 1 t) y := by
  rw [outsAt0_B m c t (by omega) h h]
  dsimp only
  frame_out
  simp only [read_unread_whole]
  rw [pay3, half m c ⟨t.val - 1, Nat.lt_of_le_of_lt (Nat.sub_le _ _) t.isLt⟩ (by show (t.val - 1) % 2 = 0; omega) y]

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have e0 : ∀ h, win0_0.index (⟨t.val - 1, h⟩ : Fin cfg0.N) = ![0, t.val / 8, 0] := fun h => by
    rw [(idx ⟨t.val - 1, h⟩).1]
    dsimp only
    rw [show (t.val - 1) % 2 = 0 by omega, show (t.val - 1) / 8 = t.val / 8 by omega]
  have e1 : ∀ h, win0_1.index (⟨t.val - 1, h⟩ : Fin cfg0.N) = ![0, t.val / 2 % 4, 0] := fun h => by
    rw [(idx ⟨t.val - 1, h⟩).2.1]
    dsimp only
    rw [show (t.val - 1) % 2 = 0 by omega, show (t.val - 1) / 2 % 4 = t.val / 2 % 4 by omega]
  blk_simp
  rw [after0_2, outs m c t h1, pay1, pay1]
  refine congrArg₂ (fun a b : EReal => a + b) (Fin.sum_fin_congr fun k => ?_) (Fin.sum_fin_congr fun k => ?_)
  · exact congrArg₂ (fun a b : EReal => a * b) (by blk_ext [iblk, V, e0, idx t]) (by
      blk_ext [iblk, V, e1, idx t]
      rfl)
  · exact congrArg₂ (fun a b : EReal => a * b) (by blk_ext [iblk, V, idx t]) (by
      blk_ext [iblk, V, idx t]
      rw [Fin.val_natAdd]
      omega)

end Cert.Kernel3Ideal.Product

namespace Cert.Reference3Ideal.Product

open Cert.Reference3Ideal Cert.Reference3Ideal.Read

/-- The first half of the columns. -/
theorem left (x0 : (⟨S2x2048x5632, .bf16⟩ : BufTy).Contents (Elt Ideal)) (i : S2048x11264.Idx) (a : Fin 2048) (k : Fin 5632)
    (h0 : (i 0).val = a.val) (h1 : (i 1).val = k.val) : val_main_v6 (F := Ideal) x0 i = x0 (ix3 0 a k) := by
  unfold val_main_v6
  rw [concatenate_pair_apply_left (s₁ := S2048x5632) (s₂ := S2048x5632) 1 _ _ _ i rfl (ix2 a k) (fun b => match b with
    | ⟨0, _⟩ => h0.symm
    | ⟨1, _⟩ => h1.symm), val_main_v3_apply, val_main_v2_apply]
  blk_ext

/-- The second half of the columns. -/
theorem right (x0 : (⟨S2x2048x5632, .bf16⟩ : BufTy).Contents (Elt Ideal)) (i : S2048x11264.Idx) (a : Fin 2048) (k : Fin 5632)
    (h0 : (i 0).val = a.val) (h1 : (i 1).val = 5632 + k.val) : val_main_v6 (F := Ideal) x0 i = x0 (ix3 1 a k) := by
  unfold val_main_v6
  rw [concatenate_pair_apply_right (s₁ := S2048x5632) (s₂ := S2048x5632) 1 _ _ _ i rfl rfl (ix2 a k) (fun b => match b with
    | ⟨0, _⟩ => fun _ => h0.symm
    | ⟨1, _⟩ => fun h => absurd rfl h) (by rw [h1]; exact Nat.add_comm _ _), val_main_v5_apply, val_main_v4_apply]
  blk_ext

theorem res (x0 : (⟨S2x2048x5632, .bf16⟩ : BufTy).Contents (Elt Ideal)) (x1 : (⟨S1x2048x11264, .bf16⟩ : BufTy).Contents (Elt Ideal)) :
    val_main_v12 (F := Ideal) x0 x1 = Cert.Kernel3Ideal.Product.prod x0 x1 := by
  refine ext2 fun a b => ?_
  rw [val_main_v12_apply]
  refine (Fin.sum_univ_add (a := 5632) (b := 5632) _).trans ?_
  refine congrArg₂ (· + ·) (Finset.sum_congr rfl fun k _ => ?_) (Finset.sum_congr rfl fun k _ => ?_)
  · rw [val_main_v9_apply, left x0 _ a k (by rfl) (by rfl), val_main_v7_apply, val_main_v1_apply]
    exact congrArg (x0 (ix3 0 a k) * ·) (congrArg x1 (by blk_ext))
  · rw [val_main_v9_apply, right x0 _ a k (by rfl) (by rfl), val_main_v7_apply, val_main_v1_apply]
    exact congrArg (x0 (ix3 1 a k) * ·) (congrArg x1 (by blk_ext))

end Cert.Reference3Ideal.Product

end

end
-- ==== Proof.Prod4.lean ====
/-
  The gradient of the hidden layer through the down projection: the kernel's product, a tile of columns at a time, is one
  product over all columns, and so is the reference's.
-/
module

public import proofs.«01_k».proof.Proof.Lift
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel4Ideal.Product

open Cert.Kernel4Ideal Cert.Kernel4Ideal.Gen

variable (m : (ℓ : Loc nD τ sig) → Buf (Elt Ideal) ℓ) (c : Dev nD)

/-- The product, as one sum at each place. -/
def prod (x0 : S2048x2048.Idx → EReal) (x1 : S1x5632x2048.Idx → EReal) : S2048x5632.Idx → EReal :=
  fun i => ∑ k : Fin 2048, x0 (ix2 (i 0) k) * x1 (ix3 0 (i 1) k)

theorem idx : ∀ t : Fin cfg0.N, win0_0.index t = ![0, 0] ∧ win0_1.index t = ![0, t.val, 0] ∧ win0_2.index t = ![0, t.val] :=
  (by decide +kernel : ∀ t : Fin grid0.N, _)

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.Kernel4Ideal.Product

namespace Cert.Reference4Ideal.Product

open Cert.Reference4Ideal Cert.Reference4Ideal.Read

theorem res (x0 : (⟨S2048x2048, .bf16⟩ : BufTy).Contents (Elt Ideal)) (x1 : (⟨S1x5632x2048, .bf16⟩ : BufTy).Contents (Elt Ideal)) :
    val_main_v7 (F := Ideal) x0 x1 = Cert.Kernel4Ideal.Product.prod x0 x1 := by
  refine ext2 fun a b => ?_
  rw [val_main_v7_apply]
  refine Finset.sum_congr rfl fun k _ => ?_
  rw [val_main_v4_apply, val_main_v2_apply, val_main_v1_apply]
  exact congrArg₂ (· * ·) (congrArg x0 (by blk_ext)) (congrArg x1 (by blk_ext))

end Cert.Reference4Ideal.Product

end

end
-- ==== Proof.Prod5.lean ====
/-
  The gradient of the down projection's weight: the kernel's product, a tile of rows at a time, is one product over all
  rows, and so is the reference's.
-/
module

public import proofs.«01_k».proof.Proof.Lift
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel5Ideal.Product

open Cert.Kernel5Ideal Cert.Kernel5Ideal.Gen

variable (m : (ℓ : Loc nD τ sig) → Buf (Elt Ideal) ℓ) (c : Dev nD)

/-- The product, as one sum at each place. -/
def prod (x0 : S2048x5632.Idx → EReal) (x1 : S2048x2048.Idx → EReal) : S5632x2048.Idx → EReal :=
  fun i => ∑ k : Fin 2048, x0 (ix2 k (i 0)) * x1 (ix2 k (i 1))

theorem idx : ∀ t : Fin cfg0.N, win0_0.index t = ![0, t.val] ∧ win0_1.index t = ![0, 0] ∧ win0_2.index t = ![t.val, 0] :=
  (by decide +kernel : ∀ t : Fin grid0.N, _)

theorem pay1 (v : Vec Ideal S2048x512 .bf16) (y : S512x2048.Idx) : k0_pay1 (F := Ideal) v y = v (ix2 (y 1) (y 0)) := by
  pointwise [k0_pay1]
  blk_ext

theorem pay2 (a : Vec Ideal S512x2048 .bf16) (b : Vec Ideal S2048x2048 .bf16) (y : S512x2048.Idx) :
    k0_pay2 (F := Ideal) a b y = ∑ k : Fin 2048, a (ix2 (y 0) k) * b (ix2 k (y 1)) := by
  pointwise [k0_pay2]

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay2]
  refine Fin.sum_fin_congr fun k => ?_
  rw [pay1]
  exact congrArg₂ (· * ·) (by blk_ext [iblk, V, idx t]) (by blk_ext [iblk, V, idx t])

end Cert.Kernel5Ideal.Product

namespace Cert.Reference5Ideal.Product

open Cert.Reference5Ideal Cert.Reference5Ideal.Read

theorem res (x0 : (⟨S2048x5632, .bf16⟩ : BufTy).Contents (Elt Ideal)) (x1 : (⟨S2048x2048, .bf16⟩ : BufTy).Contents (Elt Ideal)) :
    val_main_v7 (F := Ideal) x0 x1 = Cert.Kernel5Ideal.Product.prod x0 x1 := by
  refine ext2 fun a b => ?_
  rw [val_main_v7_apply, Ideal.truncf_def, val_main_v5_apply, val_main_v4_apply]
  refine Finset.sum_congr rfl fun k _ => ?_
  rw [val_main_v3_apply, val_main_v1_apply]
  rw [mul_comm]
  exact congrArg₂ (· * ·) (congrArg x0 (by blk_ext)) (congrArg x1 (by blk_ext))

end Cert.Reference5Ideal.Product

end

end
-- ==== Proof.Prod6.lean ====
/-
  The gradient of the normed input through the input projection: the kernel's product, a tile of rows and columns at a time,
  is one product over all of them, and so is the reference's.
-/
module

public import proofs.«01_k».proof.Proof.Lift
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel6Ideal.Product

open Cert.Kernel6Ideal Cert.Kernel6Ideal.Gen

variable (m : (ℓ : Loc nD τ sig) → Buf (Elt Ideal) ℓ) (c : Dev nD)

/-- The product, as one sum at each place. -/
def prod (x0 : S2048x3584.Idx → EReal) (x1 : S1x3584x2048.Idx → EReal) : S2048x2048.Idx → EReal :=
  fun i => ∑ k : Fin 3584, x0 (ix2 (i 0) k) * x1 (ix3 0 k (i 1))

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.Kernel6Ideal.Product

namespace Cert.Reference6Ideal.Product

open Cert.Reference6Ideal Cert.Reference6Ideal.Read

theorem res (x0 : (⟨S2048x3584, .bf16⟩ : BufTy).Contents (Elt Ideal)) (x1 : (⟨S1x3584x2048, .bf16⟩ : BufTy).Contents (Elt Ideal)) :
    val_main_v8 (F := Ideal) x0 x1 = Cert.Kernel6Ideal.Product.prod x0 x1 := by
  refine ext2 fun a b => ?_
  rw [val_main_v8_apply]
  refine Finset.sum_congr rfl fun k _ => ?_
  rw [val_main_v5_apply, val_main_v3_apply, val_main_v2_apply, val_main_v1_apply]
  exact congrArg₂ (· * ·) (congrArg x0 (by blk_ext)) (congrArg x1 (by blk_ext))

end Cert.Reference6Ideal.Product

end

end
-- ==== Proof.Prod7.lean ====
/-
  The gradient of the input projection's weight, its axes swapped: the kernel's product, a tile of rows at a time, is one
  product over all rows, and so is the reference's.
-/
module

public import proofs.«01_k».proof.Proof.Lift
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel7Ideal.Product

open Cert.Kernel7Ideal Cert.Kernel7Ideal.Gen

variable (m : (ℓ : Loc nD τ sig) → Buf (Elt Ideal) ℓ) (c : Dev nD)

/-- The product, as one sum at each place. -/
def prod (x0 : S2048x3584.Idx → EReal) (x1 : S2048x2048.Idx → EReal) : S3584x2048.Idx → EReal :=
  fun i => ∑ k : Fin 2048, x0 (ix2 k (i 0)) * x1 (ix2 k (i 1))

theorem idx : ∀ t : Fin cfg0.N, win0_0.index t = ![0, t.val] ∧ win0_1.index t = ![0, 0] ∧ win0_2.index t = ![t.val, 0] :=
  (by decide +kernel : ∀ t : Fin grid0.N, _)

theorem pay1 (v : Vec Ideal S2048x512 .bf16) (y : S512x2048.Idx) : k0_pay1 (F := Ideal) v y = v (ix2 (y 1) (y 0)) := by
  pointwise [k0_pay1]
  blk_ext

theorem pay2 (a : Vec Ideal S512x2048 .bf16) (b : Vec Ideal S2048x2048 .bf16) (y : S512x2048.Idx) :
    k0_pay2 (F := Ideal) a b y = ∑ k : Fin 2048, a (ix2 (y 0) k) * b (ix2 k (y 1)) := by
  pointwise [k0_pay2]

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay2]
  refine Fin.sum_fin_congr fun k => ?_
  rw [pay1]
  exact congrArg₂ (· * ·) (by blk_ext [iblk, V, idx t]) (by blk_ext [iblk, V, idx t])

end Cert.Kernel7Ideal.Product

namespace Cert.Reference7Ideal.Product

open Cert.Reference7Ideal Cert.Reference7Ideal.Read

theorem res (x0 : (⟨S2048x3584, .bf16⟩ : BufTy).Contents (Elt Ideal)) (x1 : (⟨S2048x2048, .bf16⟩ : BufTy).Contents (Elt Ideal)) :
    val_main_v8 (F := Ideal) x0 x1 = Cert.Kernel7Ideal.Product.prod x0 x1 := by
  refine ext2 fun a b => ?_
  rw [val_main_v8_apply, Ideal.truncf_def, val_main_v7_apply, val_main_v5_apply, val_main_v4_apply]
  refine Finset.sum_congr rfl fun k _ => ?_
  rw [val_main_v3_apply, val_main_v1_apply]
  exact congrArg₂ (· * ·) (congrArg x0 (by blk_ext)) (congrArg x1 (by blk_ext))

end Cert.Reference7Ideal.Product

end

end
-- ==== Proof.Prod8.lean ====
/-
  The gradient of the mixed heads through the output projection: the kernel's product, a tile of columns at a time, is one
  product over all columns, and so is the reference's.
-/
module

public import proofs.«01_k».proof.Proof.Lift
public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel8Ideal.Product

open Cert.Kernel8Ideal Cert.Kernel8Ideal.Gen

variable (m : (ℓ : Loc nD τ sig) → Buf (Elt Ideal) ℓ) (c : Dev nD)

/-- The product, as one sum at each place. -/
def prod (x0 : S2048x2048.Idx → EReal) (x1 : S1x2048x2048.Idx → EReal) : S2048x2048.Idx → EReal :=
  fun i => ∑ k : Fin 2048, x0 (ix2 (i 0) k) * x1 (ix3 0 (i 1) k)

theorem idx : ∀ t : Fin cfg0.N, win0_0.index t = ![0, 0] ∧ win0_1.index t = ![0, t.val, 0] ∧ win0_2.index t = ![0, t.val] :=
  (by decide +kernel : ∀ t : Fin grid0.N, _)

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.Kernel8Ideal.Product

namespace Cert.Reference8Ideal.Product

open Cert.Reference8Ideal Cert.Reference8Ideal.Read

theorem res (x0 : (⟨S2048x2048, .bf16⟩ : BufTy).Contents (Elt Ideal)) (x1 : (⟨S1x2048x2048, .bf16⟩ : BufTy).Contents (Elt Ideal)) :
    val_main_v7 (F := Ideal) x0 x1 = Cert.Kernel8Ideal.Product.prod x0 x1 := by
  refine ext2 fun a b => ?_
  rw [val_main_v7_apply]
  refine Finset.sum_congr rfl fun k _ => ?_
  rw [val_main_v4_apply, val_main_v2_apply, val_main_v1_apply]
  exact congrArg₂ (· * ·) (congrArg x0 (by blk_ext)) (congrArg x1 (by blk_ext))

end Cert.Reference8Ideal.Product

end

end
-- ==== Proof.Prod9.lean ====
/-
  The gradient of the output projection's weight: the kernel's product, a tile of columns at a time over a transposed block
  kept between the tiles, is one product over all columns, and so is the reference's.
-/
module

public import proofs.«01_k».proof.Proof.Lift
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open scoped BigOperators
open Idealize.ShloMosaic Idealize.ShloMosaic.TcCoe Idealize.SL.Sem Lift

namespace Cert.Kernel9Ideal.Product

open Cert.Kernel9Ideal Cert.Kernel9Ideal.Gen

variable (m : (ℓ : Loc nD τ sig) → Buf (Elt Ideal) ℓ) (c : Dev nD)

/-- The product, as one sum at each place. -/
def prod (x0 : S2048x2048.Idx → EReal) (x1 : S2048x2048.Idx → EReal) : S2048x2048.Idx → EReal :=
  fun i => ∑ k : Fin 2048, x0 (ix2 k (i 0)) * x1 (ix2 k (i 1))

theorem idx : ∀ t : Fin cfg0.N, win0_0.index t = ![0, 0] ∧ win0_1.index t = ![0, t.val] ∧ win0_2.index t = ![0, t.val] :=
  (by decide +kernel : ∀ t : Fin grid0.N, _)

theorem pay1 (v : Vec Ideal S2048x2048 .bf16) (y : S2048x2048.Idx) : k0_pay1 (F := Ideal) v y = v (ix2 (y 1) (y 0)) := by
  pointwise [k0_pay1]
  blk_ext

theorem pay2 (a : Vec Ideal S2048x2048 .bf16) (b : Vec Ideal S2048x512 .bf16) (y : S2048x512.Idx) :
    k0_pay2 (F := Ideal) a b y = ∑ k : Fin 2048, a (ix2 (y 0) k) * b (ix2 k (y 1)) := by
  pointwise [k0_pay2]

theorem held_lt (t : Fin cfg0.N) : 4 * (t.val / 4) < cfg0.N := Pipeline.run_start_lt t

/-- The transposed block is stored at the first point of a run and kept through it. -/
theorem held (t : Fin cfg0.N) :
    (outsAt0 m c t.val t.isLt).2 = k0_pay1 (F := Ideal) (iblk m c 0 ⟨4 * (t.val / 4), held_lt t⟩) := by
  refine Pipeline.eq_of_write_hold (fun n h => (outsAt0 m c n h).2) 4 (fun t => k0_pay1 (F := Ideal) (iblk m c 0 t))
    (fun t h => ?_) (fun t h => ?_) t
  · rw [outsAt0_A m c t h]
    dsimp only
    frame_out
  · rw [outsAt0_B m c t h]
    rfl

/-- A block of the result: the kept block times the point's block of columns. -/
theorem outs (t : Fin cfg0.N) (y : S2048x512.Idx) : (outsAt0 m c t.val t.isLt).1 y
    = ∑ k : Fin 2048, (outsAt0 m c t.val t.isLt).2 (ix2 (y 0) k) * iblk m c 1 t (ix2 k (y 1)) := by
  rw [← pay2]
  by_cases h : t.val % 4 = 0
  · rw [outsAt0_A m c t h]
    dsimp only
    frame_out
  · rw [outsAt0_B m c t h]
    dsimp only
    frame_out
    simp only [read_unread_whole]
    rfl

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2, outs]
  refine Fin.sum_fin_congr fun k => ?_
  rw [held, pay1]
  exact congrArg₂ (· * ·) (by blk_ext [iblk, V, idx]) (by blk_ext [iblk, V, idx])

end Cert.Kernel9Ideal.Product

namespace Cert.Reference9Ideal.Product

open Cert.Reference9Ideal Cert.Reference9Ideal.Read

theorem res (x0 : (⟨S2048x2048, .bf16⟩ : BufTy).Contents (Elt Ideal)) (x1 : (⟨S2048x2048, .bf16⟩ : BufTy).Contents (Elt Ideal)) :
    val_main_v7 (F := Ideal) x0 x1 = Cert.Kernel9Ideal.Product.prod x0 x1 := by
  refine ext2 fun a b => ?_
  rw [val_main_v7_apply, Ideal.truncf_def, val_main_v5_apply, val_main_v4_apply]
  refine Finset.sum_congr rfl fun k _ => ?_
  rw [val_main_v3_apply, val_main_v1_apply]
  rw [mul_comm]
  exact congrArg₂ (· * ·) (congrArg x0 (by blk_ext)) (congrArg x1 (by blk_ext))

end Cert.Reference9Ideal.Product

end

end
-- ==== Proof.Prod10.lean ====
/-
  The up projection: the kernel's product, a tile of columns at a time, is one product over all columns, and so is the
  reference's.
-/
module

public import proofs.«01_k».proof.Proof.Lift
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel10Ideal.Product

open Cert.Kernel10Ideal Cert.Kernel10Ideal.Gen

variable (m : (ℓ : Loc nD τ sig) → Buf (Elt Ideal) ℓ) (c : Dev nD)

/-- The product, as one sum at each place. -/
def prod (x0 : S2048x2048.Idx → EReal) (x1 : S1x2048x11264.Idx → EReal) : S2048x11264.Idx → EReal :=
  fun i => ∑ k : Fin 2048, x0 (ix2 (i 0) k) * x1 (ix3 0 k (i 1))

theorem idx : ∀ t : Fin cfg0.N, win0_0.index t = ![0, 0] ∧ win0_1.index t = ![0, 0, t.val] ∧ win0_2.index t = ![0, t.val] :=
  (by decide +kernel : ∀ t : Fin grid0.N, _)

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]

end Cert.Kernel10Ideal.Product

namespace Cert.Reference10Ideal.Product

open Cert.Reference10Ideal Cert.Reference10Ideal.Read

theorem res (x0 : (⟨S2048x2048, .bf16⟩ : BufTy).Contents (Elt Ideal)) (x1 : (⟨S1x2048x11264, .bf16⟩ : BufTy).Contents (Elt Ideal)) :
    val_main_v3 (F := Ideal) x0 x1 = Cert.Kernel10Ideal.Product.prod x0 x1 := by
  refine ext2 fun a b => ?_
  rw [val_main_v3_apply]
  refine Finset.sum_congr rfl fun k _ => ?_
  rw [val_main_v1_apply, val_main_v2_apply, val_main_v0_apply]
  exact congrArg₂ (· * ·) (congrArg x0 (by blk_ext)) (congrArg x1 (by blk_ext))

end Cert.Reference10Ideal.Product

end

end
-- ==== Proof.Prod11.lean ====
/-
  The down projection, with the residual: the kernel's product, a tile of rows and columns at a time, is one product over
  all of them, and so is the reference's.
-/
module

public import proofs.«01_k».proof.Proof.Lift
public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel11Ideal.Product

open Cert.Kernel11Ideal Cert.Kernel11Ideal.Gen

variable (m : (ℓ : Loc nD τ sig) → Buf (Elt Ideal) ℓ) (c : Dev nD)

/-- The product, as one sum at each place. -/
def prod (x0 : S2048x5632.Idx → EReal) (x1 : S1x5632x2048.Idx → EReal) (x2 : S2048x2048.Idx → EReal) : S2048x2048.Idx → EReal :=
  fun i => x2 i + ∑ k : Fin 5632, x0 (ix2 (i 0) k) * x1 (ix3 0 k (i 1))

theorem idx : ∀ t : Fin cfg0.N, win0_0.index t = ![t.val / 4, 0] ∧ win0_1.index t = ![0, 0, t.val % 4] ∧ win0_2.index t = ![t.val / 4, t.val % 4] ∧ win0_3.index t = ![t.val / 4, t.val % 4] :=
  (by decide +kernel : ∀ t : Fin grid0.N, _)

theorem arr : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, prod]
  blk_point [iblk, V, idx t]

end Cert.Kernel11Ideal.Product

namespace Cert.Reference11Ideal.Product

open Cert.Reference11Ideal Cert.Reference11Ideal.Read

theorem res (x0 : (⟨S2048x5632, .bf16⟩ : BufTy).Contents (Elt Ideal)) (x1 : (⟨S1x5632x2048, .bf16⟩ : BufTy).Contents (Elt Ideal)) (x2 : (⟨S2048x2048, .f32⟩ : BufTy).Contents (Elt Ideal)) :
    val_main_v4 (F := Ideal) x0 x1 x2 = Cert.Kernel11Ideal.Product.prod x0 x1 x2 := by
  refine ext2 fun a b => ?_
  rw [val_main_v4_apply, val_main_v3_apply]
  refine congrArg (x2 (ix2 a b) + ·) ?_
  refine Finset.sum_congr rfl fun k _ => ?_
  rw [val_main_v1_apply, val_main_v2_apply, val_main_v0_apply]
  exact congrArg₂ (· * ·) (congrArg x0 (by blk_ext)) (congrArg x1 (by blk_ext))

end Cert.Reference11Ideal.Product

end

end
-- ==== Proof.Prod12.lean ====
/-
  The input projection: the kernel's product, a tile of columns at a time in another order of the columns, is one product
  with its columns reordered, and so is the reference's.
-/
module

public import proofs.«01_k».proof.Proof.Lift
public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel12Ideal.Product

open Cert.Kernel12Ideal Cert.Kernel12Ideal.Gen

variable (m : (ℓ : Loc nD τ sig) → Buf (Elt Ideal) ℓ) (c : Dev nD)

/-- Which column of the weight stands at a column of the result. -/
def perm (c : Fin 3584) : Fin 3584 :=
  ⟨if c.val < 1024 then c.val else if c.val < 3072 then c.val + 512 else c.val - 2048, by split_ifs <;> omega⟩

theorem perm_val (c : Fin 3584) (n : Nat) (h : c.val = n) :
    (perm c).val = if n < 1024 then n else if n < 3072 then n + 512 else n - 2048 := by
  subst h
  rfl

/-- The product, as one sum at each place. -/
def prod (x0 : S2048x2048.Idx → EReal) (x1 : S1x3584x2048.Idx → EReal) : S2048x3584.Idx → EReal :=
  fun i => ∑ k : Fin 2048, x0 (ix2 (i 0) k) * x1 (ix3 0 (perm (i 1)) k)

theorem idx : ∀ t : Fin cfg0.N, win0_0.index t = ![0, 0] ∧ win0_1.index t = ![0, if t.val < 2 then t.val else if t.val < 6 then t.val + 1 else t.val - 4, 0] ∧ win0_2.index t = ![0, t.val] :=
  (by decide +kernel : ∀ t : Fin grid0.N, _)

theorem pay1 (a : Vec Ideal S2048x2048 .bf16) (b : Vec Ideal S1x512x2048 .bf16) (y : S2048x512.Idx) :
    k0_pay1 (F := Ideal) a b y = ∑ k : Fin 2048, a (ix2 (y 0) k) * b (ix3 0 (y 1) k) := by
  pointwise [k0_pay1]

theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  refine Fin.sum_fin_congr fun k => ?_
  exact congrArg₂ (fun a b : EReal => a * b) (by blk_ext [iblk, V, idx t]) (by
    blk_ext [iblk, V, idx t]
    refine Eq.trans ?_ (perm_val _ (t.val * 512 + (y 1).val) (by blk_simp [idx t])).symm
    split_ifs <;> omega)

end Cert.Kernel12Ideal.Product

namespace Cert.Reference12Ideal.Product

open Cert.Reference12Ideal Cert.Reference12Ideal.Read

open Cert.Kernel12Ideal.Product (perm)

/-- A column of the reference is the product's column that the order of columns names. -/
theorem cols (x0 : (⟨S2048x2048, .bf16⟩ : BufTy).Contents (Elt Ideal)) (x1 : (⟨S1x3584x2048, .bf16⟩ : BufTy).Contents (Elt Ideal))
    (a : Fin 2048) (b : Fin 3584) :
    val_main_v10 (F := Ideal) x0 x1 (ix2 a b) = val_main_v4 (F := Ideal) x0 x1 (ix2 a (perm b)) := by
  unfold val_main_v10
  have hb := b.isLt
  obtain h | h | h | h | h : b.val < 1024 ∨ (1024 ≤ b.val ∧ b.val < 2048) ∨ (2048 ≤ b.val ∧ b.val < 3072)
      ∨ (3072 ≤ b.val ∧ b.val < 3328) ∨ 3328 ≤ b.val := by omega
  · have hp : perm b = ⟨b.val - 0 + 0, by omega⟩ := by
      refine Fin.ext ?_
      show (if b.val < 1024 then b.val else if b.val < 3072 then b.val + 512 else b.val - 2048) = b.val - 0 + 0
      split_ifs <;> omega
    rw [hp, concatenate_apply_piece 1 _ _ (ix2 a b) 0 (by show 0 < 5; omega) S2048x1024 (val_main_v5 (F := Ideal) x0 x1) rfl rfl 0 rfl
      (ix2 a ⟨b.val - 0, by omega⟩) (fun d => match d with
        | ⟨0, _⟩ => fun _ => rfl
        | ⟨1, _⟩ => fun h => absurd rfl h) (by show 0 + (b.val - 0) = b.val; omega), val_main_v5_apply]
    exact congrArg (val_main_v4 (F := Ideal) x0 x1) (by blk_ext)
  · have hp : perm b = ⟨b.val - 1024 + 1536, by omega⟩ := by
      refine Fin.ext ?_
      show (if b.val < 1024 then b.val else if b.val < 3072 then b.val + 512 else b.val - 2048) = b.val - 1024 + 1536
      split_ifs <;> omega
    rw [hp, concatenate_apply_piece 1 _ _ (ix2 a b) 1 (by show 1 < 5; omega) S2048x1024 (val_main_v8 (F := Ideal) x0 x1) rfl rfl 1024 rfl
      (ix2 a ⟨b.val - 1024, by omega⟩) (fun d => match d with
        | ⟨0, _⟩ => fun _ => rfl
        | ⟨1, _⟩ => fun h => absurd rfl h) (by show 1024 + (b.val - 1024) = b.val; omega), val_main_v8_apply]
    exact congrArg (val_main_v4 (F := Ideal) x0 x1) (by blk_ext)
  · have hp : perm b = ⟨b.val - 2048 + 2560, by omega⟩ := by
      refine Fin.ext ?_
      show (if b.val < 1024 then b.val else if b.val < 3072 then b.val + 512 else b.val - 2048) = b.val - 2048 + 2560
      split_ifs <;> omega
    rw [hp, concatenate_apply_piece 1 _ _ (ix2 a b) 2 (by show 2 < 5; omega) S2048x1024 (val_main_v9 (F := Ideal) x0 x1) rfl rfl 2048 rfl
      (ix2 a ⟨b.val - 2048, by omega⟩) (fun d => match d with
        | ⟨0, _⟩ => fun _ => rfl
        | ⟨1, _⟩ => fun h => absurd rfl h) (by show 2048 + (b.val - 2048) = b.val; omega), val_main_v9_apply]
    exact congrArg (val_main_v4 (F := Ideal) x0 x1) (by blk_ext)
  · have hp : perm b = ⟨b.val - 3072 + 1024, by omega⟩ := by
      refine Fin.ext ?_
      show (if b.val < 1024 then b.val else if b.val < 3072 then b.val + 512 else b.val - 2048) = b.val - 3072 + 1024
      split_ifs <;> omega
    rw [hp, concatenate_apply_piece 1 _ _ (ix2 a b) 3 (by show 3 < 5; omega) S2048x256 (val_main_v6 (F := Ideal) x0 x1) rfl rfl 3072 rfl
      (ix2 a ⟨b.val - 3072, by omega⟩) (fun d => match d with
        | ⟨0, _⟩ => fun _ => rfl
        | ⟨1, _⟩ => fun h => absurd rfl h) (by show 3072 + (b.val - 3072) = b.val; omega), val_main_v6_apply]
    exact congrArg (val_main_v4 (F := Ideal) x0 x1) (by blk_ext)
  · have hp : perm b = ⟨b.val - 3328 + 1280, by omega⟩ := by
      refine Fin.ext ?_
      show (if b.val < 1024 then b.val else if b.val < 3072 then b.val + 512 else b.val - 2048) = b.val - 3328 + 1280
      split_ifs <;> omega
    rw [hp, concatenate_apply_piece 1 _ _ (ix2 a b) 4 (by show 4 < 5; omega) S2048x256 (val_main_v7 (F := Ideal) x0 x1) rfl rfl 3328 rfl
      (ix2 a ⟨b.val - 3328, by omega⟩) (fun d => match d with
        | ⟨0, _⟩ => fun _ => rfl
        | ⟨1, _⟩ => fun h => absurd rfl h) (by show 3328 + (b.val - 3328) = b.val; omega), val_main_v7_apply]
    exact congrArg (val_main_v4 (F := Ideal) x0 x1) (by blk_ext)

theorem res (x0 : (⟨S2048x2048, .bf16⟩ : BufTy).Contents (Elt Ideal)) (x1 : (⟨S1x3584x2048, .bf16⟩ : BufTy).Contents (Elt Ideal)) :
    val_main_v10 (F := Ideal) x0 x1 = Cert.Kernel12Ideal.Product.prod x0 x1 := by
  refine ext2 fun a b => ?_
  rw [cols, val_main_v4_apply]
  refine Finset.sum_congr rfl fun k _ => ?_
  rw [val_main_v2_apply, val_main_v3_apply, Ideal.extf_def, Ideal.extf_def, val_main_v1_apply, val_main_v0_apply]
  exact congrArg₂ (fun u v : EReal => u * v) (congrArg x0 (by blk_ext)) (congrArg x1 (by
    blk_ext
    show ((perm b).val * 2048 + k.val) / 2048 % 3584 = (perm b).val
    have := (perm b).isLt
    omega))

end Cert.Reference12Ideal.Product

end

end
-- ==== Proof.Prod13.lean ====
/-
  The output projection, with the residual: the kernel's product, a tile of columns at a time, is one product over
  all columns, and so is the reference's.
-/
module

public import proofs.«01_k».proof.Proof.Lift
public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace Cert.Kernel13Ideal.Product

open Cert.Kernel13Ideal Cert.Kernel13Ideal.Gen

variable (m : (ℓ : Loc nD τ sig) → Buf (Elt Ideal) ℓ) (c : Dev nD)

/-- The product, as one sum at each place. -/
def prod (x0 : S2048x2048.Idx → EReal) (x1 : S1x2048x2048.Idx → EReal) (x2 : S2048x2048.Idx → EReal) : S2048x2048.Idx → EReal :=
  fun i => x2 i + ∑ k : Fin 2048, x0 (ix2 (i 0) k) * x1 (ix3 0 k (i 1))

theorem idx : ∀ t : Fin cfg0.N, win0_0.index t = ![0, 0] ∧ win0_1.index t = ![0, 0, t.val] ∧ win0_2.index t = ![0, t.val] ∧ win0_3.index t = ![0, t.val] :=
  (by decide +kernel : ∀ t : Fin grid0.N, _)

theorem arr : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, prod]
  blk_point [iblk, V, idx t]

end Cert.Kernel13Ideal.Product

namespace Cert.Reference13Ideal.Product

open Cert.Reference13Ideal Cert.Reference13Ideal.Read

theorem res (x0 : (⟨S2048x2048, .bf16⟩ : BufTy).Contents (Elt Ideal)) (x1 : (⟨S1x2048x2048, .bf16⟩ : BufTy).Contents (Elt Ideal)) (x2 : (⟨S2048x2048, .f32⟩ : BufTy).Contents (Elt Ideal)) :
    val_main_v4 (F := Ideal) x0 x1 x2 = Cert.Kernel13Ideal.Product.prod x0 x1 x2 := by
  refine ext2 fun a b => ?_
  rw [val_main_v4_apply, val_main_v3_apply]
  refine congrArg (x2 (ix2 a b) + ·) ?_
  refine Finset.sum_congr rfl fun k _ => ?_
  rw [val_main_v1_apply, val_main_v2_apply, val_main_v0_apply]
  exact congrArg₂ (· * ·) (congrArg x0 (by blk_ext)) (congrArg x1 (by blk_ext))

end Cert.Reference13Ideal.Product

end

end
-- ==== Proof.Prod14.lean ====
/-
  The gradient through an RMS norm and the residual past it. Rows and the gain are real numbers; the gradient of the
  residual is any array. The kernel takes the rows 512 at a time and adds up the gain's gradient over the four tiles.
-/
module

public import proofs.«01_k».proof.Proof.Lift
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack

@[expose] public section

set_option maxRecDepth 16384

noncomputable section

open scoped BigOperators
open Idealize.ShloMosaic Idealize.ShloMosaic.TcCoe Idealize.SL.Sem Lift

namespace RmsNorm

open SpatialGate (eps)

/-- The mean square of a row plus epsilon, its inverse root, the normalized row, the gradient through it. -/
def ms (x : Fin 2048 → ℝ) : ℝ := (∑ k, x k * x k) / 2048 + eps
def r (x : Fin 2048 → ℝ) : ℝ := (√(ms x))⁻¹
def xh (x : Fin 2048 → ℝ) (j : Fin 2048) : ℝ := x j * r x
def dx (x h g : Fin 2048 → ℝ) (j : Fin 2048) : ℝ :=
  r x * (h j * g j - xh x j * ((∑ k, h k * g k * xh x k) / 2048))

theorem ms_pos (x : Fin 2048 → ℝ) : 0 < ms x :=
  add_pos_of_nonneg_of_pos (div_nonneg (Finset.sum_nonneg fun _ _ => mul_self_nonneg _) (by norm_num)) SpatialGate.Gate.eps_pos

theorem r_sq (x : Fin 2048 → ℝ) : r x * r x = 1 / ms x := by
  rw [r, ← mul_inv, Real.mul_self_sqrt (ms_pos x).le, one_div]

/-- The closed form is what the gradient through the mean and the inverse root adds up to. -/
theorem dx_eq (x h g : Fin 2048 → ℝ) (j : Fin 2048) :
    h j * g j * r x + (x j * ((∑ k, x k * (h k * g k)) * (-(1 / 2) * (r x / ms x)) / 2048)
      + (∑ k, x k * (h k * g k)) * (-(1 / 2) * (r x / ms x)) / 2048 * x j) = dx x h g j := by
  have e : ∑ k, h k * g k * xh x k = r x * ∑ k, x k * (h k * g k) := by
    rw [Finset.mul_sum]
    exact Finset.sum_congr rfl fun k _ => by unfold xh; ring
  have q : r x / ms x = r x * (r x * r x) := by rw [r_sq]; ring
  unfold dx
  rw [e, q]
  unfold xh
  ring

theorem bits_2048 : Ideal.ofBits .f32 0x45000000#32 = ((2048 : ℝ) : EReal) := by
  simp [Ideal.ofBits, Ideal.ieee, -EReal.coe_mul]; norm_num

theorem div_2048 (x : ℝ) : Ideal.div ((x : ℝ) : EReal) ((2048 : ℝ) : EReal) = ((x / 2048 : ℝ) : EReal) :=
  div_pos_coe x 2048 (by norm_num)

/-- The inputs: the rows, the gradient of the normalized rows, the gain. -/
structure Norm where
  x : Fin 2048 → Fin 2048 → ℝ
  h : Fin 2048 → Fin 2048 → ℝ
  g : Fin 2048 → ℝ

/-- Row `p` of tile `t`. -/
def row (t : Fin 4) (p : Fin 512) : Fin 2048 := ⟨t.val * 512 + p.val, by have := t.isLt; have := p.isLt; omega⟩

namespace Norm

variable (D : Norm)

def dg (j : Fin 2048) : ℝ := ∑ s, D.h s j * xh (D.x s) j
def dgT (t : Fin 4) (j : Fin 2048) : ℝ := ∑ p, D.h (row t p) j * xh (D.x (row t p)) j

theorem dg_eq (j : Fin 2048) : ∑ t, D.dgT t j = D.dg j := by
  unfold dg
  rw [Fin.sum_univ_tiles 4 512 rfl]
  rfl

/-- The arrays as they are read hold the inputs. -/
structure Holds (x0 x1 : (⟨2, ![2048, 2048]⟩ : Shape).Idx → EReal) (x3 : (⟨2, ![2, 2048]⟩ : Shape).Idx → EReal) : Prop where
  x : ∀ a b, x0 (ix2 a b) = ((D.x a b : ℝ) : EReal)
  h : ∀ a b, x1 (ix2 a b) = ((D.h a b : ℝ) : EReal)
  g : ∀ b, x3 (ix2 0 b) = ((D.g b : ℝ) : EReal)

/-- The gradient of the rows, with the residual's. -/
def out (d : (⟨2, ![2048, 2048]⟩ : Shape).Idx → EReal) : (⟨2, ![2048, 2048]⟩ : Shape).Idx → EReal :=
  fun i => d i + ((dx (D.x (i 0)) (D.h (i 0)) D.g (i 1) : ℝ) : EReal)

end Norm

/-- The same of a tile of rows. -/
def outT (d : (⟨2, ![512, 2048]⟩ : Shape).Idx → EReal) (x h : Fin 512 → Fin 2048 → ℝ) (g : Fin 2048 → ℝ) :
    (⟨2, ![512, 2048]⟩ : Shape).Idx → EReal :=
  fun i => d i + ((dx (x (i 0)) (h (i 0)) g (i 1) : ℝ) : EReal)

end RmsNorm

namespace Cert.Kernel14Ideal.Product

open Cert.Kernel14Ideal Cert.Kernel14Ideal.Gen RmsNorm

section

variable (x h : Fin 512 → Fin 2048 → ℝ) (g : Fin 2048 → ℝ)

theorem pay3 : k0_pay3 (F := Ideal) (up2 x) = up2 fun p _ => r (x p) := by
  refine ext2 fun p j => ?_
  pointwise [k0_pay3]
  simp only [up2_apply, bits_2048, bits_eps, div_2048, ← EReal.coe_mul, ← EReal.coe_add, coe_sum]
  exact rsqrt_pos (ms_pos (x p))

theorem pay4 : k0_pay4 (F := Ideal) (up2 x) = up2 fun p j => xh (x p) j := by
  refine ext2 fun p j => ?_
  pointwise [k0_pay4]
  simp only [pay3, up2_apply, ← EReal.coe_mul]
  rfl

theorem pay5 (d : (⟨2, ![512, 2048]⟩ : Shape).Idx → EReal) :
    k0_pay5 (F := Ideal) (up2 x) (up2 h) (up3 fun _ _ j => g j) d
      = outT d x h g := by
  refine ext2 fun p j => ?_
  pointwise [k0_pay5]
  simp only [pay3, pay4, up2_apply, up3_apply, bits_2048, div_2048, ← EReal.coe_mul, ← EReal.coe_sub, coe_sum]
  rfl

theorem pay6 (d : (⟨2, ![512, 2048]⟩ : Shape).Idx → EReal) :
    k0_pay6 (F := Ideal) (up2 x) (up2 h) (up3 fun _ _ j => g j) d
      = outT d x h g :=
  (show _ = k0_pay5 (F := Ideal) (up2 x) (up2 h) (up3 fun _ _ j => g j) d from rfl).trans (pay5 x h g d)

theorem pay2 : k0_pay2 (F := Ideal) = up2 fun _ _ => 0 := by
  refine ext2 fun p j => ?_
  pointwise [k0_pay2]
  simp only [up2_apply, bits_0, EReal.coe_zero]

theorem pay1 (y : Fin 512 → Fin 2048 → ℝ) (a : Fin 1 → Fin 2048 → ℝ) :
    k0_pay1 (F := Ideal) (up2 h) (up2 y) (up2 a) = up2 fun z j => a z j + ∑ p, h p j * y p j := by
  refine ext2 fun z j => ?_
  pointwise [k0_pay1]
  simp only [up2_apply, ← EReal.coe_mul, ← EReal.coe_add, coe_sum]

end

variable {m : (ℓ : Loc nD τ sig) → Buf (Elt Ideal) ℓ} {D : Norm} {c : Dev nD}

abbrev Holds (m : (ℓ : Loc nD τ sig) → Buf (Elt Ideal) ℓ) (D : Norm) (c : Dev nD) : Prop :=
  D.Holds (m ((c : Thread nD τ).loc main_arg0)) (m ((c : Thread nD τ).loc main_arg1)) (m ((c : Thread nD τ).loc main_arg3))

theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 0] ∧ win0_6.index t = ![0, 0] :=
  (by decide +kernel : ∀ t : Fin grid0.N, _)

def tile (t : Fin cfg0.N) : Fin 4 := ⟨t.val, t.isLt⟩

theorem blk_x (H : Holds m D c) (t : Fin cfg0.N) : iblk m c 0 t = up2 fun p => D.x (row (tile t) p) := by
  refine ext2 fun p j => ?_
  rw [up2_apply, ← H.x]
  blk_ext [iblk, V, idx t, tile, row]

theorem blk_h (H : Holds m D c) (t : Fin cfg0.N) : iblk m c 1 t = up2 fun p => D.h (row (tile t) p) := by
  refine ext2 fun p j => ?_
  rw [up2_apply, ← H.h]
  blk_ext [iblk, V, idx t, tile, row]

theorem blk_g (H : Holds m D c) (t : Fin cfg0.N) : iblk m c 3 t = up3 fun _ _ j => D.g j := by
  refine ext3 fun a b j => ?_
  rw [up3_apply, ← H.g]
  blk_ext! [iblk, V, idx t]

theorem outs (H : Holds m D c) (t : Fin cfg0.N) :
    (outsAt0 m c t.val t.isLt).1
      = outT (iblk m c 2 t) (fun p => D.x (row (tile t) p)) (fun p => D.h (row (tile t) p)) D.g
    ∧ (outsAt0 m c t.val t.isLt).2.1
      = outT (iblk m c 2 t) (fun p => D.x (row (tile t) p)) (fun p => D.h (row (tile t) p)) D.g := by
  by_cases h0 : t.val % 4 = 0
  · rw [outsAt0_A m c t h0]
    dsimp only
    frame_open
    simp (disch := decide) only [↓ View.readCov_skip, ↓ View.readCov_cons_toLoadRect, ↓ View.readCov_fill]
    constructor
    · frame_out
      simp only [blk_x H, blk_h H, blk_g H, pay5]
    · frame_out
      simp only [blk_x H, blk_h H, blk_g H, pay6]
  · rw [outsAt0_B m c t h0]
    dsimp only
    frame_open
    simp (disch := decide) only [↓ View.readCov_skip, ↓ View.readCov_cons_toLoadRect, ↓ View.readCov_fill]
    constructor
    · frame_out
      simp only [blk_x H, blk_h H, blk_g H, pay5]
    · frame_out
      simp only [blk_x H, blk_h H, blk_g H, pay6]

theorem dg_A (H : Holds m D c) (t : Fin cfg0.N) (h0 : t.val % 4 = 0) :
    (outsAt0 m c t.val t.isLt).2.2 = up2 fun _ j => D.dgT (tile t) j := by
  rw [outsAt0_A m c t h0]
  dsimp only
  frame_open
  simp (disch := decide) only [↓ View.readCov_skip, ↓ View.readCov_cons_toLoadRect, ↓ View.readCov_fill]
  frame_out
  simp only [blk_x H, blk_h H, blk_g H, pay4, pay2, pay1, zero_add]
  rfl

theorem dg_B (H : Holds m D c) (t : Fin cfg0.N) (h0 : ¬t.val % 4 = 0)
    (a : Fin 1 → Fin 2048 → ℝ) (ha : (outsAt0 m c (t.val - 1) (by have := t.isLt; omega)).2.2 = up2 a) :
    (outsAt0 m c t.val t.isLt).2.2 = up2 fun z j => a z j + D.dgT (tile t) j := by
  rw [outsAt0_B m c t h0]
  dsimp only
  frame_open
  simp (disch := decide) only [↓ View.readCov_skip, ↓ View.readCov_cons_toLoadRect, ↓ View.readCov_fill]
  frame_out
  simp only [blk_x H, blk_h H, blk_g H, ha, pay4, pay1]
  rfl

theorem arr_dx (H : Holds m D c) : (dats m 0 c).arrAt 4 cfg0.N = D.out (m ((c : Thread nD τ).loc main_arg2)) := by
  refine (dats m 0 c).arrAt_eq_of_covers 4 _ (by decide +kernel) fun t hf y => ?_
  blk_simp
  rw [after0_4, (outs H t).1]
  have hr : row (tile t) (y 0) = ((cfg0.win 4).blk t).view.emb y 0 := Fin.ext (by
    show t.val * 512 + (y 0).val = _
    blk_simp [idx t])
  have hj : y 1 = ((cfg0.win 4).blk t).view.emb y 1 := Fin.ext (by blk_simp [idx t])
  refine congrArg₂ (fun (a : EReal) (b : ℝ) => a + ((b : ℝ) : EReal)) ?_ (by
    show dx (D.x (row (tile t) (y 0))) (D.h (row (tile t) (y 0))) D.g (y 1) = _
    rw [hr, hj])
  blk_ext [iblk, V, idx t]

theorem arr_dxb (H : Holds m D c) : (dats m 0 c).arrAt 5 cfg0.N = D.out (m ((c : Thread nD τ).loc main_arg2)) := by
  refine (dats m 0 c).arrAt_eq_of_covers 5 _ (by decide +kernel) fun t hf y => ?_
  blk_simp
  rw [after0_5, (outs H t).2]
  have hr : row (tile t) (y 0) = ((cfg0.win 5).blk t).view.emb y 0 := Fin.ext (by
    show t.val * 512 + (y 0).val = _
    blk_simp [idx t])
  have hj : y 1 = ((cfg0.win 5).blk t).view.emb y 1 := Fin.ext (by blk_simp [idx t])
  refine congrArg₂ (fun (a : EReal) (b : ℝ) => a + ((b : ℝ) : EReal)) ?_ (by
    show dx (D.x (row (tile t) (y 0))) (D.h (row (tile t) (y 0))) D.g (y 1) = _
    rw [hr, hj])
  blk_ext [iblk, V, idx t]

theorem tile_eq (n : Nat) (hn : n < cfg0.N) : tile ⟨n, hn⟩ = Fin.ofNat 4 n :=
  Fin.ext (Nat.mod_eq_of_lt hn).symm

theorem sum_dg (H : Holds m D c) : ∀ (n : Nat) (hn : n < cfg0.N), (outsAt0 m c n hn).2.2
    = up2 fun _ j => ∑ i ∈ Finset.range (n + 1), D.dgT (Fin.ofNat 4 i) j
  | 0, hn => by
    refine (dg_A H ⟨0, hn⟩ rfl).trans ?_
    simp only [zero_add, Finset.range_one, Finset.sum_singleton, tile_eq]
  | n + 1, hn => by
    have h0 : ¬(n + 1) % 4 = 0 := by
      have hN : n + 1 < 4 := hn
      omega
    refine (dg_B (t := ⟨n + 1, hn⟩) H h0 _ (sum_dg H n (by omega))).trans ?_
    simp only [Finset.sum_range_succ _ (n + 1), tile_eq]

theorem last_dg (H : Holds m D c) (hn : 3 < cfg0.N) : (outsAt0 m c 3 hn).2.2 = up2 fun _ j => D.dg j := by
  rw [sum_dg H 3 hn]
  refine congrArg up2 ?_
  funext z j
  rw [Finset.sum_range, ← D.dg_eq]
  exact Finset.sum_congr rfl fun i _ => by rw [Fin.ofNat_val_eq_self]

theorem arr_dg (H : Holds m D c) : (dats m 0 c).arrAt 6 cfg0.N = up2 fun _ j => D.dg j := by
  refine (dats m 0 c).arrAt_eq_of_after_last 6 t0_3 (by decide +kernel) _ fun j => ?_
  blk_simp
  rw [after0_6]
  exact congrFun (last_dg H t0_3.isLt) j

end Cert.Kernel14Ideal.Product

namespace Cert.Reference14Ideal.Product

open Cert.Reference14Ideal Cert.Reference14Ideal.Read RmsNorm

variable {x0 x1 x2 : (⟨S2048x2048, .f32⟩ : BufTy).Contents (Elt Ideal)} {x3 : (⟨S2x2048, .f32⟩ : BufTy).Contents (Elt Ideal)}
  {D : Norm}

theorem v8 (H : D.Holds x0 x1 x3) : val_main_v8 (F := Ideal) x0 = up2 fun s _ => ms (D.x s) := by
  refine ext2 fun s j => ?_
  pointwise [val_main_v8, val_main_v6, val_main_v4, val_main_v3, val_main_v2, val_main_cst, val_main_v5, val_main_cst_0, val_main_v7, val_main_cst_1]
  simp only [H.x, up2_apply, bits_0, bits_eps, bits_2048, div_2048, EReal.coe_zero.symm, ← EReal.coe_mul, ← EReal.coe_add, coe_sum, zero_add]
  rfl

theorem v9 (H : D.Holds x0 x1 x3) : val_main_v9 (F := Ideal) x0 = up2 fun s _ => r (D.x s) := by
  refine ext2 fun s j => ?_
  pointwise [val_main_v9]
  simp only [v8 H, up2_apply]
  exact rsqrt_pos (ms_pos _)

theorem v12 (H : D.Holds x0 x1 x3) : val_main_v12 (F := Ideal) x0 = up2 fun s _ => -(1 / 2) * (r (D.x s) / ms (D.x s)) := by
  refine ext2 fun s j => ?_
  pointwise [val_main_v12, val_main_v11, val_main_cst_2, val_main_v10]
  simp only [v9 H, v8 H, up2_apply, bits_neg_half]
  rw [div_pos_coe _ _ (ms_pos _).ne', ← EReal.coe_mul]

theorem v14 (H : D.Holds x0 x1 x3) : val_main_v14 (F := Ideal) x0 = up2 fun s j => xh (D.x s) j := by
  refine ext2 fun s j => ?_
  pointwise [val_main_v14, val_main_v13]
  simp only [H.x, v9 H, up2_apply, ← EReal.coe_mul]
  rfl

theorem v15 (H : D.Holds x0 x1 x3) : val_main_v15 (F := Ideal) x3 = up2 fun _ j => D.g j := by
  refine ext2 fun s j => ?_
  pointwise [val_main_v15, val_main_v1, val_main_v0]
  rw [up2_apply]
  exact H.g j

theorem v22 (H : D.Holds x0 x1 x3) : val_main_v22 (F := Ideal) x1 x3 = up2 fun s j => D.h s j * D.g j := by
  refine ext2 fun s j => ?_
  pointwise [val_main_v22, val_main_v21]
  simp only [H.h, v15 H, up2_apply, ← EReal.coe_mul]

theorem v34 (H : D.Holds x0 x1 x3) : val_main_v34 (F := Ideal) x0 x1 x3 = up2 fun s _ =>
    (∑ k, D.x s k * (D.h s k * D.g k)) * (-(1 / 2) * (r (D.x s) / ms (D.x s))) / 2048 := by
  refine ext2 fun s j => ?_
  pointwise [val_main_v34, val_main_v33, val_main_v32, val_main_v31, val_main_v30, val_main_v26, val_main_v25, val_main_v24, val_main_cst_5, val_main_cst_6, val_main_cst_7]
  simp only [H.x, v22 H, v12 H, up2_apply, bits_0, bits_2048, div_2048, EReal.coe_zero.symm, ← EReal.coe_mul, ← EReal.coe_add, coe_sum, zero_add, Fin.sum_univ_one]

theorem v38 (H : D.Holds x0 x1 x3) : val_main_v38 (F := Ideal) x0 x1 x2 x3 = D.out x2 := by
  refine ext2 fun s j => ?_
  pointwise [val_main_v38, val_main_v37, val_main_v36, val_main_v35, val_main_v29, val_main_v28, val_main_v27]
  simp only [H.x, v34 H, v22 H, v9 H, up2_apply, ← EReal.coe_mul, add_assoc, ← EReal.coe_add]
  refine congrArg (fun z : ℝ => x2 (ix2 s j) + ((z : ℝ) : EReal)) ?_
  exact dx_eq _ _ _ _

theorem v39 (H : D.Holds x0 x1 x3) : val_main_v39 (F := Ideal) x0 x1 x2 x3 = D.out x2 :=
  (show _ = val_main_v38 (F := Ideal) x0 x1 x2 x3 from rfl).trans (v38 H)

theorem v40 (H : D.Holds x0 x1 x3) : val_main_v40 (F := Ideal) x0 x1 = up2 fun _ j => D.dg j := by
  refine ext2 fun s j => ?_
  pointwise [val_main_v40, val_main_v23, val_main_v20, val_main_v19, val_main_v18, val_main_cst_3, val_main_cst_4]
  simp only [H.h, v14 H, up2_apply, bits_0, EReal.coe_zero.symm, ← EReal.coe_mul, ← EReal.coe_add, coe_sum, zero_add, Fin.sum_univ_one]
  refine congrArg (fun z : ℝ => (z : EReal)) ?_
  exact Finset.sum_congr rfl fun k _ => mul_comm _ _

end Cert.Reference14Ideal.Product

end

end
-- ==== Proof.NormFinite.lean ====
/-
  The precondition of the norm's gradient says that the rows, the gradient of the normalized rows and the first layer's
  gain are finite: the argument arrays then hold real inputs.
-/
module

public import proofs.«01_k».proof.Proof.Finite
public import proofs.«01_k».proof.Proof.Prod14

@[expose] public section

noncomputable section

open Idealize.ShloMosaic RmsNorm

namespace Cert.Pre_norm_read_is_finite

/-- The shape relations that the predicate states. -/
theorem facts : Facts where
  slices_S2x2048_S1x2048_0_0 := by decide
  shapeCasts_S1x2048_S2048 := by decide
  bcast_S_S2048x2048 := by decide
  bcast_S_S2048 := by decide

/-- The real inputs that the arrays hold. -/
def reals (x0 x1 : FVec Ideal S2048x2048 .f32) (x3 : FVec Ideal S2x2048 .f32) : Norm where
  x a b := (x0 (ix2 a b)).toReal
  h a b := (x1 (ix2 a b)).toReal
  g b := (x3 (ix2 0 b)).toReal

theorem inputs [Facts] (x0 x1 x2 : FVec Ideal S2048x2048 .f32) (x3 : FVec Ideal S2x2048 .f32)
    (h : (fn (F := Ideal) x0 x1 x2 x3).1 = (fun _ => 1#1)
      ∧ (fn (F := Ideal) x0 x1 x2 x3).2.1 = (fun _ => 1#1)
      ∧ (fn (F := Ideal) x0 x1 x2 x3).2.2 = (fun _ => 1#1)) :
    (reals x0 x1 x3).Holds x0 x1 x3 := by
  dsimp only [fn] at h
  obtain ⟨h0, h1, h2⟩ := h
  refine ⟨fun a b => ?_, fun a b => ?_, fun b => ?_⟩
  · exact Cert.Pre_read_is_finite.fin_at h0 (ix2 a b)
  · exact Cert.Pre_read_is_finite.fin_at h1 (ix2 a b)
  · have e := Cert.Pre_read_is_finite.fin_at h2 (ix1 b)
    pointwise at e
    exact e

end Cert.Pre_norm_read_is_finite

end

end
-- ==== Proof.Prod15.lean ====
/-
  The last down projection with the loss head: the error is residual + product - target, the loss half its mean square
  over the columns summed over the rows, the gradient the error over the number of columns. Of ANY inputs: a
  nonnegative real factor passes through a sum of extended reals. The kernel adds the loss up over eight tiles.
-/
module

public import proofs.«01_k».proof.Proof.Lift
public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

open scoped BigOperators
open Idealize.ShloMosaic Idealize.ShloMosaic.TcCoe Idealize.SL.Sem Lift

namespace LossHead

theorem bits_2048 : Ideal.ofBits .f32 0x45000000#32 = ((2048 : ℝ) : EReal) := by
  simp [Ideal.ofBits, Ideal.ieee, -EReal.coe_mul]; norm_num
theorem bits_inv : Ideal.ofBits .f32 0x3A000000#32 = ((1 / 2048 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num

/-- A nonnegative real factor passes through a sum. -/
theorem sum_mul {ι : Type} (s : Finset ι) (f : ι → EReal) (q : ℝ) (hq : 0 ≤ q) :
    (∑ i ∈ s, f i) * ((q : ℝ) : EReal) = ∑ i ∈ s, f i * ((q : ℝ) : EReal) := by
  classical
  induction s using Finset.induction_on with
  | empty => simp
  | insert a s ha ih =>
    rw [Finset.sum_insert ha, Finset.sum_insert ha,
      EReal.right_distrib_of_nonneg_of_ne_top (EReal.coe_nonneg.mpr hq) (EReal.coe_ne_top q), ih]

variable (x0 : (⟨2, ![2048, 5632]⟩ : Shape).Idx → EReal) (x1 : (⟨3, ![1, 5632, 2048]⟩ : Shape).Idx → EReal)
  (x2 : (⟨2, ![2048, 2048]⟩ : Shape).Idx → EReal) (x3 : (⟨3, ![1, 2048, 2048]⟩ : Shape).Idx → EReal)

/-- The error, the gradient, the terms of the loss and the loss. -/
def err (s j : Fin 2048) : EReal := x2 (ix2 s j) + (∑ k, x0 (ix2 s k) * x1 (ix3 0 k j)) - x3 (ix3 0 s j)
def dx : (⟨2, ![2048, 2048]⟩ : Shape).Idx → EReal := fun i => err x0 x1 x2 x3 (i 0) (i 1) * ((1 / 2048 : ℝ) : EReal)
def sqr (s j : Fin 2048) : EReal := err x0 x1 x2 x3 s j * err x0 x1 x2 x3 s j * ((1 / 4096 : ℝ) : EReal)
def loss : EReal := ∑ s, ∑ j, sqr x0 x1 x2 x3 s j

/-- Half of the sum of the mean squares is the sum of the terms. -/
theorem half {A B : Type} [Fintype A] [Fintype B] (e : A → B → EReal) :
    ((1 / 2 : ℝ) : EReal) * ∑ s, (∑ j, e s j * e s j) * ((1 / 2048 : ℝ) : EReal)
      = ∑ s, ∑ j, e s j * e s j * ((1 / 4096 : ℝ) : EReal) := by
  rw [mul_comm, sum_mul _ _ _ (by norm_num)]
  refine Finset.sum_congr rfl fun s _ => ?_
  rw [mul_assoc, ← EReal.coe_mul, sum_mul _ _ _ (by norm_num)]
  norm_num

theorem third (e : EReal) : ((1 / 2 / 2048 : ℝ) : EReal) * (((2 : ℝ) : EReal) * e) = e * ((1 / 2048 : ℝ) : EReal) := by
  rw [← mul_assoc, ← EReal.coe_mul, mul_comm]
  norm_num

def row (a : Fin 2) (p : Fin 1024) : Fin 2048 := ⟨a.val * 1024 + p.val, by have := a.isLt; have := p.isLt; omega⟩
def col (b : Fin 4) (p : Fin 512) : Fin 2048 := ⟨b.val * 512 + p.val, by have := b.isLt; have := p.isLt; omega⟩
def tr (t : Fin 8) : Fin 2 := ⟨t.val / 4, by have := t.isLt; omega⟩
def tc (t : Fin 8) : Fin 4 := ⟨t.val % 4, Nat.mod_lt _ (by norm_num)⟩

/-- The share of one tile of the loss, and their sum. -/
def part (t : Fin 8) : EReal := ∑ p, ∑ q, sqr x0 x1 x2 x3 (row (tr t) p) (col (tc t) q)

theorem part_sum : ∑ t, part x0 x1 x2 x3 t = loss x0 x1 x2 x3 := by
  unfold loss part
  rw [Fin.sum_univ_tiles 2 4 rfl, Fin.sum_univ_tiles (N := 2048) 2 1024 rfl]
  refine Finset.sum_congr rfl fun a _ => ?_
  rw [Finset.sum_comm]
  refine Finset.sum_congr rfl fun p _ => ?_
  rw [Fin.sum_univ_tiles (N := 2048) 4 512 rfl]
  refine Finset.sum_congr rfl fun b _ => Finset.sum_congr rfl fun q _ => ?_
  have ha := a.isLt
  have hb := b.isLt
  refine congrArg₂ (sqr x0 x1 x2 x3) (Fin.ext ?_) (Fin.ext ?_)
  · show (a.val * 4 + b.val) / 4 * 1024 + p.val = a.val * 1024 + p.val
    omega
  · show (a.val * 4 + b.val) % 4 * 512 + q.val = b.val * 512 + q.val
    omega

end LossHead

namespace Cert.Kernel15Ideal.Product

open Cert.Kernel15Ideal Cert.Kernel15Ideal.Gen LossHead

section

variable (d : Vec Ideal S1024x512 .f32) (a : Vec Ideal S1024x5632 .bf16) (b : Vec Ideal S1x5632x512 .bf16)
  (z : Vec Ideal S1024x512 .f32)

/-- The error of a tile. -/
def errT (p : Fin 1024) (q : Fin 512) : EReal := k0_pay3 (F := Ideal) d a b z (ix2 p q)

theorem pay3 (p : Fin 1024) (q : Fin 512) : errT d a b z p q
    = d (ix2 p q) + (∑ k : Fin 5632, a (ix2 p k) * b (ix3 0 k q)) - z (ix2 p q) := by
  unfold errT
  pointwise [k0_pay3]

theorem pay5 (y : S1024x512.Idx) : k0_pay5 (F := Ideal) d a b z y = errT d a b z (y 0) (y 1) * ((1 / 2048 : ℝ) : EReal) := by
  unfold errT
  rw [eq_ix2 y]
  pointwise [k0_pay5]
  rw [bits_inv]

theorem pay1 (y : S1024x512.Idx) : k0_pay1 (F := Ideal) (k0_pay5 (F := Ideal) d a b z) y
    = errT d a b z (y 0) (y 1) * ((1 / 2048 : ℝ) : EReal) :=
  pay5 d a b z y

theorem pay2 : k0_pay2 (F := Ideal) = fun _ => 0 := by
  refine ext2 fun p j => ?_
  pointwise [k0_pay2]

theorem pay4 (v : EReal) : k0_pay4 (F := Ideal) d a b z (fun _ => v)
    = fun _ => v + ∑ p, ∑ q, errT d a b z p q * errT d a b z p q * ((1 / 4096 : ℝ) : EReal) := by
  refine ext2 fun p j => ?_
  rw [← half]
  pointwise [k0_pay4]
  simp only [bits_inv, bits_half]
  rfl

end

variable (m : (ℓ : Loc nD τ sig) → Buf (Elt Ideal) ℓ) (c : Dev nD)

abbrev X0 := m ((c : Thread nD τ).loc main_arg0)
abbrev X1 := m ((c : Thread nD τ).loc main_arg1)
abbrev X2 := m ((c : Thread nD τ).loc main_arg2)
abbrev X3 := m ((c : Thread nD τ).loc main_arg3)

theorem idx : ∀ t : Fin cfg0.N, win0_0.index t = ![t.val / 4, 0] ∧ win0_1.index t = ![0, 0, t.val % 4]
    ∧ win0_2.index t = ![t.val / 4, t.val % 4] ∧ win0_3.index t = ![t.val / 4, t.val % 4] ∧ win0_4.index t = ![0, 0]
    ∧ win0_5.index t = ![t.val / 4, t.val % 4] ∧ win0_6.index t = ![t.val / 4, t.val % 4] :=
  (by decide +kernel : ∀ t : Fin grid0.N, _)

def tile (t : Fin cfg0.N) : Fin 8 := ⟨t.val, t.isLt⟩

theorem V_0 : V m c main_arg0 = X0 m c := by
  unfold_abbrev_sides
  after_results
theorem V_1 : V m c main_arg1 = X1 m c := by
  unfold_abbrev_sides
  after_results
theorem V_2 : V m c main_arg2 = X2 m c := by
  unfold_abbrev_sides
  after_results
theorem V_3 : V m c main_v0 = shapeCast S2048x2048 (X3 m c) shapeCasts_S1x2048x2048_S2048x2048 := by
  unfold_abbrev_sides
  after_results
  rfl

theorem drop (x : S1x2048x2048.Idx → EReal) (s j : Fin 2048) :
    shapeCast S2048x2048 x shapeCasts_S1x2048x2048_S2048x2048 (ix2 s j) = x (ix3 0 s j) :=
  shapeCast_apply x shapeCasts_S1x2048x2048_S2048x2048 (ix2 s j) (ix3 0 s j) (by
    rewrite [Shape.rowMajor_val_three, Shape.rowMajor_val_two]
    show (0 * 2048 + s.val) * 2048 + j.val = s.val * 2048 + j.val
    omega)

theorem err_eq (t : Fin cfg0.N) (p : Fin 1024) (q : Fin 512) :
    errT (iblk m c 2 t) (iblk m c 0 t) (iblk m c 1 t) (iblk m c 3 t) p q
      = err (X0 m c) (X1 m c) (X2 m c) (X3 m c) (row (tr (tile t)) p) (col (tc (tile t)) q) := by
  rw [pay3]
  refine congrArg₂ (fun a b : EReal => a - b) (congrArg₂ (fun a b : EReal => a + b) ?_ (Finset.sum_congr rfl fun k _ =>
    congrArg₂ (fun a b : EReal => a * b) ?_ ?_)) ?_
  · rw [← V_2]
    blk_ext [iblk, idx t, tile, tr, tc, row, col]
  · rw [← V_0]
    blk_ext [iblk, idx t, tile, tr, tc, row, col]
  · rw [← V_1]
    blk_ext [iblk, idx t, tile, tr, tc, row, col]
  · refine Eq.trans (b := V m c main_v0 (ix2 (row (tr (tile t)) p) (col (tc (tile t)) q))) ?_ ?_
    · blk_ext [iblk, idx t, tile, tr, tc, row, col]
    · rw [V_3]
      exact drop _ _ _

/-- The tile's share of the loss. -/
def share (t : Fin cfg0.N) : EReal := part (X0 m c) (X1 m c) (X2 m c) (X3 m c) (tile t)

theorem share_eq (t : Fin cfg0.N) (v : EReal) :
    k0_pay4 (F := Ideal) (iblk m c 2 t) (iblk m c 0 t) (iblk m c 1 t) (iblk m c 3 t) (fun _ => v)
      = fun _ => v + share m c t := by
  rw [pay4]
  unfold share part sqr
  simp only [err_eq]

theorem outs (t : Fin cfg0.N) :
    (outsAt0 m c t.val t.isLt).2.1 = k0_pay5 (F := Ideal) (iblk m c 2 t) (iblk m c 0 t) (iblk m c 1 t) (iblk m c 3 t)
    ∧ (outsAt0 m c t.val t.isLt).2.2
      = k0_pay1 (F := Ideal) (k0_pay5 (F := Ideal) (iblk m c 2 t) (iblk m c 0 t) (iblk m c 1 t) (iblk m c 3 t)) := by
  by_cases h0 : t.val % 8 = 0
  · rw [outsAt0_A m c t h0]
    dsimp only
    frame_open
    simp (disch := decide) only [↓ View.readCov_skip, ↓ View.readCov_cons_toLoadRect, ↓ View.readCov_fill]
    constructor <;> frame_out
  · rw [outsAt0_B m c t h0]
    dsimp only
    frame_open
    simp (disch := decide) only [↓ View.readCov_skip, ↓ View.readCov_cons_toLoadRect, ↓ View.readCov_fill]
    constructor <;> frame_out

theorem loss_A (t : Fin cfg0.N) (h0 : t.val % 8 = 0) : (outsAt0 m c t.val t.isLt).1 = fun _ => share m c t := by
  rw [outsAt0_A m c t h0]
  dsimp only
  frame_open
  simp (disch := decide) only [↓ View.readCov_skip, ↓ View.readCov_cons_toLoadRect, ↓ View.readCov_fill]
  frame_out
  simp only [pay2, share_eq, zero_add]

theorem loss_B (t : Fin cfg0.N) (h0 : ¬t.val % 8 = 0) (a : EReal)
    (ha : (outsAt0 m c (t.val - 1) (by have := t.isLt; omega)).1 = fun _ => a) :
    (outsAt0 m c t.val t.isLt).1 = fun _ => a + share m c t := by
  rw [outsAt0_B m c t h0]
  dsimp only
  frame_open
  simp (disch := decide) only [↓ View.readCov_skip, ↓ View.readCov_cons_toLoadRect, ↓ View.readCov_fill]
  frame_out
  simp only [ha, share_eq]

theorem tile_eq (n : Nat) (hn : n < cfg0.N) : tile ⟨n, hn⟩ = Fin.ofNat 8 n :=
  Fin.ext (Nat.mod_eq_of_lt hn).symm

theorem sum_loss : ∀ (n : Nat) (hn : n < cfg0.N), (outsAt0 m c n hn).1
    = fun _ => ∑ i ∈ Finset.range (n + 1), part (X0 m c) (X1 m c) (X2 m c) (X3 m c) (Fin.ofNat 8 i)
  | 0, hn => by
    refine (loss_A m c ⟨0, hn⟩ rfl).trans ?_
    simp only [zero_add, Finset.range_one, Finset.sum_singleton, share, tile_eq]
  | n + 1, hn => by
    have h0 : ¬(n + 1) % 8 = 0 := by
      have hN : n + 1 < 8 := hn
      omega
    refine (loss_B m c ⟨n + 1, hn⟩ h0 _ (sum_loss n (by omega))).trans ?_
    simp only [Finset.sum_range_succ _ (n + 1), share, tile_eq]

theorem last_loss (hn : 7 < cfg0.N) : (outsAt0 m c 7 hn).1 = fun _ => loss (X0 m c) (X1 m c) (X2 m c) (X3 m c) := by
  rw [sum_loss m c 7 hn]
  funext _
  rw [Finset.sum_range, ← part_sum]
  exact Finset.sum_congr rfl fun i _ => by rw [Fin.ofNat_val_eq_self]

theorem arr_loss : (dats m 0 c).arrAt 4 cfg0.N = fun _ => loss (X0 m c) (X1 m c) (X2 m c) (X3 m c) := by
  refine (dats m 0 c).arrAt_eq_of_after_last 4 t0_7 (by decide +kernel) _ fun j => ?_
  blk_simp
  rw [after0_4]
  exact congrFun (last_loss m c t0_7.isLt) j

theorem arr_dx : (dats m 0 c).arrAt 5 cfg0.N = dx (X0 m c) (X1 m c) (X2 m c) (X3 m c) := by
  refine (dats m 0 c).arrAt_eq_of_covers 5 _ (by decide +kernel) fun t hf y => ?_
  blk_simp
  rw [after0_5, (outs m c t).1, pay5]
  refine (congrArg (fun a : EReal => a * ((1 / 2048 : ℝ) : EReal)) (err_eq m c t (y 0) (y 1))).trans ?_
  have hr : row (tr (tile t)) (y 0) = ((cfg0.win 5).blk t).view.emb y 0 := Fin.ext (by
    show t.val / 4 * 1024 + (y 0).val = _
    blk_simp [idx t])
  have hj : col (tc (tile t)) (y 1) = ((cfg0.win 5).blk t).view.emb y 1 := Fin.ext (by
    show t.val % 4 * 512 + (y 1).val = _
    blk_simp [idx t])
  rw [hr, hj]
  rfl

theorem arr_dxb : (dats m 0 c).arrAt 6 cfg0.N = dx (X0 m c) (X1 m c) (X2 m c) (X3 m c) := by
  refine (dats m 0 c).arrAt_eq_of_covers 6 _ (by decide +kernel) fun t hf y => ?_
  blk_simp
  rw [after0_6, (outs m c t).2, pay1]
  refine (congrArg (fun a : EReal => a * ((1 / 2048 : ℝ) : EReal)) (err_eq m c t (y 0) (y 1))).trans ?_
  have hr : row (tr (tile t)) (y 0) = ((cfg0.win 6).blk t).view.emb y 0 := Fin.ext (by
    show t.val / 4 * 1024 + (y 0).val = _
    blk_simp [idx t])
  have hj : col (tc (tile t)) (y 1) = ((cfg0.win 6).blk t).view.emb y 1 := Fin.ext (by
    show t.val % 4 * 512 + (y 1).val = _
    blk_simp [idx t])
  rw [hr, hj]
  rfl

end Cert.Kernel15Ideal.Product

namespace Cert.Reference15Ideal.Product

open Cert.Reference15Ideal Cert.Reference15Ideal.Read LossHead

variable (x0 : (⟨S2048x5632, .bf16⟩ : BufTy).Contents (Elt Ideal)) (x1 : (⟨S1x5632x2048, .bf16⟩ : BufTy).Contents (Elt Ideal))
  (x2 : (⟨S2048x2048, .f32⟩ : BufTy).Contents (Elt Ideal)) (x3 : (⟨S1x2048x2048, .f32⟩ : BufTy).Contents (Elt Ideal))

theorem v6 (s j : Fin 2048) : val_main_v6 (F := Ideal) x0 x1 x2 x3 (ix2 s j) = err x0 x1 x2 x3 s j := by
  rw [val_main_v6_apply, val_main_v4_apply, val_main_v3_apply]
  refine congrArg₂ (fun a b : EReal => a - b) (congrArg (fun b : EReal => x2 (ix2 s j) + b) (Finset.sum_congr rfl fun k _ => ?_)) ?_
  · rw [val_main_v1_apply, val_main_v2_apply, val_main_v0_apply]
    exact congrArg₂ (· * ·) (congrArg x0 (by blk_ext)) (congrArg x1 (by blk_ext))
  · rw [val_main_v5_apply]
    exact congrArg x3 (by blk_ext)

theorem v12 (s : Fin 2048) : val_main_v12 (F := Ideal) x0 x1 x2 x3 (ix1 s)
    = (∑ j, err x0 x1 x2 x3 s j * err x0 x1 x2 x3 s j) * ((1 / 2048 : ℝ) : EReal) := by
  pointwise [val_main_v12, val_main_v11, val_main_v10, val_main_v7, val_main_cst_0, val_main_cst_1]
  simp only [v6, bits_0, bits_2048, EReal.coe_zero, zero_add]
  rw [Ideal.div_coe (by norm_num)]

theorem v14 (i : S_.Idx) : val_main_v14 (F := Ideal) x0 x1 x2 x3 i = loss x0 x1 x2 x3 := by
  unfold loss sqr
  rw [← half]
  pointwise [val_main_v14, val_main_v13, val_main_cst_2, val_main_cst_3]
  simp only [v12, bits_0, bits_half, EReal.coe_zero, zero_add]

theorem v21 : val_main_v21 (F := Ideal) x0 x1 x2 x3 = fun _ => loss x0 x1 x2 x3 := by
  funext i
  rw [val_main_v21_apply, v14]

theorem v20 : val_main_v20 (F := Ideal) x0 x1 x2 x3 = dx x0 x1 x2 x3 := by
  refine ext2 fun s j => ?_
  pointwise [val_main_v20, val_main_v19, val_main_v18, val_main_v17, val_main_v16, val_main_v15, val_main_v9, val_main_v8,
    val_main_cst, val_main_cst_4, val_main_cst_5, val_main_cst_6]
  simp only [v6, bits_2, bits_half, bits_1, bits_2048, ← EReal.coe_mul, div_pos_coe _ 2048 (by norm_num)]
  exact third _

theorem v22 : val_main_v22 (F := Ideal) x0 x1 x2 x3 = dx x0 x1 x2 x3 :=
  v20 x0 x1 x2 x3

end Cert.Reference15Ideal.Product

end

end
-- ==== Proof.Prod16.lean ====
/-
  The RMS norm of the rows with its gain, of any inputs. The kernel takes the rows 512 at a time.
-/
module

public import proofs.«01_k».proof.Proof.Lift
public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace RmsForward

/-- A normalized row with its gain. -/
def nrm (x g : Fin 2048 → EReal) (j : Fin 2048) : EReal :=
  x j * Ideal.rsqrt (Ideal.div (∑ k, x k * x k) (Ideal.ofBits .f32 0x45000000#32) + Ideal.ofBits .f32 0x358637BD#32) * g j

/-- The normalized rows, with the gain of the first layer. -/
def out (x0 : (⟨2, ![2048, 2048]⟩ : Shape).Idx → EReal) (x1 : (⟨2, ![2, 2048]⟩ : Shape).Idx → EReal) :
    (⟨2, ![2048, 2048]⟩ : Shape).Idx → EReal :=
  fun i => nrm (fun k => x0 (ix2 (i 0) k)) (fun k => x1 (ix2 0 k)) (i 1)

end RmsForward

namespace Cert.Kernel16Ideal.Product

open Cert.Kernel16Ideal Cert.Kernel16Ideal.Gen RmsForward

theorem pay1 (x : Vec Ideal S512x2048 .f32) (g : Vec Ideal S1x1x2048 .f32) (p : Fin 512) (j : Fin 2048) :
    k0_pay1 (F := Ideal) x g (ix2 p j) = nrm (fun k => x (ix2 p k)) (fun k => g (ix3 0 0 k)) j := by
  unfold nrm
  pointwise [k0_pay1]

variable (m : (ℓ : Loc nD τ sig) → Buf (Elt Ideal) ℓ) (c : Dev nD)

abbrev X0 := m ((c : Thread nD τ).loc main_arg0)
abbrev X1 := m ((c : Thread nD τ).loc main_arg1)

theorem idx : ∀ t : Fin cfg0.N, win0_0.index t = ![t.val, 0] ∧ win0_1.index t = ![0, 0, 0] ∧ win0_2.index t = ![t.val, 0] :=
  (by decide +kernel : ∀ t : Fin grid0.N, _)

theorem V_0 : V m c main_arg0 = X0 m c := by
  unfold_abbrev_sides
  after_results
theorem V_1 : V m c main_v0 = shapeCast S2x1x2048 (X1 m c) shapeCasts_S2x2048_S2x1x2048 := by
  unfold_abbrev_sides
  after_results
  rfl

theorem gain (x : S2x2048.Idx → EReal) (j : Fin 2048) :
    shapeCast S2x1x2048 x shapeCasts_S2x2048_S2x1x2048 (ix3 0 0 j) = x (ix2 0 j) :=
  shapeCast_apply x shapeCasts_S2x2048_S2x1x2048 (ix3 0 0 j) (ix2 0 j) (by
    rewrite [Shape.rowMajor_val_three, Shape.rowMajor_val_two]
    show 0 * 2048 + j.val = (0 * 1 + 0) * 2048 + j.val
    omega)

def row (t : Fin cfg0.N) (p : Fin 512) : Fin 2048 :=
  ⟨t.val * 512 + p.val, by have ht : t.val < 4 := t.isLt; have := p.isLt; omega⟩

theorem blk_eq (t : Fin cfg0.N) (p : Fin 512) (j : Fin 2048) :
    k0_pay1 (F := Ideal) (iblk m c 0 t) (iblk m c 1 t) (ix2 p j) = out (X0 m c) (X1 m c) (ix2 (row t p) j) := by
  rw [pay1]
  refine congrArg₂ (fun x g => nrm x g j) (funext fun k => ?_) (funext fun k => ?_)
  · rw [← V_0]
    blk_ext [iblk, idx t, row]
  · refine Eq.trans (b := V m c main_v0 (ix3 0 0 k)) ?_ ?_
    · blk_ext [iblk, idx t]
    · rw [V_1]
      exact gain _ _

theorem arr : (dats m 0 c).arrAt 2 cfg0.N = out (X0 m c) (X1 m c) := by
  refine (dats m 0 c).arrAt_eq_of_covers 2 _ (by decide +kernel) fun t hf y => ?_
  blk_simp
  rw [after0_2]
  frame_out
  have hr : row t (y 0) = ((cfg0.win 2).blk t).view.emb y 0 := Fin.ext (by
    show t.val * 512 + (y 0).val = _
    blk_simp [idx t])
  have hj : y 1 = ((cfg0.win 2).blk t).view.emb y 1 := Fin.ext (by blk_simp [idx t])
  refine ((congrArg (k0_pay1 (F := Ideal) (iblk m c 0 t) (iblk m c 1 t)) (eq_ix2 y)).trans (blk_eq m c t (y 0) (y 1))).trans ?_
  rw [hr, hj]
  rfl

end Cert.Kernel16Ideal.Product

namespace Cert.Reference16Ideal.Product

open Cert.Reference16Ideal Cert.Reference16Ideal.Read RmsForward

theorem res (x0 : (⟨S2048x2048, .f32⟩ : BufTy).Contents (Elt Ideal)) (x1 : (⟨S2x2048, .f32⟩ : BufTy).Contents (Elt Ideal)) :
    val_main_v15 (F := Ideal) x0 x1 = out x0 x1 := by
  refine ext2 fun s j => ?_
  unfold out nrm
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]

end Cert.Reference16Ideal.Product

end

end
-- ==== Proof.Prod17.lean ====
/-
  The optimiser step of the convolution weights, of any inputs: the change, the two new averages. The kernel takes the
  weights as rows of one array.
-/
module

public import proofs.«01_k».proof.Proof.Lift
public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

open scoped BigOperators
open Idealize.ShloMosaic Idealize.ShloMosaic.TcCoe Idealize.SL.Sem Lift

namespace AdamW

/-- The new averages of the gradient and of its square, and the change of the weight. -/
def avg (g m : EReal) : EReal := Ideal.ofBits .f32 0x3F666666#32 * m + Ideal.ofBits .f32 0x3DCCCCCD#32 * g
def avg2 (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (avg g m) (Ideal.ofBits .f32 0x3F26BD02#32))
    (Ideal.sqrt (Ideal.div (avg2 g v) (Ideal.ofBits .f32 0x3C231ACC#32)) + Ideal.ofBits .f32 0x322BCC77#32)
    + Ideal.ofBits .f32 0x3C23D70A#32 * w)

end AdamW

namespace Cert.Reference17Ideal.Product

open Cert.Reference17Ideal Cert.Reference17Ideal.Gen Cert.Reference17Ideal.Read AdamW

variable (x0 x1 x2 x3 : (⟨S2x3x1408, .f32⟩ : BufTy).Contents (Elt Ideal))

/-- An array of the weights' shape as rows. -/
def flat (x : S2x3x1408.Idx → EReal) : S6x1408.Idx → EReal := shapeCast S6x1408 x shapeCasts_S2x3x1408_S6x1408

theorem v4 (i : S2x3x1408.Idx) : val_main_v4 (F := Ideal) x0 x2 i = avg (x0 i) (x2 i) := by
  unfold avg
  pointwise [val_main_v4, val_main_v3, val_main_v2, val_main_v1, val_main_v0, val_main_cst, val_main_cst_0]
theorem v10 (i : S2x3x1408.Idx) : val_main_v10 (F := Ideal) x0 x3 i = avg2 (x0 i) (x3 i) := by
  unfold avg2
  pointwise [val_main_v10, val_main_v9, val_main_v8, val_main_v7, val_main_v6, val_main_v5, val_main_cst_1, val_main_cst_2]
theorem v23 (i : S2x3x1408.Idx) : val_main_v23 (F := Ideal) x0 x1 x2 x3 i = step (x0 i) (x1 i) (x2 i) (x3 i) := by
  unfold step
  rw [← v4, ← v10]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

theorem v24 : val_main_v24 (F := Ideal) x0 x1 x2 x3 = fun i => step (flat x0 i) (flat x1 i) (flat x2 i) (flat x3 i) :=
  congrArg flat (funext (v23 x0 x1 x2 x3))
theorem v25 : val_main_v25 (F := Ideal) x0 x2 = fun i => avg (flat x0 i) (flat x2 i) :=
  congrArg flat (funext (v4 x0 x2))
theorem v26 : val_main_v26 (F := Ideal) x0 x3 = fun i => avg2 (flat x0 i) (flat x3 i) :=
  congrArg flat (funext (v10 x0 x3))

end Cert.Reference17Ideal.Product

namespace Cert.Kernel17Ideal.Product

open Cert.Kernel17Ideal Cert.Kernel17Ideal.Gen AdamW Cert.Reference17Ideal.Product

section

variable (w g a b : Vec Ideal S6x1408 .f32) (i : S6x1408.Idx)

theorem pay2 : k0_pay2 (F := Ideal) g a i = avg (g i) (a i) := by
  unfold avg
  pointwise [k0_pay2, k0_pay1]
theorem pay3 : k0_pay3 (F := Ideal) g b i = avg2 (g i) (b i) := by
  unfold avg2
  pointwise [k0_pay3, k0_pay1]
theorem pay4 : k0_pay4 (F := Ideal) w g a b i = step (g i) (w i) (a i) (b i) := by
  unfold step
  rw [← pay2, ← pay3]
  pointwise [k0_pay4]

end

variable (m : (ℓ : Loc nD τ sig) → Buf (Elt Ideal) ℓ) (c : Dev nD)

theorem V_0 : V m c main_v0 = flat (m ((c : Thread nD τ).loc main_arg0)) := by
  unfold_abbrev_sides
  after_results
  rfl
theorem V_1 : V m c main_v1 = flat (m ((c : Thread nD τ).loc main_arg1)) := by
  unfold_abbrev_sides
  after_results
  rfl
theorem V_2 : V m c main_v2 = flat (m ((c : Thread nD τ).loc main_arg2)) := by
  unfold_abbrev_sides
  after_results
  rfl
theorem V_3 : V m c main_v3 = flat (m ((c : Thread nD τ).loc main_arg3)) := by
  unfold_abbrev_sides
  after_results
  rfl

abbrev G := flat (m ((c : Thread nD τ).loc main_arg0))
abbrev W := flat (m ((c : Thread nD τ).loc main_arg1))
abbrev A := flat (m ((c : Thread nD τ).loc main_arg2))
abbrev B := flat (m ((c : Thread nD τ).loc main_arg3))

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk_0 (t : Fin cfg0.N) : iblk m c 0 t = G m c := by
  refine Eq.trans ?_ (V_0 m c)
  refine ext2 fun p j => ?_
  blk_ext [iblk, idx t]

theorem blk_1 (t : Fin cfg0.N) : iblk m c 1 t = W m c := by
  refine Eq.trans ?_ (V_1 m c)
  refine ext2 fun p j => ?_
  blk_ext [iblk, idx t]

theorem blk_2 (t : Fin cfg0.N) : iblk m c 2 t = A m c := by
  refine Eq.trans ?_ (V_2 m c)
  refine ext2 fun p j => ?_
  blk_ext [iblk, idx t]

theorem blk_3 (t : Fin cfg0.N) : iblk m c 3 t = B m c := by
  refine Eq.trans ?_ (V_3 m c)
  refine ext2 fun p j => ?_
  blk_ext [iblk, idx t]

theorem arr_4 : (dats m 0 c).arrAt 4 cfg0.N = fun i => step (G m c i) (W m c i) (A m c i) (B m c i) := by
  refine (dats m 0 c).arrAt_eq_of_covers 4 _ (by decide +kernel) fun t hf y => ?_
  blk_simp
  rw [after0_4]
  frame_out
  simp only [blk_0, blk_1, blk_2, blk_3]
  refine (pay4 _ _ _ _ _).trans ?_
  have hy : y = ((cfg0.win 4).blk t).view.emb y := by
    refine funext fun a => Fin.ext ?_
    match a with
    | ⟨0, _⟩ => blk_simp [idx t]
    | ⟨1, _⟩ => blk_simp [idx t]
  exact congrArg (fun i => step (G m c i) (W m c i) (A m c i) (B m c i)) hy

theorem arr_5 : (dats m 0 c).arrAt 5 cfg0.N = fun i => avg (G m c i) (A m c i) := by
  refine (dats m 0 c).arrAt_eq_of_covers 5 _ (by decide +kernel) fun t hf y => ?_
  blk_simp
  rw [after0_5]
  frame_out
  simp only [blk_0, blk_1, blk_2, blk_3]
  refine (pay2 _ _ _).trans ?_
  have hy : y = ((cfg0.win 5).blk t).view.emb y := by
    refine funext fun a => Fin.ext ?_
    match a with
    | ⟨0, _⟩ => blk_simp [idx t]
    | ⟨1, _⟩ => blk_simp [idx t]
  exact congrArg (fun i => avg (G m c i) (A m c i)) hy

theorem arr_6 : (dats m 0 c).arrAt 6 cfg0.N = fun i => avg2 (G m c i) (B m c i) := by
  refine (dats m 0 c).arrAt_eq_of_covers 6 _ (by decide +kernel) fun t hf y => ?_
  blk_simp
  rw [after0_6]
  frame_out
  simp only [blk_0, blk_1, blk_2, blk_3]
  refine (pay3 _ _ _).trans ?_
  have hy : y = ((cfg0.win 6).blk t).view.emb y := by
    refine funext fun a => Fin.ext ?_
    match a with
    | ⟨0, _⟩ => blk_simp [idx t]
    | ⟨1, _⟩ => blk_simp [idx t]
  exact congrArg (fun i => avg2 (G m c i) (B m c i)) hy

end Cert.Kernel17Ideal.Product

end

end
-- ==== Proof.HeadNorm.lean ====
/-
  The gradient through the norm of one head and the rotation of its halves, on real numbers, and the inputs of the whole:
  eight query heads and two key heads of 128 columns over 2048 rows.
-/
module

public import proofs.«01_k».proof.Proof.Lift

@[expose] public section

noncomputable section

open scoped BigOperators
open Idealize.ShloMosaic Lift

namespace HeadNorm

open SpatialGate (eps)

/-- The mean square of a row of a head plus epsilon, its inverse root, the normalized row, the gradient through it. -/
def ms (x : Fin 128 → ℝ) : ℝ := (∑ k, x k * x k) / 128 + eps
def r (x : Fin 128 → ℝ) : ℝ := (√(ms x))⁻¹
def xh (x : Fin 128 → ℝ) (j : Fin 128) : ℝ := x j * r x
def dx (x n g : Fin 128 → ℝ) (j : Fin 128) : ℝ :=
  r x * (n j * g j - xh x j * ((∑ k, n k * g k * xh x k) / 128))

/-- The column in the other half of a head. -/
def sw (j : Fin 128) : Fin 128 := ⟨(j.val + 64) % 128, Nat.mod_lt _ (by decide)⟩

/-- The gradient through the rotation of a head's halves; `c` and `s` are rows of the tables over both halves. -/
def dn (d c s : Fin 128 → ℝ) (j : Fin 128) : ℝ := d j * c j + d (sw j) * s (sw j)

theorem ms_pos (x : Fin 128 → ℝ) : 0 < ms x :=
  add_pos_of_nonneg_of_pos (div_nonneg (Finset.sum_nonneg fun _ _ => mul_self_nonneg _) (by norm_num)) SpatialGate.Gate.eps_pos

theorem r_sq (x : Fin 128 → ℝ) : r x * r x = 1 / ms x := by
  rw [r, ← mul_inv, Real.mul_self_sqrt (ms_pos x).le, one_div]

/-- The closed form is what the gradient through the mean and the inverse root adds up to. -/
theorem dx_eq (x n g : Fin 128 → ℝ) (j : Fin 128) :
    n j * g j * r x + (x j * ((∑ k, x k * (n k * g k)) * (-(1 / 2) * (r x / ms x)) / 128)
      + (∑ k, x k * (n k * g k)) * (-(1 / 2) * (r x / ms x)) / 128 * x j) = dx x n g j := by
  have e : ∑ k, n k * g k * xh x k = r x * ∑ k, x k * (n k * g k) := by
    rw [Finset.mul_sum]
    exact Finset.sum_congr rfl fun k _ => by unfold xh; ring
  have q : r x / ms x = r x * (r x * r x) := by rw [r_sq]; ring
  unfold dx
  rw [e, q]
  unfold xh
  ring

theorem bits_128 : Ideal.ofBits .f32 0x43000000#32 = ((128 : ℝ) : EReal) := by
  simp [Ideal.ofBits, Ideal.ieee, -EReal.coe_mul]; norm_num

theorem div_128 (x : ℝ) : Ideal.div ((x : ℝ) : EReal) ((128 : ℝ) : EReal) = ((x / 128 : ℝ) : EReal) :=
  div_pos_coe x 128 (by norm_num)

/-- Row `p` of tile `t`. -/
def row (t : Fin 16) (p : Fin 128) : Fin 2048 := ⟨t.val * 128 + p.val, by have := t.isLt; have := p.isLt; omega⟩

/-- Column `d` of query head `h`; of key head `h`. -/
def qcol (h : Fin 8) (d : Fin 128) : Fin 1024 := ⟨h.val * 128 + d.val, by have := h.isLt; have := d.isLt; omega⟩
def kcol (h : Fin 2) (d : Fin 128) : Fin 256 := ⟨h.val * 128 + d.val, by have := h.isLt; have := d.isLt; omega⟩

/-- The head of a column, and the column in it. -/
def qhd (j : Fin 1024) : Fin 8 := ⟨j.val / 128, by have := j.isLt; omega⟩
def qof (j : Fin 1024) : Fin 128 := ⟨j.val % 128, Nat.mod_lt _ (by decide)⟩
def khd (j : Fin 256) : Fin 2 := ⟨j.val / 128, by have := j.isLt; omega⟩
def kof (j : Fin 256) : Fin 128 := ⟨j.val % 128, Nat.mod_lt _ (by decide)⟩

theorem qhd_qcol (h : Fin 8) (d : Fin 128) : qhd (qcol h d) = h :=
  Fin.ext (by have := d.isLt; show (h.val * 128 + d.val) / 128 = h.val; omega)
theorem qof_qcol (h : Fin 8) (d : Fin 128) : qof (qcol h d) = d :=
  Fin.ext (by have := d.isLt; show (h.val * 128 + d.val) % 128 = d.val; omega)
theorem qcol_eq (j : Fin 1024) : qcol (qhd j) (qof j) = j :=
  Fin.ext (by show j.val / 128 * 128 + j.val % 128 = j.val; omega)
theorem khd_kcol (h : Fin 2) (d : Fin 128) : khd (kcol h d) = h :=
  Fin.ext (by have := d.isLt; show (h.val * 128 + d.val) / 128 = h.val; omega)
theorem kof_kcol (h : Fin 2) (d : Fin 128) : kof (kcol h d) = d :=
  Fin.ext (by have := d.isLt; show (h.val * 128 + d.val) % 128 = d.val; omega)
theorem kcol_eq (j : Fin 256) : kcol (khd j) (kof j) = j :=
  Fin.ext (by show j.val / 128 * 128 + j.val % 128 = j.val; omega)

/-- The inputs: the query and key rows, the gradients behind the rotation, the gains, the tables. -/
structure Heads where
  q : Fin 2048 → Fin 1024 → ℝ
  k : Fin 2048 → Fin 256 → ℝ
  dq : Fin 2048 → Fin 1024 → ℝ
  dk : Fin 2048 → Fin 256 → ℝ
  gq : Fin 128 → ℝ
  gk : Fin 128 → ℝ
  cos : Fin 2048 → Fin 64 → ℝ
  sin : Fin 2048 → Fin 64 → ℝ

namespace Heads

variable (D : Heads)

def lane (j : Fin 128) : Fin 64 := ⟨j.val % 64, Nat.mod_lt _ (by decide)⟩

/-- The tables over both halves of a head; the sine is negated over the first. -/
def c2 (s : Fin 2048) (j : Fin 128) : ℝ := D.cos s (lane j)
def s2 (s : Fin 2048) (j : Fin 128) : ℝ := if j.val < 64 then -D.sin s (lane j) else D.sin s (lane j)

/-- Head `h` of a row of the queries and of the keys, and the gradient through its rotation. -/
def qx (h : Fin 8) (s : Fin 2048) (d : Fin 128) : ℝ := D.q s (qcol h d)
def qn (h : Fin 8) (s : Fin 2048) : Fin 128 → ℝ := dn (fun d => D.dq s (qcol h d)) (D.c2 s) (D.s2 s)
def kx (h : Fin 2) (s : Fin 2048) (d : Fin 128) : ℝ := D.k s (kcol h d)
def kn (h : Fin 2) (s : Fin 2048) : Fin 128 → ℝ := dn (fun d => D.dk s (kcol h d)) (D.c2 s) (D.s2 s)

/-- The gradients of the query and key rows. -/
def dzq (s : Fin 2048) (j : Fin 1024) : ℝ := dx (D.qx (qhd j) s) (D.qn (qhd j) s) D.gq (qof j)
def dzk (s : Fin 2048) (j : Fin 256) : ℝ := dx (D.kx (khd j) s) (D.kn (khd j) s) D.gk (kof j)

/-- The gradients of the gains, and the shares of one tile of rows. -/
def dqg (j : Fin 128) : ℝ := ∑ s, ∑ h, D.qn h s j * xh (D.qx h s) j
def dkg (j : Fin 128) : ℝ := ∑ s, ∑ h, D.kn h s j * xh (D.kx h s) j
def qT (t : Fin 16) (h : Fin 8) (j : Fin 128) : ℝ := ∑ p, D.qn h (row t p) j * xh (D.qx h (row t p)) j
def kT (t : Fin 16) (h : Fin 2) (j : Fin 128) : ℝ := ∑ p, D.kn h (row t p) j * xh (D.kx h (row t p)) j
def dqgT (t : Fin 16) (j : Fin 128) : ℝ := ∑ h, D.qT t h j
def dkgT (t : Fin 16) (j : Fin 128) : ℝ := ∑ h, D.kT t h j

theorem dqg_eq (j : Fin 128) : ∑ t, D.dqgT t j = D.dqg j := by
  unfold dqg
  rw [Fin.sum_univ_tiles 16 128 rfl]
  exact Finset.sum_congr rfl fun t _ => Finset.sum_comm

theorem dkg_eq (j : Fin 128) : ∑ t, D.dkgT t j = D.dkg j := by
  unfold dkg
  rw [Fin.sum_univ_tiles 16 128 rfl]
  exact Finset.sum_congr rfl fun t _ => Finset.sum_comm

/-- The arrays as they are read hold the inputs; the band of the keys' gradient starts at row 128. -/
structure Holds (z : (⟨2, ![2048, 3584]⟩ : Shape).Idx → EReal) (dq : (⟨2, ![2048, 1024]⟩ : Shape).Idx → EReal)
    (dk : (⟨2, ![2304, 256]⟩ : Shape).Idx → EReal) (gq gk : (⟨2, ![2, 128]⟩ : Shape).Idx → EReal)
    (cos sin : (⟨2, ![2048, 64]⟩ : Shape).Idx → EReal) : Prop where
  q : ∀ s (j : Fin 1024), z (ix2 s ⟨j.val, by have := j.isLt; omega⟩) = ((D.q s j : ℝ) : EReal)
  k : ∀ s (j : Fin 256), z (ix2 s ⟨3072 + j.val, by have := j.isLt; omega⟩) = ((D.k s j : ℝ) : EReal)
  dq : ∀ s j, dq (ix2 s j) = ((D.dq s j : ℝ) : EReal)
  dk : ∀ (s : Fin 2048) j, dk (ix2 ⟨128 + s.val, by have := s.isLt; omega⟩ j) = ((D.dk s j : ℝ) : EReal)
  gq : ∀ j, gq (ix2 0 j) = ((D.gq j : ℝ) : EReal)
  gk : ∀ j, gk (ix2 0 j) = ((D.gk j : ℝ) : EReal)
  cos : ∀ s j, cos (ix2 s j) = ((D.cos s j : ℝ) : EReal)
  sin : ∀ s j, sin (ix2 s j) = ((D.sin s j : ℝ) : EReal)

/-- The keys' gradient beside the band of the values' gradient. -/
def wide (dv : (⟨2, ![2304, 256]⟩ : Shape).Idx → EReal) (s : Fin 2048) (j : Fin 512) : EReal :=
  if h : j.val < 256 then ((D.dzk s ⟨j.val, h⟩ : ℝ) : EReal)
    else dv (ix2 ⟨128 + s.val, by have := s.isLt; omega⟩ ⟨j.val - 256, by have := j.isLt; omega⟩)

end Heads

end HeadNorm

end

end
-- ==== Proof.HeadPay.lean ====
/-
  The payloads of the gradient of the heads' norms on real numbers: each head computes what the others compute, on its
  own columns.
-/
module

public import proofs.«01_k».proof.Proof.HeadNorm
public import proofs.«01_k».proof.Proof.Gen.Kernel18Ideal.Skeleton

@[expose] public section

noncomputable section

open scoped BigOperators
open Idealize.ShloMosaic Lift HeadNorm

namespace Cert.Kernel18Ideal.HeadPay

open Cert.Kernel18Ideal Cert.Kernel18Ideal.Gen

/-- Products and sums of arrays of real numbers. -/
theorem mulf_up (a b : Fin 128 → Fin 128 → ℝ) :
    mulf (F := Ideal) (φ := .f32) (s := S128x128) (up2 a) (up2 b) = up2 fun p j => a p j * b p j :=
  ext2 fun p j => by pointwise; simp only [up2_apply, ← EReal.coe_mul]

theorem addf_up (a b : Fin 128 → Fin 128 → ℝ) :
    addf (F := Ideal) (φ := .f32) (s := S128x128) (up2 a) (up2 b) = up2 fun p j => a p j + b p j :=
  ext2 fun p j => by pointwise; simp only [up2_apply, ← EReal.coe_add]

/-- A rotation by half of the columns exchanges the halves. -/
theorem roll (f : Fin 128 → Fin 128 → ℝ) :
    dynamicRotate (s := S128x128) 1 64#32 none (up2 f) rotates_S128x128_d1 = up2 fun p j => f p (sw j) := by
  refine ext2 fun p j => ?_
  have e0 : (((ix2 p j : S128x128.Idx) 0).val) = p.val := rfl
  refine congrArg₂ (fun a b => ((f a b : ℝ) : EReal)) rfl (Fin.ext ?_)
  show (j.val + 128 - 64 % 128) % 128 = (j.val + 64) % 128
  omega

section

variable (x d c s y n : Fin 128 → Fin 128 → ℝ) (g : Fin 128 → ℝ) (a b : Fin 1 → Fin 128 → ℝ)

/-- The tables as they are read. -/
theorem pay6 : k0_pay6 (F := Ideal) (up2 c) = up2 c := by
  refine ext2 fun p j => ?_
  pointwise [k0_pay6]
theorem pay7 : k0_pay7 (F := Ideal) (up2 s) = up2 s := pay6 s

/-- The inverse root. -/
theorem pay9 : k0_pay9 (F := Ideal) (up2 x) = up2 fun p _ => r (x p) := by
  refine ext2 fun p j => ?_
  pointwise [k0_pay9]
  simp only [up2_apply, bits_128, bits_eps, div_128, ← EReal.coe_mul, ← EReal.coe_add, coe_sum]
  exact rsqrt_pos (ms_pos (x p))

theorem pay15 : k0_pay15 (F := Ideal) (up2 x) = up2 fun p _ => r (x p) := pay9 x
theorem pay20 : k0_pay20 (F := Ideal) (up2 x) = up2 fun p _ => r (x p) := pay9 x
theorem pay25 : k0_pay25 (F := Ideal) (up2 x) = up2 fun p _ => r (x p) := pay9 x
theorem pay31 : k0_pay31 (F := Ideal) (up2 x) = up2 fun p _ => r (x p) := pay9 x
theorem pay44 : k0_pay44 (F := Ideal) (up2 x) = up2 fun p _ => r (x p) := pay9 x
theorem pay50 : k0_pay50 (F := Ideal) (up2 x) = up2 fun p _ => r (x p) := pay9 x
theorem pay59 : k0_pay59 (F := Ideal) (up2 x) = up2 fun p _ => r (x p) := pay9 x
theorem pay66 : k0_pay66 (F := Ideal) (up2 x) = up2 fun p _ => r (x p) := pay9 x
theorem pay38 : k0_pay38 (F := Ideal) (k0_pay37 (F := Ideal) (up2 x)) = up2 fun p _ => r (x p) := pay9 x

/-- The normalized rows. -/
theorem pay10 : k0_pay10 (F := Ideal) (up2 x) = up2 fun p j => xh (x p) j := by
  refine ext2 fun p j => ?_
  pointwise [k0_pay10]
  simp only [pay9, up2_apply, ← EReal.coe_mul]
  rfl

theorem pay16 : k0_pay16 (F := Ideal) (up2 x) = up2 fun p j => xh (x p) j := pay10 x
theorem pay21 : k0_pay21 (F := Ideal) (up2 x) = up2 fun p j => xh (x p) j := pay10 x
theorem pay26 : k0_pay26 (F := Ideal) (up2 x) = up2 fun p j => xh (x p) j := pay10 x
theorem pay32 : k0_pay32 (F := Ideal) (up2 x) = up2 fun p j => xh (x p) j := pay10 x
theorem pay45 : k0_pay45 (F := Ideal) (up2 x) = up2 fun p j => xh (x p) j := pay10 x
theorem pay51 : k0_pay51 (F := Ideal) (up2 x) = up2 fun p j => xh (x p) j := pay10 x
theorem pay60 : k0_pay60 (F := Ideal) (up2 x) = up2 fun p j => xh (x p) j := pay10 x
theorem pay67 : k0_pay67 (F := Ideal) (up2 x) = up2 fun p j => xh (x p) j := pay10 x
theorem pay39 : k0_pay39 (F := Ideal) (up2 x) (k0_pay37 (F := Ideal) (up2 x)) = up2 fun p j => xh (x p) j := pay10 x

/-- The gradient through the rotation. -/
theorem pay17 : k0_pay17 (F := Ideal) (up2 c) (up2 s) (up2 d) = up2 fun p => dn (d p) (c p) (s p) := by
  show addf (F := Ideal) (φ := .f32) (s := S128x128) (mulf (F := Ideal) (φ := .f32) (s := S128x128) (up2 d) (up2 c))
    (dynamicRotate (s := S128x128) 1 64#32 none (mulf (F := Ideal) (φ := .f32) (s := S128x128) (up2 d) (up2 s)) _) = _
  rw [mulf_up, mulf_up, roll, addf_up]
  rfl
theorem pay11 : k0_pay11 (F := Ideal) (up2 c) (up2 s) (up2 d) = up2 fun p => dn (d p) (c p) (s p) := by
  show k0_pay17 (F := Ideal) (k0_pay6 (up2 c)) (k0_pay7 (up2 s)) (up2 d) = _
  rw [pay6, pay7, pay17]

theorem pay22 : k0_pay22 (F := Ideal) (up2 c) (up2 s) (up2 d) = up2 fun p => dn (d p) (c p) (s p) := pay17 d c s
theorem pay27 : k0_pay27 (F := Ideal) (up2 c) (up2 s) (up2 d) = up2 fun p => dn (d p) (c p) (s p) := pay17 d c s
theorem pay33 : k0_pay33 (F := Ideal) (up2 c) (up2 s) (up2 d) = up2 fun p => dn (d p) (c p) (s p) := pay17 d c s
theorem pay40 : k0_pay40 (F := Ideal) (up2 c) (up2 s) (up2 d) = up2 fun p => dn (d p) (c p) (s p) := pay17 d c s
theorem pay52 : k0_pay52 (F := Ideal) (up2 c) (up2 s) (up2 d) = up2 fun p => dn (d p) (c p) (s p) := pay17 d c s
theorem pay68 : k0_pay68 (F := Ideal) (up2 c) (up2 s) (up2 d) = up2 fun p => dn (d p) (c p) (s p) := pay17 d c s
theorem pay47 : k0_pay47 (F := Ideal) (up2 s) (up2 d) (k0_pay46 (F := Ideal) (up2 c) (up2 d))
    = up2 fun p => dn (d p) (c p) (s p) := pay17 d c s
theorem pay63 : k0_pay63 (F := Ideal) (k0_pay61 (F := Ideal) (up2 c) (up2 d)) (k0_pay62 (F := Ideal) (up2 s) (up2 d))
    = up2 fun p => dn (d p) (c p) (s p) := pay17 d c s

/-- The gradient of a head's rows. -/
theorem pay19 : k0_pay19 (F := Ideal) (up2 c) (up2 s) (up2 x) (up2 d) (up3 fun _ _ j => g j)
    = up2 fun p => dx (x p) (dn (d p) (c p) (s p)) g := by
  refine ext2 fun p j => ?_
  pointwise [k0_pay19]
  simp only [pay15, pay16, pay17, up2_apply, up3_apply, bits_128, div_128, ← EReal.coe_mul, ← EReal.coe_sub, coe_sum]
  rfl
theorem pay13 : k0_pay13 (F := Ideal) (k0_pay12 (F := Ideal) (up2 c) (up2 s) (up2 x) (up2 d) (up3 fun _ _ j => g j))
    = up2 fun p => dx (x p) (dn (d p) (c p) (s p)) g := by
  show k0_pay19 (F := Ideal) (k0_pay6 (up2 c)) (k0_pay7 (up2 s)) (up2 x) (up2 d) (up3 fun _ _ j => g j) = _
  rw [pay6, pay7, pay19]

theorem pay23 : k0_pay23 (F := Ideal) (up2 c) (up2 s) (up2 x) (up2 d) (up3 fun _ _ j => g j)
    = up2 fun p => dx (x p) (dn (d p) (c p) (s p)) g := pay19 x d c s g
theorem pay28 : k0_pay28 (F := Ideal) (up2 c) (up2 s) (up2 x) (up2 d) (up3 fun _ _ j => g j)
    = up2 fun p => dx (x p) (dn (d p) (c p) (s p)) g := pay19 x d c s g
theorem pay34 : k0_pay34 (F := Ideal) (up2 c) (up2 s) (up2 x) (up2 d) (k0_pay30 (F := Ideal) (up3 fun _ _ j => g j))
    = up2 fun p => dx (x p) (dn (d p) (c p) (s p)) g := pay19 x d c s g
theorem pay41 : k0_pay41 (F := Ideal) (up2 c) (up2 s) (up2 x) (up2 d) (k0_pay36 (F := Ideal) (up3 fun _ _ j => g j)) (k0_pay37 (F := Ideal) (up2 x))
    = up2 fun p => dx (x p) (dn (d p) (c p) (s p)) g := pay19 x d c s g
theorem pay48 : k0_pay48 (F := Ideal) (up2 s) (up2 d) (k0_pay43 (F := Ideal) (up3 fun _ _ j => g j)) (up2 fun p _ => r (x p)) (up2 fun p j => xh (x p) j)
      (k0_pay46 (F := Ideal) (up2 c) (up2 d))
    = up2 fun p => dx (x p) (dn (d p) (c p) (s p)) g := by
  rw [← pay44 x, ← pay45 x]
  exact pay19 x d c s g
theorem pay55 : k0_pay55 (F := Ideal) (up2 fun p _ => r (x p)) (up2 fun p j => xh (x p) j) (k0_pay53 (F := Ideal) (up2 c) (up2 s) (up2 d) (up3 fun _ _ j => g j))
      (k0_pay54 (F := Ideal) (up2 c) (up2 s) (up2 x) (up2 d) (up3 fun _ _ j => g j))
    = up2 fun p => dx (x p) (dn (d p) (c p) (s p)) g := by
  rw [← pay50 x, ← pay51 x]
  exact pay19 x d c s g
theorem pay64 : k0_pay64 (F := Ideal) (k0_pay58 (F := Ideal) (up3 fun _ _ j => g j)) (up2 fun p _ => r (x p)) (up2 fun p j => xh (x p) j) (k0_pay61 (F := Ideal) (up2 c) (up2 d))
      (k0_pay62 (F := Ideal) (up2 s) (up2 d))
    = up2 fun p => dx (x p) (dn (d p) (c p) (s p)) g := by
  rw [← pay59 x, ← pay60 x]
  exact pay19 x d c s g
theorem pay1 : k0_pay1 (F := Ideal) (up2 fun p _ => r (x p)) (up2 fun p j => xh (x p) j) (k0_pay69 (F := Ideal) (up2 c) (up2 s) (up2 d) (up3 fun _ _ j => g j))
      (k0_pay70 (F := Ideal) (up2 c) (up2 s) (up2 x) (up2 d) (up3 fun _ _ j => g j))
    = up2 fun p => dx (x p) (dn (d p) (c p) (s p)) g := by
  rw [← pay66 x, ← pay67 x]
  exact pay19 x d c s g

/-- The gain's gradient: a tile's share is added. -/
theorem pay14 : k0_pay14 (F := Ideal) (up2 a) (up2 y) (up2 n) = up2 fun z j => a z j + ∑ p, n p j * y p j := by
  refine ext2 fun z j => ?_
  pointwise [k0_pay14]
  simp only [up2_apply, ← EReal.coe_mul, ← EReal.coe_add, coe_sum]

theorem addf_row : addf (F := Ideal) (φ := .f32) (s := S1x128) (up2 a) (up2 b) = up2 fun z j => a z j + b z j :=
  ext2 fun p j => by pointwise; simp only [up2_apply, ← EReal.coe_add]

theorem self_row : shapeCast (s := S1x128) S1x128 (up2 a) shapeCasts_S1x128_S1x128 = up2 a :=
  ext2 fun p j => by pointwise

theorem pay18 : k0_pay18 (F := Ideal) (up2 c) (up2 s) (up2 x) (up2 d)
    = up2 fun _ j => ∑ p, dn (d p) (c p) (s p) j * xh (x p) j := by
  refine ext2 fun z j => ?_
  pointwise [k0_pay18]
  simp only [pay16, pay17, up2_apply, ← EReal.coe_mul, coe_sum]

theorem pay24 : k0_pay24 (F := Ideal) (up2 c) (up2 s) (up2 a) (up2 b) (up2 x) (up2 d)
    = up2 fun z j => a z j + b z j + ∑ p, dn (d p) (c p) (s p) j * xh (x p) j := by
  show k0_pay14 (F := Ideal) (addf (F := Ideal) (φ := .f32) (s := S1x128) (up2 a) (up2 b)) (k0_pay21 (F := Ideal) (up2 x)) (k0_pay22 (F := Ideal) (up2 c) (up2 s) (up2 d)) = _
  rw [addf_row, pay21, pay22, pay14]

theorem pay29 : k0_pay29 (F := Ideal) (up2 c) (up2 s) (up2 a) (up2 x) (up2 d)
    = up2 fun z j => a z j + ∑ p, dn (d p) (c p) (s p) j * xh (x p) j := by
  show k0_pay14 (F := Ideal) (up2 a) (k0_pay26 (F := Ideal) (up2 x)) (k0_pay27 (F := Ideal) (up2 c) (up2 s) (up2 d)) = _
  rw [pay26, pay27, pay14]

theorem pay35 : k0_pay35 (F := Ideal) (up2 c) (up2 s) (up2 a) (up2 x) (up2 d)
    = up2 fun z j => a z j + ∑ p, dn (d p) (c p) (s p) j * xh (x p) j := pay29 x d c s a
theorem pay42 : k0_pay42 (F := Ideal) (up2 c) (up2 s) (up2 a) (up2 x) (up2 d) (k0_pay37 (F := Ideal) (up2 x))
    = up2 fun z j => a z j + ∑ p, dn (d p) (c p) (s p) j * xh (x p) j := pay29 x d c s a
theorem pay49 : k0_pay49 (F := Ideal) (up2 s) (up2 a) (up2 d) (up2 y) (k0_pay46 (F := Ideal) (up2 c) (up2 d))
    = up2 fun z j => a z j + ∑ p, dn (d p) (c p) (s p) j * y p j := by
  show k0_pay14 (F := Ideal) (up2 a) (up2 y) (k0_pay17 (F := Ideal) (up2 c) (up2 s) (up2 d)) = _
  rw [pay17, pay14]
theorem pay65 : k0_pay65 (F := Ideal) (up2 a) (up2 y) (k0_pay61 (F := Ideal) (up2 c) (up2 d)) (k0_pay62 (F := Ideal) (up2 s) (up2 d))
    = up2 fun z j => a z j + ∑ p, dn (d p) (c p) (s p) j * y p j := by
  show k0_pay14 (F := Ideal) (up2 a) (up2 y) (k0_pay17 (F := Ideal) (up2 c) (up2 s) (up2 d)) = _
  rw [pay17, pay14]

theorem pay56 : k0_pay56 (F := Ideal) (up2 a) (up2 y) (up2 n) (up2 b)
    = up2 fun z j => b z j + (a z j + ∑ p, n p j * y p j) := by
  show addf (F := Ideal) (φ := .f32) (s := S1x128) (shapeCast (s := S1x128) S1x128 (up2 b) _) (k0_pay14 (F := Ideal) (up2 a) (up2 y) (up2 n)) = _
  rw [self_row, pay14, addf_row]
theorem pay2 : k0_pay2 (F := Ideal) (up2 a) (up2 y) (up2 n) (up2 b)
    = up2 fun z j => b z j + (a z j + ∑ p, n p j * y p j) := pay56 y n a b

/-- The sums' first values. -/
theorem pay8 : k0_pay8 (F := Ideal) = up2 fun _ _ => 0 := by
  refine ext2 fun p j => ?_
  pointwise [k0_pay8]
  simp only [up2_apply, bits_0, EReal.coe_zero]
theorem pay4 : k0_pay4 (F := Ideal) = up2 fun _ _ => 0 := pay8
theorem pay5 : k0_pay5 (F := Ideal) = up2 fun _ _ => 0 := pay8
theorem pay57 : k0_pay57 (F := Ideal) = up2 fun _ _ => 0 := pay8

/-- The columns that are only handed on. -/
theorem pay3 (v : Vec Ideal S128x256 .f32) : k0_pay3 (F := Ideal) v = v := rfl

end

end Cert.Kernel18Ideal.HeadPay

end

end
-- ==== Proof.HeadPoint.lean ====
/-
  One grid point of the gradient of the heads' norms on real blocks: the heads loaded, what is left in each output's
  buffer. A point of case A (the first) starts the gains' sums at zero; a point of case B adds to what the point before
  left.
-/
module

public import proofs.«01_k».proof.Proof.HeadPay
public import proofs.«01_k».proof.Proof.Gen.Kernel18Ideal.Value
public import Idealize.ShloMosaic.Lib.Pipeline.ValueKit
public import Idealize.ShloMosaic.Lib.Pipeline.ReadBack

@[expose] public section

noncomputable section

open scoped BigOperators
open Idealize.ShloMosaic Idealize.ShloMosaic.TcCoe Idealize.SL.Sem Lift HeadNorm

namespace Cert.Kernel18Ideal.HeadPoint

open Cert.Kernel18Ideal Cert.Kernel18Ideal.Gen Cert.Kernel18Ideal.HeadPay

/-- The columns of one query head, loaded. -/
theorem ldq (h : Fin 8) (f : Fin 128 → Fin 1024 → ℝ) (inb) :
    View.ld (Val := Elt Ideal) (e' := .f32) (S := S128x1024) (up2 f) (Rect.unit ![0, h.val * 128] ![128, 128] inb)
      = up2 fun p d => f p (qcol h d) :=
  funext fun i => View.ld_unit_apply_of (e := .f32) _ _ _ _ _ (ix2 (i 0) (qcol h (i 1))) fun a => by
    match a with
    | ⟨0, _⟩ => exact (Nat.zero_add _).symm
    | ⟨1, _⟩ => rfl

/-- The columns of one key head, loaded. -/
theorem ldk (h : Fin 2) (f : Fin 128 → Fin 256 → ℝ) (inb) :
    View.ld (Val := Elt Ideal) (e' := .f32) (S := S128x256) (up2 f) (Rect.unit ![0, h.val * 128] ![128, 128] inb)
      = up2 fun p d => f p (kcol h d) :=
  funext fun i => View.ld_unit_apply_of (e := .f32) _ _ _ _ _ (ix2 (i 0) (kcol h (i 1))) fun a => by
    match a with
    | ⟨0, _⟩ => exact (Nat.zero_add _).symm
    | ⟨1, _⟩ => rfl

/-- The columns of one key head, loaded from a block whose first 256 columns are the keys. -/
theorem ldz (h : Fin 2) (f : Fin 128 → Fin 256 → ℝ) (x : Vec Ideal S128x512 .f32)
    (hx : ∀ p (j : Fin 256), x (ix2 p ⟨j.val, by have := j.isLt; omega⟩) = ((f p j : ℝ) : EReal)) (inb) :
    View.ld (Val := Elt Ideal) (e' := .f32) (S := S128x512) x (Rect.unit ![0, h.val * 128] ![128, 128] inb)
      = up2 fun p d => f p (kcol h d) :=
  funext fun i => (View.ld_unit_apply_of (e := .f32) _ _ _ _ _ (ix2 (i 0) ⟨(kcol h (i 1)).val, by have := (kcol h (i 1)).isLt; omega⟩) fun a => by
    match a with
    | ⟨0, _⟩ => exact (Nat.zero_add _).symm
    | ⟨1, _⟩ => rfl).trans (hx _ _)

theorem ldq_0 (f : Fin 128 → Fin 1024 → ℝ) (inb) :
    View.ld (Val := Elt Ideal) (e' := .f32) (S := S128x1024) (up2 f) (Rect.unit ![0, 0] ![128, 128] inb)
      = up2 fun p d => f p (qcol 0 d) := ldq 0 f inb
theorem ldq_1 (f : Fin 128 → Fin 1024 → ℝ) (inb) :
    View.ld (Val := Elt Ideal) (e' := .f32) (S := S128x1024) (up2 f) (Rect.unit ![0, 128] ![128, 128] inb)
      = up2 fun p d => f p (qcol 1 d) := ldq 1 f inb
theorem ldq_2 (f : Fin 128 → Fin 1024 → ℝ) (inb) :
    View.ld (Val := Elt Ideal) (e' := .f32) (S := S128x1024) (up2 f) (Rect.unit ![0, 256] ![128, 128] inb)
      = up2 fun p d => f p (qcol 2 d) := ldq 2 f inb
theorem ldq_3 (f : Fin 128 → Fin 1024 → ℝ) (inb) :
    View.ld (Val := Elt Ideal) (e' := .f32) (S := S128x1024) (up2 f) (Rect.unit ![0, 384] ![128, 128] inb)
      = up2 fun p d => f p (qcol 3 d) := ldq 3 f inb
theorem ldq_4 (f : Fin 128 → Fin 1024 → ℝ) (inb) :
    View.ld (Val := Elt Ideal) (e' := .f32) (S := S128x1024) (up2 f) (Rect.unit ![0, 512] ![128, 128] inb)
      = up2 fun p d => f p (qcol 4 d) := ldq 4 f inb
theorem ldq_5 (f : Fin 128 → Fin 1024 → ℝ) (inb) :
    View.ld (Val := Elt Ideal) (e' := .f32) (S := S128x1024) (up2 f) (Rect.unit ![0, 640] ![128, 128] inb)
      = up2 fun p d => f p (qcol 5 d) := ldq 5 f inb
theorem ldq_6 (f : Fin 128 → Fin 1024 → ℝ) (inb) :
    View.ld (Val := Elt Ideal) (e' := .f32) (S := S128x1024) (up2 f) (Rect.unit ![0, 768] ![128, 128] inb)
      = up2 fun p d => f p (qcol 6 d) := ldq 6 f inb
theorem ldq_7 (f : Fin 128 → Fin 1024 → ℝ) (inb) :
    View.ld (Val := Elt Ideal) (e' := .f32) (S := S128x1024) (up2 f) (Rect.unit ![0, 896] ![128, 128] inb)
      = up2 fun p d => f p (qcol 7 d) := ldq 7 f inb
theorem ldk_0 (f : Fin 128 → Fin 256 → ℝ) (inb) :
    View.ld (Val := Elt Ideal) (e' := .f32) (S := S128x256) (up2 f) (Rect.unit ![0, 0] ![128, 128] inb)
      = up2 fun p d => f p (kcol 0 d) := ldk 0 f inb
theorem ldk_1 (f : Fin 128 → Fin 256 → ℝ) (inb) :
    View.ld (Val := Elt Ideal) (e' := .f32) (S := S128x256) (up2 f) (Rect.unit ![0, 128] ![128, 128] inb)
      = up2 fun p d => f p (kcol 1 d) := ldk 1 f inb

/-- Column piece of query head `h`. -/
theorem embq (h : Fin 8) (f : Fin 8 → Fin 128 → Fin 128 → ℝ) (o : Nat) (ho : o = h.val * 128) (inb)
    (x : (Rect.unit (s := S128x1024) ![0, o] ![128, 128] inb).shape.Idx) :
    up2 (f h) x = up2 (fun p (j : Fin 1024) => f (qhd j) p (qof j)) ((Rect.unit (s := S128x1024) ![0, o] ![128, 128] inb).emb x) := by
  subst ho
  have e0 : ((Rect.unit (s := S128x1024) ![0, h.val * 128] ![128, 128] inb).emb x) 0 = x 0 :=
    Fin.ext ((Rect.idx_unit_val _ _ _ x 0).trans (Nat.zero_add _))
  have e1 : ((Rect.unit (s := S128x1024) ![0, h.val * 128] ![128, 128] inb).emb x) 1 = qcol h (x 1) :=
    Fin.ext (Rect.idx_unit_val _ _ _ x 1)
  show ((f h (x 0) (x 1) : ℝ) : EReal) = ((f (qhd _) _ (qof _) : ℝ) : EReal)
  rw [e0, e1]
  exact congrArg₂ (fun a b => ((f a (x 0) b : ℝ) : EReal)) (qhd_qcol h (x 1)).symm (qof_qcol h (x 1)).symm

/-- Eight query heads stored into a buffer, over anything. -/
theorem qheads (f : Fin 8 → Fin 128 → Fin 128 → ℝ) (L : List (View.Piece (Elt Ideal) S128x1024 .bf16)) (i0 i1 i2 i3 i4 i5 i6 i7 : _) :
    View.canon (Val := Elt Ideal) (s := S128x1024) (e := .bf16) (
        ⟨Rect.unit ![0, 896] ![128, 128] i7, up2 (f 7)⟩ ::
        ⟨Rect.unit ![0, 768] ![128, 128] i6, up2 (f 6)⟩ ::
        ⟨Rect.unit ![0, 640] ![128, 128] i5, up2 (f 5)⟩ ::
        ⟨Rect.unit ![0, 512] ![128, 128] i4, up2 (f 4)⟩ ::
        ⟨Rect.unit ![0, 384] ![128, 128] i3, up2 (f 3)⟩ ::
        ⟨Rect.unit ![0, 256] ![128, 128] i2, up2 (f 2)⟩ ::
        ⟨Rect.unit ![0, 128] ![128, 128] i1, up2 (f 1)⟩ ::
        ⟨Rect.unit ![0, 0] ![128, 128] i0, up2 (f 0)⟩ :: L)
      = up2 fun p (j : Fin 1024) => f (qhd j) p (qof j) :=
  funext fun y => View.canon_append_of_piecesOf (Val := Elt Ideal) (s := S128x1024) (e := .bf16)
    (up2 fun p (j : Fin 1024) => f (qhd j) p (qof j)) L [
        ⟨Rect.unit ![0, 896] ![128, 128] i7, up2 (f 7)⟩,
        ⟨Rect.unit ![0, 768] ![128, 128] i6, up2 (f 6)⟩,
        ⟨Rect.unit ![0, 640] ![128, 128] i5, up2 (f 5)⟩,
        ⟨Rect.unit ![0, 512] ![128, 128] i4, up2 (f 4)⟩,
        ⟨Rect.unit ![0, 384] ![128, 128] i3, up2 (f 3)⟩,
        ⟨Rect.unit ![0, 256] ![128, 128] i2, up2 (f 2)⟩,
        ⟨Rect.unit ![0, 128] ![128, 128] i1, up2 (f 1)⟩,
        ⟨Rect.unit ![0, 0] ![128, 128] i0, up2 (f 0)⟩]
    ⟨embq 7 f 896 rfl i7, embq 6 f 768 rfl i6, embq 5 f 640 rfl i5, embq 4 f 512 rfl i4, embq 3 f 384 rfl i3, embq 2 f 256 rfl i2, embq 1 f 128 rfl i1, embq 0 f 0 rfl i0, trivial⟩ y
    (View.cover_of_tiledL (s := S128x1024) _ S128x128.size (by sl_kernel_rfl) y)

/-- A block of the keys' gradient beside a block of the values' gradient. -/
def beside (f : Fin 2 → Fin 128 → Fin 128 → ℝ) (v : Vec Ideal S128x256 .f32) : S128x512.Idx → EReal := fun i =>
  if h : (i 1).val < 256 then ((f (khd ⟨(i 1).val, h⟩) (i 0) (kof ⟨(i 1).val, h⟩) : ℝ) : EReal)
    else v (ix2 (i 0) ⟨(i 1).val - 256, by have h1 : (i 1).val < 512 := (i 1).isLt; omega⟩)

/-- Column piece of key head `h`. -/
theorem embk (h : Fin 2) (f : Fin 2 → Fin 128 → Fin 128 → ℝ) (v : Vec Ideal S128x256 .f32) (o : Nat) (ho : o = h.val * 128) (inb)
    (x : (Rect.unit (s := S128x512) ![0, o] ![128, 128] inb).shape.Idx) :
    up2 (f h) x = beside f v ((Rect.unit (s := S128x512) ![0, o] ![128, 128] inb).emb x) := by
  subst ho
  have e0 : ((Rect.unit (s := S128x512) ![0, h.val * 128] ![128, 128] inb).emb x) 0 = x 0 :=
    Fin.ext ((Rect.idx_unit_val _ _ _ x 0).trans (Nat.zero_add _))
  have e1 : (((Rect.unit (s := S128x512) ![0, h.val * 128] ![128, 128] inb).emb x) 1).val = (kcol h (x 1)).val :=
    Rect.idx_unit_val _ _ _ x 1
  have hl := (kcol h (x 1)).isLt
  unfold beside
  rw [dif_pos (by rw [e1]; exact hl)]
  have e2 : (⟨(((Rect.unit (s := S128x512) ![0, h.val * 128] ![128, 128] inb).emb x) 1).val, by rw [e1]; exact hl⟩ : Fin 256) = kcol h (x 1) :=
    Fin.ext e1
  rw [e2, e0]
  exact congrArg₂ (fun a b => ((f a (x 0) b : ℝ) : EReal)) (khd_kcol h (x 1)).symm (kof_kcol h (x 1)).symm

/-- The piece of the values. -/
theorem embv (f : Fin 2 → Fin 128 → Fin 128 → ℝ) (v : Vec Ideal S128x256 .f32) (inb)
    (x : (Rect.unit (s := S128x512) ![0, 256] ![128, 256] inb).shape.Idx) :
    v x = beside f v ((Rect.unit (s := S128x512) ![0, 256] ![128, 256] inb).emb x) := by
  have e0 : ((Rect.unit (s := S128x512) ![0, 256] ![128, 256] inb).emb x) 0 = x 0 :=
    Fin.ext ((Rect.idx_unit_val _ _ _ x 0).trans (Nat.zero_add _))
  have e1 : (((Rect.unit (s := S128x512) ![0, 256] ![128, 256] inb).emb x) 1).val = 256 + (x 1).val :=
    Rect.idx_unit_val _ _ _ x 1
  unfold beside
  rw [dif_neg (by rw [e1]; omega)]
  refine congrArg v ((eq_ix2 x).trans ?_)
  refine congrArg₂ ix2 e0.symm (Fin.ext ?_)
  show (x 1).val = _ - 256
  rw [e1]
  omega

/-- Two key heads and the values stored into a buffer, over anything. -/
theorem kheads (f : Fin 2 → Fin 128 → Fin 128 → ℝ) (v : Vec Ideal S128x256 .f32) (L : List (View.Piece (Elt Ideal) S128x512 .bf16))
    (i0 i1 i2 : _) :
    View.canon (Val := Elt Ideal) (s := S128x512) (e := .bf16) (
        ⟨Rect.unit ![0, 256] ![128, 256] i2, v⟩ ::
        ⟨Rect.unit ![0, 128] ![128, 128] i1, up2 (f 1)⟩ ::
        ⟨Rect.unit ![0, 0] ![128, 128] i0, up2 (f 0)⟩ :: L)
      = beside f v :=
  funext fun y => View.canon_append_of_piecesOf (Val := Elt Ideal) (s := S128x512) (e := .bf16) (beside f v) L [
        ⟨Rect.unit ![0, 256] ![128, 256] i2, v⟩,
        ⟨Rect.unit ![0, 128] ![128, 128] i1, up2 (f 1)⟩,
        ⟨Rect.unit ![0, 0] ![128, 128] i0, up2 (f 0)⟩]
    ⟨embv f v i2, embk 1 f v 128 rfl i1, embk 0 f v 0 rfl i0, trivial⟩ y
    (View.cover_of_tiledBy (s := S128x512) _ ![128, 128] (by sl_kernel_rfl) y)

/-- Grid point `t`'s input blocks are the real inputs of tile `k`. -/
structure Blocks (m : (ℓ : Loc nD τ sig) → Buf (Elt Ideal) ℓ) (D : Heads) (c : Dev nD) (t : Fin cfg0.N) (k : Fin 16) : Prop where
  q : X0_0 m c t = up2 fun p => D.q (row k p)
  k0 : ∀ inb, View.ld (Val := Elt Ideal) (e' := .f32) (S := S128x512) (iblk m c 1 t) (Rect.unit ![0, 0] ![128, 128] inb)
    = up2 fun p d => D.k (row k p) (kcol 0 d)
  k1 : ∀ inb, View.ld (Val := Elt Ideal) (e' := .f32) (S := S128x512) (iblk m c 1 t) (Rect.unit ![0, 128] ![128, 128] inb)
    = up2 fun p d => D.k (row k p) (kcol 1 d)
  dq : iblk m c 2 t = up2 fun p => D.dq (row k p)
  dk : iblk m c 3 t = up2 fun p => D.dk (row k p)
  gq : iblk m c 5 t = up3 fun _ _ j => D.gq j
  gk : iblk m c 6 t = up3 fun _ _ j => D.gk j
  c2 : iblk m c 7 t = up2 fun p => D.c2 (row k p)
  s2 : iblk m c 8 t = up2 fun p => D.s2 (row k p)

variable {m : (ℓ : Loc nD τ sig) → Buf (Elt Ideal) ℓ} {D : Heads} {c : Dev nD} {t : Fin cfg0.N} {k : Fin 16}

theorem dzq_A (H : Blocks m D c t k) (h0 : t.val % 16 = 0) :
    (outsAt0 m c t.val t.isLt).1 = up2 fun p j => D.dzq (row k p) j := by
  rw [outsAt0_A m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  exact qheads (fun h p => dx (D.qx h (row k p)) (D.qn h (row k p)) D.gq) _ _ _ _ _ _ _ _ _

theorem dzq_B (H : Blocks m D c t k) (h0 : ¬t.val % 16 = 0) :
    (outsAt0 m c t.val t.isLt).1 = up2 fun p j => D.dzq (row k p) j := by
  rw [outsAt0_B m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  exact qheads (fun h p => dx (D.qx h (row k p)) (D.qn h (row k p)) D.gq) _ _ _ _ _ _ _ _ _

theorem dzk_A (H : Blocks m D c t k) (h0 : t.val % 16 = 0) :
    (outsAt0 m c t.val t.isLt).2.1 = beside (fun h p => dx (D.kx h (row k p)) (D.kn h (row k p)) D.gk) (iblk m c 4 t) := by
  rw [outsAt0_A m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  exact kheads (fun h p => dx (D.kx h (row k p)) (D.kn h (row k p)) D.gk) (iblk m c 4 t) _ _ _ _

theorem dzk_B (H : Blocks m D c t k) (h0 : ¬t.val % 16 = 0) :
    (outsAt0 m c t.val t.isLt).2.1 = beside (fun h p => dx (D.kx h (row k p)) (D.kn h (row k p)) D.gk) (iblk m c 4 t) := by
  rw [outsAt0_B m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  exact kheads (fun h p => dx (D.kx h (row k p)) (D.kn h (row k p)) D.gk) (iblk m c 4 t) _ _ _ _

theorem dqg_A (H : Blocks m D c t k) (h0 : t.val % 16 = 0) :
    (outsAt0 m c t.val t.isLt).2.2.1 = up2 fun _ j => D.dqgT k j := by
  rw [outsAt0_A m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  refine congrArg up2 (funext fun _ => funext fun j => ?_)
  rw [Heads.dqgT, Fin.sum_univ_eight]
  simp only [zero_add]
  rfl

theorem dqg_B (H : Blocks m D c t k) (h0 : ¬t.val % 16 = 0)
    (a : Fin 1 → Fin 128 → ℝ) (ha : (outsAt0 m c (t.val - 1) (by have := t.isLt; omega)).2.2.1 = up2 a) :
    (outsAt0 m c t.val t.isLt).2.2.1 = up2 fun z j => a z j + D.dqgT k j := by
  rw [outsAt0_B m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ha, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  refine congrArg up2 (funext fun _ => funext fun j => congrArg (a _ j + ·) ?_)
  rw [Heads.dqgT, Fin.sum_univ_eight]
  simp only [zero_add]
  rfl

theorem dkg_A (H : Blocks m D c t k) (h0 : t.val % 16 = 0) :
    (outsAt0 m c t.val t.isLt).2.2.2 = up2 fun _ j => D.dkgT k j := by
  rw [outsAt0_A m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  refine congrArg up2 (funext fun _ => funext fun j => ?_)
  rw [Heads.dkgT, Fin.sum_univ_two]
  simp only [zero_add]
  rfl

theorem dkg_B (H : Blocks m D c t k) (h0 : ¬t.val % 16 = 0)
    (a : Fin 1 → Fin 128 → ℝ) (ha : (outsAt0 m c (t.val - 1) (by have := t.isLt; omega)).2.2.2 = up2 a) :
    (outsAt0 m c t.val t.isLt).2.2.2 = up2 fun z j => a z j + D.dkgT k j := by
  rw [outsAt0_B m c t h0]
  dsimp only
  frame_open
  simp (disch := decide) only [↓ View.readCov_skip, ↓ View.readCov_cons_toLoadRect, ↓ View.readCov_fill]
  frame_out
  simp only [H.q, H.k0, H.k1, H.dq, H.dk, H.gq, H.gk, H.c2, H.s2, ha, ldq_0, ldq_1, ldq_2, ldq_3, ldq_4, ldq_5, ldq_6, ldq_7, ldk_0, ldk_1,
    pay1, pay2, pay3, pay4, pay5, pay6, pay7, pay8, pay9, pay10, pay11, pay13, pay14, pay15, pay16, pay17, pay18, pay19, pay20, pay21, pay22, pay23, pay24, pay25, pay26, pay27, pay28, pay29, pay31, pay32, pay33, pay34, pay35, pay38, pay39, pay40, pay41, pay42, pay44, pay45, pay47, pay48, pay49, pay50, pay51, pay52, pay55, pay56, pay57, pay59, pay60, pay63, pay64, pay65, pay66, pay67, pay68]
  refine congrArg up2 (funext fun _ => funext fun j => congrArg (a _ j + ·) ?_)
  rw [Heads.dkgT, Fin.sum_univ_two]
  simp only [zero_add]
  rfl

end Cert.Kernel18Ideal.HeadPoint

end

end
-- ==== Proof.Prod18.lean ====
/-
  The gradient of the heads' norms and of the rotation: the kernel's arrays. The rows come 128 at a time; the gains'
  gradients are added up over the sixteen tiles.
-/
module

public import proofs.«01_k».proof.Proof.HeadPoint

@[expose] public section

set_option maxRecDepth 16384

noncomputable section

open scoped BigOperators
open Idealize.ShloMosaic Idealize.ShloMosaic.TcCoe Idealize.SL.Sem Lift HeadNorm

namespace Cert.Kernel18Ideal.Product

open Cert.Kernel18Ideal Cert.Kernel18Ideal.Gen Cert.Kernel18Ideal.HeadPay Cert.Kernel18Ideal.HeadPoint

variable {m : (ℓ : Loc nD τ sig) → Buf (Elt Ideal) ℓ} {D : Heads} {c : Dev nD}

abbrev Holds (m : (ℓ : Loc nD τ sig) → Buf (Elt Ideal) ℓ) (D : Heads) (c : Dev nD) : Prop :=
  D.Holds (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7))

theorem idx : ∀ t : Fin cfg0.N, win0_0.index t = ![t.val, 0] ∧ win0_1.index t = ![t.val, 6] ∧ win0_2.index t = ![t.val, 0]
    ∧ win0_3.index t = ![t.val + 1, 0] ∧ win0_4.index t = ![t.val + 1, 0] ∧ win0_5.index t = ![0, 0, 0]
    ∧ win0_6.index t = ![0, 0, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

def tile (t : Fin cfg0.N) : Fin 16 := ⟨t.val, t.isLt⟩

/-! ## The arrays made before the call -/

theorem V_c : V m c main_v0 = concatenate S2048x128 1 [⟨S2048x64, m ((c : Thread nD τ).loc main_arg6)⟩,
    ⟨S2048x64, m ((c : Thread nD τ).loc main_arg6)⟩] concatenates_S2048x64_S2048x64_S2048x128_d1 := by
  unfold_abbrev_sides
  after_results
theorem V_s : V m c main_v2 = concatenate S2048x128 1 [⟨S2048x64, Host.negf (F := Ideal) (φ := .f32) (m ((c : Thread nD τ).loc main_arg7))⟩,
    ⟨S2048x64, m ((c : Thread nD τ).loc main_arg7)⟩] concatenates_S2048x64_S2048x64_S2048x128_d1 := by
  unfold_abbrev_sides
  after_results
theorem V_gq : V m c main_v3 = shapeCast S2x1x128 (m ((c : Thread nD τ).loc main_arg4)) shapeCasts_S2x128_S2x1x128 := by
  unfold_abbrev_sides
  after_results
  rfl
theorem V_gk : V m c main_v4 = shapeCast S2x1x128 (m ((c : Thread nD τ).loc main_arg5)) shapeCasts_S2x128_S2x1x128 := by
  unfold_abbrev_sides
  after_results
  rfl

theorem gain (x : S2x128.Idx → EReal) (j : Fin 128) :
    shapeCast S2x1x128 x shapeCasts_S2x128_S2x1x128 (ix3 0 0 j) = x (ix2 0 j) :=
  shapeCast_apply x shapeCasts_S2x128_S2x1x128 (ix3 0 0 j) (ix2 0 j) (by
    rewrite [Shape.rowMajor_val_three, Shape.rowMajor_val_two]
    show 0 * 128 + j.val = (0 * 1 + 0) * 128 + j.val
    omega)

/-- Two halves side by side. -/
theorem halves_lt (a b : S2048x64.Idx → EReal) (s : Fin 2048) (j : Fin 128) (h : j.val < 64) :
    concatenate S2048x128 1 [⟨S2048x64, a⟩, ⟨S2048x64, b⟩] concatenates_S2048x64_S2048x64_S2048x128_d1 (ix2 s j)
      = a (ix2 s (Heads.lane j)) :=
  concatenate_pair_apply_left 1 a b concatenates_S2048x64_S2048x64_S2048x128_d1 (ix2 s j) rfl (ix2 s (Heads.lane j)) fun x => by
    match x with
    | ⟨0, _⟩ => rfl
    | ⟨1, _⟩ => show j.val % 64 = j.val; omega
theorem halves_ge (a b : S2048x64.Idx → EReal) (s : Fin 2048) (j : Fin 128) (h : ¬j.val < 64) :
    concatenate S2048x128 1 [⟨S2048x64, a⟩, ⟨S2048x64, b⟩] concatenates_S2048x64_S2048x64_S2048x128_d1 (ix2 s j)
      = b (ix2 s (Heads.lane j)) :=
  concatenate_pair_apply_right 1 a b concatenates_S2048x64_S2048x64_S2048x128_d1 (ix2 s j) rfl rfl (ix2 s (Heads.lane j)) (fun x hx => by
    match x with
    | ⟨0, _⟩ => rfl
    | ⟨1, _⟩ => exact absurd rfl hx) (by
    have := j.isLt
    show j.val % 64 + 64 = j.val
    omega)

theorem tab_c (H : Holds m D c) (s : Fin 2048) (j : Fin 128) : V m c main_v0 (ix2 s j) = ((D.c2 s j : ℝ) : EReal) := by
  rw [V_c]
  by_cases h : j.val < 64
  · rw [halves_lt _ _ s j h, H.cos]
    rfl
  · rw [halves_ge _ _ s j h, H.cos]
    rfl

theorem tab_s (H : Holds m D c) (s : Fin 2048) (j : Fin 128) : V m c main_v2 (ix2 s j) = ((D.s2 s j : ℝ) : EReal) := by
  rw [V_s]
  unfold Heads.s2
  by_cases h : j.val < 64
  · rw [halves_lt _ _ s j h, if_pos h, EReal.coe_neg, ← H.sin]
    rfl
  · rw [halves_ge _ _ s j h, if_neg h, H.sin]

/-! ## The blocks of a grid point -/

theorem blk_q (H : Holds m D c) (t : Fin cfg0.N) : X0_0 m c t = up2 fun p => D.q (row (tile t) p) := by
  refine ext2 fun p j => ?_
  rw [up2_apply, ← H.q]
  unfold X0_0 Pipeline.Window.fill
  rw [dif_pos (moved0_0 t _)]
  blk_ext! [iblk, V, idx t, tile, row]

theorem blk_k (H : Holds m D c) (t : Fin cfg0.N) (p : Fin 128) (j : Fin 256) :
    iblk m c 1 t (ix2 p ⟨j.val, by have := j.isLt; omega⟩) = ((D.k (row (tile t) p) j : ℝ) : EReal) := by
  rw [← H.k]
  blk_ext! [iblk, V, idx t, tile, row]

theorem blk_dq (H : Holds m D c) (t : Fin cfg0.N) : iblk m c 2 t = up2 fun p => D.dq (row (tile t) p) := by
  refine ext2 fun p j => ?_
  rw [up2_apply, ← H.dq]
  blk_ext [iblk, V, idx t, tile, row]

theorem blk_dk (H : Holds m D c) (t : Fin cfg0.N) : iblk m c 3 t = up2 fun p => D.dk (row (tile t) p) := by
  refine ext2 fun p j => ?_
  rw [up2_apply, ← H.dk]
  blk_ext [iblk, V, idx t, tile, row]

theorem blk_dv (t : Fin cfg0.N) (p : Fin 128) (j : Fin 256) : iblk m c 4 t (ix2 p j)
    = m ((c : Thread nD τ).loc main_arg3) (ix2 ⟨128 + (row (tile t) p).val, by have := (row (tile t) p).isLt; omega⟩ j) := by
  blk_ext [iblk, V, idx t, tile, row]

theorem blk_gq (H : Holds m D c) (t : Fin cfg0.N) : iblk m c 5 t = up3 fun _ _ j => D.gq j := by
  refine ext3 fun a b j => ?_
  rw [up3_apply, ← H.gq, ← gain (m ((c : Thread nD τ).loc main_arg4)), ← V_gq]
  blk_ext! [iblk, idx t]

theorem blk_gk (H : Holds m D c) (t : Fin cfg0.N) : iblk m c 6 t = up3 fun _ _ j => D.gk j := by
  refine ext3 fun a b j => ?_
  rw [up3_apply, ← H.gk, ← gain (m ((c : Thread nD τ).loc main_arg5)), ← V_gk]
  blk_ext! [iblk, idx t]

theorem blk_c (H : Holds m D c) (t : Fin cfg0.N) : iblk m c 7 t = up2 fun p => D.c2 (row (tile t) p) := by
  refine ext2 fun p j => ?_
  rw [up2_apply, ← tab_c H]
  blk_ext [iblk, idx t, tile, row]

theorem blk_s (H : Holds m D c) (t : Fin cfg0.N) : iblk m c 8 t = up2 fun p => D.s2 (row (tile t) p) := by
  refine ext2 fun p j => ?_
  rw [up2_apply, ← tab_s H]
  blk_ext [iblk, idx t, tile, row]

theorem blocks (H : Holds m D c) (t : Fin cfg0.N) : Blocks m D c t (tile t) :=
  ⟨blk_q H t, ldz 0 (fun p => D.k (row (tile t) p)) _ (blk_k H t), ldz 1 (fun p => D.k (row (tile t) p)) _ (blk_k H t), blk_dq H t, blk_dk H t, blk_gq H t, blk_gk H t, blk_c H t, blk_s H t⟩

/-! ## The arrays -/

theorem at_dzq (H : Holds m D c) (t : Fin cfg0.N) : (outsAt0 m c t.val t.isLt).1 = up2 fun p j => D.dzq (row (tile t) p) j := by
  by_cases h0 : t.val % 16 = 0
  · exact dzq_A (blocks H t) h0
  · exact dzq_B (blocks H t) h0

theorem at_dzk (H : Holds m D c) (t : Fin cfg0.N) (p : Fin 128) (j : Fin 512) : (outsAt0 m c t.val t.isLt).2.1 (ix2 p j)
    = D.wide (m ((c : Thread nD τ).loc main_arg3)) (row (tile t) p) j := by
  have e : (outsAt0 m c t.val t.isLt).2.1
      = beside (fun h p => dx (D.kx h (row (tile t) p)) (D.kn h (row (tile t) p)) D.gk) (iblk m c 4 t) := by
    by_cases h0 : t.val % 16 = 0
    · exact dzk_A (blocks H t) h0
    · exact dzk_B (blocks H t) h0
  rw [e]
  unfold beside Heads.wide
  by_cases h : j.val < 256
  · rw [dif_pos h]
    exact dif_pos h
  · rw [dif_neg h]
    exact (dif_neg h).trans (blk_dv t p _)

theorem arr_dzq (H : Holds m D c) : (dats m 0 c).arrAt 9 cfg0.N = up2 D.dzq := by
  refine (dats m 0 c).arrAt_eq_of_covers 9 _ (by decide +kernel) fun t hf y => ?_
  blk_simp
  rw [after0_9, at_dzq H t]
  have hr : row (tile t) (y 0) = ((cfg0.win 9).blk t).view.emb y 0 := Fin.ext (by
    show t.val * 128 + (y 0).val = _
    blk_simp [idx t])
  have hj : y 1 = ((cfg0.win 9).blk t).view.emb y 1 := Fin.ext (by blk_simp [idx t])
  show ((D.dzq (row (tile t) (y 0)) (y 1) : ℝ) : EReal) = _
  rw [hr, hj]
  rfl

theorem arr_dzk (H : Holds m D c) : (dats m 0 c).arrAt 10 cfg0.N
    = fun i => D.wide (m ((c : Thread nD τ).loc main_arg3)) (i 0) (i 1) := by
  refine (dats m 0 c).arrAt_eq_of_covers 10 _ (by decide +kernel) fun t hf y => ?_
  blk_simp
  rw [after0_10]
  have hr : row (tile t) (y 0) = ((cfg0.win 10).blk t).view.emb y 0 := Fin.ext (by
    show t.val * 128 + (y 0).val = _
    blk_simp [idx t])
  have hj : y 1 = ((cfg0.win 10).blk t).view.emb y 1 := Fin.ext (by blk_simp [idx t])
  refine ((congrArg (outsAt0 m c t.val t.isLt).2.1 (eq_ix2 y)).trans (at_dzk H t (y 0) (y 1))).trans ?_
  rw [hr, hj]

theorem tile_eq (n : Nat) (hn : n < cfg0.N) : tile ⟨n, hn⟩ = Fin.ofNat 16 n :=
  Fin.ext (Nat.mod_eq_of_lt hn).symm

theorem sum_dqg (H : Holds m D c) : ∀ (n : Nat) (hn : n < cfg0.N), (outsAt0 m c n hn).2.2.1
    = up2 fun _ j => ∑ i ∈ Finset.range (n + 1), D.dqgT (Fin.ofNat 16 i) j
  | 0, hn => by
    refine (dqg_A (blocks H ⟨0, hn⟩) rfl).trans ?_
    simp only [zero_add, Finset.range_one, Finset.sum_singleton, tile_eq]
  | n + 1, hn => by
    have h0 : ¬(n + 1) % 16 = 0 := by
      have hN : n + 1 < 16 := hn
      omega
    refine (dqg_B (blocks H ⟨n + 1, hn⟩) h0 _ (sum_dqg H n (by omega))).trans ?_
    simp only [Finset.sum_range_succ _ (n + 1), tile_eq]

theorem sum_dkg (H : Holds m D c) : ∀ (n : Nat) (hn : n < cfg0.N), (outsAt0 m c n hn).2.2.2
    = up2 fun _ j => ∑ i ∈ Finset.range (n + 1), D.dkgT (Fin.ofNat 16 i) j
  | 0, hn => by
    refine (dkg_A (blocks H ⟨0, hn⟩) rfl).trans ?_
    simp only [zero_add, Finset.range_one, Finset.sum_singleton, tile_eq]
  | n + 1, hn => by
    have h0 : ¬(n + 1) % 16 = 0 := by
      have hN : n + 1 < 16 := hn
      omega
    refine (dkg_B (blocks H ⟨n + 1, hn⟩) h0 _ (sum_dkg H n (by omega))).trans ?_
    simp only [Finset.sum_range_succ _ (n + 1), tile_eq]

/-- A sum over the first sixteen numbers is the sum over the tiles. -/
theorem tiles (f : Fin 16 → ℝ) : ∑ i ∈ Finset.range (15 + 1), f (Fin.ofNat 16 i) = ∑ t, f t := by
  rw [Finset.sum_range]
  exact Finset.sum_congr rfl fun i _ => by rw [Fin.ofNat_val_eq_self]

theorem arr_dqg (H : Holds m D c) : (dats m 0 c).arrAt 11 cfg0.N = up2 fun _ j => D.dqg j := by
  refine (dats m 0 c).arrAt_eq_of_after_last 11 t0_15 (by decide +kernel) _ fun j => ?_
  blk_simp
  rw [after0_11]
  refine (congrFun (sum_dqg H 15 t0_15.isLt) j).trans ?_
  exact congrArg (fun z : ℝ => (z : EReal)) ((tiles fun t => D.dqgT t (j 1)).trans (D.dqg_eq (j 1)))

theorem arr_dkg (H : Holds m D c) : (dats m 0 c).arrAt 12 cfg0.N = up2 fun _ j => D.dkg j := by
  refine (dats m 0 c).arrAt_eq_of_after_last 12 t0_15 (by decide +kernel) _ fun j => ?_
  blk_simp
  rw [after0_12]
  refine (congrFun (sum_dkg H 15 t0_15.isLt) j).trans ?_
  exact congrArg (fun z : ℝ => (z : EReal)) ((tiles fun t => D.dkgT t (j 1)).trans (D.dkg_eq (j 1)))

end Cert.Kernel18Ideal.Product

end

end
-- ==== Proof.HeadRef.lean ====
/-
  The gradient of the heads' norms and of the rotation: the values of the reference, stage by stage, for the queries and
  for the keys.
-/
module

public import proofs.«01_k».proof.Proof.HeadNorm
public import proofs.«01_k».proof.Proof.Sums
public import proofs.«01_k».proof.Proof.Gen.Reference18Ideal.Read

@[expose] public section

set_option maxRecDepth 16384

noncomputable section

open scoped BigOperators
open Idealize.ShloMosaic Lift HeadNorm

namespace Lift

/-- The first two axes of three. -/
theorem reduce_01 {a b n : Nat} (h : (⟨3, ![a, b, n]⟩ : Shape).ReducesTo [0, 1] ⟨1, ![n]⟩)
    (hd : ∀ i, (h.drop i 0).val = (i 2).val) (x : (⟨3, ![a, b, n]⟩ : Shape).Idx → EReal) (init : EReal) (j : Fin n) :
    Ideal.hostReduceAdd h x init (ix1 j) = init + ∑ s : Fin a, ∑ k : Fin b, x (ix3 s k j) := by
  rw [reduce_eq h x init (ix1 j) (fun k : Fin a × Fin b => ix3 k.1 k.2 j) ?_ ?_ ?_, Fintype.sum_prod_type]
  · intro k l hkl
    exact Prod.ext (congrFun hkl 0) (congrFun hkl 1)
  · intro k
    funext y
    match y with
    | ⟨0, _⟩ => exact Fin.ext (hd _)
  · intro i hi
    have h0 : (i 2).val = j.val := (hd i).symm.trans (congrArg Fin.val (congrFun hi 0))
    refine ⟨(i 0, i 1), ?_⟩
    funext y
    match y with
    | ⟨0, _⟩ => rfl
    | ⟨1, _⟩ => rfl
    | ⟨2, _⟩ => exact Fin.ext h0.symm

end Lift

namespace Cert.Reference18Ideal.Product

open Cert.Reference18Ideal Cert.Reference18Ideal.Gen Cert.Reference18Ideal.Read

variable {x0 : (⟨S2048x3584, .f32⟩ : BufTy).Contents (Elt Ideal)} {x1 : (⟨S2048x1024, .f32⟩ : BufTy).Contents (Elt Ideal)}
  {x2 x3 : (⟨S2304x256, .f32⟩ : BufTy).Contents (Elt Ideal)} {x4 x5 : (⟨S2x128, .f32⟩ : BufTy).Contents (Elt Ideal)}
  {x6 x7 : (⟨S2048x64, .f32⟩ : BufTy).Contents (Elt Ideal)} {D : Heads}

/-- A column in the first half of a head and in the second. -/
def lo (j : Fin 64) : Fin 128 := ⟨j.val, by have := j.isLt; omega⟩
def hi (j : Fin 64) : Fin 128 := ⟨64 + j.val, by have := j.isLt; omega⟩

/-- The gradient through a rotation, half by half. -/
theorem dn_lo (H : Heads) (d : Fin 128 → ℝ) (s : Fin 2048) (j : Fin 128) (h : j.val < 64) :
    d (hi (Heads.lane j)) * H.sin s (Heads.lane j) + d (lo (Heads.lane j)) * H.cos s (Heads.lane j)
      = dn d (H.c2 s) (H.s2 s) j := by
  have e1 : hi (Heads.lane j) = sw j := Fin.ext (by show 64 + j.val % 64 = (j.val + 64) % 128; omega)
  have e0 : lo (Heads.lane j) = j := Fin.ext (by show j.val % 64 = j.val; omega)
  have e2 : Heads.lane (sw j) = Heads.lane j := Fin.ext (by show (j.val + 64) % 128 % 64 = j.val % 64; omega)
  have e3 : ¬(sw j).val < 64 := by show ¬(j.val + 64) % 128 < 64; omega
  unfold dn Heads.c2 Heads.s2
  rw [if_neg e3, e2, e1, e0]
  ring

theorem dn_hi (H : Heads) (d : Fin 128 → ℝ) (s : Fin 2048) (j : Fin 128) (h : ¬j.val < 64) :
    d (hi (Heads.lane j)) * H.cos s (Heads.lane j) + -d (lo (Heads.lane j)) * H.sin s (Heads.lane j)
      = dn d (H.c2 s) (H.s2 s) j := by
  have hj := j.isLt
  have e1 : hi (Heads.lane j) = j := Fin.ext (by show 64 + j.val % 64 = j.val; omega)
  have e0 : lo (Heads.lane j) = sw j := Fin.ext (by show j.val % 64 = (j.val + 64) % 128; omega)
  have e2 : Heads.lane (sw j) = Heads.lane j := Fin.ext (by show (j.val + 64) % 128 % 64 = j.val % 64; omega)
  have e3 : (sw j).val < 64 := by show (j.val + 64) % 128 < 64; omega
  unfold dn Heads.c2 Heads.s2
  rw [if_pos e3, e2, e1, e0]
  ring

/-! ## The queries -/

theorem v7 (H : D.Holds x0 x1 x2 x4 x5 x6 x7) : val_main_v7 (F := Ideal) x0 = up3 fun s h d => D.qx h s d := by
  refine ext3 fun s h d => ?_
  rw [val_main_v7_apply, val_main_v0_apply, up3_apply]
  unfold Heads.qx
  rw [← H.q]
  have hs := s.isLt
  have hh := h.isLt
  have hd := d.isLt
  refine congrArg x0 (funext fun a => ?_)
  match a with
  | ⟨0, _⟩ => exact Fin.ext (by show ((s.val * 8 + h.val) * 128 + d.val) / 1024 = s.val; omega)
  | ⟨1, _⟩ => exact Fin.ext (by show ((s.val * 8 + h.val) * 128 + d.val) % 1024 = (h.val * 128 + d.val); omega)

theorem v14 (H : D.Holds x0 x1 x2 x4 x5 x6 x7) : val_main_v14 (F := Ideal) x0 = up3 fun s h _ => ms (D.qx h s) := by
  refine ext3 fun s h z => ?_
  pointwise [val_main_v14, val_main_v12, val_main_v10, val_main_v9, val_main_v8, val_main_cst, val_main_v11, val_main_cst_0, val_main_v13, val_main_cst_1]
  simp only [v7 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v15 (H : D.Holds x0 x1 x2 x4 x5 x6 x7) : val_main_v15 (F := Ideal) x0 = up3 fun s h _ => r (D.qx h s) := by
  refine ext3 fun s h z => ?_
  pointwise [val_main_v15]
  simp only [v14 H, up3_apply]
  exact rsqrt_pos (ms_pos _)

theorem v18 (H : D.Holds x0 x1 x2 x4 x5 x6 x7) : val_main_v18 (F := Ideal) x0
    = up3 fun s h _ => -(1 / 2) * (r (D.qx h s) / ms (D.qx h s)) := by
  refine ext3 fun s h z => ?_
  pointwise [val_main_v18, val_main_v17, val_main_cst_2, val_main_v16]
  simp only [v15 H, v14 H, up3_apply, bits_neg_half]
  rw [div_pos_coe _ _ (ms_pos _).ne', ← EReal.coe_mul]

theorem v20 (H : D.Holds x0 x1 x2 x4 x5 x6 x7) : val_main_v20 (F := Ideal) x0 = up3 fun s h d => xh (D.qx h s) d := by
  refine ext3 fun s h d => ?_
  pointwise [val_main_v20, val_main_v19]
  simp only [v7 H, v15 H, up3_apply, ← EReal.coe_mul]
  rfl

theorem v129 (H : D.Holds x0 x1 x2 x4 x5 x6 x7) : val_main_v129 (F := Ideal) x4 = up3 fun _ _ d => D.gq d := by
  refine ext3 fun s h d => ?_
  pointwise [val_main_v129, val_main_v21, val_main_v4, val_main_v3]
  rw [up3_apply]
  exact H.gq d

theorem v76 (H : D.Holds x0 x1 x2 x4 x5 x6 x7) : val_main_v76 (F := Ideal) x1 = up3 fun s h d => D.dq s (qcol h d) := by
  refine ext3 fun s h d => ?_
  rw [val_main_v76_apply, up3_apply, ← H.dq]
  have hs := s.isLt
  have hh := h.isLt
  have hd := d.isLt
  refine congrArg x1 (funext fun a => ?_)
  match a with
  | ⟨0, _⟩ => exact Fin.ext (by show ((s.val * 8 + h.val) * 128 + d.val) / 1024 = s.val; omega)
  | ⟨1, _⟩ => exact Fin.ext (by show ((s.val * 8 + h.val) * 128 + d.val) % 1024 = h.val * 128 + d.val; omega)

theorem v124 (H : D.Holds x0 x1 x2 x4 x5 x6 x7) : val_main_v124 (F := Ideal) x1 x6 x7
    = up3 fun s h j => D.dq s (qcol h (hi j)) * D.sin s j + D.dq s (qcol h (lo j)) * D.cos s j := by
  refine ext3 fun s h j => ?_
  pointwise [val_main_v124, val_main_v115, val_main_v113, val_main_v114, val_main_v27, val_main_v123, val_main_v112, val_main_v122, val_main_v26]
  simp only [v76 H, H.cos, H.sin, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v121 (H : D.Holds x0 x1 x2 x4 x5 x6 x7) : val_main_v121 (F := Ideal) x1 x6 x7
    = up3 fun s h j => D.dq s (qcol h (hi j)) * D.cos s j + -D.dq s (qcol h (lo j)) * D.sin s j := by
  refine ext3 fun s h j => ?_
  pointwise [val_main_v121, val_main_v117, val_main_v113, val_main_v116, val_main_v26, val_main_v120, val_main_v118, val_main_v112, val_main_v119, val_main_v27]
  simp only [v76 H, H.cos, H.sin, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v125 (H : D.Holds x0 x1 x2 x4 x5 x6 x7) : val_main_v125 (F := Ideal) x1 x6 x7 = up3 fun s h d => D.qn h s d := by
  refine ext3 fun s h d => ?_
  unfold val_main_v125
  rw [v124 H, v121 H, up3_apply]
  by_cases hd : d.val < 64
  · refine (concatenate_pair_apply_left 2 _ _ concatenates_S2048x8x64_S2048x8x64_S2048x8x128_d2 (ix3 s h d) rfl
      (ix3 s h (Heads.lane d)) fun a => ?_).trans ?_
    · match a with
      | ⟨0, _⟩ => rfl
      | ⟨1, _⟩ => rfl
      | ⟨2, _⟩ => show d.val % 64 = d.val; omega
    · exact congrArg (fun z : ℝ => (z : EReal)) (dn_lo D (fun d => D.dq s (qcol h d)) s d hd)
  · refine (concatenate_pair_apply_right 2 _ _ concatenates_S2048x8x64_S2048x8x64_S2048x8x128_d2 (ix3 s h d) rfl rfl
      (ix3 s h (Heads.lane d)) (fun a ha => ?_) ?_).trans ?_
    · match a with
      | ⟨0, _⟩ => rfl
      | ⟨1, _⟩ => rfl
      | ⟨2, _⟩ => exact absurd rfl ha
    · have := d.isLt
      show d.val % 64 + 64 = d.val
      omega
    · exact congrArg (fun z : ℝ => (z : EReal)) (dn_hi D (fun d => D.dq s (qcol h d)) s d hd)

theorem v130 (H : D.Holds x0 x1 x2 x4 x5 x6 x7) : val_main_v130 (F := Ideal) x1 x4 x6 x7
    = up3 fun s h d => D.qn h s d * D.gq d := by
  refine ext3 fun s h d => ?_
  pointwise [val_main_v130]
  simp only [v125 H, v129 H, up3_apply, ← EReal.coe_mul]

theorem v133 (H : D.Holds x0 x1 x2 x4 x5 x6 x7) : val_main_v133 (F := Ideal) x0 x1 x4 x6 x7
    = up2 fun s h => ∑ d, D.qx h s d * (D.qn h s d * D.gq d) := by
  refine ext2 fun s h => ?_
  pointwise [val_main_v133, val_main_v132, val_main_cst_14]
  simp only [v7 H, v130 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

theorem v134 (H : D.Holds x0 x1 x2 x4 x5 x6 x7) : val_main_v134 (F := Ideal) x0 x1 x4 x6 x7
    = up3 fun s h _ => ∑ d, D.qx h s d * (D.qn h s d * D.gq d) := by
  refine ext3 fun s h z => ?_
  rw [val_main_v134_apply, v133 H, up3_apply, ← up2_apply fun s h => ∑ d, D.qx h s d * (D.qn h s d * D.gq d)]
  have hs := s.isLt
  have hh := h.isLt
  have hz := z.isLt
  refine congrArg _ (funext fun a => ?_)
  match a with
  | ⟨0, _⟩ => exact Fin.ext (by show ((s.val * 8 + h.val) * 1 + z.val) / 8 = s.val; omega)
  | ⟨1, _⟩ => exact Fin.ext (by show ((s.val * 8 + h.val) * 1 + z.val) % 8 = h.val; omega)

theorem v140 (H : D.Holds x0 x1 x2 x4 x5 x6 x7) : val_main_v140 (F := Ideal) x0 x1 x4 x6 x7 = up2 fun s h =>
    (∑ d, D.qx h s d * (D.qn h s d * D.gq d)) * (-(1 / 2) * (r (D.qx h s) / ms (D.qx h s))) / 128 := by
  refine ext2 fun s h => ?_
  pointwise [val_main_v140, val_main_v139, val_main_v138, val_main_cst_15, val_main_v137, val_main_cst_16]
  simp only [v134 H, v18 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

theorem v145 (H : D.Holds x0 x1 x2 x4 x5 x6 x7) : val_main_v145 (F := Ideal) x0 x1 x4 x6 x7
    = up3 fun s h d => dx (D.qx h s) (D.qn h s) D.gq d := by
  refine ext3 fun s h d => ?_
  pointwise [val_main_v145, val_main_v144, val_main_v143, val_main_v142, val_main_v141, val_main_v136, val_main_v135]
  simp only [v7 H, v140 H, v130 H, v15 H, up2_apply, up3_apply, ← EReal.coe_mul, add_assoc, ← EReal.coe_add]
  exact congrArg (fun z : ℝ => (z : EReal)) (dx_eq _ _ _ _)

theorem v146 (H : D.Holds x0 x1 x2 x4 x5 x6 x7) : val_main_v146 (F := Ideal) x0 x1 x4 x6 x7 = up2 D.dzq := by
  refine ext2 fun s j => ?_
  rw [val_main_v146_apply, v145 H]
  have hs := s.isLt
  have hj := j.isLt
  have e : idx_main_v146 (ix2 s j) = ix3 s (qhd j) (qof j) := funext fun a => by
    match a with
    | ⟨0, _⟩ => exact Fin.ext (by show (s.val * 1024 + j.val) / 1024 = s.val; omega)
    | ⟨1, _⟩ => exact Fin.ext (by show (s.val * 1024 + j.val) / 128 % 8 = j.val / 128; omega)
    | ⟨2, _⟩ => exact Fin.ext (by show (s.val * 1024 + j.val) % 128 = j.val % 128; omega)
  rw [e]
  rfl

theorem v127 (H : D.Holds x0 x1 x2 x4 x5 x6 x7) : val_main_v127 (F := Ideal) x0 x1 x6 x7 = up1 D.dqg := by
  refine ext1 fun j => ?_
  unfold val_main_v127
  simp only [Host.reduceAdd, Ideal.hostReduceAdd_def]
  refine (reduce_01 _ (fun i => reducesTo_S2048x8x128_S128_d0_1.drop_apply_val_of_eq i 0 2) _ _ j).trans ?_
  pointwise [val_main_v126, val_main_cst_12]
  simp only [v20 H, v125 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  exact congrArg (fun z : ℝ => (z : EReal)) (Finset.sum_congr rfl fun s _ => Finset.sum_congr rfl fun h _ => mul_comm _ _)

theorem v150 (H : D.Holds x0 x1 x2 x4 x5 x6 x7) : val_main_v150 (F := Ideal) x0 x1 x6 x7 = up2 fun _ j => D.dqg j := by
  refine ext2 fun z j => ?_
  pointwise [val_main_v150]
  unfold val_main_v131
  simp only [Host.reduceAdd, Ideal.hostReduceAdd_def]
  refine (reduce_01 _ (fun i => reducesTo_S1x1x128_S128_d0_1.drop_apply_val_of_eq i 0 2) _ _ j).trans ?_
  pointwise [val_main_v128, val_main_cst_13]
  simp only [v127 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

/-! ## The keys -/

theorem v39 (H : D.Holds x0 x1 x2 x4 x5 x6 x7) : val_main_v39 (F := Ideal) x0 = up3 fun s h d => D.kx h s d := by
  refine ext3 fun s h d => ?_
  rw [val_main_v39_apply, val_main_v1_apply, up3_apply]
  unfold Heads.kx
  rw [← H.k]
  have hs := s.isLt
  have hh := h.isLt
  have hd := d.isLt
  refine congrArg x0 (funext fun a => ?_)
  match a with
  | ⟨0, _⟩ => exact Fin.ext (by show ((s.val * 2 + h.val) * 128 + d.val) / 256 = s.val; omega)
  | ⟨1, _⟩ => exact Fin.ext (by show 3072 + ((s.val * 2 + h.val) * 128 + d.val) % 256 = 3072 + (h.val * 128 + d.val); omega)

theorem v46 (H : D.Holds x0 x1 x2 x4 x5 x6 x7) : val_main_v46 (F := Ideal) x0 = up3 fun s h _ => ms (D.kx h s) := by
  refine ext3 fun s h z => ?_
  pointwise [val_main_v46, val_main_v44, val_main_v42, val_main_v41, val_main_v40, val_main_cst_3, val_main_v43, val_main_cst_4, val_main_v45, val_main_cst_5]
  simp only [v39 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v47 (H : D.Holds x0 x1 x2 x4 x5 x6 x7) : val_main_v47 (F := Ideal) x0 = up3 fun s h _ => r (D.kx h s) := by
  refine ext3 fun s h z => ?_
  pointwise [val_main_v47]
  simp only [v46 H, up3_apply]
  exact rsqrt_pos (ms_pos _)

theorem v50 (H : D.Holds x0 x1 x2 x4 x5 x6 x7) : val_main_v50 (F := Ideal) x0
    = up3 fun s h _ => -(1 / 2) * (r (D.kx h s) / ms (D.kx h s)) := by
  refine ext3 fun s h z => ?_
  pointwise [val_main_v50, val_main_v49, val_main_cst_6, val_main_v48]
  simp only [v47 H, v46 H, up3_apply, bits_neg_half]
  rw [div_pos_coe _ _ (ms_pos _).ne', ← EReal.coe_mul]

theorem v52 (H : D.Holds x0 x1 x2 x4 x5 x6 x7) : val_main_v52 (F := Ideal) x0 = up3 fun s h d => xh (D.kx h s) d := by
  refine ext3 fun s h d => ?_
  pointwise [val_main_v52, val_main_v51]
  simp only [v39 H, v47 H, up3_apply, ← EReal.coe_mul]
  rfl

theorem v94 (H : D.Holds x0 x1 x2 x4 x5 x6 x7) : val_main_v94 (F := Ideal) x5 = up3 fun _ _ d => D.gk d := by
  refine ext3 fun s h d => ?_
  pointwise [val_main_v94, val_main_v53, val_main_v6, val_main_v5]
  rw [up3_apply]
  exact H.gk d

theorem v75 (H : D.Holds x0 x1 x2 x4 x5 x6 x7) : val_main_v75 (F := Ideal) x2 = up3 fun s h d => D.dk s (kcol h d) := by
  refine ext3 fun s h d => ?_
  rw [val_main_v75_apply, val_main_v73_apply, up3_apply, ← H.dk]
  have hs := s.isLt
  have hh := h.isLt
  have hd := d.isLt
  refine congrArg x2 (funext fun a => ?_)
  match a with
  | ⟨0, _⟩ => exact Fin.ext (by show 128 + ((s.val * 2 + h.val) * 128 + d.val) / 256 = 128 + s.val; omega)
  | ⟨1, _⟩ => exact Fin.ext (by show ((s.val * 2 + h.val) * 128 + d.val) % 256 = h.val * 128 + d.val; omega)

theorem v89 (H : D.Holds x0 x1 x2 x4 x5 x6 x7) : val_main_v89 (F := Ideal) x2 x6 x7
    = up3 fun s h j => D.dk s (kcol h (hi j)) * D.sin s j + D.dk s (kcol h (lo j)) * D.cos s j := by
  refine ext3 fun s h j => ?_
  pointwise [val_main_v89, val_main_v80, val_main_v78, val_main_v79, val_main_v59, val_main_v88, val_main_v77, val_main_v87, val_main_v58]
  simp only [v75 H, H.cos, H.sin, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v86 (H : D.Holds x0 x1 x2 x4 x5 x6 x7) : val_main_v86 (F := Ideal) x2 x6 x7
    = up3 fun s h j => D.dk s (kcol h (hi j)) * D.cos s j + -D.dk s (kcol h (lo j)) * D.sin s j := by
  refine ext3 fun s h j => ?_
  pointwise [val_main_v86, val_main_v82, val_main_v78, val_main_v81, val_main_v58, val_main_v85, val_main_v83, val_main_v77, val_main_v84, val_main_v59]
  simp only [v75 H, H.cos, H.sin, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  rfl

theorem v90 (H : D.Holds x0 x1 x2 x4 x5 x6 x7) : val_main_v90 (F := Ideal) x2 x6 x7 = up3 fun s h d => D.kn h s d := by
  refine ext3 fun s h d => ?_
  unfold val_main_v90
  rw [v89 H, v86 H, up3_apply]
  by_cases hd : d.val < 64
  · refine (concatenate_pair_apply_left 2 _ _ concatenates_S2048x2x64_S2048x2x64_S2048x2x128_d2 (ix3 s h d) rfl
      (ix3 s h (Heads.lane d)) fun a => ?_).trans ?_
    · match a with
      | ⟨0, _⟩ => rfl
      | ⟨1, _⟩ => rfl
      | ⟨2, _⟩ => show d.val % 64 = d.val; omega
    · exact congrArg (fun z : ℝ => (z : EReal)) (dn_lo D (fun d => D.dk s (kcol h d)) s d hd)
  · refine (concatenate_pair_apply_right 2 _ _ concatenates_S2048x2x64_S2048x2x64_S2048x2x128_d2 (ix3 s h d) rfl rfl
      (ix3 s h (Heads.lane d)) (fun a ha => ?_) ?_).trans ?_
    · match a with
      | ⟨0, _⟩ => rfl
      | ⟨1, _⟩ => rfl
      | ⟨2, _⟩ => exact absurd rfl ha
    · have := d.isLt
      show d.val % 64 + 64 = d.val
      omega
    · exact congrArg (fun z : ℝ => (z : EReal)) (dn_hi D (fun d => D.dk s (kcol h d)) s d hd)

theorem v95 (H : D.Holds x0 x1 x2 x4 x5 x6 x7) : val_main_v95 (F := Ideal) x2 x5 x6 x7
    = up3 fun s h d => D.kn h s d * D.gk d := by
  refine ext3 fun s h d => ?_
  pointwise [val_main_v95]
  simp only [v90 H, v94 H, up3_apply, ← EReal.coe_mul]

theorem v98 (H : D.Holds x0 x1 x2 x4 x5 x6 x7) : val_main_v98 (F := Ideal) x0 x2 x5 x6 x7
    = up2 fun s h => ∑ d, D.kx h s d * (D.kn h s d * D.gk d) := by
  refine ext2 fun s h => ?_
  pointwise [val_main_v98, val_main_v97, val_main_cst_9]
  simp only [v39 H, v95 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

theorem v99 (H : D.Holds x0 x1 x2 x4 x5 x6 x7) : val_main_v99 (F := Ideal) x0 x2 x5 x6 x7
    = up3 fun s h _ => ∑ d, D.kx h s d * (D.kn h s d * D.gk d) := by
  refine ext3 fun s h z => ?_
  rw [val_main_v99_apply, v98 H, up3_apply, ← up2_apply fun s h => ∑ d, D.kx h s d * (D.kn h s d * D.gk d)]
  have hs := s.isLt
  have hh := h.isLt
  have hz := z.isLt
  refine congrArg _ (funext fun a => ?_)
  match a with
  | ⟨0, _⟩ => exact Fin.ext (by show ((s.val * 2 + h.val) * 1 + z.val) / 2 = s.val; omega)
  | ⟨1, _⟩ => exact Fin.ext (by show ((s.val * 2 + h.val) * 1 + z.val) % 2 = h.val; omega)

theorem v105 (H : D.Holds x0 x1 x2 x4 x5 x6 x7) : val_main_v105 (F := Ideal) x0 x2 x5 x6 x7 = up2 fun s h =>
    (∑ d, D.kx h s d * (D.kn h s d * D.gk d)) * (-(1 / 2) * (r (D.kx h s) / ms (D.kx h s))) / 128 := by
  refine ext2 fun s h => ?_
  pointwise [val_main_v105, val_main_v104, val_main_v103, val_main_cst_10, val_main_v102, val_main_cst_11]
  simp only [v99 H, v50 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

theorem v110 (H : D.Holds x0 x1 x2 x4 x5 x6 x7) : val_main_v110 (F := Ideal) x0 x2 x5 x6 x7
    = up3 fun s h d => dx (D.kx h s) (D.kn h s) D.gk d := by
  refine ext3 fun s h d => ?_
  pointwise [val_main_v110, val_main_v109, val_main_v108, val_main_v107, val_main_v106, val_main_v101, val_main_v100]
  simp only [v39 H, v105 H, v95 H, v47 H, up2_apply, up3_apply, ← EReal.coe_mul, add_assoc, ← EReal.coe_add]
  exact congrArg (fun z : ℝ => (z : EReal)) (dx_eq _ _ _ _)

theorem v111 (H : D.Holds x0 x1 x2 x4 x5 x6 x7) : val_main_v111 (F := Ideal) x0 x2 x5 x6 x7 = up2 D.dzk := by
  refine ext2 fun s j => ?_
  rw [val_main_v111_apply, v110 H]
  have hs := s.isLt
  have hj := j.isLt
  have e : idx_main_v111 (ix2 s j) = ix3 s (khd j) (kof j) := funext fun a => by
    match a with
    | ⟨0, _⟩ => exact Fin.ext (by show (s.val * 256 + j.val) / 256 = s.val; omega)
    | ⟨1, _⟩ => exact Fin.ext (by show (s.val * 256 + j.val) / 128 % 2 = j.val / 128; omega)
    | ⟨2, _⟩ => exact Fin.ext (by show (s.val * 256 + j.val) % 128 = j.val % 128; omega)
  rw [e]
  rfl

theorem v92 (H : D.Holds x0 x1 x2 x4 x5 x6 x7) : val_main_v92 (F := Ideal) x0 x2 x6 x7 = up1 D.dkg := by
  refine ext1 fun j => ?_
  unfold val_main_v92
  simp only [Host.reduceAdd, Ideal.hostReduceAdd_def]
  refine (reduce_01 _ (fun i => reducesTo_S2048x2x128_S128_d0_1.drop_apply_val_of_eq i 0 2) _ _ j).trans ?_
  pointwise [val_main_v91, val_main_cst_7]
  simp only [v52 H, v90 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]
  exact congrArg (fun z : ℝ => (z : EReal)) (Finset.sum_congr rfl fun s _ => Finset.sum_congr rfl fun h _ => mul_comm _ _)

theorem v151 (H : D.Holds x0 x1 x2 x4 x5 x6 x7) : val_main_v151 (F := Ideal) x0 x2 x6 x7 = up2 fun _ j => D.dkg j := by
  refine ext2 fun z j => ?_
  pointwise [val_main_v151]
  unfold val_main_v96
  simp only [Host.reduceAdd, Ideal.hostReduceAdd_def]
  refine (reduce_01 _ (fun i => reducesTo_S1x1x128_S128_d0_1.drop_apply_val_of_eq i 0 2) _ _ j).trans ?_
  pointwise [val_main_v93, val_main_cst_8]
  simp only [v92 H, up1_apply, up2_apply, up3_apply, bits_0, bits_128, bits_eps, bits_neg_half, div_128, EReal.coe_zero.symm, ← EReal.coe_mul, ← EReal.coe_add, ← EReal.coe_neg, coe_sum, zero_add, add_zero, Fin.sum_univ_one]

/-! ## The keys beside the values -/

theorem v148 (H : D.Holds x0 x1 x2 x4 x5 x6 x7) : val_main_v148 (F := Ideal) x0 x2 x3 x5 x6 x7
    = fun i => D.wide x3 (i 0) (i 1) := by
  refine ext2 fun s j => ?_
  unfold val_main_v148
  rw [v111 H]
  show _ = D.wide x3 s j
  unfold Heads.wide
  by_cases hj : j.val < 256
  · rw [dif_pos hj]
    refine (concatenate_pair_apply_left 1 _ _ concatenates_S2048x256_S2048x256_S2048x512_d1 (ix2 s j) rfl
      (ix2 s ⟨j.val, hj⟩) fun a => ?_).trans rfl
    match a with
    | ⟨0, _⟩ => rfl
    | ⟨1, _⟩ => rfl
  · rw [dif_neg hj]
    have hl := j.isLt
    refine (concatenate_pair_apply_right 1 _ _ concatenates_S2048x256_S2048x256_S2048x512_d1 (ix2 s j) rfl rfl
      (ix2 s ⟨j.val - 256, by omega⟩) (fun a ha => ?_) ?_).trans ?_
    · match a with
      | ⟨0, _⟩ => rfl
      | ⟨1, _⟩ => exact absurd rfl ha
    · show j.val - 256 + 256 = j.val
      omega
    · rw [val_main_v74_apply]
      refine congrArg x3 (funext fun a => ?_)
      match a with
      | ⟨0, _⟩ => rfl
      | ⟨1, _⟩ => rfl

theorem v147 (H : D.Holds x0 x1 x2 x4 x5 x6 x7) : val_main_v147 (F := Ideal) x0 x1 x4 x6 x7 = up2 D.dzq :=
  (show _ = val_main_v146 (F := Ideal) x0 x1 x4 x6 x7 from rfl).trans (v146 H)

theorem v149 (H : D.Holds x0 x1 x2 x4 x5 x6 x7) : val_main_v149 (F := Ideal) x0 x2 x3 x5 x6 x7
    = fun i => D.wide x3 (i 0) (i 1) :=
  (show _ = val_main_v148 (F := Ideal) x0 x2 x3 x5 x6 x7 from rfl).trans (v148 H)

end Cert.Reference18Ideal.Product

end

end
-- ==== Proof.HeadsFinite.lean ====
/-
  The precondition of the heads' norms says that the query and key columns, their gradients, the first layer's gains and
  the tables are finite: the argument arrays then hold real inputs.
-/
module

public import proofs.«01_k».proof.Proof.Finite
public import proofs.«01_k».proof.Proof.HeadNorm
public import proofs.«01_k».proof.Pre_heads_read_is_finite

@[expose] public section

noncomputable section

open Idealize.ShloMosaic HeadNorm

namespace Cert.Pre_heads_read_is_finite

/-- The shape relations that the predicate states. -/
theorem facts : Facts where
  slices_S2048x3584_S2048x1024_0_0 := by decide
  slices_S2048x3584_S2048x256_0_3072 := by decide
  slices_S2304x256_S2048x256_128_0 := by decide
  slices_S2x128_S1x128_0_0 := by decide
  shapeCasts_S1x128_S128 := by decide
  bcast_S_S2048x1024 := by decide
  bcast_S_S2048x256 := by decide
  bcast_S_S128 := by decide
  bcast_S_S2048x64 := by decide

/-- The real inputs that the arrays hold. -/
def reals (x0 : FVec Ideal S2048x3584 .f32) (x1 : FVec Ideal S2048x1024 .f32) (x2 : FVec Ideal S2304x256 .f32)
    (x4 x5 : FVec Ideal S2x128 .f32) (x6 x7 : FVec Ideal S2048x64 .f32) : Heads where
  q s j := (x0 (ix2 s ⟨j.val, by have := j.isLt; omega⟩)).toReal
  k s j := (x0 (ix2 s ⟨3072 + j.val, by have := j.isLt; omega⟩)).toReal
  dq s j := (x1 (ix2 s j)).toReal
  dk s j := (x2 (ix2 ⟨128 + s.val, by have := s.isLt; omega⟩ j)).toReal
  gq j := (x4 (ix2 0 j)).toReal
  gk j := (x5 (ix2 0 j)).toReal
  cos s j := (x6 (ix2 s j)).toReal
  sin s j := (x7 (ix2 s j)).toReal

theorem inputs [Facts] (x0 : FVec Ideal S2048x3584 .f32) (x1 : FVec Ideal S2048x1024 .f32) (x2 x3 : FVec Ideal S2304x256 .f32)
    (x4 x5 : FVec Ideal S2x128 .f32) (x6 x7 : FVec Ideal S2048x64 .f32)
    (h : (fn (F := Ideal) x0 x1 x2 x3 x4 x5 x6 x7).1 = (fun _ => 1#1)
      ∧ (fn (F := Ideal) x0 x1 x2 x3 x4 x5 x6 x7).2.1 = (fun _ => 1#1)
      ∧ (fn (F := Ideal) x0 x1 x2 x3 x4 x5 x6 x7).2.2.1 = (fun _ => 1#1)
      ∧ (fn (F := Ideal) x0 x1 x2 x3 x4 x5 x6 x7).2.2.2.1 = (fun _ => 1#1)
      ∧ (fn (F := Ideal) x0 x1 x2 x3 x4 x5 x6 x7).2.2.2.2.1 = (fun _ => 1#1)
      ∧ (fn (F := Ideal) x0 x1 x2 x3 x4 x5 x6 x7).2.2.2.2.2.1 = (fun _ => 1#1)
      ∧ (fn (F := Ideal) x0 x1 x2 x3 x4 x5 x6 x7).2.2.2.2.2.2.1 = (fun _ => 1#1)
      ∧ (fn (F := Ideal) x0 x1 x2 x3 x4 x5 x6 x7).2.2.2.2.2.2.2 = (fun _ => 1#1)) :
    (reals x0 x1 x2 x4 x5 x6 x7).Holds x0 x1 x2 x4 x5 x6 x7 := by
  dsimp only [fn, fn_part1] at h
  obtain ⟨hq, hk, hdq, hdk, hgq, hgk, hc, hs⟩ := h
  refine ⟨fun s j => ?_, fun s j => ?_, fun s j => ?_, fun s j => ?_, fun j => ?_, fun j => ?_, fun s j => ?_, fun s j => ?_⟩
  · have e := Cert.Pre_read_is_finite.fin_at hq (ix2 s j)
    pointwise at e
    exact e
  · have e := Cert.Pre_read_is_finite.fin_at hk (ix2 s j)
    pointwise at e
    exact e
  · exact Cert.Pre_read_is_finite.fin_at hdq (ix2 s j)
  · have e := Cert.Pre_read_is_finite.fin_at hdk (ix2 s j)
    pointwise at e
    exact e
  · have e := Cert.Pre_read_is_finite.fin_at hgq (ix1 j)
    pointwise at e
    exact e
  · have e := Cert.Pre_read_is_finite.fin_at hgk (ix1 j)
    pointwise at e
    exact e
  · exact Cert.Pre_read_is_finite.fin_at hc (ix2 s j)
  · exact Cert.Pre_read_is_finite.fin_at hs (ix2 s j)

end Cert.Pre_heads_read_is_finite

end

end
-- ==== Proof.HeadFwd.lean ====
/-
  The heads' norms and the rotation, forward, of any inputs: the rows of a head, and the results the kernel and the
  reference have in common.
-/
module

public import proofs.«01_k».proof.Proof.HeadNorm

@[expose] public section

noncomputable section

open scoped BigOperators
open Idealize.ShloMosaic Lift HeadNorm

namespace HeadForward

/-- A normalized row of a head with its gain. -/
def nrm (x g : Fin 128 → EReal) (j : Fin 128) : EReal :=
  x j * Ideal.rsqrt (Ideal.div (∑ k, x k * x k) (Ideal.ofBits .f32 0x43000000#32) + Ideal.ofBits .f32 0x358637BD#32) * g j

/-- The rotation of a head's halves; `c` and `s` are rows of the tables over both halves. -/
def rot (n c s : Fin 128 → EReal) (j : Fin 128) : EReal := n j * c j + n (sw j) * s j

variable (z : (⟨2, ![2048, 3584]⟩ : Shape).Idx → EReal) (g : (⟨2, ![2, 128]⟩ : Shape).Idx → EReal)
  (cos sin : (⟨2, ![2048, 64]⟩ : Shape).Idx → EReal)

/-- The tables over both halves of a head; the sine is negated over the first. -/
def c2 (s : Fin 2048) (j : Fin 128) : EReal := cos (ix2 s (Heads.lane j))
def s2 (s : Fin 2048) (j : Fin 128) : EReal := if j.val < 64 then -sin (ix2 s (Heads.lane j)) else sin (ix2 s (Heads.lane j))

/-- Column `d` of query head `h` and of key head `h` among the input projection's columns. -/
def qin (h : Fin 8) (d : Fin 128) : Fin 3584 := ⟨(qcol h d).val, by have := (qcol h d).isLt; omega⟩
def kin (h : Fin 2) (d : Fin 128) : Fin 3584 := ⟨3072 + (kcol h d).val, by have := (kcol h d).isLt; omega⟩

/-- The rows of a query head and of a key head, normalized, with the gain of the first layer. -/
def qn (h : Fin 8) (s : Fin 2048) : Fin 128 → EReal := nrm (fun d => z (ix2 s (qin h d))) (fun d => g (ix2 0 d))
def kn (h : Fin 2) (s : Fin 2048) : Fin 128 → EReal := nrm (fun d => z (ix2 s (kin h d))) (fun d => g (ix2 0 d))

/-- The queries, the keys and the values. -/
def q : (⟨2, ![2048, 1024]⟩ : Shape).Idx → EReal := fun i =>
  rot (qn z g (qhd (i 1)) (i 0)) (c2 cos (i 0)) (s2 sin (i 0)) (qof (i 1))
def k : (⟨2, ![2048, 256]⟩ : Shape).Idx → EReal := fun i =>
  rot (kn z g (khd (i 1)) (i 0)) (c2 cos (i 0)) (s2 sin (i 0)) (kof (i 1))
def v : (⟨2, ![2048, 256]⟩ : Shape).Idx → EReal := fun i =>
  z (ix2 (i 0) ⟨3328 + (i 1).val, by have h : (i 1).val < 256 := (i 1).isLt; omega⟩)

/-- A column in the first half of a head and in the second. -/
def lo (j : Fin 64) : Fin 128 := ⟨j.val, by have := j.isLt; omega⟩
def hi (j : Fin 64) : Fin 128 := ⟨64 + j.val, by have := j.isLt; omega⟩

/-- The rotation, half by half. -/
theorem rot_lo (n : Fin 128 → EReal) (s : Fin 2048) (j : Fin 128) (h : j.val < 64) :
    n (lo (Heads.lane j)) * cos (ix2 s (Heads.lane j)) - n (hi (Heads.lane j)) * sin (ix2 s (Heads.lane j))
      = rot n (c2 cos s) (s2 sin s) j := by
  have e1 : hi (Heads.lane j) = sw j := Fin.ext (by show 64 + j.val % 64 = (j.val + 64) % 128; omega)
  have e0 : lo (Heads.lane j) = j := Fin.ext (by show j.val % 64 = j.val; omega)
  unfold rot c2 s2
  rw [if_pos h, e1, e0, mul_neg, sub_eq_add_neg]

theorem rot_hi (n : Fin 128 → EReal) (s : Fin 2048) (j : Fin 128) (h : ¬j.val < 64) :
    n (hi (Heads.lane j)) * cos (ix2 s (Heads.lane j)) + n (lo (Heads.lane j)) * sin (ix2 s (Heads.lane j))
      = rot n (c2 cos s) (s2 sin s) j := by
  have hj := j.isLt
  have e1 : hi (Heads.lane j) = j := Fin.ext (by show 64 + j.val % 64 = j.val; omega)
  have e0 : lo (Heads.lane j) = sw j := Fin.ext (by show j.val % 64 = (j.val + 64) % 128; omega)
  unfold rot c2 s2
  rw [if_neg h, e1, e0]

end HeadForward

end

end
-- ==== Proof.Prod19.lean ====
/-
  The heads' norms and the rotation, forward: the kernel's arrays, of any inputs. The rows come 512 at a time, the heads
  of a tile one after another.
-/
module

public import proofs.«01_k».proof.Proof.HeadFwd
public import proofs.«01_k».proof.Proof.Gen.Kernel19Ideal.Value
public import Idealize.ShloMosaic.Lib.Pipeline.ValueKit
public import Idealize.ShloMosaic.Lib.Pipeline.ReadBack

@[expose] public section

set_option maxRecDepth 16384

noncomputable section

open scoped BigOperators
open Idealize.ShloMosaic Idealize.ShloMosaic.TcCoe Idealize.SL.Sem Lift HeadNorm

namespace Cert.Kernel19Ideal.Product

open Cert.Kernel19Ideal Cert.Kernel19Ideal.Gen HeadForward

/-! ## The heads of a tile -/

/-- What one head leaves: its rows normalized and rotated. -/
def head (c s x : Vec Ideal S512x128 .f32) (g : Vec Ideal S1x1x128 .f32) : S512x128.Idx → EReal := fun i =>
  rot (nrm (fun d => x (ix2 (i 0) d)) (fun d => g (ix3 0 0 d))) (fun d => c (ix2 (i 0) d)) (fun d => s (ix2 (i 0) d)) (i 1)

/-- A rotation by half of the columns exchanges the halves. -/
theorem roll (x : S512x128.Idx → EReal) (p : Fin 512) (j : Fin 128) :
    dynamicRotate (s := S512x128) 1 64#32 none x rotates_S512x128_d1 (ix2 p j) = x (ix2 p (sw j)) := by
  refine congrArg x (funext fun a => ?_)
  match a with
  | ⟨0, _⟩ => rfl
  | ⟨1, _⟩ =>
    refine Fin.ext ?_
    show (j.val + 128 - 64 % 128) % 128 = (j.val + 64) % 128
    omega

section

variable (c s x : Vec Ideal S512x128 .f32) (g : Vec Ideal S1x1x128 .f32)

theorem pay18 (p : Fin 512) (j : Fin 128) :
    k0_pay18 (F := Ideal) x g (ix2 p j) = nrm (fun d => x (ix2 p d)) (fun d => g (ix3 0 0 d)) j := by
  unfold nrm
  pointwise [k0_pay18]

theorem pay1 : k0_pay1 (F := Ideal) (k0_pay19 (F := Ideal) c x g) (k0_pay20 (F := Ideal) s x g) = head c s x g := by
  refine ext2 fun p j => ?_
  show k0_pay18 (F := Ideal) x g (ix2 p j) * c (ix2 p j)
    + dynamicRotate (s := S512x128) 1 64#32 none (k0_pay18 (F := Ideal) x g) rotates_S512x128_d1 (ix2 p j) * s (ix2 p j) = _
  rw [roll, pay18, pay18]
  rfl

theorem pay2 : k0_pay2 (F := Ideal) c s x g = head c s x g := pay1 c s x g
theorem pay4 : k0_pay4 (F := Ideal) c = c := by
  refine ext2 fun p j => ?_
  pointwise [k0_pay4]
theorem pay5 : k0_pay5 (F := Ideal) s = s := pay4 s
theorem pay6 : k0_pay6 (F := Ideal) c s x g = head c s x g := by
  show k0_pay2 (F := Ideal) (k0_pay4 c) (k0_pay5 s) x g = _
  rw [pay4, pay5, pay2]
theorem pay9 : k0_pay9 (F := Ideal) c s x (k0_pay7 (F := Ideal) g) (k0_pay8 (F := Ideal) x) = head c s x g := pay1 c s x g
theorem pay10 : k0_pay10 (F := Ideal) c s x g = head c s x g := pay1 c s x g
theorem pay13 : k0_pay13 (F := Ideal) c s x (k0_pay11 (F := Ideal) g) (k0_pay12 (F := Ideal) x) = head c s x g := pay1 c s x g
theorem pay14 : k0_pay14 (F := Ideal) c s x g = head c s x g := pay1 c s x g
theorem pay15 : k0_pay15 (F := Ideal) c s x g = head c s x g := pay1 c s x g
theorem pay16 : k0_pay16 (F := Ideal) c s x g = head c s x g := pay1 c s x g
theorem pay17 : k0_pay17 (F := Ideal) c s x g = head c s x g := pay1 c s x g

end

/-! ## The tiles -/

variable (c s : Vec Ideal S512x128 .f32) (x : Vec Ideal S512x1024 .f32) (y : Vec Ideal S512x512 .f32)
  (g : Vec Ideal S1x1x128 .f32)

/-- One entry of a query head of a tile and of a key head; the queries and the keys of a tile. -/
def qat (p : Fin 512) (h : Fin 8) (j : Fin 128) : EReal :=
  rot (nrm (fun d => x (ix2 p (qcol h d))) (fun d => g (ix3 0 0 d))) (fun d => c (ix2 p d)) (fun d => s (ix2 p d)) j
def qtile : S512x1024.Idx → EReal := fun i => qat c s x g (i 0) (qhd (i 1)) (qof (i 1))
def wide (h : Fin 2) (d : Fin 128) : Fin 512 := ⟨(kcol h d).val, by have := (kcol h d).isLt; omega⟩
def kat (p : Fin 512) (h : Fin 2) (j : Fin 128) : EReal :=
  rot (nrm (fun d => y (ix2 p (wide h d))) (fun d => g (ix3 0 0 d))) (fun d => c (ix2 p d)) (fun d => s (ix2 p d)) j
def ktile : S512x256.Idx → EReal := fun i => kat c s y g (i 0) (khd (i 1)) (kof (i 1))

theorem qat_of (p q : Fin 512) (j : Fin 1024) (h : Fin 8) (d : Fin 128) (hp : q = p) (hj : j = qcol h d) :
    qat c s x g p h d = qat c s x g q (qhd j) (qof j) := by
  rw [hp, hj, qhd_qcol, qof_qcol]
theorem kat_of (p q : Fin 512) (j : Fin 256) (h : Fin 2) (d : Fin 128) (hp : q = p) (hj : j = kcol h d) :
    kat c s y g p h d = kat c s y g q (khd j) (kof j) := by
  rw [hp, hj, khd_kcol, kof_kcol]

/-- The columns of one head, loaded. -/
theorem ldq (h : Fin 8) (o : Nat) (ho : o = h.val * 128) (inb) (p : Fin 512) (d : Fin 128) :
    View.ld (Val := Elt Ideal) (e' := .f32) (S := S512x1024) x (Rect.unit ![0, o] ![512, 128] inb) (ix2 p d)
      = x (ix2 p (qcol h d)) := by
  subst ho
  exact View.ld_unit_apply_of (e := .f32) _ _ _ _ _ (ix2 p (qcol h d)) fun a => by
    match a with
    | ⟨0, _⟩ => exact (Nat.zero_add _).symm
    | ⟨1, _⟩ => rfl
theorem ldk (h : Fin 2) (o : Nat) (ho : o = h.val * 128) (inb) (p : Fin 512) (d : Fin 128) :
    View.ld (Val := Elt Ideal) (e' := .f32) (S := S512x512) y (Rect.unit ![0, o] ![512, 128] inb) (ix2 p d)
      = y (ix2 p (wide h d)) := by
  subst ho
  exact View.ld_unit_apply_of (e := .f32) _ _ _ _ _ (ix2 p (wide h d)) fun a => by
    match a with
    | ⟨0, _⟩ => exact (Nat.zero_add _).symm
    | ⟨1, _⟩ => rfl

/-- The piece of query head `h`; of key head `h`. -/
theorem head_q (h : Fin 8) (o : Nat) (ho : o = h.val * 128) (inb) (p : Fin 512) (j : Fin 128) :
    head c s (View.ld (Val := Elt Ideal) (e' := .f32) (S := S512x1024) x (Rect.unit ![0, o] ![512, 128] inb)) g (ix2 p j)
      = qat c s x g p h j :=
  congrArg (fun f => rot (nrm f fun d => g (ix3 0 0 d)) (fun d => c (ix2 p d)) (fun d => s (ix2 p d)) j)
    (funext fun d => ldq x h o ho inb p d)
theorem embq (h : Fin 8) (o : Nat) (ho : o = h.val * 128) (inb inb')
    (i : (Rect.unit (s := S512x1024) ![0, o] ![512, 128] inb).shape.Idx) :
    head c s (View.ld (Val := Elt Ideal) (e' := .f32) (S := S512x1024) x (Rect.unit ![0, o] ![512, 128] inb')) g i
      = qtile c s x g ((Rect.unit (s := S512x1024) ![0, o] ![512, 128] inb).emb i) := by
  subst ho
  exact (head_q c s x g h _ rfl inb' (i 0) (i 1)).trans (qat_of c s x g (i 0) _ _ h (i 1)
    (Fin.ext ((Rect.idx_unit_val _ _ _ i 0).trans (Nat.zero_add _))) (Fin.ext (Rect.idx_unit_val _ _ _ i 1)))
theorem head_k (h : Fin 2) (o : Nat) (ho : o = h.val * 128) (inb) (p : Fin 512) (j : Fin 128) :
    head c s (View.ld (Val := Elt Ideal) (e' := .f32) (S := S512x512) y (Rect.unit ![0, o] ![512, 128] inb)) g (ix2 p j)
      = kat c s y g p h j :=
  congrArg (fun f => rot (nrm f fun d => g (ix3 0 0 d)) (fun d => c (ix2 p d)) (fun d => s (ix2 p d)) j)
    (funext fun d => ldk y h o ho inb p d)
theorem embk (h : Fin 2) (o : Nat) (ho : o = h.val * 128) (inb inb')
    (i : (Rect.unit (s := S512x256) ![0, o] ![512, 128] inb).shape.Idx) :
    head c s (View.ld (Val := Elt Ideal) (e' := .f32) (S := S512x512) y (Rect.unit ![0, o] ![512, 128] inb')) g i
      = ktile c s y g ((Rect.unit (s := S512x256) ![0, o] ![512, 128] inb).emb i) := by
  subst ho
  exact (head_k c s y g h _ rfl inb' (i 0) (i 1)).trans (kat_of c s y g (i 0) _ _ h (i 1)
    (Fin.ext ((Rect.idx_unit_val _ _ _ i 0).trans (Nat.zero_add _))) (Fin.ext (Rect.idx_unit_val _ _ _ i 1)))

/-- The query heads of a tile stored one after another. -/
theorem qheads (i0 j0 : _) (i1 j1 : _) (i2 j2 : _) (i3 j3 : _) (i4 j4 : _) (i5 j5 : _) (i6 j6 : _) (i7 j7 : _) :
    View.canon (Val := Elt Ideal) (s := S512x1024) (e := .bf16) [
        ⟨Rect.unit ![0, 896] ![512, 128] i7, head c s (View.ld (Val := Elt Ideal) (e' := .f32) (S := S512x1024) x (Rect.unit ![0, 896] ![512, 128] j7)) g⟩,
        ⟨Rect.unit ![0, 768] ![512, 128] i6, head c s (View.ld (Val := Elt Ideal) (e' := .f32) (S := S512x1024) x (Rect.unit ![0, 768] ![512, 128] j6)) g⟩,
        ⟨Rect.unit ![0, 640] ![512, 128] i5, head c s (View.ld (Val := Elt Ideal) (e' := .f32) (S := S512x1024) x (Rect.unit ![0, 640] ![512, 128] j5)) g⟩,
        ⟨Rect.unit ![0, 512] ![512, 128] i4, head c s (View.ld (Val := Elt Ideal) (e' := .f32) (S := S512x1024) x (Rect.unit ![0, 512] ![512, 128] j4)) g⟩,
        ⟨Rect.unit ![0, 384] ![512, 128] i3, head c s (View.ld (Val := Elt Ideal) (e' := .f32) (S := S512x1024) x (Rect.unit ![0, 384] ![512, 128] j3)) g⟩,
        ⟨Rect.unit ![0, 256] ![512, 128] i2, head c s (View.ld (Val := Elt Ideal) (e' := .f32) (S := S512x1024) x (Rect.unit ![0, 256] ![512, 128] j2)) g⟩,
        ⟨Rect.unit ![0, 128] ![512, 128] i1, head c s (View.ld (Val := Elt Ideal) (e' := .f32) (S := S512x1024) x (Rect.unit ![0, 128] ![512, 128] j1)) g⟩,
        ⟨Rect.unit ![0, 0] ![512, 128] i0, head c s (View.ld (Val := Elt Ideal) (e' := .f32) (S := S512x1024) x (Rect.unit ![0, 0] ![512, 128] j0)) g⟩]
      = qtile c s x g :=
  funext fun y' => View.canon_append_of_piecesOf (Val := Elt Ideal) (s := S512x1024) (e := .bf16) (qtile c s x g) [] [
        ⟨Rect.unit ![0, 896] ![512, 128] i7, head c s (View.ld (Val := Elt Ideal) (e' := .f32) (S := S512x1024) x (Rect.unit ![0, 896] ![512, 128] j7)) g⟩,
        ⟨Rect.unit ![0, 768] ![512, 128] i6, head c s (View.ld (Val := Elt Ideal) (e' := .f32) (S := S512x1024) x (Rect.unit ![0, 768] ![512, 128] j6)) g⟩,
        ⟨Rect.unit ![0, 640] ![512, 128] i5, head c s (View.ld (Val := Elt Ideal) (e' := .f32) (S := S512x1024) x (Rect.unit ![0, 640] ![512, 128] j5)) g⟩,
        ⟨Rect.unit ![0, 512] ![512, 128] i4, head c s (View.ld (Val := Elt Ideal) (e' := .f32) (S := S512x1024) x (Rect.unit ![0, 512] ![512, 128] j4)) g⟩,
        ⟨Rect.unit ![0, 384] ![512, 128] i3, head c s (View.ld (Val := Elt Ideal) (e' := .f32) (S := S512x1024) x (Rect.unit ![0, 384] ![512, 128] j3)) g⟩,
        ⟨Rect.unit ![0, 256] ![512, 128] i2, head c s (View.ld (Val := Elt Ideal) (e' := .f32) (S := S512x1024) x (Rect.unit ![0, 256] ![512, 128] j2)) g⟩,
        ⟨Rect.unit ![0, 128] ![512, 128] i1, head c s (View.ld (Val := Elt Ideal) (e' := .f32) (S := S512x1024) x (Rect.unit ![0, 128] ![512, 128] j1)) g⟩,
        ⟨Rect.unit ![0, 0] ![512, 128] i0, head c s (View.ld (Val := Elt Ideal) (e' := .f32) (S := S512x1024) x (Rect.unit ![0, 0] ![512, 128] j0)) g⟩]
    ⟨embq c s x g 7 896 rfl i7 j7, embq c s x g 6 768 rfl i6 j6, embq c s x g 5 640 rfl i5 j5, embq c s x g 4 512 rfl i4 j4, embq c s x g 3 384 rfl i3 j3, embq c s x g 2 256 rfl i2 j2, embq c s x g 1 128 rfl i1 j1, embq c s x g 0 0 rfl i0 j0, trivial⟩ y'
    (View.cover_of_tiledL (s := S512x1024) _ S512x128.size (by sl_kernel_rfl) y')

/-- The key heads of a tile stored one after another. -/
theorem kheads (i0 j0 : _) (i1 j1 : _) :
    View.canon (Val := Elt Ideal) (s := S512x256) (e := .bf16) [
        ⟨Rect.unit ![0, 128] ![512, 128] i1, head c s (View.ld (Val := Elt Ideal) (e' := .f32) (S := S512x512) y (Rect.unit ![0, 128] ![512, 128] j1)) g⟩,
        ⟨Rect.unit ![0, 0] ![512, 128] i0, head c s (View.ld (Val := Elt Ideal) (e' := .f32) (S := S512x512) y (Rect.unit ![0, 0] ![512, 128] j0)) g⟩]
      = ktile c s y g :=
  funext fun y' => View.canon_append_of_piecesOf (Val := Elt Ideal) (s := S512x256) (e := .bf16) (ktile c s y g) [] [
        ⟨Rect.unit ![0, 128] ![512, 128] i1, head c s (View.ld (Val := Elt Ideal) (e' := .f32) (S := S512x512) y (Rect.unit ![0, 128] ![512, 128] j1)) g⟩,
        ⟨Rect.unit ![0, 0] ![512, 128] i0, head c s (View.ld (Val := Elt Ideal) (e' := .f32) (S := S512x512) y (Rect.unit ![0, 0] ![512, 128] j0)) g⟩]
    ⟨embk c s y g 1 128 rfl i1 j1, embk c s y g 0 0 rfl i0 j0, trivial⟩ y'
    (View.cover_of_tiledL (s := S512x256) _ S512x128.size (by sl_kernel_rfl) y')

variable (m : (ℓ : Loc nD τ sig) → Buf (Elt Ideal) ℓ) (d : Dev nD)

theorem at_6 (t : Fin cfg0.N) : (outsAt0 m d t).1 = qtile (iblk m d 4 t) (iblk m d 5 t) (X0_0 m d t) (iblk m d 2 t) := by
  unfold outsAt0
  dsimp only
  frame_out
  simp only [pay4, pay5, pay6, pay9, pay10, pay13, pay14, pay15, pay16, pay17]
  exact qheads _ _ _ _ _ _ _ _ _ _ _ _ _ _ _ _ _ _ _ _

theorem at_7 (t : Fin cfg0.N) : (outsAt0 m d t).2.1 = ktile (iblk m d 4 t) (iblk m d 5 t) (iblk m d 1 t) (iblk m d 3 t) := by
  unfold outsAt0
  dsimp only
  frame_out
  simp only [pay1, pay2, pay4, pay5]
  exact kheads _ _ _ _ _ _ _ _

/-- A value's column in the block that holds the keys and the values. -/
def wv (j : Fin 256) : Fin 512 := ⟨256 + j.val, by have := j.isLt; omega⟩

theorem at_8 (t : Fin cfg0.N) (p : Fin 512) (j : Fin 256) : (outsAt0 m d t).2.2 (ix2 p j)
    = iblk m d 1 t (ix2 p (wv j)) := by
  unfold outsAt0
  dsimp only
  frame_out
  show View.ld (Val := Elt Ideal) (e' := .f32) (S := S512x512) (iblk m d 1 t) (Rect.unit ![0, 256] ![512, 256] _) (ix2 p j) = _
  exact View.ld_unit_apply_of (e := .f32) _ _ _ _ _ (ix2 p (wv j)) fun a => by
    match a with
    | ⟨0, _⟩ => exact (Nat.zero_add _).symm
    | ⟨1, _⟩ => rfl

/-! ## The arrays made before the call -/

abbrev Z := m ((d : Thread nD τ).loc main_arg0)
abbrev GQ := m ((d : Thread nD τ).loc main_arg1)
abbrev GK := m ((d : Thread nD τ).loc main_arg2)
abbrev COS := m ((d : Thread nD τ).loc main_arg3)
abbrev SIN := m ((d : Thread nD τ).loc main_arg4)

theorem idx : ∀ t : Fin cfg0.N, win0_0.index t = ![t.val, 0] ∧ win0_1.index t = ![t.val, 6] ∧ win0_2.index t = ![0, 0, 0]
    ∧ win0_3.index t = ![0, 0, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

theorem V_c : V m d main_v0 = concatenate S2048x128 1 [⟨S2048x64, COS m d⟩, ⟨S2048x64, COS m d⟩]
    concatenates_S2048x64_S2048x64_S2048x128_d1 := by
  unfold_abbrev_sides
  after_results
theorem V_s : V m d main_v2 = concatenate S2048x128 1 [⟨S2048x64, Host.negf (F := Ideal) (φ := .f32) (SIN m d)⟩,
    ⟨S2048x64, SIN m d⟩] concatenates_S2048x64_S2048x64_S2048x128_d1 := by
  unfold_abbrev_sides
  after_results
theorem V_gq : V m d main_v3 = shapeCast S2x1x128 (GQ m d) shapeCasts_S2x128_S2x1x128 := by
  unfold_abbrev_sides
  after_results
  rfl
theorem V_gk : V m d main_v4 = shapeCast S2x1x128 (GK m d) shapeCasts_S2x128_S2x1x128 := by
  unfold_abbrev_sides
  after_results
  rfl

theorem gain (x : S2x128.Idx → EReal) (j : Fin 128) :
    shapeCast S2x1x128 x shapeCasts_S2x128_S2x1x128 (ix3 0 0 j) = x (ix2 0 j) :=
  shapeCast_apply x shapeCasts_S2x128_S2x1x128 (ix3 0 0 j) (ix2 0 j) (by
    rewrite [Shape.rowMajor_val_three, Shape.rowMajor_val_two]
    show 0 * 128 + j.val = (0 * 1 + 0) * 128 + j.val
    omega)

/-- Two halves side by side. -/
theorem halves_lt (a b : S2048x64.Idx → EReal) (s : Fin 2048) (j : Fin 128) (h : j.val < 64) :
    concatenate S2048x128 1 [⟨S2048x64, a⟩, ⟨S2048x64, b⟩] concatenates_S2048x64_S2048x64_S2048x128_d1 (ix2 s j)
      = a (ix2 s (Heads.lane j)) :=
  concatenate_pair_apply_left 1 a b concatenates_S2048x64_S2048x64_S2048x128_d1 (ix2 s j) rfl (ix2 s (Heads.lane j)) fun x => by
    match x with
    | ⟨0, _⟩ => rfl
    | ⟨1, _⟩ => show j.val % 64 = j.val; omega
theorem halves_ge (a b : S2048x64.Idx → EReal) (s : Fin 2048) (j : Fin 128) (h : ¬j.val < 64) :
    concatenate S2048x128 1 [⟨S2048x64, a⟩, ⟨S2048x64, b⟩] concatenates_S2048x64_S2048x64_S2048x128_d1 (ix2 s j)
      = b (ix2 s (Heads.lane j)) :=
  concatenate_pair_apply_right 1 a b concatenates_S2048x64_S2048x64_S2048x128_d1 (ix2 s j) rfl rfl (ix2 s (Heads.lane j)) (fun x hx => by
    match x with
    | ⟨0, _⟩ => rfl
    | ⟨1, _⟩ => exact absurd rfl hx) (by
    have := j.isLt
    show j.val % 64 + 64 = j.val
    omega)

theorem tab_c (s : Fin 2048) (j : Fin 128) : V m d main_v0 (ix2 s j) = c2 (COS m d) s j := by
  rw [V_c]
  by_cases h : j.val < 64
  · exact halves_lt _ _ s j h
  · exact halves_ge _ _ s j h

theorem tab_s (s : Fin 2048) (j : Fin 128) : V m d main_v2 (ix2 s j) = s2 (SIN m d) s j := by
  rw [V_s]
  unfold s2
  by_cases h : j.val < 64
  · rw [halves_lt _ _ s j h, if_pos h]
    rfl
  · rw [halves_ge _ _ s j h, if_neg h]

/-! ## The blocks of a grid point -/

def row (t : Fin cfg0.N) (p : Fin 512) : Fin 2048 :=
  ⟨t.val * 512 + p.val, by have ht : t.val < 4 := t.isLt; have := p.isLt; omega⟩

theorem blk_q (t : Fin cfg0.N) (p : Fin 512) (h : Fin 8) (j : Fin 128) :
    X0_0 m d t (ix2 p (qcol h j)) = Z m d (ix2 (row t p) (qin h j)) := by
  unfold X0_0 Pipeline.Window.fill
  rw [dif_pos (moved0_0 t _)]
  blk_ext! [iblk, V, idx t, row, qin]

theorem blk_k (t : Fin cfg0.N) (p : Fin 512) (j : Fin 512) :
    iblk m d 1 t (ix2 p j) = Z m d (ix2 (row t p) ⟨3072 + j.val, by have := j.isLt; omega⟩) := by
  blk_ext! [iblk, V, idx t, row]

theorem blk_gq (t : Fin cfg0.N) (j : Fin 128) : iblk m d 2 t (ix3 0 0 j) = GQ m d (ix2 0 j) := by
  rw [← gain (GQ m d), ← V_gq]
  blk_ext! [iblk, idx t]
theorem blk_gk (t : Fin cfg0.N) (j : Fin 128) : iblk m d 3 t (ix3 0 0 j) = GK m d (ix2 0 j) := by
  rw [← gain (GK m d), ← V_gk]
  blk_ext! [iblk, idx t]

theorem blk_c (t : Fin cfg0.N) (p : Fin 512) (j : Fin 128) : iblk m d 4 t (ix2 p j) = c2 (COS m d) (row t p) j := by
  rw [← tab_c]
  blk_ext [iblk, idx t, row]
theorem blk_s (t : Fin cfg0.N) (p : Fin 512) (j : Fin 128) : iblk m d 5 t (ix2 p j) = s2 (SIN m d) (row t p) j := by
  rw [← tab_s]
  blk_ext [iblk, idx t, row]

/-! ## The arrays -/

theorem out_6 (t : Fin cfg0.N) (p : Fin 512) (j : Fin 1024) : (outsAt0 m d t).1 (ix2 p j)
    = q (Z m d) (GQ m d) (COS m d) (SIN m d) (ix2 (row t p) j) := by
  rw [at_6]
  show qat _ _ _ _ p (qhd j) (qof j) = _
  unfold qat
  simp only [blk_q, blk_gq, blk_c, blk_s]
  rfl
theorem out_7 (t : Fin cfg0.N) (p : Fin 512) (j : Fin 256) : (outsAt0 m d t).2.1 (ix2 p j)
    = k (Z m d) (GK m d) (COS m d) (SIN m d) (ix2 (row t p) j) := by
  rw [at_7]
  show kat _ _ _ _ p (khd j) (kof j) = _
  unfold kat
  simp only [blk_k, blk_gk, blk_c, blk_s]
  rfl
theorem out_8 (t : Fin cfg0.N) (p : Fin 512) (j : Fin 256) : (outsAt0 m d t).2.2 (ix2 p j) = v (Z m d) (ix2 (row t p) j) := by
  rw [at_8, blk_k]
  unfold v
  refine congrArg (fun y => Z m d (ix2 (row t p) y)) (Fin.ext ?_)
  show 3072 + (256 + j.val) = 3328 + j.val
  omega

theorem arr_6 : (dats m 0 d).arrAt 6 cfg0.N = q (Z m d) (GQ m d) (COS m d) (SIN m d) := by
  refine (dats m 0 d).arrAt_eq_of_covers 6 _ (by decide +kernel) fun t hf y => ?_
  blk_simp
  rw [after0_6]
  have hr : row t (y 0) = ((cfg0.win 6).blk t).view.emb y 0 := Fin.ext (by
    show t.val * 512 + (y 0).val = _
    blk_simp [idx t])
  have hj : y 1 = ((cfg0.win 6).blk t).view.emb y 1 := Fin.ext (by blk_simp [idx t])
  refine ((congrArg (outsAt0 m d t).1 (eq_ix2 y)).trans (out_6 m d t (y 0) (y 1))).trans ?_
  rw [hr, hj]
  rfl

theorem arr_7 : (dats m 0 d).arrAt 7 cfg0.N = k (Z m d) (GK m d) (COS m d) (SIN m d) := by
  refine (dats m 0 d).arrAt_eq_of_covers 7 _ (by decide +kernel) fun t hf y => ?_
  blk_simp
  rw [after0_7]
  have hr : row t (y 0) = ((cfg0.win 7).blk t).view.emb y 0 := Fin.ext (by
    show t.val * 512 + (y 0).val = _
    blk_simp [idx t])
  have hj : y 1 = ((cfg0.win 7).blk t).view.emb y 1 := Fin.ext (by blk_simp [idx t])
  refine ((congrArg (outsAt0 m d t).2.1 (eq_ix2 y)).trans (out_7 m d t (y 0) (y 1))).trans ?_
  rw [hr, hj]
  rfl

theorem arr_8 : (dats m 0 d).arrAt 8 cfg0.N = v (Z m d) := by
  refine (dats m 0 d).arrAt_eq_of_covers 8 _ (by decide +kernel) fun t hf y => ?_
  blk_simp
  rw [after0_8]
  have hr : row t (y 0) = ((cfg0.win 8).blk t).view.emb y 0 := Fin.ext (by
    show t.val * 512 + (y 0).val = _
    blk_simp [idx t])
  have hj : y 1 = ((cfg0.win 8).blk t).view.emb y 1 := Fin.ext (by blk_simp [idx t])
  refine ((congrArg (outsAt0 m d t).2.2 (eq_ix2 y)).trans (out_8 m d t (y 0) (y 1))).trans ?_
  rw [hr, hj]
  rfl

end Cert.Kernel19Ideal.Product

end

end
-- ==== Proof.HeadFwdRef.lean ====
/-
  The heads' norms and the rotation, forward: the values of the reference, of any inputs.
-/
module

public import proofs.«01_k».proof.Proof.HeadFwd
public import proofs.«01_k».proof.Proof.Gen.Reference19Ideal.Read

@[expose] public section

set_option maxRecDepth 16384

noncomputable section

open scoped BigOperators
open Idealize.ShloMosaic Lift HeadNorm

namespace Cert.Reference19Ideal.Product

open Cert.Reference19Ideal Cert.Reference19Ideal.Gen Cert.Reference19Ideal.Read HeadForward

variable {x0 : (⟨S2048x3584, .f32⟩ : BufTy).Contents (Elt Ideal)} {x1 x2 : (⟨S2x128, .f32⟩ : BufTy).Contents (Elt Ideal)}
  {x3 x4 : (⟨S2048x64, .f32⟩ : BufTy).Contents (Elt Ideal)}

/-! ## The queries -/

theorem v1 (s : Fin 2048) (h : Fin 8) (d : Fin 128) : val_main_v1 (F := Ideal) x0 (ix3 s h d) = x0 (ix2 s (qin h d)) := by
  rw [val_main_v1_apply, val_main_v0_apply]
  have hs := s.isLt
  have hh := h.isLt
  have hd := d.isLt
  refine congrArg x0 (funext fun a => ?_)
  match a with
  | ⟨0, _⟩ => exact Fin.ext (by show ((s.val * 8 + h.val) * 128 + d.val) / 1024 = s.val; omega)
  | ⟨1, _⟩ => exact Fin.ext (by show ((s.val * 8 + h.val) * 128 + d.val) % 1024 = (h.val * 128 + d.val); omega)

theorem v16 (s : Fin 2048) (h : Fin 8) (d : Fin 128) : val_main_v16 (F := Ideal) x0 x1 (ix3 s h d) = qn x0 x1 h s d := by
  unfold qn nrm
  pointwise [val_main_v16, val_main_v15, val_main_v14, val_main_v3, val_main_v2, val_main_v13, val_main_v12, val_main_v11, val_main_v10, val_main_v9, val_main_cst_1, val_main_v8, val_main_v7, val_main_cst_0, val_main_v6, val_main_v5, val_main_cst, val_main_v4]
  simp only [v1]

theorem v25 (s : Fin 2048) (h : Fin 8) (j : Fin 64) : val_main_v25 (F := Ideal) x0 x1 x3 x4 (ix3 s h j)
    = qn x0 x1 h s (lo j) * x3 (ix2 s j) - qn x0 x1 h s (hi j) * x4 (ix2 s j) := by
  pointwise [val_main_v25, val_main_v22, val_main_v17, val_main_v21, val_main_v19, val_main_v24, val_main_v18, val_main_v23, val_main_v20]
  rw [← v16, ← v16]
  rfl

theorem v30 (s : Fin 2048) (h : Fin 8) (j : Fin 64) : val_main_v30 (F := Ideal) x0 x1 x3 x4 (ix3 s h j)
    = qn x0 x1 h s (hi j) * x3 (ix2 s j) + qn x0 x1 h s (lo j) * x4 (ix2 s j) := by
  pointwise [val_main_v30, val_main_v27, val_main_v18, val_main_v26, val_main_v19, val_main_v29, val_main_v17, val_main_v28, val_main_v20]
  rw [← v16, ← v16]
  rfl

theorem v31 (s : Fin 2048) (h : Fin 8) (d : Fin 128) : val_main_v31 (F := Ideal) x0 x1 x3 x4 (ix3 s h d)
    = rot (qn x0 x1 h s) (c2 x3 s) (s2 x4 s) d := by
  unfold val_main_v31
  by_cases hd : d.val < 64
  · refine (concatenate_pair_apply_left 2 _ _ concatenates_S2048x8x64_S2048x8x64_S2048x8x128_d2 (ix3 s h d) rfl
      (ix3 s h (Heads.lane d)) fun a => ?_).trans ?_
    · match a with
      | ⟨0, _⟩ => rfl
      | ⟨1, _⟩ => rfl
      | ⟨2, _⟩ => show d.val % 64 = d.val; omega
    · exact (v25 s h _).trans (rot_lo x3 x4 _ s d hd)
  · refine (concatenate_pair_apply_right 2 _ _ concatenates_S2048x8x64_S2048x8x64_S2048x8x128_d2 (ix3 s h d) rfl rfl
      (ix3 s h (Heads.lane d)) (fun a ha => ?_) ?_).trans ?_
    · match a with
      | ⟨0, _⟩ => rfl
      | ⟨1, _⟩ => rfl
      | ⟨2, _⟩ => exact absurd rfl ha
    · have := d.isLt
      show d.val % 64 + 64 = d.val
      omega
    · exact (v30 s h _).trans (rot_hi x3 x4 _ s d hd)

theorem v65 : val_main_v65 (F := Ideal) x0 x1 x3 x4 = q x0 x1 x3 x4 := by
  refine ext2 fun s j => ?_
  show val_main_v64 (F := Ideal) x0 x1 x3 x4 (ix2 s j) = _
  rw [val_main_v64_apply]
  have hs := s.isLt
  have hj := j.isLt
  refine Eq.trans (congrArg (val_main_v31 (F := Ideal) x0 x1 x3 x4) (funext fun a => ?_)) (v31 s (qhd j) (qof j))
  match a with
  | ⟨0, _⟩ => exact Fin.ext (by show (s.val * 1024 + j.val) / 1024 = s.val; omega)
  | ⟨1, _⟩ => exact Fin.ext (by show (s.val * 1024 + j.val) / 128 % 8 = j.val / 128; omega)
  | ⟨2, _⟩ => exact Fin.ext (by show (s.val * 1024 + j.val) % 128 = j.val % 128; omega)

/-! ## The keys -/

theorem v33 (s : Fin 2048) (h : Fin 2) (d : Fin 128) : val_main_v33 (F := Ideal) x0 (ix3 s h d) = x0 (ix2 s (kin h d)) := by
  rw [val_main_v33_apply, val_main_v32_apply]
  have hs := s.isLt
  have hh := h.isLt
  have hd := d.isLt
  refine congrArg x0 (funext fun a => ?_)
  match a with
  | ⟨0, _⟩ => exact Fin.ext (by show ((s.val * 2 + h.val) * 128 + d.val) / 256 = s.val; omega)
  | ⟨1, _⟩ => exact Fin.ext (by show 3072 + ((s.val * 2 + h.val) * 128 + d.val) % 256 = 3072 + (h.val * 128 + d.val); omega)

theorem v48 (s : Fin 2048) (h : Fin 2) (d : Fin 128) : val_main_v48 (F := Ideal) x0 x2 (ix3 s h d) = kn x0 x2 h s d := by
  unfold kn nrm
  pointwise [val_main_v48, val_main_v47, val_main_v46, val_main_v35, val_main_v34, val_main_v45, val_main_v44, val_main_v43, val_main_v42, val_main_v41, val_main_cst_4, val_main_v40, val_main_v39, val_main_cst_3, val_main_v38, val_main_v37, val_main_cst_2, val_main_v36]
  simp only [v33]

theorem v57 (s : Fin 2048) (h : Fin 2) (j : Fin 64) : val_main_v57 (F := Ideal) x0 x2 x3 x4 (ix3 s h j)
    = kn x0 x2 h s (lo j) * x3 (ix2 s j) - kn x0 x2 h s (hi j) * x4 (ix2 s j) := by
  pointwise [val_main_v57, val_main_v54, val_main_v49, val_main_v53, val_main_v51, val_main_v56, val_main_v50, val_main_v55, val_main_v52]
  rw [← v48, ← v48]
  rfl

theorem v62 (s : Fin 2048) (h : Fin 2) (j : Fin 64) : val_main_v62 (F := Ideal) x0 x2 x3 x4 (ix3 s h j)
    = kn x0 x2 h s (hi j) * x3 (ix2 s j) + kn x0 x2 h s (lo j) * x4 (ix2 s j) := by
  pointwise [val_main_v62, val_main_v59, val_main_v50, val_main_v58, val_main_v51, val_main_v61, val_main_v49, val_main_v60, val_main_v52]
  rw [← v48, ← v48]
  rfl

theorem v63 (s : Fin 2048) (h : Fin 2) (d : Fin 128) : val_main_v63 (F := Ideal) x0 x2 x3 x4 (ix3 s h d)
    = rot (kn x0 x2 h s) (c2 x3 s) (s2 x4 s) d := by
  unfold val_main_v63
  by_cases hd : d.val < 64
  · refine (concatenate_pair_apply_left 2 _ _ concatenates_S2048x2x64_S2048x2x64_S2048x2x128_d2 (ix3 s h d) rfl
      (ix3 s h (Heads.lane d)) fun a => ?_).trans ?_
    · match a with
      | ⟨0, _⟩ => rfl
      | ⟨1, _⟩ => rfl
      | ⟨2, _⟩ => show d.val % 64 = d.val; omega
    · exact (v57 s h _).trans (rot_lo x3 x4 _ s d hd)
  · refine (concatenate_pair_apply_right 2 _ _ concatenates_S2048x2x64_S2048x2x64_S2048x2x128_d2 (ix3 s h d) rfl rfl
      (ix3 s h (Heads.lane d)) (fun a ha => ?_) ?_).trans ?_
    · match a with
      | ⟨0, _⟩ => rfl
      | ⟨1, _⟩ => rfl
      | ⟨2, _⟩ => exact absurd rfl ha
    · have := d.isLt
      show d.val % 64 + 64 = d.val
      omega
    · exact (v62 s h _).trans (rot_hi x3 x4 _ s d hd)

theorem v67 : val_main_v67 (F := Ideal) x0 x2 x3 x4 = k x0 x2 x3 x4 := by
  refine ext2 fun s j => ?_
  show val_main_v66 (F := Ideal) x0 x2 x3 x4 (ix2 s j) = _
  rw [val_main_v66_apply]
  have hs := s.isLt
  have hj := j.isLt
  refine Eq.trans (congrArg (val_main_v63 (F := Ideal) x0 x2 x3 x4) (funext fun a => ?_)) (v63 s (khd j) (kof j))
  match a with
  | ⟨0, _⟩ => exact Fin.ext (by show (s.val * 256 + j.val) / 256 = s.val; omega)
  | ⟨1, _⟩ => exact Fin.ext (by show (s.val * 256 + j.val) / 128 % 2 = j.val / 128; omega)
  | ⟨2, _⟩ => exact Fin.ext (by show (s.val * 256 + j.val) % 128 = j.val % 128; omega)

/-! ## The values -/

theorem v69 : val_main_v69 (F := Ideal) x0 = v x0 := by
  refine ext2 fun s j => ?_
  show val_main_v68 (F := Ideal) x0 (ix2 s j) = _
  rw [val_main_v68_apply]
  refine congrArg x0 (funext fun a => ?_)
  match a with
  | ⟨0, _⟩ => rfl
  | ⟨1, _⟩ => rfl

end Cert.Reference19Ideal.Product

end

end
-- ==== Proof.GateFwd.lean ====
/-
  The chunked spatial gating unit, forward, of any inputs: one chunk's rows, and the result the kernel and the reference
  have in common.
-/
module

public import proofs.«01_k».proof.Proof.Gate
public import proofs.«01_k».proof.Proof.HeadNorm

@[expose] public section

noncomputable section

open scoped BigOperators
open Idealize.ShloMosaic Lift HeadNorm

namespace GateForward

/-- gelu, by its tanh form; its inner scale and its cubic coefficient are f32 literals. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- A row's mean, and its root mean square's inverse. -/
def mean (r : Fin 1024 → EReal) : EReal := Ideal.div (∑ k, r k) (Ideal.ofBits .f32 0x44800000#32)
def inv (r : Fin 1024 → EReal) : EReal := Ideal.rsqrt (mean (fun k => r k * r k) + Ideal.ofBits .f32 0x358637BD#32)

/-- A row less its mean; the layer norm of a row; the norm of a row by its root mean square. -/
def cen (r : Fin 1024 → EReal) (j : Fin 1024) : EReal := r j - mean r
def lnorm (g b r : Fin 1024 → EReal) (j : Fin 1024) : EReal := cen r j * inv (cen r) * g j + b j
def rms (g r : Fin 1024 → EReal) (j : Fin 1024) : EReal := r j * inv r * g j

section

variable (u v : Fin 128 → Fin 1024 → EReal) (w : Fin 8 → Fin 128 → Fin 128 → EReal) (b : Fin 8 → Fin 128 → EReal)

/-- One entry of a chunk's gated value, head `h` and column `d` in it: `u` is the gate, `v` what the heads mix. -/
def gated (p : Fin 128) (h : Fin 8) (d : Fin 128) : EReal :=
  u p (qcol h d) * ((∑ q, w h p q * v q (qcol h d)) + b h p)

end

/-- A chunk of the result. -/
def mixed (u v : Fin 128 → Fin 1024 → EReal) (lg lb : Fin 1024 → EReal) (w : Fin 8 → Fin 128 → Fin 128 → EReal)
    (b : Fin 8 → Fin 128 → EReal) (og : Fin 1024 → EReal) (p : Fin 128) (j : Fin 1024) : EReal :=
  rms og (fun k => gated (fun q k => gelu (u q k)) (fun q => lnorm lg lb fun k => gelu (v q k)) w b p (qhd k) (qof k)) j

/-- A column of the gate and of what is mixed, among the input projection's columns. -/
def ucol (j : Fin 1024) : Fin 3584 := ⟨1024 + j.val, by have := j.isLt; omega⟩
def vcol (j : Fin 1024) : Fin 3584 := ⟨2048 + j.val, by have := j.isLt; omega⟩

/-- The result, with the parameters of the first layer. -/
def mix (z : (⟨2, ![2048, 3584]⟩ : Shape).Idx → EReal) (lg lb : (⟨2, ![2, 1024]⟩ : Shape).Idx → EReal)
    (w : (⟨4, ![2, 8, 128, 128]⟩ : Shape).Idx → EReal) (b : (⟨3, ![2, 8, 128]⟩ : Shape).Idx → EReal)
    (og : (⟨2, ![2, 1024]⟩ : Shape).Idx → EReal) (c : Fin 16) (p : Fin 128) (j : Fin 1024) : EReal :=
  mixed (fun q k => z (ix2 (SpatialGate.row c q) (ucol k))) (fun q k => z (ix2 (SpatialGate.row c q) (vcol k)))
    (fun k => lg (ix2 0 k)) (fun k => lb (ix2 0 k)) (fun h p q => w (ix4 0 h p q)) (fun h p => b (ix3 0 h p))
    (fun k => og (ix2 0 k)) p j

end GateForward

end

end
-- ==== Proof.Prod20.lean ====
/-
  The chunked spatial gating unit, forward: the kernel's array, of any inputs. A chunk's heads are stored into a scratch
  one after another, and the output norm is taken of the whole scratch.
-/
module

public import proofs.«01_k».proof.Proof.GateFwd
public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

open scoped BigOperators
open Idealize.ShloMosaic Idealize.ShloMosaic.TcCoe Idealize.SL.Sem Lift HeadNorm

namespace Cert.Kernel20Ideal.Product

open Cert.Kernel20Ideal Cert.Kernel20Ideal.Gen GateForward

/-! ## The rows of a chunk -/

theorem pay1 (g : Vec Ideal S1x1x1024 .f32) (p : Fin 1) (j : Fin 1024) : k0_pay1 (F := Ideal) g (ix2 p j) = g (ix3 0 0 j) := by
  pointwise [k0_pay1]
theorem pay2 (g : Vec Ideal S1x1x1024 .f32) (p : Fin 1) (j : Fin 1024) : k0_pay2 (F := Ideal) g (ix2 p j) = g (ix3 0 0 j) :=
  pay1 g p j

theorem pay3 (x : Vec Ideal S128x1024 .f32) (p : Fin 128) (j : Fin 1024) :
    k0_pay3 (F := Ideal) x (ix2 p j) = gelu (x (ix2 p j)) := by
  pointwise [k0_pay3]
  rfl

theorem pay4 (x : Vec Ideal S128x1024 .f32) (p : Fin 128) (j : Fin 1024) :
    k0_pay4 (F := Ideal) x (ix2 p j) = cen (fun k => gelu (x (ix2 p k))) j := by
  pointwise [k0_pay4]
  rfl

theorem pay6 (g b : Vec Ideal S1x1x1024 .f32) (x : Vec Ideal S128x1024 .f32) (p : Fin 128) (j : Fin 1024) :
    k0_pay6 (F := Ideal) (k0_pay1 g) (k0_pay2 b) (k0_pay4 x) (k0_pay5 x) (ix2 p j)
      = lnorm (fun k => g (ix3 0 0 k)) (fun k => b (ix3 0 0 k)) (fun k => gelu (x (ix2 p k))) j := by
  pointwise [k0_pay6, k0_pay5]
  simp only [pay1, pay2, pay4]
  rfl

theorem pay19 (x : Vec Ideal S128x1024 .f32) (g : Vec Ideal S1x1x1024 .f32) (p : Fin 128) (j : Fin 1024) :
    k0_pay19 (F := Ideal) x g (ix2 p j) = rms (fun k => g (ix3 0 0 k)) (fun k => x (ix2 p k)) j := by
  pointwise [k0_pay19]
  rfl

/-! ## The heads of a chunk -/

section

variable (u : FVec Ideal S128x1024 .f32) (n : FVec Ideal S128x1024 .bf16) (w : Vec Ideal S1x1x128x128 .bf16)
  (b : Vec Ideal S1x1x128x128 .f32)

/-- What one head leaves in the scratch. -/
def tile (h : Fin 8) : S128x128.Idx → EReal := fun i =>
  u (ix2 (i 0) (qcol h (i 1))) * ((∑ q : Fin 128, w (ix4 0 0 (i 0) q) * n (ix2 q (qcol h (i 1)))) + b (ix4 0 0 (i 0) (i 1)))

theorem at0 (d : Fin 128) : (⟨d.val, by have := d.isLt; omega⟩ : Fin 1024) = qcol 0 d :=
  Fin.ext (by show d.val = 0 * 128 + d.val; omega)
theorem at1 (d : Fin 128) : (⟨128 + d.val, by have := d.isLt; omega⟩ : Fin 1024) = qcol 1 d :=
  Fin.ext (by show 128 + d.val = 1 * 128 + d.val; omega)
theorem at2 (d : Fin 128) : (⟨256 + d.val, by have := d.isLt; omega⟩ : Fin 1024) = qcol 2 d :=
  Fin.ext (by show 256 + d.val = 2 * 128 + d.val; omega)
theorem at3 (d : Fin 128) : (⟨384 + d.val, by have := d.isLt; omega⟩ : Fin 1024) = qcol 3 d :=
  Fin.ext (by show 384 + d.val = 3 * 128 + d.val; omega)
theorem at4 (d : Fin 128) : (⟨512 + d.val, by have := d.isLt; omega⟩ : Fin 1024) = qcol 4 d :=
  Fin.ext (by show 512 + d.val = 4 * 128 + d.val; omega)
theorem at5 (d : Fin 128) : (⟨640 + d.val, by have := d.isLt; omega⟩ : Fin 1024) = qcol 5 d :=
  Fin.ext (by show 640 + d.val = 5 * 128 + d.val; omega)
theorem at6 (d : Fin 128) : (⟨768 + d.val, by have := d.isLt; omega⟩ : Fin 1024) = qcol 6 d :=
  Fin.ext (by show 768 + d.val = 6 * 128 + d.val; omega)
theorem at7 (d : Fin 128) : (⟨896 + d.val, by have := d.isLt; omega⟩ : Fin 1024) = qcol 7 d :=
  Fin.ext (by show 896 + d.val = 7 * 128 + d.val; omega)

theorem pay10 : k0_pay10 (F := Ideal) u n w b = tile u n w b 2 := by
  refine ext2 fun p d => ?_
  pointwise [k0_pay10]
  simp only [at2]
  rfl

theorem pay11 : k0_pay11 (F := Ideal) u n w b = tile u n w b 3 := by
  refine ext2 fun p d => ?_
  pointwise [k0_pay11]
  simp only [at3]
  rfl

theorem pay15 : k0_pay15 (F := Ideal) u n w b = tile u n w b 5 := by
  refine ext2 fun p d => ?_
  pointwise [k0_pay15]
  simp only [at5]
  rfl

theorem pay16 : k0_pay16 (F := Ideal) u n w b = tile u n w b 6 := by
  refine ext2 fun p d => ?_
  pointwise [k0_pay16]
  simp only [at6]
  rfl

theorem pay18 : k0_pay18 (F := Ideal) u n w b = tile u n w b 7 := by
  refine ext2 fun p d => ?_
  pointwise [k0_pay18]
  simp only [at7]
  rfl

theorem pay14 : k0_pay14 (F := Ideal) u (k0_pay12 w) (k0_pay13 n) b = tile u n w b 4 := by
  refine ext2 fun p d => ?_
  pointwise [k0_pay14, k0_pay12, k0_pay13]
  simp only [at4]
  rfl

theorem pay17 (x : FVec Ideal S128x128 .f32) : k0_pay17 (F := Ideal) x = x := by
  refine ext2 fun p d => ?_
  pointwise [k0_pay17]
theorem pay9 (x : FVec Ideal S128x128 .f32) : k0_pay9 (F := Ideal) x = x := pay17 x

end

section

variable (g b : FVec Ideal S1x1024 .f32) (u x y : FVec Ideal S128x1024 .f32) (w : Vec Ideal S1x1x128x128 .bf16)
  (s : Vec Ideal S1x1x128x128 .f32)

theorem pay7 : k0_pay7 (F := Ideal) g b u x y w s = tile u (k0_pay6 (F := Ideal) g b x y) w s 0 := by
  refine ext2 fun p d => ?_
  unfold k0_pay7
  generalize k0_pay6 (F := Ideal) g b x y = n
  pointwise []
  simp only [at0]
  rfl

theorem pay8 : k0_pay8 (F := Ideal) g b u x y w s = tile u (k0_pay6 (F := Ideal) g b x y) w s 1 := by
  refine ext2 fun p d => ?_
  unfold k0_pay8
  generalize k0_pay6 (F := Ideal) g b x y = n
  pointwise []
  simp only [at1]
  rfl

end

/-! ## The scratch -/

variable (u : FVec Ideal S128x1024 .f32) (n : FVec Ideal S128x1024 .bf16) (w : Vec Ideal S1x8x128x128 .bf16)
  (b : Vec Ideal S1x8x128x128 .f32)

/-- One entry of the scratch; the scratch. -/
def sat (p : Fin 128) (h : Fin 8) (d : Fin 128) : EReal :=
  u (ix2 p (qcol h d)) * ((∑ q : Fin 128, w (ix4 0 h p q) * n (ix2 q (qcol h d))) + b (ix4 0 h p d))
def scr : S128x1024.Idx → EReal := fun i => sat u n w b (i 0) (qhd (i 1)) (qof (i 1))

theorem sat_of (p q : Fin 128) (j : Fin 1024) (h : Fin 8) (d : Fin 128) (hp : q = p) (hj : j = qcol h d) :
    sat u n w b p h d = sat u n w b q (qhd j) (qof j) := by
  rw [hp, hj, qhd_qcol, qof_qcol]

/-- The weights and the biases of one head, loaded. -/
theorem ldw (h : Fin 8) (o : Nat) (ho : o = h.val) (inb) (p q : Fin 128) :
    View.ld (Val := Elt Ideal) (e' := .bf16) (S := S1x8x128x128) w (Rect.unit ![0, o, 0, 0] ![1, 1, 128, 128] inb) (ix4 0 0 p q)
      = w (ix4 0 h p q) := by
  subst ho
  exact View.ld_unit_apply_of (e := .bf16) _ _ _ _ _ (ix4 0 h p q) fun a => by
    match a with
    | ⟨0, _⟩ => rfl
    | ⟨1, _⟩ => rfl
    | ⟨2, _⟩ => exact (Nat.zero_add _).symm
    | ⟨3, _⟩ => exact (Nat.zero_add _).symm
theorem ldb (h : Fin 8) (o : Nat) (ho : o = h.val) (inb) (p q : Fin 128) :
    View.ld (Val := Elt Ideal) (e' := .f32) (S := S1x8x128x128) b (Rect.unit ![0, o, 0, 0] ![1, 1, 128, 128] inb) (ix4 0 0 p q)
      = b (ix4 0 h p q) := by
  subst ho
  exact View.ld_unit_apply_of (e := .f32) _ _ _ _ _ (ix4 0 h p q) fun a => by
    match a with
    | ⟨0, _⟩ => rfl
    | ⟨1, _⟩ => rfl
    | ⟨2, _⟩ => exact (Nat.zero_add _).symm
    | ⟨3, _⟩ => exact (Nat.zero_add _).symm

/-- What head `h` leaves, entry by entry. -/
theorem tile_at (h : Fin 8) (o : Nat) (ho : o = h.val) (inb inb') (p d : Fin 128) :
    tile u n (View.ld (Val := Elt Ideal) (e' := .bf16) (S := S1x8x128x128) w (Rect.unit ![0, o, 0, 0] ![1, 1, 128, 128] inb))
      (View.ld (Val := Elt Ideal) (e' := .f32) (S := S1x8x128x128) b (Rect.unit ![0, o, 0, 0] ![1, 1, 128, 128] inb')) h (ix2 p d)
      = sat u n w b p h d :=
  congrArg (u (ix2 p (qcol h d)) * ·) (congrArg₂ (· + ·)
    (Finset.sum_congr rfl fun q _ => congrArg (· * n (ix2 q (qcol h d))) (ldw w h o ho inb p q)) (ldb b h o ho inb' p d))

/-- The piece of head `h`. -/
theorem emb (h : Fin 8) (o k : Nat) (ho : o = h.val) (hk : k = h.val * 128) (inb inb' inb'')
    (i : (Rect.unit (s := S128x1024) ![0, k] ![128, 128] inb).shape.Idx) :
    tile u n (View.ld (Val := Elt Ideal) (e' := .bf16) (S := S1x8x128x128) w (Rect.unit ![0, o, 0, 0] ![1, 1, 128, 128] inb'))
      (View.ld (Val := Elt Ideal) (e' := .f32) (S := S1x8x128x128) b (Rect.unit ![0, o, 0, 0] ![1, 1, 128, 128] inb'')) h i
      = scr u n w b ((Rect.unit (s := S128x1024) ![0, k] ![128, 128] inb).emb i) := by
  subst hk
  exact (tile_at u n w b h o ho inb' inb'' (i 0) (i 1)).trans (sat_of u n w b (i 0) _ _ h (i 1)
    (Fin.ext ((Rect.idx_unit_val _ _ _ i 0).trans (Nat.zero_add _))) (Fin.ext (Rect.idx_unit_val _ _ _ i 1)))

/-- Head `h`'s piece of the scratch. -/
abbrev piece (h : Fin 8) (o k : Nat) (inb inb' inb'') :=
  (⟨Rect.unit ![0, k] ![128, 128] inb,
    tile u n (View.ld (Val := Elt Ideal) (e' := .bf16) (S := S1x8x128x128) w (Rect.unit ![0, o, 0, 0] ![1, 1, 128, 128] inb'))
      (View.ld (Val := Elt Ideal) (e' := .f32) (S := S1x8x128x128) b (Rect.unit ![0, o, 0, 0] ![1, 1, 128, 128] inb'')) h⟩ : View.Piece (Elt Ideal) S128x1024 .f32)

/-- Eight heads stored into the scratch and the whole scratch loaded. -/
theorem scratch {κ : Kind} {sp : Space} (v : View sig κ sp S128x1024 .f32)
    (i0 j0 k0 : _) (i1 j1 k1 : _) (i2 j2 k2 : _) (i3 j3 k3 : _) (i4 j4 k4 : _) (i5 j5 k5 : _) (i6 j6 k6 : _) (i7 j7 k7 : _) (i : _) :
    v.readCov (Val := Elt Ideal) [
        piece u n w b 7 7 896 i7 j7 k7,
        piece u n w b 6 6 768 i6 j6 k6,
        piece u n w b 5 5 640 i5 j5 k5,
        piece u n w b 4 4 512 i4 j4 k4,
        piece u n w b 3 3 384 i3 j3 k3,
        piece u n w b 2 2 256 i2 j2 k2,
        piece u n w b 1 1 128 i1 j1 k1,
        piece u n w b 0 0 0 i0 j0 k0]
      (Rect.unit ![0, 0] ![128, 1024] i).toLoadRect = scr u n w b := by
  rw [View.readCov_eq_canon']
  funext y
  have hy : (Rect.unit (s := S128x1024) ![0, 0] ![128, 1024] i).toLoadRect.idx y = y :=
    funext fun a => Fin.ext ((Rect.idx_unit_val _ _ _ y a).trans
      (by match a with | ⟨0, _⟩ => exact Nat.zero_add _ | ⟨1, _⟩ => exact Nat.zero_add _))
  show View.canon _ _ = _
  rw [hy]
  exact View.canon_append_of_piecesOf (Val := Elt Ideal) (s := S128x1024) (e := .f32) (scr u n w b) [] [
        piece u n w b 7 7 896 i7 j7 k7,
        piece u n w b 6 6 768 i6 j6 k6,
        piece u n w b 5 5 640 i5 j5 k5,
        piece u n w b 4 4 512 i4 j4 k4,
        piece u n w b 3 3 384 i3 j3 k3,
        piece u n w b 2 2 256 i2 j2 k2,
        piece u n w b 1 1 128 i1 j1 k1,
        piece u n w b 0 0 0 i0 j0 k0]
    ⟨emb u n w b 7 7 896 rfl rfl i7 j7 k7, emb u n w b 6 6 768 rfl rfl i6 j6 k6, emb u n w b 5 5 640 rfl rfl i5 j5 k5, emb u n w b 4 4 512 rfl rfl i4 j4 k4, emb u n w b 3 3 384 rfl rfl i3 j3 k3, emb u n w b 2 2 256 rfl rfl i2 j2 k2, emb u n w b 1 1 128 rfl rfl i1 j1 k1, emb u n w b 0 0 0 rfl rfl i0 j0 k0, trivial⟩ y
    (View.cover_of_tiledL (s := S128x1024) _ S128x128.size (by sl_kernel_rfl) y)

variable (m : (ℓ : Loc nD τ sig) → Buf (Elt Ideal) ℓ) (d : Dev nD)

theorem at_7 (t : Fin cfg0.N) : outsAt0 m d t
    = k0_pay19 (F := Ideal) (scr (k0_pay3 (F := Ideal) (X0_0 m d t))
        (k0_pay6 (F := Ideal) (k0_pay1 (iblk m d 2 t)) (k0_pay2 (iblk m d 3 t)) (k0_pay4 (X0_1 m d t)) (k0_pay5 (X0_1 m d t)))
        (iblk m d 4 t) (iblk m d 5 t)) (iblk m d 6 t) := by
  unfold outsAt0
  frame_open
  simp (disch := decide) only [↓ View.readCov_skip, ↓ View.readCov_cons_toLoadRect, ↓ View.readCov_fill]
  frame_out
  simp only [pay7, pay8, pay9, pay10, pay11, pay14, pay15, pay16, pay17, pay18]
  rw [scratch]

/-! ## The arrays made before the call -/

abbrev Z := m ((d : Thread nD τ).loc main_arg0)
abbrev LG := m ((d : Thread nD τ).loc main_arg1)
abbrev LB := m ((d : Thread nD τ).loc main_arg2)
abbrev W := m ((d : Thread nD τ).loc main_arg3)
abbrev B := m ((d : Thread nD τ).loc main_arg4)
abbrev OG := m ((d : Thread nD τ).loc main_arg5)

theorem idx : ∀ t : Fin cfg0.N, win0_0.index t = ![t.val, 1] ∧ win0_1.index t = ![t.val, 2] ∧ win0_2.index t = ![0, 0, 0]
    ∧ win0_3.index t = ![0, 0, 0] ∧ win0_4.index t = ![0, 0, 0, 0] ∧ win0_5.index t = ![0, 0, 0, 0]
    ∧ win0_6.index t = ![0, 0, 0] ∧ win0_7.index t = ![t.val, 0] :=
  (by decide +kernel : ∀ t : Fin grid0.N, _)

theorem V_lg : V m d main_v0 = shapeCast S2x1x1024 (LG m d) shapeCasts_S2x1024_S2x1x1024 := by
  unfold_abbrev_sides
  after_results
  rfl
theorem V_lb : V m d main_v1 = shapeCast S2x1x1024 (LB m d) shapeCasts_S2x1024_S2x1x1024 := by
  unfold_abbrev_sides
  after_results
  rfl
theorem V_og : V m d main_v2 = shapeCast S2x1x1024 (OG m d) shapeCasts_S2x1024_S2x1x1024 := by
  unfold_abbrev_sides
  after_results
  rfl
theorem V_w : V m d main_v3 = W m d := by
  unfold_abbrev_sides
  after_results
  rfl
theorem V_b : V m d main_v5 = broadcastInDim S2x8x128x128 ![0, 1, 2, 3] bcast_S2x8x128x1_S2x8x128x128_0_1_2_3
    (broadcastInDim S2x8x128x1 ![0, 1, 2] bcast_S2x8x128_S2x8x128x1_0_1_2 (B m d)) := by
  unfold_abbrev_sides
  after_results

theorem gain (x : S2x1024.Idx → EReal) (j : Fin 1024) :
    shapeCast S2x1x1024 x shapeCasts_S2x1024_S2x1x1024 (ix3 0 0 j) = x (ix2 0 j) :=
  shapeCast_apply x shapeCasts_S2x1024_S2x1x1024 (ix3 0 0 j) (ix2 0 j) (by
    rewrite [Shape.rowMajor_val_three, Shape.rowMajor_val_two]
    show 0 * 1024 + j.val = (0 * 1 + 0) * 1024 + j.val
    omega)

theorem bias (x : S2x8x128.Idx → EReal) (h : Fin 8) (p q : Fin 128) :
    broadcastInDim S2x8x128x128 ![0, 1, 2, 3] bcast_S2x8x128x1_S2x8x128x128_0_1_2_3
      (broadcastInDim S2x8x128x1 ![0, 1, 2] bcast_S2x8x128_S2x8x128x1_0_1_2 x) (ix4 0 h p q) = x (ix3 0 h p) := by
  pointwise []

/-! ## The blocks of a grid point -/

theorem blk_u (t : Fin cfg0.N) (p : Fin 128) (j : Fin 1024) :
    X0_0 m d t (ix2 p j) = Z m d (ix2 (SpatialGate.row t p) (ucol j)) := by
  unfold X0_0 Pipeline.Window.fill
  rw [dif_pos (moved0_0 t _)]
  blk_ext! [iblk, V, idx t, SpatialGate.row, ucol]
theorem blk_v (t : Fin cfg0.N) (p : Fin 128) (j : Fin 1024) :
    X0_1 m d t (ix2 p j) = Z m d (ix2 (SpatialGate.row t p) (vcol j)) := by
  unfold X0_1 Pipeline.Window.fill
  rw [dif_pos (moved0_1 t _)]
  blk_ext! [iblk, V, idx t, SpatialGate.row, vcol]

theorem blk_lg (t : Fin cfg0.N) (j : Fin 1024) : iblk m d 2 t (ix3 0 0 j) = LG m d (ix2 0 j) := by
  rw [← gain (LG m d), ← V_lg]
  blk_ext! [iblk, idx t]
theorem blk_lb (t : Fin cfg0.N) (j : Fin 1024) : iblk m d 3 t (ix3 0 0 j) = LB m d (ix2 0 j) := by
  rw [← gain (LB m d), ← V_lb]
  blk_ext! [iblk, idx t]
theorem blk_og (t : Fin cfg0.N) (j : Fin 1024) : iblk m d 6 t (ix3 0 0 j) = OG m d (ix2 0 j) := by
  rw [← gain (OG m d), ← V_og]
  blk_ext! [iblk, idx t]
theorem blk_w (t : Fin cfg0.N) (h : Fin 8) (p q : Fin 128) : iblk m d 4 t (ix4 0 h p q) = W m d (ix4 0 h p q) := by
  rw [← V_w]
  blk_ext! [iblk, idx t]
theorem blk_b (t : Fin cfg0.N) (h : Fin 8) (p q : Fin 128) : iblk m d 5 t (ix4 0 h p q) = B m d (ix3 0 h p) := by
  rw [← bias (B m d) h p q, ← V_b]
  blk_ext! [iblk, idx t]

/-! ## The array -/

theorem out_7 (t : Fin cfg0.N) (p : Fin 128) (j : Fin 1024) : outsAt0 m d t (ix2 p j)
    = mix (Z m d) (LG m d) (LB m d) (W m d) (B m d) (OG m d) t p j := by
  rw [at_7, pay19]
  unfold mix mixed
  refine congrArg₂ (fun g r => rms g r j) (funext fun k => blk_og m d t k) (funext fun k => ?_)
  show sat _ _ _ _ p (qhd k) (qof k) = _
  unfold sat gated
  simp only [pay3, pay6, blk_u, blk_v, blk_lg, blk_lb, blk_w, blk_b]

theorem arr_7 : (dats m 0 d).arrAt 7 cfg0.N = fun i : S2048x1024.Idx =>
    mix (Z m d) (LG m d) (LB m d) (W m d) (B m d) (OG m d) (SpatialGate.chunk (i 0)) (SpatialGate.place (i 0)) (i 1) := by
  refine (dats m 0 d).arrAt_eq_of_covers 7 _ (by decide +kernel) fun t hf y => ?_
  blk_simp
  rw [after0_7]
  have hr : SpatialGate.row t (y 0) = ((cfg0.win 7).blk t).view.emb y 0 := Fin.ext (by
    show t.val * 128 + (y 0).val = _
    blk_simp [idx t])
  have hj : y 1 = ((cfg0.win 7).blk t).view.emb y 1 := Fin.ext (by blk_simp [idx t])
  refine ((congrArg (outsAt0 m d t) (eq_ix2 y)).trans (out_7 m d t (y 0) (y 1))).trans ?_
  show _ = mix _ _ _ _ _ _ (SpatialGate.chunk (((cfg0.win 7).blk t).view.emb y 0)) (SpatialGate.place (((cfg0.win 7).blk t).view.emb y 0)) (((cfg0.win 7).blk t).view.emb y 1)
  rw [← hr, ← hj]
  exact (congrArg₂ (fun c p => mix (Z m d) (LG m d) (LB m d) (W m d) (B m d) (OG m d) c p (y 1))
    (SpatialGate.chunk_row t (y 0)) (SpatialGate.place_row t (y 0))).symm

end Cert.Kernel20Ideal.Product

end

end
-- ==== Proof.GateFwdRef.lean ====
/-
  The chunked spatial gating unit, forward: the values of the reference, of any inputs.
-/
module

public import proofs.«01_k».proof.Proof.GateFwd
public import proofs.«01_k».proof.Proof.Gen.Reference20Ideal.Read

@[expose] public section

set_option maxRecDepth 16384

noncomputable section

open scoped BigOperators
open Idealize.ShloMosaic Lift HeadNorm

namespace Cert.Reference20Ideal.Product

open Cert.Reference20Ideal Cert.Reference20Ideal.Gen Cert.Reference20Ideal.Read GateForward

variable {x0 : (⟨S2048x3584, .f32⟩ : BufTy).Contents (Elt Ideal)} {x1 x2 : (⟨S2x1024, .f32⟩ : BufTy).Contents (Elt Ideal)}
  {x3 : (⟨S2x8x128x128, .f32⟩ : BufTy).Contents (Elt Ideal)} {x4 : (⟨S2x8x128, .f32⟩ : BufTy).Contents (Elt Ideal)}
  {x5 : (⟨S2x1024, .f32⟩ : BufTy).Contents (Elt Ideal)}

/-! ## gelu of the two inputs -/

theorem v1 (a : Fin 1) (s : Fin 2048) (j : Fin 1024) : val_main_v1 (F := Ideal) x0 (ix3 a s j) = x0 (ix2 s (ucol j)) := by
  pointwise [val_main_v1, val_main_v0]
  rfl
theorem v16 (a : Fin 1) (s : Fin 2048) (j : Fin 1024) : val_main_v16 (F := Ideal) x0 (ix3 a s j) = x0 (ix2 s (vcol j)) := by
  pointwise [val_main_v16, val_main_v15]
  rfl

theorem v14 (a : Fin 1) (s : Fin 2048) (j : Fin 1024) :
    val_main_v14 (F := Ideal) x0 (ix3 a s j) = gelu (x0 (ix2 s (ucol j))) := by
  pointwise [val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
  simp only [v1]
  rfl
theorem v29 (a : Fin 1) (s : Fin 2048) (j : Fin 1024) :
    val_main_v29 (F := Ideal) x0 (ix3 a s j) = gelu (x0 (ix2 s (vcol j))) := by
  pointwise [val_main_v29, val_main_v28, val_main_v27, val_main_v26, val_main_v25, val_main_v24, val_main_v23, val_main_v22, val_main_v21, val_main_v20, val_main_v19, val_main_v18, val_main_v17, val_main_cst_3, val_main_cst_4, val_main_cst_5, val_main_cst_6]
  simp only [v16]
  rfl

/-! ## The layer norm -/

theorem v43 (a : Fin 1) (s : Fin 2048) (j : Fin 1024) :
    val_main_v43 (F := Ideal) x0 (ix3 a s j) = cen (fun k => gelu (x0 (ix2 s (vcol k)))) j := by
  pointwise [val_main_v43, val_main_v42, val_main_v41, val_main_v40, val_main_v39, val_main_v38, val_main_cst_7, val_main_cst_8]
  simp only [v29]
  rfl

theorem v59 (a : Fin 1) (s : Fin 2048) (j : Fin 1024) : val_main_v59 (F := Ideal) x0 x1 x2 (ix3 a s j)
    = lnorm (fun k => x1 (ix2 0 k)) (fun k => x2 (ix2 0 k)) (fun k => gelu (x0 (ix2 s (vcol k)))) j := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v33, val_main_v32, val_main_v31, val_main_v30, val_main_cst_9, val_main_cst_10, val_main_cst_11]
  simp only [v43]
  rfl

/-! ## The heads -/

theorem v60 (c : Fin 16) (q : Fin 128) (h : Fin 8) (e : Fin 128) :
    val_main_v60 (F := Ideal) x0 x1 x2 (ix5 0 c q h e)
      = val_main_v59 (F := Ideal) x0 x1 x2 (ix3 0 (SpatialGate.row c q) (qcol h e)) := by
  rw [val_main_v60_apply]
  have hc := c.isLt
  have hq := q.isLt
  have hh := h.isLt
  have he := e.isLt
  refine congrArg (val_main_v59 (F := Ideal) x0 x1 x2) (funext fun a => ?_)
  match a with
  | ⟨0, _⟩ => rfl
  | ⟨1, _⟩ => exact Fin.ext (by
      show ((((0 * 16 + c.val) * 128 + q.val) * 8 + h.val) * 128 + e.val) / 1024 % 2048 = c.val * 128 + q.val
      omega)
  | ⟨2, _⟩ => exact Fin.ext (by
      show ((((0 * 16 + c.val) * 128 + q.val) * 8 + h.val) * 128 + e.val) % 1024 = h.val * 128 + e.val
      omega)

theorem v35 (h : Fin 8) (p q : Fin 128) : val_main_v35 (F := Ideal) x3 (ix3 h p q) = x3 (ix4 0 h p q) := by
  pointwise [val_main_v35, val_main_v34]

theorem v65 (c : Fin 16) (p : Fin 128) (h : Fin 8) (e : Fin 128) :
    val_main_v65 (F := Ideal) x4 (ix5 0 c p h e) = x4 (ix3 0 h p) := by
  pointwise [val_main_v65, val_main_v64, val_main_v63, val_main_v37, val_main_v36]

theorem v62 (c : Fin 16) (p : Fin 128) (h : Fin 8) (e : Fin 128) : val_main_v62 (F := Ideal) x0 x1 x2 x3 (ix5 0 c p h e)
    = ∑ q : Fin 128, x3 (ix4 0 h p q) * val_main_v59 (F := Ideal) x0 x1 x2 (ix3 0 (SpatialGate.row c q) (qcol h e)) := by
  rw [val_main_v62_apply, val_main_v61_apply]
  refine Finset.sum_congr rfl fun q _ => ?_
  rw [mul_comm, ← v60, ← v35 (x3 := x3)]
  refine congrArg₂ (· * ·) (congrArg (val_main_v35 (F := Ideal) x3) (funext fun a => ?_))
    (congrArg (val_main_v60 (F := Ideal) x0 x1 x2) (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl
    | ⟨4, _⟩ => rfl

theorem v67 (c : Fin 16) (p : Fin 128) (j : Fin 1024) :
    val_main_v67 (F := Ideal) x0 x1 x2 x3 x4 (ix3 0 (SpatialGate.row c p) j)
      = val_main_v66 (F := Ideal) x0 x1 x2 x3 x4 (ix5 0 c p (qhd j) (qof j)) := by
  rw [val_main_v67_apply]
  have hc := c.isLt
  have hp := p.isLt
  have hj := j.isLt
  refine congrArg (val_main_v66 (F := Ideal) x0 x1 x2 x3 x4) (funext fun a => ?_)
  match a with
  | ⟨0, _⟩ => rfl
  | ⟨1, _⟩ => exact Fin.ext (by show ((0 * 2048 + (c.val * 128 + p.val)) * 1024 + j.val) / 131072 % 16 = c.val; omega)
  | ⟨2, _⟩ => exact Fin.ext (by show ((0 * 2048 + (c.val * 128 + p.val)) * 1024 + j.val) / 1024 % 128 = p.val; omega)
  | ⟨3, _⟩ => exact Fin.ext (by show ((0 * 2048 + (c.val * 128 + p.val)) * 1024 + j.val) / 128 % 8 = j.val / 128; omega)
  | ⟨4, _⟩ => exact Fin.ext (by show ((0 * 2048 + (c.val * 128 + p.val)) * 1024 + j.val) % 128 = j.val % 128; omega)

theorem v68 (c : Fin 16) (p : Fin 128) (j : Fin 1024) :
    val_main_v68 (F := Ideal) x0 x1 x2 x3 x4 (ix3 0 (SpatialGate.row c p) j)
      = gated (fun q k => gelu (x0 (ix2 (SpatialGate.row c q) (ucol k))))
          (fun q => lnorm (fun k => x1 (ix2 0 k)) (fun k => x2 (ix2 0 k)) fun k => gelu (x0 (ix2 (SpatialGate.row c q) (vcol k))))
          (fun h p q => x3 (ix4 0 h p q)) (fun h p => x4 (ix3 0 h p)) p (qhd j) (qof j) := by
  have e : qcol (qhd j) (qof j) = j := Fin.ext (by show j.val / 128 * 128 + j.val % 128 = j.val; omega)
  show val_main_v14 (F := Ideal) x0 _ * val_main_v67 (F := Ideal) x0 x1 x2 x3 x4 _ = _
  rw [v67, v14]
  show _ * (val_main_v62 (F := Ideal) x0 x1 x2 x3 _ + val_main_v65 (F := Ideal) x4 _) = _
  rw [v62, v65]
  unfold gated
  simp only [v59, e]

theorem v83 (c : Fin 16) (p : Fin 128) (j : Fin 1024) :
    val_main_v83 (F := Ideal) x0 x1 x2 x3 x4 x5 (ix3 0 (SpatialGate.row c p) j) = mix x0 x1 x2 x3 x4 x5 c p j := by
  pointwise [val_main_v83, val_main_v82, val_main_v81, val_main_v80, val_main_v79, val_main_v78, val_main_v77, val_main_v76, val_main_v75, val_main_v74, val_main_v73, val_main_v72, val_main_v71, val_main_v70, val_main_v69, val_main_cst_12, val_main_cst_13, val_main_cst_14]
  simp only [v68]
  rfl

theorem v85 : val_main_v85 (F := Ideal) x0 x1 x2 x3 x4 x5 = fun i : S2048x1024.Idx =>
    mix x0 x1 x2 x3 x4 x5 (SpatialGate.chunk (i 0)) (SpatialGate.place (i 0)) (i 1) := by
  refine ext2 fun s j => ?_
  show val_main_v84 (F := Ideal) x0 x1 x2 x3 x4 x5 (ix2 s j) = mix x0 x1 x2 x3 x4 x5 (SpatialGate.chunk s) (SpatialGate.place s) j
  rw [← v83, SpatialGate.row_chunk_place, val_main_v84_apply]
  have hs := s.isLt
  have hj := j.isLt
  refine congrArg (val_main_v83 (F := Ideal) x0 x1 x2 x3 x4 x5) (funext fun a => ?_)
  match a with
  | ⟨0, _⟩ => rfl
  | ⟨1, _⟩ => exact Fin.ext (by show (s.val * 1024 + j.val) / 1024 % 2048 = s.val; omega)
  | ⟨2, _⟩ => exact Fin.ext (by show (s.val * 1024 + j.val) % 1024 = j.val; omega)

end Cert.Reference20Ideal.Product

end

end
-- ==== Proof.ConvGlu.lean ====
/-
  The centred depthwise convolution of three taps and the gate after it, of any inputs: one entry, and the result the
  kernel and the reference have in common.
-/
module

public import proofs.«01_k».proof.Proof.Gate
public import proofs.«01_k».proof.Proof.HeadNorm

@[expose] public section

noncomputable section

open Idealize.ShloMosaic Lift

namespace ConvGlu

/-- One entry of the convolution: the bias, and the row before, the row itself and the row after, each by its tap. -/
def conv (b w0 w1 w2 dn x up : EReal) : EReal := b + dn * w0 + x * w1 + up * w2

/-- silu of the gate, times the value. -/
def act (g u : EReal) : EReal := g * Ideal.div 1 (1 + Ideal.exp (-g)) * u

/-- The row before and the row after, zero outside the sequence. -/
def prev (x : Fin 2048 → EReal) (r : Fin 2048) : EReal := if r.val = 0 then 0 else x ⟨r.val - 1, by have := r.isLt; omega⟩
def next (x : Fin 2048 → EReal) (r : Fin 2048) : EReal := if h : r.val + 1 < 2048 then x ⟨r.val + 1, h⟩ else 0

/-- A column of the gate and of the value, among the projection's columns. -/
def gcol (j : Fin 5632) : Fin 11264 := ⟨j.val, by have := j.isLt; omega⟩
def ucol (j : Fin 5632) : Fin 11264 := ⟨5632 + j.val, by have := j.isLt; omega⟩

/-- The convolution, with the parameters of the first layer. -/
def cv (a : (⟨2, ![2048, 11264]⟩ : Shape).Idx → EReal) (w : (⟨3, ![2, 3, 11264]⟩ : Shape).Idx → EReal)
    (b : (⟨2, ![2, 11264]⟩ : Shape).Idx → EReal) (r : Fin 2048) (c : Fin 11264) : EReal :=
  conv (b (ix2 0 c)) (w (ix3 0 0 c)) (w (ix3 0 1 c)) (w (ix3 0 2 c)) (prev (fun q => a (ix2 q c)) r) (a (ix2 r c))
    (next (fun q => a (ix2 q c)) r)

/-- The result. -/
def glu (a : (⟨2, ![2048, 11264]⟩ : Shape).Idx → EReal) (w : (⟨3, ![2, 3, 11264]⟩ : Shape).Idx → EReal)
    (b : (⟨2, ![2, 11264]⟩ : Shape).Idx → EReal) (r : Fin 2048) (j : Fin 5632) : EReal :=
  act (cv a w b r (gcol j)) (cv a w b r (ucol j))

end ConvGlu

end

end
-- ==== Proof.Prod21.lean ====
/-
  The centred depthwise convolution of three taps and the gate after it: the kernel's array, of any inputs. A block's rows
  are computed window by window, the first and the last window before and after the loop over the windows between them.
-/
module

public import proofs.«01_k».proof.Proof.ConvGlu
public import proofs.«01_k».proof.Proof.Gen.Kernel21Ideal.Value
public import Idealize.ShloMosaic.Lib.Pipeline.ValueKit
public import Idealize.ShloMosaic.Lib.Pipeline.ReadBack

@[expose] public section

set_option maxRecDepth 16384

noncomputable section

open scoped BigOperators
open Idealize.ShloMosaic Idealize.ShloMosaic.TcCoe Idealize.SL.Sem Lift

namespace Cert.Kernel21Ideal.Product

open Cert.Kernel21Ideal Cert.Kernel21Ideal.Gen ConvGlu

/-! ## One window -/

/-- A row of a window, counted from row `o` and around its end. -/
def q (o : Nat) (p : Fin 128) : Fin 144 := ⟨(o + p.val) % 144, Nat.mod_lt _ (by decide)⟩

/-- The convolution in one column of a window, of the row before, the row itself and the row after. -/
def tap (w : S1x3x128.Idx → EReal) (b : S1x1x128.Idx → EReal) (d : Fin 128) (dn x up : EReal) : EReal :=
  conv (b (ix3 0 0 d)) (w (ix3 0 0 d)) (w (ix3 0 1 d)) (w (ix3 0 2 d)) dn x up

/-- The rows kept of a window between the first and the last, of the first, and of the last. -/
def mid (x : S144x128.Idx → EReal) (w : S1x3x128.Idx → EReal) (b : S1x1x128.Idx → EReal) (p d : Fin 128) : EReal :=
  tap w b d (x (ix2 (q 7 p) d)) (x (ix2 (q 8 p) d)) (x (ix2 (q 9 p) d))
def top (x : S144x128.Idx → EReal) (w : S1x3x128.Idx → EReal) (b : S1x1x128.Idx → EReal) (p d : Fin 128) : EReal :=
  tap w b d (if p.val = 0 then 0 else x (ix2 (q 143 p) d)) (x (ix2 (q 0 p) d)) (x (ix2 (q 1 p) d))
def bot (x : S144x128.Idx → EReal) (w : S1x3x128.Idx → EReal) (b : S1x1x128.Idx → EReal) (p d : Fin 128) : EReal :=
  tap w b d (x (ix2 (q 15 p) d)) (x (ix2 (q 16 p) d)) (if p.val = 127 then 0 else x (ix2 (q 17 p) d))

section

variable (xg xu : Vec Ideal S144x128 .f32) (wg wu : Vec Ideal S1x3x128 .f32) (bg bu : Vec Ideal S1x1x128 .f32)

/-- What is stored of a window: the rows kept, gated. -/
def tmid : S128x128.Idx → EReal := fun i => act (mid xg wg bg (i 0) (i 1)) (mid xu wu bu (i 0) (i 1))
def ttop : S128x128.Idx → EReal := fun i => act (top xg wg bg (i 0) (i 1)) (top xu wu bu (i 0) (i 1))
def tbot : S128x128.Idx → EReal := fun i => act (bot xg wg bg (i 0) (i 1)) (bot xu wu bu (i 0) (i 1))

theorem row (o n k : Nat) (p : Fin 128) (h) (e : (k + p.val + 144 - n) % 144 = (o + p.val) % 144) :
    (⟨(k + p.val + 144 - n) % 144, h⟩ : Fin 144) = q o p := Fin.ext e
theorem row0 (o n : Nat) (p : Fin 128) (h) (e : (p.val + 144 - n) % 144 = (o + p.val) % 144) :
    (⟨(p.val + 144 - n) % 144, h⟩ : Fin 144) = q o p := Fin.ext e
theorem at8 (p : Fin 128) (h) : (⟨8 + p.val, h⟩ : Fin 144) = q 8 p := Fin.ext (Nat.mod_eq_of_lt h).symm
theorem at16 (p : Fin 128) (h) : (⟨16 + p.val, h⟩ : Fin 144) = q 16 p := Fin.ext (Nat.mod_eq_of_lt h).symm
theorem at0 (p : Fin 128) (h) : (⟨p.val, h⟩ : Fin 144) = q 0 p :=
  Fin.ext ((Nat.mod_eq_of_lt (by omega)).symm.trans (congrArg (· % 144) (Nat.zero_add _).symm))

theorem mid0 : k0_pay7 (F := Ideal) (k0_pay2 xg wg bg) xu (k0_pay3 wu) (k0_pay4 xu) (k0_pay5 xu wu) (k0_pay6 bu)
    = tmid xg xu wg wu bg bu := by
  refine ext2 fun p d => ?_
  have h := p.isLt
  pointwise [k0_pay7, k0_pay2, k0_pay3, k0_pay4, k0_pay5, k0_pay6]
  rw [row 7 1 8 p _ (by omega), row 9 143 8 p _ (by omega), at8, zero_sub]
  rfl
theorem mid1 : k0_pay9 (F := Ideal) (k0_pay8 xg wg bg) xu wu bu = tmid xg xu wg wu bg bu := mid0 xg xu wg wu bg bu
theorem mid2 : k0_pay13 (F := Ideal) xg (k0_pay10 wg) (k0_pay11 bg) (k0_pay12 xg) xu wu bu = tmid xg xu wg wu bg bu :=
  mid0 xg xu wg wu bg bu
theorem mid3 : k0_pay49 (F := Ideal) (k0_pay14 xg wg bg) (k0_pay16 xu) (k0_pay17 xu wu bu) (k0_pay18 wu)
    = tmid xg xu wg wu bg bu := mid0 xg xu wg wu bg bu

/-- A row compared with a row, the rows as words. -/
theorem sel (n k : Nat) (hn : n < 2 ^ 32) (hk : k < 2 ^ 32) (a b : EReal) :
    Scalar.select (IntOp.cmpi .eq (BitVec.ofNat 32 n) (BitVec.ofNat 32 k)) a b = if n = k then a else b := by
  by_cases h : n = k
  · subst h
    simp [Scalar.select, IntOp.cmpi]
  · rw [if_neg h]
    have h' : ¬ BitVec.ofNat 32 n = BitVec.ofNat 32 k := fun e => h (by
      have := congrArg BitVec.toNat e
      rwa [BitVec.toNat_ofNat, BitVec.toNat_ofNat, Nat.mod_eq_of_lt hn, Nat.mod_eq_of_lt hk] at this)
    have hb : (BitVec.ofNat 32 n == BitVec.ofNat 32 k) = false := beq_false_of_ne h'
    simp [Scalar.select, IntOp.cmpi, hb]

theorem scale (c : Prop) [Decidable c] (x w : EReal) : (if c then 0 else x * w) = (if c then 0 else x) * w := by
  split
  · exact (zero_mul w).symm
  · rfl

theorem top0 : k0_pay25 (F := Ideal) (k0_pay19 xg wg bg) xu (k0_pay20 wu) (k0_pay21 bu) (k0_pay22 xu) (k0_pay23 xu) k0_pay24
    (FloatOps.ofBits FTy.f32 0#32) = ttop xg xu wg wu bg bu := by
  refine ext2 fun p d => ?_
  have h := p.isLt
  pointwise [k0_pay25, k0_pay19, k0_pay20, k0_pay21, k0_pay22, k0_pay23, k0_pay24]
  rw [row0 143 1 p _ (by omega), row0 1 143 p _ (by omega), at0, zero_sub]
  simp only [sel p.val 0 (by omega) (by omega), scale]
  rfl
theorem top1 : k0_pay31 (F := Ideal) (k0_pay30 xg (k0_pay26 wg) (k0_pay27 bg) (k0_pay28 xg) (k0_pay29 xg wg) xu wu bu)
    = ttop xg xu wg wu bg bu := top0 xg xu wg wu bg bu
theorem top2 : k0_pay37 (F := Ideal) (k0_pay32 xg wg bg) xu (k0_pay33 wu) (k0_pay34 bu) (k0_pay35 xu) (k0_pay36 xu)
    (iota Kind.tc S144x128 32 [0] iota_S144x128_d0_w32) = ttop xg xu wg wu bg bu := top0 xg xu wg wu bg bu
theorem top3 : k0_pay48 (F := Ideal) (k0_pay44 xg (k0_pay38 wg) (k0_pay39 bg) (k0_pay40 xg) (k0_pay41 xg) k0_pay42 k0_pay43)
    (k0_pay45 xu wu bu) (k0_pay46 xg (k0_pay38 wg) (k0_pay39 bg) (k0_pay40 xg) (k0_pay41 xg) k0_pay42 k0_pay43) k0_pay47
    = ttop xg xu wg wu bg bu := top0 xg xu wg wu bg bu

theorem bot0 : k0_pay52 (F := Ideal) (k0_pay50 xg wg bg) xu (k0_pay51 wu) bu = tbot xg xu wg wu bg bu := by
  refine ext2 fun p d => ?_
  have h := p.isLt
  pointwise [k0_pay52, k0_pay50, k0_pay51]
  rw [row 15 1 16 p _ (by omega), row 17 143 16 p _ (by omega), at16, zero_sub]
  simp only [sel (16 + p.val) 143 (by omega) (by omega), scale,
    show (16 + p.val = 143) = (p.val = 127) from propext ⟨fun e => by omega, fun e => by omega⟩]
  rfl
theorem bot1 : k0_pay59 (F := Ideal) (k0_pay55 xg (k0_pay53 wg) (k0_pay54 bg)) (k0_pay57 xu wu bu) (k0_pay58 xu wu)
    = tbot xg xu wg wu bg bu := bot0 xg xu wg wu bg bu
theorem bot2 : k0_pay61 (F := Ideal) (k0_pay60 xg wg bg) xu wu bu = tbot xg xu wg wu bg bu := bot0 xg xu wg wu bg bu
theorem bot3 : k0_pay1 (F := Ideal) (k0_pay63 xg (k0_pay62 wg) bg) (k0_pay64 wu) (k0_pay65 xu) (k0_pay66 xu wu bu) (k0_pay67 xu wu)
    = tbot xg xu wg wu bg bu := bot0 xg xu wg wu bg bu

end

/-! ## A block -/

section

variable (X : Vec Ideal S2048x512 .f32) (w : Vec Ideal S1x3x512 .f32) (b : Vec Ideal S1x1x512 .f32)

/-- The convolution, one entry of a block. -/
def cb (r : Fin 2048) (j : Fin 512) : EReal :=
  conv (b (ix3 0 0 j)) (w (ix3 0 0 j)) (w (ix3 0 1 j)) (w (ix3 0 2 j)) (prev (fun q => X (ix2 q j)) r) (X (ix2 r j))
    (next (fun q => X (ix2 q j)) r)

/-- A window, its taps and its biases, loaded. -/
theorem ldx (off : Fin 2 → Nat) (inb) (p : Fin 144) (d : Fin 128) (r : Fin 2048) (j : Fin 512) (hr : r.val = off 0 + p.val)
    (hj : j.val = off 1 + d.val) :
    View.ld (Val := Elt Ideal) (e' := .f32) (S := S2048x512) X (Rect.unit off ![144, 128] inb) (ix2 p d) = X (ix2 r j) :=
  View.ld_unit_apply_of (e := .f32) _ _ _ _ _ (ix2 r j) fun a => by
    match a with
    | ⟨0, _⟩ => exact hr
    | ⟨1, _⟩ => exact hj
theorem ldw (c : Nat) (inb) (k : Fin 3) (d : Fin 128) (j : Fin 512) (hj : j.val = c + d.val) :
    View.ld (Val := Elt Ideal) (e' := .f32) (S := S1x3x512) w (Rect.unit ![0, 0, c] ![1, 3, 128] inb) (ix3 0 k d)
      = w (ix3 0 k j) :=
  View.ld_unit_apply_of (e := .f32) _ _ _ _ _ (ix3 0 k j) fun a => by
    match a with
    | ⟨0, _⟩ => rfl
    | ⟨1, _⟩ => exact (Nat.zero_add _).symm
    | ⟨2, _⟩ => exact hj
theorem ldb (c : Nat) (inb) (d : Fin 128) (j : Fin 512) (hj : j.val = c + d.val) :
    View.ld (Val := Elt Ideal) (e' := .f32) (S := S1x1x512) b (Rect.unit ![0, 0, c] ![1, 1, 128] inb) (ix3 0 0 d)
      = b (ix3 0 0 j) :=
  View.ld_unit_apply_of (e := .f32) _ _ _ _ _ (ix3 0 0 j) fun a => by
    match a with
    | ⟨0, _⟩ => rfl
    | ⟨1, _⟩ => rfl
    | ⟨2, _⟩ => exact hj

theorem tap_ld (c : Nat) (inb inb') (d : Fin 128) (r : Fin 2048) (j : Fin 512) (hj : j.val = c + d.val) (dn x up : EReal)
    (hd : dn = prev (fun q => X (ix2 q j)) r) (hx : x = X (ix2 r j)) (hu : up = next (fun q => X (ix2 q j)) r) :
    tap (View.ld (Val := Elt Ideal) (e' := .f32) (S := S1x3x512) w (Rect.unit ![0, 0, c] ![1, 3, 128] inb))
      (View.ld (Val := Elt Ideal) (e' := .f32) (S := S1x1x512) b (Rect.unit ![0, 0, c] ![1, 1, 128] inb')) d dn x up
      = cb X w b r j := by
  unfold tap cb
  rw [ldb b c inb' d j hj, ldw w c inb 0 d j hj, ldw w c inb 1 d j hj, ldw w c inb 2 d j hj, hd, hx, hu]

theorem prev_of (x : Fin 2048 → EReal) (r s : Fin 2048) (h : r.val = s.val + 1) : prev x r = x s :=
  (if_neg (by omega)).trans (congrArg x (Fin.ext (by show r.val - 1 = s.val; omega)))
theorem next_of (x : Fin 2048 → EReal) (r s : Fin 2048) (h : s.val = r.val + 1) : next x r = x s :=
  (dif_pos (by have := s.isLt; omega)).trans (congrArg x (Fin.ext h.symm))
theorem next_last (x : Fin 2048 → EReal) (r : Fin 2048) (h : ¬ r.val + 1 < 2048) : next x r = 0 := dif_neg h

theorem mid_ld (off : Fin 2 → Nat) (c : Nat) (hc : off 1 = c) (inb inb' inb'') (p d : Fin 128) (r : Fin 2048) (j : Fin 512)
    (hr : r.val = off 0 + 8 + p.val) (hj : j.val = c + d.val) (hb : off 0 + 144 ≤ 2048) :
    mid (View.ld (Val := Elt Ideal) (e' := .f32) (S := S2048x512) X (Rect.unit off ![144, 128] inb))
      (View.ld (Val := Elt Ideal) (e' := .f32) (S := S1x3x512) w (Rect.unit ![0, 0, c] ![1, 3, 128] inb'))
      (View.ld (Val := Elt Ideal) (e' := .f32) (S := S1x1x512) b (Rect.unit ![0, 0, c] ![1, 1, 128] inb'')) p d = cb X w b r j := by
  have hp := p.isLt
  have h7 : (q 7 p).val = 7 + p.val := Nat.mod_eq_of_lt (by omega)
  have h8 : (q 8 p).val = 8 + p.val := Nat.mod_eq_of_lt (by omega)
  have h9 : (q 9 p).val = 9 + p.val := Nat.mod_eq_of_lt (by omega)
  subst hc
  refine tap_ld X w b _ inb' inb'' d r j hj _ _ _ ?_ ?_ ?_
  · rw [ldx X off inb (q 7 p) d ⟨off 0 + 7 + p.val, by omega⟩ j (by rw [h7]; show off 0 + 7 + p.val = _; omega) hj]
    exact (prev_of (fun q => X (ix2 q j)) r _ (by show r.val = off 0 + 7 + p.val + 1; omega)).symm
  · exact ldx X off inb (q 8 p) d r j (by rw [h8]; omega) hj
  · rw [ldx X off inb (q 9 p) d ⟨off 0 + 9 + p.val, by omega⟩ j (by rw [h9]; show off 0 + 9 + p.val = _; omega) hj]
    exact (next_of (fun q => X (ix2 q j)) r _ (by show off 0 + 9 + p.val = r.val + 1; omega)).symm

theorem top_ld (c : Nat) (inb inb' inb'') (p d : Fin 128) (r : Fin 2048) (j : Fin 512) (hr : r.val = p.val)
    (hj : j.val = c + d.val) :
    top (View.ld (Val := Elt Ideal) (e' := .f32) (S := S2048x512) X (Rect.unit ![0, c] ![144, 128] inb))
      (View.ld (Val := Elt Ideal) (e' := .f32) (S := S1x3x512) w (Rect.unit ![0, 0, c] ![1, 3, 128] inb'))
      (View.ld (Val := Elt Ideal) (e' := .f32) (S := S1x1x512) b (Rect.unit ![0, 0, c] ![1, 1, 128] inb'')) p d = cb X w b r j := by
  have hp := p.isLt
  have h0 : (q 0 p).val = p.val := (Nat.mod_eq_of_lt (by omega)).trans (Nat.zero_add _)
  have h1 : (q 1 p).val = 1 + p.val := Nat.mod_eq_of_lt (by omega)
  refine tap_ld X w b _ inb' inb'' d r j hj _ _ _ ?_ ?_ ?_
  · by_cases h : p.val = 0
    · rw [if_pos h]
      exact (if_pos (hr.trans h)).symm
    · have hq : (q 143 p).val = p.val - 1 := by show (143 + p.val) % 144 = _; omega
      rw [if_neg h, ldx X _ inb (q 143 p) d ⟨p.val - 1, by omega⟩ j (by rw [hq]; exact (Nat.zero_add _).symm) hj]
      exact (prev_of (fun q => X (ix2 q j)) r _ (by show r.val = p.val - 1 + 1; omega)).symm
  · exact ldx X _ inb (q 0 p) d r j (by rw [h0, hr]; exact (Nat.zero_add _).symm) hj
  · rw [ldx X _ inb (q 1 p) d ⟨1 + p.val, by omega⟩ j (by rw [h1]; exact (Nat.zero_add _).symm) hj]
    exact (next_of (fun q => X (ix2 q j)) r _ (by show 1 + p.val = r.val + 1; omega)).symm

theorem bot_ld (c : Nat) (inb inb' inb'') (p d : Fin 128) (r : Fin 2048) (j : Fin 512) (hr : r.val = 1920 + p.val)
    (hj : j.val = c + d.val) :
    bot (View.ld (Val := Elt Ideal) (e' := .f32) (S := S2048x512) X (Rect.unit ![1904, c] ![144, 128] inb))
      (View.ld (Val := Elt Ideal) (e' := .f32) (S := S1x3x512) w (Rect.unit ![0, 0, c] ![1, 3, 128] inb'))
      (View.ld (Val := Elt Ideal) (e' := .f32) (S := S1x1x512) b (Rect.unit ![0, 0, c] ![1, 1, 128] inb'')) p d = cb X w b r j := by
  have hp := p.isLt
  have h15 : (q 15 p).val = 15 + p.val := Nat.mod_eq_of_lt (by omega)
  have h16 : (q 16 p).val = 16 + p.val := Nat.mod_eq_of_lt (by omega)
  refine tap_ld X w b _ inb' inb'' d r j hj _ _ _ ?_ ?_ ?_
  · rw [ldx X _ inb (q 15 p) d ⟨1919 + p.val, by omega⟩ j (by rw [h15]; show 1919 + p.val = 1904 + _; omega) hj]
    exact (prev_of (fun q => X (ix2 q j)) r _ (by show r.val = 1919 + p.val + 1; omega)).symm
  · exact ldx X _ inb (q 16 p) d r j (by rw [h16]; show r.val = 1904 + _; omega) hj
  · by_cases h : p.val = 127
    · rw [if_pos h]
      exact (next_last (fun q => X (ix2 q j)) r (by omega)).symm
    · have h17 : (q 17 p).val = 17 + p.val := Nat.mod_eq_of_lt (by omega)
      rw [if_neg h, ldx X _ inb (q 17 p) d ⟨1921 + p.val, by omega⟩ j (by rw [h17]; show 1921 + p.val = 1904 + _; omega) hj]
      exact (next_of (fun q => X (ix2 q j)) r _ (by show 1921 + p.val = r.val + 1; omega)).symm

end

/-! ## The pieces of a block -/

section

variable (Xg Xu : Vec Ideal S2048x512 .f32) (wg wu : Vec Ideal S1x3x512 .f32) (bg bu : Vec Ideal S1x1x512 .f32)

/-- A block of the result. -/
def G : S2048x512.Idx → EReal := fun i => act (cb Xg wg bg (i 0) (i 1)) (cb Xu wu bu (i 0) (i 1))

theorem emb_mid (off st : Fin 2 → Nat) (c : Nat) (hc : off 1 = c) (h0 : st 0 = off 0 + 8) (h1 : st 1 = c)
    (hb : off 0 + 144 ≤ 2048) (inb inb1 inb2 inb3 inb4 inb5 inb6)
    (i : (Rect.unit (s := S2048x512) st ![128, 128] inb).shape.Idx) :
    tmid (View.ld (Val := Elt Ideal) (e' := .f32) (S := S2048x512) Xg (Rect.unit off ![144, 128] inb1))
      (View.ld (Val := Elt Ideal) (e' := .f32) (S := S2048x512) Xu (Rect.unit off ![144, 128] inb2))
      (View.ld (Val := Elt Ideal) (e' := .f32) (S := S1x3x512) wg (Rect.unit ![0, 0, c] ![1, 3, 128] inb3))
      (View.ld (Val := Elt Ideal) (e' := .f32) (S := S1x3x512) wu (Rect.unit ![0, 0, c] ![1, 3, 128] inb4))
      (View.ld (Val := Elt Ideal) (e' := .f32) (S := S1x1x512) bg (Rect.unit ![0, 0, c] ![1, 1, 128] inb5))
      (View.ld (Val := Elt Ideal) (e' := .f32) (S := S1x1x512) bu (Rect.unit ![0, 0, c] ![1, 1, 128] inb6)) i
      = G Xg Xu wg wu bg bu ((Rect.unit (s := S2048x512) st ![128, 128] inb).emb i) := by
  have hr := (Rect.idx_unit_val _ _ inb i 0).trans (congrArg (· + (i 0).val) h0)
  have hj := (Rect.idx_unit_val _ _ inb i 1).trans (congrArg (· + (i 1).val) h1)
  exact congrArg₂ act (mid_ld Xg wg bg off c hc inb1 inb3 inb5 (i 0) (i 1) _ _ hr hj hb)
    (mid_ld Xu wu bu off c hc inb2 inb4 inb6 (i 0) (i 1) _ _ hr hj hb)

theorem emb_top (c : Nat) (inb inb1 inb2 inb3 inb4 inb5 inb6)
    (i : (Rect.unit (s := S2048x512) ![0, c] ![128, 128] inb).shape.Idx) :
    ttop (View.ld (Val := Elt Ideal) (e' := .f32) (S := S2048x512) Xg (Rect.unit ![0, c] ![144, 128] inb1))
      (View.ld (Val := Elt Ideal) (e' := .f32) (S := S2048x512) Xu (Rect.unit ![0, c] ![144, 128] inb2))
      (View.ld (Val := Elt Ideal) (e' := .f32) (S := S1x3x512) wg (Rect.unit ![0, 0, c] ![1, 3, 128] inb3))
      (View.ld (Val := Elt Ideal) (e' := .f32) (S := S1x3x512) wu (Rect.unit ![0, 0, c] ![1, 3, 128] inb4))
      (View.ld (Val := Elt Ideal) (e' := .f32) (S := S1x1x512) bg (Rect.unit ![0, 0, c] ![1, 1, 128] inb5))
      (View.ld (Val := Elt Ideal) (e' := .f32) (S := S1x1x512) bu (Rect.unit ![0, 0, c] ![1, 1, 128] inb6)) i
      = G Xg Xu wg wu bg bu ((Rect.unit (s := S2048x512) ![0, c] ![128, 128] inb).emb i) := by
  have hr := (Rect.idx_unit_val _ _ inb i 0).trans (Nat.zero_add _)
  have hj := Rect.idx_unit_val _ _ inb i 1
  exact congrArg₂ act (top_ld Xg wg bg c inb1 inb3 inb5 (i 0) (i 1) _ _ hr hj) (top_ld Xu wu bu c inb2 inb4 inb6 (i 0) (i 1) _ _ hr hj)

theorem emb_bot (c : Nat) (inb inb1 inb2 inb3 inb4 inb5 inb6)
    (i : (Rect.unit (s := S2048x512) ![1920, c] ![128, 128] inb).shape.Idx) :
    tbot (View.ld (Val := Elt Ideal) (e' := .f32) (S := S2048x512) Xg (Rect.unit ![1904, c] ![144, 128] inb1))
      (View.ld (Val := Elt Ideal) (e' := .f32) (S := S2048x512) Xu (Rect.unit ![1904, c] ![144, 128] inb2))
      (View.ld (Val := Elt Ideal) (e' := .f32) (S := S1x3x512) wg (Rect.unit ![0, 0, c] ![1, 3, 128] inb3))
      (View.ld (Val := Elt Ideal) (e' := .f32) (S := S1x3x512) wu (Rect.unit ![0, 0, c] ![1, 3, 128] inb4))
      (View.ld (Val := Elt Ideal) (e' := .f32) (S := S1x1x512) bg (Rect.unit ![0, 0, c] ![1, 1, 128] inb5))
      (View.ld (Val := Elt Ideal) (e' := .f32) (S := S1x1x512) bu (Rect.unit ![0, 0, c] ![1, 1, 128] inb6)) i
      = G Xg Xu wg wu bg bu ((Rect.unit (s := S2048x512) ![1920, c] ![128, 128] inb).emb i) := by
  have hr := Rect.idx_unit_val _ _ inb i 0
  have hj := Rect.idx_unit_val _ _ inb i 1
  exact congrArg₂ act (bot_ld Xg wg bg c inb1 inb3 inb5 (i 0) (i 1) _ _ hr hj) (bot_ld Xu wu bu c inb2 inb4 inb6 (i 0) (i 1) _ _ hr hj)

/-- Pieces after pieces. -/
theorem pieces_append (g : S2048x512.Idx → EReal) : ∀ L L' : List (View.Piece (Elt Ideal) S2048x512 .bf16),
    View.PiecesOf (Val := Elt Ideal) (e := .bf16) g L → View.PiecesOf (Val := Elt Ideal) (e := .bf16) g L'
      → View.PiecesOf (Val := Elt Ideal) (e := .bf16) g (L ++ L')
  | [], _, _, h => h
  | _ :: L, L', h, h' => ⟨h.1, pieces_append g L L' h.2 h'⟩

section

variable (𝒱 : Variants) (c : Dev nD) (bd : Option 𝒱.V) (i : grid0.Coords) (arg1 : Memref sig .tc .vmem S2048x512 .f32)
  (harg1 : arg1.IsWhole) (arg2 : Memref sig .tc .vmem S2048x512 .f32) (harg2 : arg2.IsWhole)
  (arg3 : Memref sig .tc .vmem S1x3x512 .f32) (harg3 : arg3.IsWhole) (arg4 : Memref sig .tc .vmem S1x3x512 .f32)
  (harg4 : arg4.IsWhole) (arg5 : Memref sig .tc .vmem S1x1x512 .f32) (harg5 : arg5.IsWhole)
  (arg6 : Memref sig .tc .vmem S1x1x512 .f32) (harg6 : arg6.IsWhole) (arg7 : Memref sig .tc .vmem S2048x512 .bf16)
  (harg7 : arg7.IsWhole) (v210 v235 v240 v241 : FVec Ideal S144x128 .f32)

/-- One trip of the loop stores four tiles of the block. -/
theorem trip_pieces (k : Fin k0_t1_loop.trips) : View.PiecesOf (Val := Elt Ideal) (e := .bf16) (G Xg Xu wg wu bg bu)
    (tripL_k0_t1 (F := Ideal) 𝒱 c bd i arg1 harg1 arg2 harg2 arg3 harg3 arg4 harg4 arg5 harg5 arg6 harg6 arg7 harg7 v210 v235
      v240 v241 (harg1.unread Xg) (harg2.unread Xu) (harg3.unread wg) (harg4.unread wu) (harg5.unread bg) (harg6.unread bu) k) := by
  have hk : k.val < 14 := Nat.lt_of_lt_of_le k.isLt k0_t1_abs.2.1
  unfold tripL_k0_t1 trip_k0_t1
  frame_out
  simp only [mid0, mid1, mid2, mid3]
  refine ⟨emb_mid Xg Xu wg wu bg bu (k0_off7 k) (k0_off8 k) 384 ?_ ?_ ?_ ?_ (k0_off8_inb k) _ _ _ _ _ _,
    emb_mid Xg Xu wg wu bg bu (k0_off5 k) (k0_off6 k) 256 ?_ ?_ ?_ ?_ (k0_off6_inb k) _ _ _ _ _ _,
    emb_mid Xg Xu wg wu bg bu (k0_off3 k) (k0_off4 k) 128 ?_ ?_ ?_ ?_ (k0_off4_inb k) _ _ _ _ _ _,
    emb_mid Xg Xu wg wu bg bu (k0_off1 k) (k0_off2 k) 0 ?_ ?_ ?_ ?_ (k0_off2_inb k) _ _ _ _ _ _, trivial⟩
  all_goals first
    | rw [k0_off7_eq]; rfl
    | rw [k0_off7_eq, k0_off8_eq]; rfl
    | rw [k0_off8_eq]; rfl
    | (rw [k0_off7_eq]; show 128 * k.val + 120 + 144 ≤ 2048; omega)
    | rw [k0_off5_eq]; rfl
    | rw [k0_off5_eq, k0_off6_eq]; rfl
    | rw [k0_off6_eq]; rfl
    | (rw [k0_off5_eq]; show 128 * k.val + 120 + 144 ≤ 2048; omega)
    | rw [k0_off3_eq]; rfl
    | rw [k0_off3_eq, k0_off4_eq]; rfl
    | rw [k0_off4_eq]; rfl
    | (rw [k0_off3_eq]; show 128 * k.val + 120 + 144 ≤ 2048; omega)
    | rw [k0_off1_eq]; rfl
    | rw [k0_off1_eq, k0_off2_eq]; rfl
    | rw [k0_off2_eq]; rfl
    | (rw [k0_off1_eq]; show 128 * k.val + 120 + 144 ≤ 2048; omega)

theorem loop_pieces : ∀ k : Nat, k ≤ k0_t1_loop.trips → View.PiecesOf (Val := Elt Ideal) (e := .bf16) (G Xg Xu wg wu bg bu)
    (pb_k0_t1 (F := Ideal) 𝒱 c bd i arg1 harg1 arg2 harg2 arg3 harg3 arg4 harg4 arg5 harg5 arg6 harg6 arg7 harg7 v210 v235
      v240 v241 (harg1.unread Xg) (harg2.unread Xu) (harg3.unread wg) (harg4.unread wu) (harg5.unread bg) (harg6.unread bu) k)
  | 0, _ => trivial
  | k + 1, h => by
    rw [pb_k0_t1_succ (F := Ideal) 𝒱 c bd i arg1 harg1 arg2 harg2 arg3 harg3 arg4 harg4 arg5 harg5 arg6 harg6 arg7 harg7 v210
      v235 v240 v241 _ _ _ _ _ _ ⟨k, h⟩]
    exact pieces_append _ _ _ (trip_pieces Xg Xu wg wu bg bu 𝒱 c bd i arg1 harg1 arg2 harg2 arg3 harg3 arg4 harg4 arg5 harg5
      arg6 harg6 arg7 harg7 v210 v235 v240 v241 ⟨k, h⟩) (loop_pieces k (Nat.le_of_succ_le h))

end

end

/-! ## The block of a grid point -/

variable (m : (ℓ : Loc nD τ sig) → Buf (Elt Ideal) ℓ) (d : Dev nD)

theorem canon_of (g : S2048x512.Idx → EReal) (L : List (View.Piece (Elt Ideal) S2048x512 .bf16)) (y : S2048x512.Idx)
    (h : View.PiecesOf (Val := Elt Ideal) (e := .bf16) g L) (hc : ∃ p ∈ L, y ∈ p.1.set) : View.canon L y = g y := by
  have e := View.canon_append_of_piecesOf (Val := Elt Ideal) (s := S2048x512) (e := .bf16) g [] L h y hc
  rwa [List.append_nil] at e

theorem at_6 (t : Fin cfg0.N) (y : S2048x512.Idx) : outsAt0 m d t y
    = G (iblk m d 0 t) (iblk m d 1 t) (iblk m d 2 t) (iblk m d 3 t) (iblk m d 4 t) (iblk m d 5 t) y := by
  unfold outsAt0 out0_A_6
  rw [View.read_writes_junk_eq_canon]
  refine canon_of _ _ y ?_ (cover0_A_6 (F := Ideal) d _ _ _ _ _ _ _ _ _ _ _ _ _ _ _ _ _ _ _ _ _ y)
  unfold kernelRun0_A
  frame_out
  simp only [top0, top1, top3, bot0, bot1, bot2, bot3]
  refine ⟨?_, ?_, ?_, ?_, pieces_append _ _ _ ?_ ⟨?_, ?_, ?_, ?_, trivial⟩⟩
  · exact emb_bot (iblk m d 0 t) (iblk m d 1 t) (iblk m d 2 t) (iblk m d 3 t) (iblk m d 4 t) (iblk m d 5 t)
      384 inb_S2048x512_S128x128_1920_384 _ _ _ _ _ _
  · exact emb_bot (iblk m d 0 t) (iblk m d 1 t) (iblk m d 2 t) (iblk m d 3 t) (iblk m d 4 t) (iblk m d 5 t)
      256 inb_S2048x512_S128x128_1920_256 _ _ _ _ _ _
  · exact emb_bot (iblk m d 0 t) (iblk m d 1 t) (iblk m d 2 t) (iblk m d 3 t) (iblk m d 4 t) (iblk m d 5 t)
      128 inb_S2048x512_S128x128_1920_128 _ _ _ _ _ _
  · exact emb_bot (iblk m d 0 t) (iblk m d 1 t) (iblk m d 2 t) (iblk m d 3 t) (iblk m d 4 t) (iblk m d 5 t)
      0 inb_S2048x512_S128x128_1920_0 _ _ _ _ _ _
  · exact loop_pieces (iblk m d 0 t) (iblk m d 1 t) (iblk m d 2 t) (iblk m d 3 t) (iblk m d 4 t) (iblk m d 5 t)
      _ _ _ _ _ _ _ _ _ _ _ _ _ _ _ _ _ _ _ _ _ _ _ (Nat.le_refl _)
  · exact emb_top (iblk m d 0 t) (iblk m d 1 t) (iblk m d 2 t) (iblk m d 3 t) (iblk m d 4 t) (iblk m d 5 t)
      384 inb_S2048x512_S128x128_0_384 _ _ _ _ _ _
  · exact fun x => (congrFun (top2 _ _ _ _ _ _) x).trans
      (emb_top (iblk m d 0 t) (iblk m d 1 t) (iblk m d 2 t) (iblk m d 3 t) (iblk m d 4 t) (iblk m d 5 t) 256
        inb_S2048x512_S128x128_0_256 _ _ _ _ _ _ x)
  · exact emb_top (iblk m d 0 t) (iblk m d 1 t) (iblk m d 2 t) (iblk m d 3 t) (iblk m d 4 t) (iblk m d 5 t)
      128 inb_S2048x512_S128x128_0_128 _ _ _ _ _ _
  · exact emb_top (iblk m d 0 t) (iblk m d 1 t) (iblk m d 2 t) (iblk m d 3 t) (iblk m d 4 t) (iblk m d 5 t)
      0 inb_S2048x512_S128x128_0_0 _ _ _ _ _ _

/-! ## The arrays made before the call -/

abbrev A := m ((d : Thread nD τ).loc main_arg0)
abbrev W := m ((d : Thread nD τ).loc main_arg1)
abbrev B := m ((d : Thread nD τ).loc main_arg2)

theorem idx : ∀ t : Fin cfg0.N, win0_0.index t = ![0, t.val] ∧ win0_1.index t = ![0, t.val + 11]
    ∧ win0_2.index t = ![0, 0, t.val] ∧ win0_3.index t = ![0, 0, t.val + 11] ∧ win0_4.index t = ![0, 0, t.val]
    ∧ win0_5.index t = ![0, 0, t.val + 11] ∧ win0_6.index t = ![0, t.val] :=
  (by decide +kernel : ∀ t : Fin grid0.N, _)

theorem V_b : V m d main_v0 = shapeCast S2x1x11264 (B m d) shapeCasts_S2x11264_S2x1x11264 := by
  unfold_abbrev_sides
  after_results
  rfl

theorem bias (x : S2x11264.Idx → EReal) (j : Fin 11264) :
    shapeCast S2x1x11264 x shapeCasts_S2x11264_S2x1x11264 (ix3 0 0 j) = x (ix2 0 j) :=
  shapeCast_apply x shapeCasts_S2x11264_S2x1x11264 (ix3 0 0 j) (ix2 0 j) (by
    rewrite [Shape.rowMajor_val_three, Shape.rowMajor_val_two]
    show 0 * 11264 + j.val = (0 * 1 + 0) * 11264 + j.val
    omega)

/-! ## The blocks of a grid point -/

/-- A column of block `t`. -/
def col (t : Fin 11) (j : Fin 512) : Fin 5632 := ⟨t.val * 512 + j.val, by have := t.isLt; have := j.isLt; omega⟩

theorem blk_g (t : Fin cfg0.N) (r : Fin 2048) (j : Fin 512) : iblk m d 0 t (ix2 r j) = A m d (ix2 r (gcol (col t j))) := by
  blk_ext! [iblk, V, idx t, col, gcol]
theorem blk_u (t : Fin cfg0.N) (r : Fin 2048) (j : Fin 512) : iblk m d 1 t (ix2 r j) = A m d (ix2 r (ucol (col t j))) := by
  blk_ext! [iblk, V, idx t, col, ucol]
theorem blk_wg (t : Fin cfg0.N) (k : Fin 3) (j : Fin 512) :
    iblk m d 2 t (ix3 0 k j) = W m d (ix3 0 k (gcol (col t j))) := by
  blk_ext! [iblk, V, idx t, col, gcol]
theorem blk_wu (t : Fin cfg0.N) (k : Fin 3) (j : Fin 512) :
    iblk m d 3 t (ix3 0 k j) = W m d (ix3 0 k (ucol (col t j))) := by
  blk_ext! [iblk, V, idx t, col, ucol]
theorem blk_bg (t : Fin cfg0.N) (j : Fin 512) : iblk m d 4 t (ix3 0 0 j) = B m d (ix2 0 (gcol (col t j))) := by
  rw [← bias (B m d), ← V_b]
  blk_ext! [iblk, idx t, col, gcol]
theorem blk_bu (t : Fin cfg0.N) (j : Fin 512) : iblk m d 5 t (ix3 0 0 j) = B m d (ix2 0 (ucol (col t j))) := by
  rw [← bias (B m d), ← V_b]
  blk_ext! [iblk, idx t, col, ucol]

/-! ## The array -/

theorem out_6 (t : Fin cfg0.N) (r : Fin 2048) (j : Fin 512) : outsAt0 m d t (ix2 r j)
    = glu (A m d) (W m d) (B m d) r (col t j) := by
  rw [at_6]
  show act (cb (iblk m d 0 t) (iblk m d 2 t) (iblk m d 4 t) r j) (cb (iblk m d 1 t) (iblk m d 3 t) (iblk m d 5 t) r j) = _
  unfold glu cb cv
  simp only [blk_g, blk_u, blk_wg, blk_wu, blk_bg, blk_bu]

theorem arr_6 : (dats m 0 d).arrAt 6 cfg0.N = fun i : S2048x5632.Idx => glu (A m d) (W m d) (B m d) (i 0) (i 1) := by
  refine (dats m 0 d).arrAt_eq_of_covers 6 _ (by decide +kernel) fun t hf y => ?_
  blk_simp
  rw [after0_6]
  have hr : y 0 = ((cfg0.win 6).blk t).view.emb y 0 := Fin.ext (by blk_simp [idx t])
  have hj : col t (y 1) = ((cfg0.win 6).blk t).view.emb y 1 := Fin.ext (by
    show t.val * 512 + (y 1).val = _
    blk_simp [idx t])
  refine ((congrArg (outsAt0 m d t) (eq_ix2 y)).trans (out_6 m d t (y 0) (y 1))).trans ?_
  exact congrArg₂ (glu (A m d) (W m d) (B m d)) hr hj

end Cert.Kernel21Ideal.Product

end

end
-- ==== Proof.ConvGluRef.lean ====
/-
  The centred depthwise convolution of three taps and the gate after it: the values of the reference, of any inputs.
-/
module

public import proofs.«01_k».proof.Proof.ConvGlu
public import proofs.«01_k».proof.Proof.Gen.Reference21Ideal.Read

@[expose] public section

set_option maxRecDepth 16384

noncomputable section

open Idealize.ShloMosaic Lift

namespace Cert.Reference21Ideal.Product

open Cert.Reference21Ideal Cert.Reference21Ideal.Gen Cert.Reference21Ideal.Read ConvGlu

variable {x0 : (⟨S2048x11264, .f32⟩ : BufTy).Contents (Elt Ideal)} {x1 : (⟨S2x3x11264, .f32⟩ : BufTy).Contents (Elt Ideal)}
  {x2 : (⟨S2x11264, .f32⟩ : BufTy).Contents (Elt Ideal)}

/-- What the sequence is padded with. -/
theorem pad_zero : (FloatOps.sitofp FTy.f32 0#32 : Ideal .f32) = (0 : EReal) := by
  show (((0#32).toInt : ℝ) : EReal) = 0
  norm_num

theorem v6 (r : Fin 2048) (c : Fin 11264) :
    val_main_v6 (F := Ideal) x0 (ix3 0 r c) = prev (fun q => x0 (ix2 q c)) r := by
  pointwise [val_main_v6, val_main_v5, val_main_v0, val_main_call0_v0, val_main_c]
  have hr := r.isLt
  unfold prev
  by_cases h : r.val = 0
  · rw [dif_neg (by omega), if_pos h, pad_zero]
  · rw [dif_pos (by omega), if_neg h]
theorem v15 (r : Fin 2048) (c : Fin 11264) : val_main_v15 (F := Ideal) x0 (ix3 0 r c) = x0 (ix2 r c) := by
  pointwise [val_main_v15, val_main_v5, val_main_v0, val_main_call0_v0, val_main_c]
theorem v22 (r : Fin 2048) (c : Fin 11264) :
    val_main_v22 (F := Ideal) x0 (ix3 0 r c) = next (fun q => x0 (ix2 q c)) r := by
  pointwise [val_main_v22, val_main_v5, val_main_v0, val_main_call0_v0, val_main_c]
  have hr := r.isLt
  unfold next
  by_cases h : r.val + 1 < 2048
  · rw [dif_pos (by omega), dif_pos h]
    exact congrArg (fun q => x0 (ix2 q c)) (Fin.ext (by show 2 + r.val - 1 = r.val + 1; omega))
  · rw [dif_neg (by omega), dif_neg h, pad_zero]

theorem v10 (r : Fin 2048) (c : Fin 11264) : val_main_v10 (F := Ideal) x1 (ix3 0 r c) = x1 (ix3 0 0 c) := by
  pointwise [val_main_v10, val_main_v9, val_main_v8, val_main_v7, val_main_v2, val_main_v1]
theorem v19 (r : Fin 2048) (c : Fin 11264) : val_main_v19 (F := Ideal) x1 (ix3 0 r c) = x1 (ix3 0 1 c) := by
  pointwise [val_main_v19, val_main_v18, val_main_v17, val_main_v16, val_main_v2, val_main_v1]
theorem v26 (r : Fin 2048) (c : Fin 11264) : val_main_v26 (F := Ideal) x1 (ix3 0 r c) = x1 (ix3 0 2 c) := by
  pointwise [val_main_v26, val_main_v25, val_main_v24, val_main_v23, val_main_v2, val_main_v1]
theorem v13 (r : Fin 2048) (c : Fin 11264) : val_main_v13 (F := Ideal) x2 (ix3 0 r c) = x2 (ix2 0 c) := by
  pointwise [val_main_v13, val_main_v12, val_main_v4, val_main_v3]

theorem v28 (r : Fin 2048) (c : Fin 11264) : val_main_v28 (F := Ideal) x0 x1 x2 (ix3 0 r c) = cv x0 x1 x2 r c := by
  show val_main_v13 (F := Ideal) x2 (ix3 0 r c) + val_main_v6 (F := Ideal) x0 (ix3 0 r c) * val_main_v10 (F := Ideal) x1 (ix3 0 r c)
    + val_main_v15 (F := Ideal) x0 (ix3 0 r c) * val_main_v19 (F := Ideal) x1 (ix3 0 r c)
    + val_main_v22 (F := Ideal) x0 (ix3 0 r c) * val_main_v26 (F := Ideal) x1 (ix3 0 r c) = _
  rw [v13, v6, v10, v15, v19, v22, v26]
  rfl

theorem v34 : val_main_v34 (F := Ideal) x0 x1 x2 = fun i : S2048x5632.Idx => glu x0 x1 x2 (i 0) (i 1) := by
  refine ext2 fun r j => ?_
  pointwise [val_main_v34, val_main_v33, val_main_v32, val_main_v31, val_main_v30, val_main_v29, val_main_call1_v5, val_main_call1_v4, val_main_call1_v3, val_main_call1_v2, val_main_call1_v1, val_main_call1_v0, val_main_call1_cst, val_main_call1_cst_0]
  simp only [v28]
  rfl

end Cert.Reference21Ideal.Product

end

end
-- ==== Proof.lean ====
/- The claims of the certificate. Of the spatial gating gradient: the three frames, the named constants, and the equality at
   the exact arithmetic of the kernel's seven result arrays with the reference's, each shown to hold the same array of real
   numbers. Of each of the twelve products: the three frames, nothing renamed, and the equality at the exact arithmetic of the
   kernel's result array with the reference's, both shown to be one sum of products at each place. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Arrays
public import proofs.«01_k».proof.Proof.Ref
public import proofs.«01_k».proof.Proof.Finite
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.NormFinite
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.HeadRef
public import proofs.«01_k».proof.Proof.HeadsFinite
public import proofs.«01_k».proof.Proof.Prod19
public import proofs.«01_k».proof.Proof.HeadFwdRef
public import proofs.«01_k».proof.Proof.Prod20
public import proofs.«01_k».proof.Proof.GateFwdRef
public import proofs.«01_k».proof.Proof.Prod21
public import proofs.«01_k».proof.Proof.ConvGluRef
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem SpatialGate

theorem frame_p : Cert.quiescent_Kernel := fun m ρ _ => Cert.Kernel.Gen.frame m ρ
theorem frame_pi : Cert.quiescent_KernelIdeal := fun m ρ _ => Cert.KernelIdeal.Gen.frame m ρ
theorem frame_pi_pre [Cert.Pre_read_is_finite.Facts] : Cert.quiescent_KernelIdeal_pre_read_is_finite :=
  fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)
theorem frame_ri_pre [Cert.Pre_read_is_finite.Facts] : Cert.quiescent_ReferenceIdeal_pre_read_is_finite :=
  fun m ρ _ => frame_ri m ρ trivial

/-- The two constants of gelu's cubic term denote the decimal numbers that the program writes. -/
theorem preserves : Cert.preserves_Kernel_KernelIdeal :=
  ⟨IdealRules.named_const.statement Cert.KernelIdeal.κ "gelu_a" .f32 0x3D372713#32 ((8943 / 200000 : ℝ) : EReal) rfl,
   IdealRules.named_const.statement Cert.KernelIdeal.κ "gelu_3a" .f32 0x3E095D4F#32 ((26829 / 200000 : ℝ) : EReal) rfl⟩

/-- Of finite inputs the kernel's result arrays and the reference's are the same arrays of real numbers. -/
theorem algebraic [Cert.Pre_read_is_finite.Facts] : Cert.algebraic_KernelIdeal_ReferenceIdeal_pre_read_is_finite := by
  intro m ρ m' ρ' hpre hagree
  refine ⟨_, _, _, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  have H := Cert.Pre_read_is_finite.inputs _ _ _ _ _ _ _ (hpre c)
  have H' := H
  obtain ⟨a0, a1, a2, a3, a4, a5, a6⟩ := hagree c
  rw [← a0, ← a1, ← a2, ← a3, ← a4, ← a5, ← a6] at H'
  obtain ⟨h0, h1, h2, h3, h4, h5, h6, hk⟩ := h c
  refine ⟨h0.trans ?_, h1.trans ?_, h2.trans ?_, h3.trans ?_, h4.trans ?_, h5.trans ?_, h6.trans ?_, hk⟩
  · refine (Cert.ReferenceIdeal.Read.val_main_v203_eq _).trans ((Cert.ReferenceIdeal.GateRef.r203 H').trans ?_)
    rw [Cert.KernelIdeal.GateArrays.arr_dgu H]
    simp only [a0, a1, a2, a3, a4, a5, a6]
  · refine (Cert.ReferenceIdeal.Read.val_main_v204_eq _).trans ((Cert.ReferenceIdeal.GateRef.r204 H').trans ?_)
    rw [Cert.KernelIdeal.GateArrays.arr_dgv H]
    simp only [a0, a1, a2, a3, a4, a5, a6]
  · refine (Cert.ReferenceIdeal.Read.val_main_v140_eq _).trans ((Cert.ReferenceIdeal.GateRef.r140 H').trans ?_)
    rw [Cert.KernelIdeal.GateArrays.arr_dw H]
    simp only [a0, a1, a2, a3, a4, a5, a6]
  · refine (Cert.ReferenceIdeal.Read.val_main_v206_eq _).trans ((Cert.ReferenceIdeal.GateRef.r206 H').trans ?_)
    rw [Cert.KernelIdeal.GateArrays.arr_db H]
    simp only [a0, a1, a2, a3, a4, a5, a6]
  · refine (Cert.ReferenceIdeal.Read.val_main_v207_eq _).trans ((Cert.ReferenceIdeal.GateRef.r207 H').trans ?_)
    rw [Cert.KernelIdeal.GateArrays.arr_dlg H]
    simp only [a0, a1, a2, a3, a4, a5, a6]
  · refine (Cert.ReferenceIdeal.Read.val_main_v208_eq _).trans ((Cert.ReferenceIdeal.GateRef.r208 H').trans ?_)
    rw [Cert.KernelIdeal.GateArrays.arr_dlb H]
    simp only [a0, a1, a2, a3, a4, a5, a6]
  · refine (Cert.ReferenceIdeal.Read.val_main_v209_eq _).trans ((Cert.ReferenceIdeal.GateRef.r209 H').trans ?_)
    rw [Cert.KernelIdeal.GateArrays.arr_dog H]
    simp only [a0, a1, a2, a3, a4, a5, a6]

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem preserves2 : Cert.preserves_Kernel2_Kernel2Ideal := trivial

theorem algebraic2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun r h c => ?_) (Cert.Reference2Ideal.Value.run (F := Ideal) m' ρ')
  obtain ⟨a0, a1⟩ := hagree c
  refine ⟨(h c).1.trans ?_, (h c).2⟩
  refine (Cert.Reference2Ideal.Read.val_main_v14_eq _ _).trans ((Cert.Reference2Ideal.Product.res _ _).trans ?_)
  rw [Cert.Kernel2Ideal.Product.arr]
  simp only [a0, a1]

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves3 : Cert.preserves_Kernel3_Kernel3Ideal := trivial

theorem algebraic3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun r h c => ?_) (Cert.Reference3Ideal.Value.run (F := Ideal) m' ρ')
  obtain ⟨a0, a1⟩ := hagree c
  refine ⟨(h c).1.trans ?_, (h c).2⟩
  refine (Cert.Reference3Ideal.Read.val_main_v12_eq _ _).trans ((Cert.Reference3Ideal.Product.res _ _).trans ?_)
  rw [Cert.Kernel3Ideal.Product.arr]
  simp only [a0, a1]

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem preserves4 : Cert.preserves_Kernel4_Kernel4Ideal := trivial

theorem algebraic4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun r h c => ?_) (Cert.Reference4Ideal.Value.run (F := Ideal) m' ρ')
  obtain ⟨a0, a1⟩ := hagree c
  refine ⟨(h c).1.trans ?_, (h c).2⟩
  refine (Cert.Reference4Ideal.Read.val_main_v7_eq _ _).trans ((Cert.Reference4Ideal.Product.res _ _).trans ?_)
  rw [Cert.Kernel4Ideal.Product.arr]
  simp only [a0, a1]

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)
theorem preserves5 : Cert.preserves_Kernel5_Kernel5Ideal := trivial

theorem algebraic5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun r h c => ?_) (Cert.Reference5Ideal.Value.run (F := Ideal) m' ρ')
  obtain ⟨a0, a1⟩ := hagree c
  refine ⟨(h c).1.trans ?_, (h c).2⟩
  refine (Cert.Reference5Ideal.Read.val_main_v7_eq _ _).trans ((Cert.Reference5Ideal.Product.res _ _).trans ?_)
  rw [Cert.Kernel5Ideal.Product.arr]
  simp only [a0, a1]

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
theorem preserves6 : Cert.preserves_Kernel6_Kernel6Ideal := trivial

theorem algebraic6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun r h c => ?_) (Cert.Reference6Ideal.Value.run (F := Ideal) m' ρ')
  obtain ⟨a0, a1⟩ := hagree c
  refine ⟨(h c).1.trans ?_, (h c).2⟩
  refine (Cert.Reference6Ideal.Read.val_main_v8_eq _ _).trans ((Cert.Reference6Ideal.Product.res _ _).trans ?_)
  rw [Cert.Kernel6Ideal.Product.arr]
  simp only [a0, a1]

theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem preserves7 : Cert.preserves_Kernel7_Kernel7Ideal := trivial

theorem algebraic7 : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun r h c => ?_) (Cert.Reference7Ideal.Value.run (F := Ideal) m' ρ')
  obtain ⟨a0, a1⟩ := hagree c
  refine ⟨(h c).1.trans ?_, (h c).2⟩
  refine (Cert.Reference7Ideal.Read.val_main_v8_eq _ _).trans ((Cert.Reference7Ideal.Product.res _ _).trans ?_)
  rw [Cert.Kernel7Ideal.Product.arr]
  simp only [a0, a1]

theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem preserves8 : Cert.preserves_Kernel8_Kernel8Ideal := trivial

theorem algebraic8 : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun r h c => ?_) (Cert.Reference8Ideal.Value.run (F := Ideal) m' ρ')
  obtain ⟨a0, a1⟩ := hagree c
  refine ⟨(h c).1.trans ?_, (h c).2⟩
  refine (Cert.Reference8Ideal.Read.val_main_v7_eq _ _).trans ((Cert.Reference8Ideal.Product.res _ _).trans ?_)
  rw [Cert.Kernel8Ideal.Product.arr]
  simp only [a0, a1]

theorem frame_p9 : Cert.quiescent_Kernel9 := fun m ρ _ => Cert.Kernel9.Gen.frame m ρ
theorem frame_pi9 : Cert.quiescent_Kernel9Ideal := fun m ρ _ => Cert.Kernel9Ideal.Gen.frame m ρ
theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)
theorem preserves9 : Cert.preserves_Kernel9_Kernel9Ideal := trivial

theorem algebraic9 : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun r h c => ?_) (Cert.Reference9Ideal.Value.run (F := Ideal) m' ρ')
  obtain ⟨a0, a1⟩ := hagree c
  refine ⟨(h c).1.trans ?_, (h c).2⟩
  refine (Cert.Reference9Ideal.Read.val_main_v7_eq _ _).trans ((Cert.Reference9Ideal.Product.res _ _).trans ?_)
  rw [Cert.Kernel9Ideal.Product.arr]
  simp only [a0, a1]

theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_ri10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)
theorem preserves10 : Cert.preserves_Kernel10_Kernel10Ideal := trivial

theorem algebraic10 : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun r h c => ?_) (Cert.Reference10Ideal.Value.run (F := Ideal) m' ρ')
  obtain ⟨a0, a1⟩ := hagree c
  refine ⟨(h c).1.trans ?_, (h c).2⟩
  refine (Cert.Reference10Ideal.Read.val_main_v3_eq _ _).trans ((Cert.Reference10Ideal.Product.res _ _).trans ?_)
  rw [Cert.Kernel10Ideal.Product.arr]
  simp only [a0, a1]

theorem frame_p11 : Cert.quiescent_Kernel11 := fun m ρ _ => Cert.Kernel11.Gen.frame m ρ
theorem frame_pi11 : Cert.quiescent_Kernel11Ideal := fun m ρ _ => Cert.Kernel11Ideal.Gen.frame m ρ
theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)
theorem preserves11 : Cert.preserves_Kernel11_Kernel11Ideal := trivial

theorem algebraic11 : Cert.algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun r h c => ?_) (Cert.Reference11Ideal.Value.run (F := Ideal) m' ρ')
  obtain ⟨a0, a1, a2⟩ := hagree c
  refine ⟨(h c).1.trans ?_, (h c).2⟩
  refine (Cert.Reference11Ideal.Read.val_main_v4_eq _ _ _).trans ((Cert.Reference11Ideal.Product.res _ _ _).trans ?_)
  rw [Cert.Kernel11Ideal.Product.arr]
  simp only [a0, a1, a2]

theorem frame_p12 : Cert.quiescent_Kernel12 := fun m ρ _ => Cert.Kernel12.Gen.frame m ρ
theorem frame_pi12 : Cert.quiescent_Kernel12Ideal := fun m ρ _ => Cert.Kernel12Ideal.Gen.frame m ρ
theorem frame_ri12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)
theorem preserves12 : Cert.preserves_Kernel12_Kernel12Ideal := trivial

theorem algebraic12 : Cert.algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun r h c => ?_) (Cert.Reference12Ideal.Value.run (F := Ideal) m' ρ')
  obtain ⟨a0, a1⟩ := hagree c
  refine ⟨(h c).1.trans ?_, (h c).2⟩
  refine (Cert.Reference12Ideal.Read.val_main_v10_eq _ _).trans ((Cert.Reference12Ideal.Product.res _ _).trans ?_)
  rw [Cert.Kernel12Ideal.Product.arr]
  simp only [a0, a1]

theorem frame_p13 : Cert.quiescent_Kernel13 := fun m ρ _ => Cert.Kernel13.Gen.frame m ρ
theorem frame_pi13 : Cert.quiescent_Kernel13Ideal := fun m ρ _ => Cert.Kernel13Ideal.Gen.frame m ρ
theorem frame_ri13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)
theorem preserves13 : Cert.preserves_Kernel13_Kernel13Ideal := trivial

theorem algebraic13 : Cert.algebraic_Kernel13Ideal_Reference13Ideal := by
  intro m ρ m' ρ' _ hagree
  refine ⟨_, Cert.Kernel13Ideal.Value.run_blocks (F := Ideal) m ρ, ?_⟩
  refine (θ_run Cert.Reference13Ideal.defs _ _).mono (fun r h c => ?_) (Cert.Reference13Ideal.Value.run (F := Ideal) m' ρ')
  obtain ⟨a0, a1, a2⟩ := hagree c
  refine ⟨(h c).1.trans ?_, (h c).2⟩
  refine (Cert.Reference13Ideal.Read.val_main_v4_eq _ _ _).trans ((Cert.Reference13Ideal.Product.res _ _ _).trans ?_)
  rw [Cert.Kernel13Ideal.Product.arr]
  simp only [a0, a1, a2]

theorem frame_p14 : Cert.quiescent_Kernel14 := fun m ρ _ => Cert.Kernel14.Gen.frame m ρ
theorem frame_pi14 : Cert.quiescent_Kernel14Ideal := fun m ρ _ => Cert.Kernel14Ideal.Gen.frame m ρ
theorem frame_ri14 : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)
theorem preserves14 : Cert.preserves_Kernel14_Kernel14Ideal := trivial

theorem frame_pi_pre14 [Cert.Pre_norm_read_is_finite.Facts] : Cert.quiescent_Kernel14Ideal_pre_norm_read_is_finite :=
  fun m ρ _ => Cert.Kernel14Ideal.Gen.frame m ρ
theorem frame_ri_pre14 [Cert.Pre_norm_read_is_finite.Facts] : Cert.quiescent_Reference14Ideal_pre_norm_read_is_finite :=
  fun m ρ _ => frame_ri14 m ρ trivial

/-- Of finite rows, gradient and gain the kernel's arrays and the reference's are the same, whatever the residual's gradient. -/
theorem algebraic14 [Cert.Pre_norm_read_is_finite.Facts] :
    Cert.algebraic_Kernel14Ideal_Reference14Ideal_pre_norm_read_is_finite := by
  intro m ρ m' ρ' hpre hagree
  refine ⟨_, _, _, Cert.Kernel14Ideal.Value.run_blocks (F := Ideal) m ρ, ?_⟩
  refine (θ_run Cert.Reference14Ideal.defs _ _).mono (fun r h c => ?_) (Cert.Reference14Ideal.Value.run (F := Ideal) m' ρ')
  have H := Cert.Pre_norm_read_is_finite.inputs _ _ _ _ (hpre c)
  have H' := H
  obtain ⟨a0, a1, a2, a3⟩ := hagree c
  rw [← a0, ← a1, ← a3] at H'
  obtain ⟨h0, h1, h2, hk⟩ := h c
  refine ⟨h0.trans ?_, h1.trans ?_, h2.trans ?_, hk⟩
  · refine (Cert.Reference14Ideal.Read.val_main_v38_eq _ _).trans ((Cert.Reference14Ideal.Product.v38 H').trans ?_)
    rw [Cert.Kernel14Ideal.Product.arr_dx H]
    simp only [a0, a1, a2, a3]
  · refine (Cert.Reference14Ideal.Read.val_main_v39_eq _ _).trans ((Cert.Reference14Ideal.Product.v39 H').trans ?_)
    rw [Cert.Kernel14Ideal.Product.arr_dxb H]
    simp only [a0, a1, a2, a3]
  · refine (Cert.Reference14Ideal.Read.val_main_v40_eq _ _).trans ((Cert.Reference14Ideal.Product.v40 H').trans ?_)
    rw [Cert.Kernel14Ideal.Product.arr_dg H]
    simp only [a0, a1, a3]

theorem frame_p15 : Cert.quiescent_Kernel15 := fun m ρ _ => Cert.Kernel15.Gen.frame m ρ
theorem frame_pi15 : Cert.quiescent_Kernel15Ideal := fun m ρ _ => Cert.Kernel15Ideal.Gen.frame m ρ
theorem frame_ri15 : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)
theorem preserves15 : Cert.preserves_Kernel15_Kernel15Ideal := trivial

theorem algebraic15 : Cert.algebraic_Kernel15Ideal_Reference15Ideal := by
  intro m ρ m' ρ' _ hagree
  refine ⟨_, _, _, Cert.Kernel15Ideal.Value.run_blocks (F := Ideal) m ρ, ?_⟩
  refine (θ_run Cert.Reference15Ideal.defs _ _).mono (fun r h c => ?_) (Cert.Reference15Ideal.Value.run (F := Ideal) m' ρ')
  obtain ⟨a0, a1, a2, a3⟩ := hagree c
  obtain ⟨h0, h1, h2, hk⟩ := h c
  refine ⟨h0.trans ?_, h1.trans ?_, h2.trans ?_, hk⟩
  · refine (Cert.Reference15Ideal.Read.val_main_v21_eq _ _ _ _).trans ((Cert.Reference15Ideal.Product.v21 _ _ _ _).trans ?_)
    rw [Cert.Kernel15Ideal.Product.arr_loss]
    simp only [a0, a1, a2, a3]
    rfl
  · refine (Cert.Reference15Ideal.Read.val_main_v20_eq _ _ _ _).trans ((Cert.Reference15Ideal.Product.v20 _ _ _ _).trans ?_)
    rw [Cert.Kernel15Ideal.Product.arr_dx]
    simp only [a0, a1, a2, a3]
  · refine (Cert.Reference15Ideal.Read.val_main_v22_eq _ _ _ _).trans ((Cert.Reference15Ideal.Product.v22 _ _ _ _).trans ?_)
    rw [Cert.Kernel15Ideal.Product.arr_dxb]
    simp only [a0, a1, a2, a3]

theorem frame_p16 : Cert.quiescent_Kernel16 := fun m ρ _ => Cert.Kernel16.Gen.frame m ρ
theorem frame_pi16 : Cert.quiescent_Kernel16Ideal := fun m ρ _ => Cert.Kernel16Ideal.Gen.frame m ρ
theorem frame_ri16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)
theorem preserves16 : Cert.preserves_Kernel16_Kernel16Ideal := trivial

theorem algebraic16 : Cert.algebraic_Kernel16Ideal_Reference16Ideal := by
  intro m ρ m' ρ' _ hagree
  refine ⟨_, Cert.Kernel16Ideal.Value.run_blocks (F := Ideal) m ρ, ?_⟩
  refine (θ_run Cert.Reference16Ideal.defs _ _).mono (fun r h c => ?_) (Cert.Reference16Ideal.Value.run (F := Ideal) m' ρ')
  obtain ⟨a0, a1⟩ := hagree c
  obtain ⟨h0, hk⟩ := h c
  refine ⟨h0.trans ?_, hk⟩
  · refine (Cert.Reference16Ideal.Read.val_main_v15_eq _ _).trans ((Cert.Reference16Ideal.Product.res _ _).trans ?_)
    rw [Cert.Kernel16Ideal.Product.arr]
    simp only [a0, a1]

theorem frame_p17 : Cert.quiescent_Kernel17 := fun m ρ _ => Cert.Kernel17.Gen.frame m ρ
theorem frame_pi17 : Cert.quiescent_Kernel17Ideal := fun m ρ _ => Cert.Kernel17Ideal.Gen.frame m ρ
theorem frame_ri17 : Cert.quiescent_Reference17Ideal := fun m ρ _ =>
  (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)
theorem preserves17 : Cert.preserves_Kernel17_Kernel17Ideal := trivial

theorem algebraic17 : Cert.algebraic_Kernel17Ideal_Reference17Ideal := by
  intro m ρ m' ρ' _ hagree
  refine ⟨_, _, _, Cert.Kernel17Ideal.Value.run_blocks (F := Ideal) m ρ, ?_⟩
  refine (θ_run Cert.Reference17Ideal.defs _ _).mono (fun r h c => ?_) (Cert.Reference17Ideal.Value.run (F := Ideal) m' ρ')
  obtain ⟨a0, a1, a2, a3⟩ := hagree c
  obtain ⟨h0, h1, h2, hk⟩ := h c
  refine ⟨h0.trans ?_, h1.trans ?_, h2.trans ?_, hk⟩
  · refine (Cert.Reference17Ideal.Read.val_main_v24_eq _ _ _ _).trans ((Cert.Reference17Ideal.Product.v24 _ _ _ _).trans ?_)
    rw [Cert.Kernel17Ideal.Product.arr_4]
    simp only [a0, a1, a2, a3]
  · refine (Cert.Reference17Ideal.Read.val_main_v25_eq _ _).trans ((Cert.Reference17Ideal.Product.v25 _ _).trans ?_)
    rw [Cert.Kernel17Ideal.Product.arr_5]
    simp only [a0, a2]
  · refine (Cert.Reference17Ideal.Read.val_main_v26_eq _ _).trans ((Cert.Reference17Ideal.Product.v26 _ _).trans ?_)
    rw [Cert.Kernel17Ideal.Product.arr_6]
    simp only [a0, a3]

theorem frame_p18 : Cert.quiescent_Kernel18 := fun m ρ _ => Cert.Kernel18.Gen.frame m ρ
theorem frame_pi18 : Cert.quiescent_Kernel18Ideal := fun m ρ _ => Cert.Kernel18Ideal.Gen.frame m ρ
theorem frame_ri18 : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)
theorem preserves18 : Cert.preserves_Kernel18_Kernel18Ideal := trivial

theorem frame_pi_pre18 [Cert.Pre_heads_read_is_finite.Facts] : Cert.quiescent_Kernel18Ideal_pre_heads_read_is_finite :=
  fun m ρ _ => Cert.Kernel18Ideal.Gen.frame m ρ
theorem frame_ri_pre18 [Cert.Pre_heads_read_is_finite.Facts] : Cert.quiescent_Reference18Ideal_pre_heads_read_is_finite :=
  fun m ρ _ => frame_ri18 m ρ trivial

/-- Of finite heads, gradients, gains and tables the kernel's arrays and the reference's are the same, whatever the values' gradient. -/
theorem algebraic18 [Cert.Pre_heads_read_is_finite.Facts] :
    Cert.algebraic_Kernel18Ideal_Reference18Ideal_pre_heads_read_is_finite := by
  intro m ρ m' ρ' hpre hagree
  refine ⟨_, _, _, _, Cert.Kernel18Ideal.Value.run_blocks (F := Ideal) m ρ, ?_⟩
  refine (θ_run Cert.Reference18Ideal.defs _ _).mono (fun r h c => ?_) (Cert.Reference18Ideal.Value.run (F := Ideal) m' ρ')
  have H := Cert.Pre_heads_read_is_finite.inputs _ _ _ _ _ _ _ _ (hpre c)
  have H' := H
  obtain ⟨a0, a1, a2, a3, a4, a5, a6, a7⟩ := hagree c
  rw [← a0, ← a1, ← a2, ← a4, ← a5, ← a6, ← a7] at H'
  obtain ⟨h0, h1, h2, h3, hk⟩ := h c
  refine ⟨h0.trans ?_, h1.trans ?_, h2.trans ?_, h3.trans ?_, hk⟩
  · refine (Cert.Reference18Ideal.Read.val_main_v147_eq _ _).trans ((Cert.Reference18Ideal.Product.v147 H').trans ?_)
    rw [Cert.Kernel18Ideal.Product.arr_dzq H]
    simp only [a0, a1, a2, a4, a5, a6, a7]
  · refine (Cert.Reference18Ideal.Read.val_main_v149_eq _ _).trans ((Cert.Reference18Ideal.Product.v149 H').trans ?_)
    rw [Cert.Kernel18Ideal.Product.arr_dzk H]
    simp only [a0, a1, a2, a3, a4, a5, a6, a7]
    rfl
  · refine (Cert.Reference18Ideal.Read.val_main_v150_eq _ _ _ _).trans ((Cert.Reference18Ideal.Product.v150 H').trans ?_)
    rw [Cert.Kernel18Ideal.Product.arr_dqg H]
    simp only [a0, a1, a2, a4, a5, a6, a7]
  · refine (Cert.Reference18Ideal.Read.val_main_v151_eq _ _ _ _).trans ((Cert.Reference18Ideal.Product.v151 H').trans ?_)
    rw [Cert.Kernel18Ideal.Product.arr_dkg H]
    simp only [a0, a1, a2, a4, a5, a6, a7]

theorem frame_p19 : Cert.quiescent_Kernel19 := fun m ρ _ => Cert.Kernel19.Gen.frame m ρ
theorem frame_pi19 : Cert.quiescent_Kernel19Ideal := fun m ρ _ => Cert.Kernel19Ideal.Gen.frame m ρ
theorem frame_ri19 : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)
theorem preserves19 : Cert.preserves_Kernel19_Kernel19Ideal := trivial

theorem algebraic19 : Cert.algebraic_Kernel19Ideal_Reference19Ideal := by
  intro m ρ m' ρ' _ hagree
  refine ⟨_, _, _, Cert.Kernel19Ideal.Value.run_blocks (F := Ideal) m ρ, ?_⟩
  refine (θ_run Cert.Reference19Ideal.defs _ _).mono (fun r h c => ?_) (Cert.Reference19Ideal.Value.run (F := Ideal) m' ρ')
  obtain ⟨a0, a1, a2, a3, a4⟩ := hagree c
  obtain ⟨h0, h1, h2, hk⟩ := h c
  refine ⟨h0.trans ?_, h1.trans ?_, h2.trans ?_, hk⟩
  · refine (Cert.Reference19Ideal.Read.val_main_v65_eq _ _).trans (Cert.Reference19Ideal.Product.v65.trans ?_)
    rw [Cert.Kernel19Ideal.Product.arr_6]
    simp only [a0, a1, a3, a4]
  · refine (Cert.Reference19Ideal.Read.val_main_v67_eq _ _).trans (Cert.Reference19Ideal.Product.v67.trans ?_)
    rw [Cert.Kernel19Ideal.Product.arr_7]
    simp only [a0, a2, a3, a4]
  · refine (Cert.Reference19Ideal.Read.val_main_v69_eq _).trans (Cert.Reference19Ideal.Product.v69.trans ?_)
    rw [Cert.Kernel19Ideal.Product.arr_8]
    simp only [a0]

theorem frame_p20 : Cert.quiescent_Kernel20 := fun m ρ _ => Cert.Kernel20.Gen.frame m ρ
theorem frame_pi20 : Cert.quiescent_Kernel20Ideal := fun m ρ _ => Cert.Kernel20Ideal.Gen.frame m ρ
theorem frame_ri20 : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)
theorem preserves20 : Cert.preserves_Kernel20_Kernel20Ideal := trivial

theorem algebraic20 : Cert.algebraic_Kernel20Ideal_Reference20Ideal := by
  intro m ρ m' ρ' _ hagree
  refine ⟨_, Cert.Kernel20Ideal.Value.run_blocks (F := Ideal) m ρ, ?_⟩
  refine (θ_run Cert.Reference20Ideal.defs _ _).mono (fun r h c => ?_) (Cert.Reference20Ideal.Value.run (F := Ideal) m' ρ')
  obtain ⟨a0, a1, a2, a3, a4, a5⟩ := hagree c
  obtain ⟨h0, hk⟩ := h c
  refine ⟨h0.trans ?_, hk⟩
  refine (Cert.Reference20Ideal.Read.val_main_v85_eq _ _).trans (Cert.Reference20Ideal.Product.v85.trans ?_)
  rw [Cert.Kernel20Ideal.Product.arr_7]
  simp only [a0, a1, a2, a3, a4, a5]

theorem frame_p21 : Cert.quiescent_Kernel21 := fun m ρ _ => Cert.Kernel21.Gen.frame m ρ
theorem frame_pi21 : Cert.quiescent_Kernel21Ideal := fun m ρ _ => Cert.Kernel21Ideal.Gen.frame m ρ
theorem frame_ri21 : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)
theorem preserves21 : Cert.preserves_Kernel21_Kernel21Ideal := trivial

theorem algebraic21 : Cert.algebraic_Kernel21Ideal_Reference21Ideal := by
  intro m ρ m' ρ' _ hagree
  refine ⟨_, Cert.Kernel21Ideal.Value.run_blocks (F := Ideal) m ρ, ?_⟩
  refine (θ_run Cert.Reference21Ideal.defs _ _).mono (fun r h c => ?_) (Cert.Reference21Ideal.Value.run (F := Ideal) m' ρ')
  obtain ⟨a0, a1, a2⟩ := hagree c
  obtain ⟨h0, hk⟩ := h c
  refine ⟨h0.trans ?_, hk⟩
  refine (Cert.Reference21Ideal.Read.val_main_v34_eq _ _).trans (Cert.Reference21Ideal.Product.v34.trans ?_)
  rw [Cert.Kernel21Ideal.Product.arr_6]
  simp only [a0, a1, a2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_read_is_finite.facts, Cert.Pre_norm_read_is_finite.facts, Cert.Pre_heads_read_is_finite.facts,
    frame_p, frame_pi, @frame_pi_pre Cert.Pre_read_is_finite.facts, frame_ri, @frame_ri_pre Cert.Pre_read_is_finite.facts,
    frame_p2, frame_pi2, frame_ri2,
    frame_p3, frame_pi3, frame_ri3,
    frame_p4, frame_pi4, frame_ri4,
    frame_p5, frame_pi5, frame_ri5,
    frame_p6, frame_pi6, frame_ri6,
    frame_p7, frame_pi7, frame_ri7,
    frame_p8, frame_pi8, frame_ri8,
    frame_p9, frame_pi9, frame_ri9,
    frame_p10, frame_pi10, frame_ri10,
    frame_p11, frame_pi11, frame_ri11,
    frame_p12, frame_pi12, frame_ri12,
    frame_p13, frame_pi13, frame_ri13,
    frame_p14, frame_pi14, @frame_pi_pre14 Cert.Pre_norm_read_is_finite.facts,
    frame_ri14, @frame_ri_pre14 Cert.Pre_norm_read_is_finite.facts,
    frame_p15, frame_pi15, frame_ri15,
    frame_p16, frame_pi16, frame_ri16,
    frame_p17, frame_pi17, frame_ri17,
    frame_p18, frame_pi18, @frame_pi_pre18 Cert.Pre_heads_read_is_finite.facts,
    frame_ri18, @frame_ri_pre18 Cert.Pre_heads_read_is_finite.facts,
    frame_p19, frame_pi19, frame_ri19,
    frame_p20, frame_pi20, frame_ri20,
    frame_p21, frame_pi21, frame_ri21,
    preserves, @algebraic Cert.Pre_read_is_finite.facts,
    preserves2, algebraic2,
    preserves3, algebraic3,
    preserves4, algebraic4,
    preserves5, algebraic5,
    preserves6, algebraic6,
    preserves7, algebraic7,
    preserves8, algebraic8,
    preserves9, algebraic9,
    preserves10, algebraic10,
    preserves11, algebraic11,
    preserves12, algebraic12,
    preserves13, algebraic13,
    preserves14, @algebraic14 Cert.Pre_norm_read_is_finite.facts,
    preserves15, algebraic15,
    preserves16, algebraic16,
    preserves17, algebraic17,
    preserves18, @algebraic18 Cert.Pre_heads_read_is_finite.facts,
    preserves19, algebraic19,
    preserves20, algebraic20,
    preserves21, algebraic21⟩

end Cert.Proof

end

end
